-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_GateUpDw (m : (ℓ : Loc Cert.GateUpDw.nD Cert.GateUpDw.τ Cert.GateUpDw.sig) → Buf (Elt Bits) ℓ) : Prop :=
  True

def Pre_GateUpDwIdeal (m : (ℓ : Loc Cert.GateUpDwIdeal.nD Cert.GateUpDwIdeal.τ Cert.GateUpDwIdeal.sig) → Buf (Elt Ideal) ℓ) : Prop :=
  True

def Pre_GateUpDwReferenceIdeal (m : (ℓ : Loc Cert.GateUpDwReferenceIdeal.nD Cert.GateUpDwReferenceIdeal.τ Cert.GateUpDwReferenceIdeal.sig) → Buf (Elt Ideal) ℓ) : Prop :=
  True

def Pre_GateUpDx (m : (ℓ : Loc Cert.GateUpDx.nD Cert.GateUpDx.τ Cert.GateUpDx.sig) → Buf (Elt Bits) ℓ) : Prop :=
  True

def Pre_GateUpDxIdeal (m : (ℓ : Loc Cert.GateUpDxIdeal.nD Cert.GateUpDxIdeal.τ Cert.GateUpDxIdeal.sig) → Buf (Elt Ideal) ℓ) : Prop :=
  True

def Pre_GateUpDxReferenceIdeal (m : (ℓ : Loc Cert.GateUpDxReferenceIdeal.nD Cert.GateUpDxReferenceIdeal.τ Cert.GateUpDxReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqReferenceIdeal (m : (ℓ : Loc Cert.UqReferenceIdeal.nD Cert.UqReferenceIdeal.τ Cert.UqReferenceIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvReferenceIdeal (m : (ℓ : Loc Cert.UkvReferenceIdeal.nD Cert.UkvReferenceIdeal.τ Cert.UkvReferenceIdeal.sig) → Buf (Elt Ideal) ℓ) : Prop :=
  True

def Pre_UqDx (m : (ℓ : Loc Cert.UqDx.nD Cert.UqDx.τ Cert.UqDx.sig) → Buf (Elt Bits) ℓ) : Prop :=
  True

def Pre_UqDxIdeal (m : (ℓ : Loc Cert.UqDxIdeal.nD Cert.UqDxIdeal.τ Cert.UqDxIdeal.sig) → Buf (Elt Ideal) ℓ) : Prop :=
  True

def Pre_UqDxReferenceIdeal (m : (ℓ : Loc Cert.UqDxReferenceIdeal.nD Cert.UqDxReferenceIdeal.τ Cert.UqDxReferenceIdeal.sig) → Buf (Elt Ideal) ℓ) : Prop :=
  True

def Pre_UkvDx (m : (ℓ : Loc Cert.UkvDx.nD Cert.UkvDx.τ Cert.UkvDx.sig) → Buf (Elt Bits) ℓ) : Prop :=
  True

def Pre_UkvDxIdeal (m : (ℓ : Loc Cert.UkvDxIdeal.nD Cert.UkvDxIdeal.τ Cert.UkvDxIdeal.sig) → Buf (Elt Ideal) ℓ) : Prop :=
  True

def Pre_UkvDxReferenceIdeal (m : (ℓ : Loc Cert.UkvDxReferenceIdeal.nD Cert.UkvDxReferenceIdeal.τ Cert.UkvDxReferenceIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwReferenceIdeal (m : (ℓ : Loc Cert.UqDwReferenceIdeal.nD Cert.UqDwReferenceIdeal.τ Cert.UqDwReferenceIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_UkvDwReferenceIdeal (m : (ℓ : Loc Cert.UkvDwReferenceIdeal.nD Cert.UkvDwReferenceIdeal.τ Cert.UkvDwReferenceIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_fwd [hPre_finite_fwd : Cert.Pre_finite_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_finite_fwd [hPre_finite_fwd : Cert.Pre_finite_fwd.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_finite_fwd.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2))) = (fun _ => 1#1)

def Pre_AttnDelta (m : (ℓ : Loc Cert.AttnDelta.nD Cert.AttnDelta.τ Cert.AttnDelta.sig) → Buf (Elt Bits) ℓ) : Prop :=
  True

def Pre_AttnDeltaIdeal (m : (ℓ : Loc Cert.AttnDeltaIdeal.nD Cert.AttnDeltaIdeal.τ Cert.AttnDeltaIdeal.sig) → Buf (Elt Ideal) ℓ) : Prop :=
  True

def Pre_AttnDeltaReferenceIdeal (m : (ℓ : Loc Cert.AttnDeltaReferenceIdeal.nD Cert.AttnDeltaReferenceIdeal.τ Cert.AttnDeltaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_GateUpDw [hGateUpDw : Cert.GateUpDw.Facts] : Prop :=
  ∀ (m : (ℓ : Loc Cert.GateUpDw.nD Cert.GateUpDw.τ Cert.GateUpDw.sig) → Buf (Elt Bits) ℓ) (g : Dev Cert.GateUpDw.nD → PrngReg), Pre_GateUpDw m →
    θ_run (Cert.GateUpDw.defs (F := Bits)) (onTc (τ := Cert.GateUpDw.τ) (Cert.GateUpDw.main (F := Bits))) ⟨m, fun _ => 0, g⟩ (fun r => (∀ c : Dev Cert.GateUpDw.nD,
      r.2.mem ((c.tc : Thread Cert.GateUpDw.nD Cert.GateUpDw.τ).loc Cert.GateUpDw.main_arg0) = m ((c.tc : Thread Cert.GateUpDw.nD Cert.GateUpDw.τ).loc Cert.GateUpDw.main_arg0)
      ∧ r.2.mem ((c.tc : Thread Cert.GateUpDw.nD Cert.GateUpDw.τ).loc Cert.GateUpDw.main_arg1) = m ((c.tc : Thread Cert.GateUpDw.nD Cert.GateUpDw.τ).loc Cert.GateUpDw.main_arg1)
      ∧ r.2.mem ((c.tc : Thread Cert.GateUpDw.nD Cert.GateUpDw.τ).loc Cert.GateUpDw.main_arg2) = m ((c.tc : Thread Cert.GateUpDw.nD Cert.GateUpDw.τ).loc Cert.GateUpDw.main_arg2))
      ∧ r.2.sem = fun _ => 0)

def quiescent_GateUpDwIdeal [hGateUpDwIdeal : Cert.GateUpDwIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg), Pre_GateUpDwIdeal m →
    θ_run (Cert.GateUpDwIdeal.defs (F := Ideal)) (onTc (τ := Cert.GateUpDwIdeal.τ) (Cert.GateUpDwIdeal.main (F := Ideal))) ⟨m, fun _ => 0, g⟩ (fun r => (∀ c : Dev Cert.GateUpDwIdeal.nD,
      r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
      ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1)
      ∧ r.2.mem ((c.tc : Thread Cert.GateUpDwIdeal.nD Cert.GateUpDwIdeal.τ).loc Cert.GateUpDwIdeal.main_arg2) = m ((c.tc : Thread Cert.GateUpDwIdeal.nD Cert.GateUpDwIdeal.τ).loc Cert.GateUpDwIdeal.main_arg2))
      ∧ r.2.sem = fun _ => 0)

def quiescent_GateUpDwReferenceIdeal [hGateUpDwReferenceIdeal : Cert.GateUpDwReferenceIdeal.Facts] : Prop :=
  ∀ (m : (ℓ : Loc Cert.GateUpDwReferenceIdeal.nD Cert.GateUpDwReferenceIdeal.τ Cert.GateUpDwReferenceIdeal.sig) → Buf (Elt Ideal) ℓ) (g : Dev Cert.GateUpDwReferenceIdeal.nD → PrngReg), Pre_GateUpDwReferenceIdeal m →
    θ_run (Cert.GateUpDwReferenceIdeal.defs (F := Ideal)) (onTc (τ := Cert.GateUpDwReferenceIdeal.τ) (Cert.GateUpDwReferenceIdeal.main (F := Ideal))) ⟨m, fun _ => 0, g⟩ (fun r => (∀ c : Dev Cert.GateUpDwReferenceIdeal.nD,
      r.2.mem ((c.tc : Thread Cert.GateUpDwReferenceIdeal.nD Cert.GateUpDwReferenceIdeal.τ).loc Cert.GateUpDwReferenceIdeal.main_arg0) = m ((c.tc : Thread Cert.GateUpDwReferenceIdeal.nD Cert.GateUpDwReferenceIdeal.τ).loc Cert.GateUpDwReferenceIdeal.main_arg0)
      ∧ r.2.mem ((c.tc : Thread Cert.GateUpDwReferenceIdeal.nD Cert.GateUpDwReferenceIdeal.τ).loc Cert.GateUpDwReferenceIdeal.main_arg1) = m ((c.tc : Thread Cert.GateUpDwReferenceIdeal.nD Cert.GateUpDwReferenceIdeal.τ).loc Cert.GateUpDwReferenceIdeal.main_arg1)
      ∧ r.2.mem ((c.tc : Thread Cert.GateUpDwReferenceIdeal.nD Cert.GateUpDwReferenceIdeal.τ).loc Cert.GateUpDwReferenceIdeal.main_arg2) = m ((c.tc : Thread Cert.GateUpDwReferenceIdeal.nD Cert.GateUpDwReferenceIdeal.τ).loc Cert.GateUpDwReferenceIdeal.main_arg2))
      ∧ r.2.sem = fun _ => 0)

def quiescent_GateUpDx [hGateUpDx : Cert.GateUpDx.Facts] : Prop :=
  ∀ (m : (ℓ : Loc Cert.GateUpDx.nD Cert.GateUpDx.τ Cert.GateUpDx.sig) → Buf (Elt Bits) ℓ) (g : Dev Cert.GateUpDx.nD → PrngReg), Pre_GateUpDx m →
    θ_run (Cert.GateUpDx.defs (F := Bits)) (onTc (τ := Cert.GateUpDx.τ) (Cert.GateUpDx.main (F := Bits))) ⟨m, fun _ => 0, g⟩ (fun r => (∀ c : Dev Cert.GateUpDx.nD,
      r.2.mem ((c.tc : Thread Cert.GateUpDx.nD Cert.GateUpDx.τ).loc Cert.GateUpDx.main_arg0) = m ((c.tc : Thread Cert.GateUpDx.nD Cert.GateUpDx.τ).loc Cert.GateUpDx.main_arg0)
      ∧ r.2.mem ((c.tc : Thread Cert.GateUpDx.nD Cert.GateUpDx.τ).loc Cert.GateUpDx.main_arg1) = m ((c.tc : Thread Cert.GateUpDx.nD Cert.GateUpDx.τ).loc Cert.GateUpDx.main_arg1)
      ∧ r.2.mem ((c.tc : Thread Cert.GateUpDx.nD Cert.GateUpDx.τ).loc Cert.GateUpDx.main_arg2) = m ((c.tc : Thread Cert.GateUpDx.nD Cert.GateUpDx.τ).loc Cert.GateUpDx.main_arg2)
      ∧ r.2.mem ((c.tc : Thread Cert.GateUpDx.nD Cert.GateUpDx.τ).loc Cert.GateUpDx.main_arg3) = m ((c.tc : Thread Cert.GateUpDx.nD Cert.GateUpDx.τ).loc Cert.GateUpDx.main_arg3))
      ∧ r.2.sem = fun _ => 0)

def quiescent_GateUpDxIdeal [hGateUpDxIdeal : Cert.GateUpDxIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg), Pre_GateUpDxIdeal m →
    θ_run (Cert.GateUpDxIdeal.defs (F := Ideal)) (onTc (τ := Cert.GateUpDxIdeal.τ) (Cert.GateUpDxIdeal.main (F := Ideal))) ⟨m, fun _ => 0, g⟩ (fun r => (∀ c : Dev Cert.GateUpDxIdeal.nD,
      r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
      ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1)
      ∧ r.2.mem ((c.tc : Thread Cert.GateUpDxIdeal.nD Cert.GateUpDxIdeal.τ).loc Cert.GateUpDxIdeal.main_arg2) = m ((c.tc : Thread Cert.GateUpDxIdeal.nD Cert.GateUpDxIdeal.τ).loc Cert.GateUpDxIdeal.main_arg2)
      ∧ r.2.mem ((c.tc : Thread Cert.GateUpDxIdeal.nD Cert.GateUpDxIdeal.τ).loc Cert.GateUpDxIdeal.main_arg3) = m ((c.tc : Thread Cert.GateUpDxIdeal.nD Cert.GateUpDxIdeal.τ).loc Cert.GateUpDxIdeal.main_arg3))
      ∧ r.2.sem = fun _ => 0)

def quiescent_GateUpDxReferenceIdeal [hGateUpDxReferenceIdeal : Cert.GateUpDxReferenceIdeal.Facts] : Prop :=
  ∀ (m : (ℓ : Loc Cert.GateUpDxReferenceIdeal.nD Cert.GateUpDxReferenceIdeal.τ Cert.GateUpDxReferenceIdeal.sig) → Buf (Elt Ideal) ℓ) (g : Dev Cert.GateUpDxReferenceIdeal.nD → PrngReg), Pre_GateUpDxReferenceIdeal m →
    θ_run (Cert.GateUpDxReferenceIdeal.defs (F := Ideal)) (onTc (τ := Cert.GateUpDxReferenceIdeal.τ) (Cert.GateUpDxReferenceIdeal.main (F := Ideal))) ⟨m, fun _ => 0, g⟩ (fun r => (∀ c : Dev Cert.GateUpDxReferenceIdeal.nD,
      r.2.mem ((c.tc : Thread Cert.GateUpDxReferenceIdeal.nD Cert.GateUpDxReferenceIdeal.τ).loc Cert.GateUpDxReferenceIdeal.main_arg0) = m ((c.tc : Thread Cert.GateUpDxReferenceIdeal.nD Cert.GateUpDxReferenceIdeal.τ).loc Cert.GateUpDxReferenceIdeal.main_arg0)
      ∧ r.2.mem ((c.tc : Thread Cert.GateUpDxReferenceIdeal.nD Cert.GateUpDxReferenceIdeal.τ).loc Cert.GateUpDxReferenceIdeal.main_arg1) = m ((c.tc : Thread Cert.GateUpDxReferenceIdeal.nD Cert.GateUpDxReferenceIdeal.τ).loc Cert.GateUpDxReferenceIdeal.main_arg1)
      ∧ r.2.mem ((c.tc : Thread Cert.GateUpDxReferenceIdeal.nD Cert.GateUpDxReferenceIdeal.τ).loc Cert.GateUpDxReferenceIdeal.main_arg2) = m ((c.tc : Thread Cert.GateUpDxReferenceIdeal.nD Cert.GateUpDxReferenceIdeal.τ).loc Cert.GateUpDxReferenceIdeal.main_arg2)
      ∧ r.2.mem ((c.tc : Thread Cert.GateUpDxReferenceIdeal.nD Cert.GateUpDxReferenceIdeal.τ).loc Cert.GateUpDxReferenceIdeal.main_arg3) = m ((c.tc : Thread Cert.GateUpDxReferenceIdeal.nD Cert.GateUpDxReferenceIdeal.τ).loc Cert.GateUpDxReferenceIdeal.main_arg3))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqReferenceIdeal [hUqReferenceIdeal : Cert.UqReferenceIdeal.Facts] : Prop :=
  ∀ (m : (ℓ : Loc Cert.UqReferenceIdeal.nD Cert.UqReferenceIdeal.τ Cert.UqReferenceIdeal.sig) → Buf (Elt Ideal) ℓ) (g : Dev Cert.UqReferenceIdeal.nD → PrngReg), Pre_UqReferenceIdeal m →
    θ_run (Cert.UqReferenceIdeal.defs (F := Ideal)) (onTc (τ := Cert.UqReferenceIdeal.τ) (Cert.UqReferenceIdeal.main (F := Ideal))) ⟨m, fun _ => 0, g⟩ (fun r => (∀ c : Dev Cert.UqReferenceIdeal.nD,
      r.2.mem ((c.tc : Thread Cert.UqReferenceIdeal.nD Cert.UqReferenceIdeal.τ).loc Cert.UqReferenceIdeal.main_arg0) = m ((c.tc : Thread Cert.UqReferenceIdeal.nD Cert.UqReferenceIdeal.τ).loc Cert.UqReferenceIdeal.main_arg0)
      ∧ r.2.mem ((c.tc : Thread Cert.UqReferenceIdeal.nD Cert.UqReferenceIdeal.τ).loc Cert.UqReferenceIdeal.main_arg1) = m ((c.tc : Thread Cert.UqReferenceIdeal.nD Cert.UqReferenceIdeal.τ).loc Cert.UqReferenceIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvReferenceIdeal [hUkvReferenceIdeal : Cert.UkvReferenceIdeal.Facts] : Prop :=
  ∀ (m : (ℓ : Loc Cert.UkvReferenceIdeal.nD Cert.UkvReferenceIdeal.τ Cert.UkvReferenceIdeal.sig) → Buf (Elt Ideal) ℓ) (g : Dev Cert.UkvReferenceIdeal.nD → PrngReg), Pre_UkvReferenceIdeal m →
    θ_run (Cert.UkvReferenceIdeal.defs (F := Ideal)) (onTc (τ := Cert.UkvReferenceIdeal.τ) (Cert.UkvReferenceIdeal.main (F := Ideal))) ⟨m, fun _ => 0, g⟩ (fun r => (∀ c : Dev Cert.UkvReferenceIdeal.nD,
      r.2.mem ((c.tc : Thread Cert.UkvReferenceIdeal.nD Cert.UkvReferenceIdeal.τ).loc Cert.UkvReferenceIdeal.main_arg0) = m ((c.tc : Thread Cert.UkvReferenceIdeal.nD Cert.UkvReferenceIdeal.τ).loc Cert.UkvReferenceIdeal.main_arg0)
      ∧ r.2.mem ((c.tc : Thread Cert.UkvReferenceIdeal.nD Cert.UkvReferenceIdeal.τ).loc Cert.UkvReferenceIdeal.main_arg1) = m ((c.tc : Thread Cert.UkvReferenceIdeal.nD Cert.UkvReferenceIdeal.τ).loc Cert.UkvReferenceIdeal.main_arg1))
      ∧ r.2.sem = fun _ => 0)

def quiescent_UqDx [hUqDx : Cert.UqDx.Facts] : Prop :=
  ∀ (m : (ℓ : Loc Cert.UqDx.nD Cert.UqDx.τ Cert.UqDx.sig) → Buf (Elt Bits) ℓ) (g : Dev Cert.UqDx.nD → PrngReg), Pre_UqDx m →
    θ_run (Cert.UqDx.defs (F := Bits)) (onTc (τ := Cert.UqDx.τ) (Cert.UqDx.main (F := Bits))) ⟨m, fun _ => 0, g⟩ (fun r => (∀ c : Dev Cert.UqDx.nD,
      r.2.mem ((c.tc : Thread Cert.UqDx.nD Cert.UqDx.τ).loc Cert.UqDx.main_arg0) = m ((c.tc : Thread Cert.UqDx.nD Cert.UqDx.τ).loc Cert.UqDx.main_arg0)
      ∧ r.2.mem ((c.tc : Thread Cert.UqDx.nD Cert.UqDx.τ).loc Cert.UqDx.main_arg1) = m ((c.tc : Thread Cert.UqDx.nD Cert.UqDx.τ).loc Cert.UqDx.main_arg1))
      ∧ r.2.sem = fun _ => 0)

def quiescent_UqDxIdeal [hUqDxIdeal : Cert.UqDxIdeal.Facts] : Prop :=
  ∀ (m : (ℓ : Loc Cert.UqDxIdeal.nD Cert.UqDxIdeal.τ Cert.UqDxIdeal.sig) → Buf (Elt Ideal) ℓ) (g : Dev Cert.UqDxIdeal.nD → PrngReg), Pre_UqDxIdeal m →
    θ_run (Cert.UqDxIdeal.defs (F := Ideal)) (onTc (τ := Cert.UqDxIdeal.τ) (Cert.UqDxIdeal.main (F := Ideal))) ⟨m, fun _ => 0, g⟩ (fun r => (∀ c : Dev Cert.UqDxIdeal.nD,
      r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
      ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1))
      ∧ r.2.sem = fun _ => 0)

def quiescent_UqDxReferenceIdeal [hUqDxReferenceIdeal : Cert.UqDxReferenceIdeal.Facts] : Prop :=
  ∀ (m : (ℓ : Loc Cert.UqDxReferenceIdeal.nD Cert.UqDxReferenceIdeal.τ Cert.UqDxReferenceIdeal.sig) → Buf (Elt Ideal) ℓ) (g : Dev Cert.UqDxReferenceIdeal.nD → PrngReg), Pre_UqDxReferenceIdeal m →
    θ_run (Cert.UqDxReferenceIdeal.defs (F := Ideal)) (onTc (τ := Cert.UqDxReferenceIdeal.τ) (Cert.UqDxReferenceIdeal.main (F := Ideal))) ⟨m, fun _ => 0, g⟩ (fun r => (∀ c : Dev Cert.UqDxReferenceIdeal.nD,
      r.2.mem ((c.tc : Thread Cert.UqDxReferenceIdeal.nD Cert.UqDxReferenceIdeal.τ).loc Cert.UqDxReferenceIdeal.main_arg0) = m ((c.tc : Thread Cert.UqDxReferenceIdeal.nD Cert.UqDxReferenceIdeal.τ).loc Cert.UqDxReferenceIdeal.main_arg0)
      ∧ r.2.mem ((c.tc : Thread Cert.UqDxReferenceIdeal.nD Cert.UqDxReferenceIdeal.τ).loc Cert.UqDxReferenceIdeal.main_arg1) = m ((c.tc : Thread Cert.UqDxReferenceIdeal.nD Cert.UqDxReferenceIdeal.τ).loc Cert.UqDxReferenceIdeal.main_arg1))
      ∧ r.2.sem = fun _ => 0)

def quiescent_UkvDx [hUkvDx : Cert.UkvDx.Facts] : Prop :=
  ∀ (m : (ℓ : Loc Cert.UkvDx.nD Cert.UkvDx.τ Cert.UkvDx.sig) → Buf (Elt Bits) ℓ) (g : Dev Cert.UkvDx.nD → PrngReg), Pre_UkvDx m →
    θ_run (Cert.UkvDx.defs (F := Bits)) (onTc (τ := Cert.UkvDx.τ) (Cert.UkvDx.main (F := Bits))) ⟨m, fun _ => 0, g⟩ (fun r => (∀ c : Dev Cert.UkvDx.nD,
      r.2.mem ((c.tc : Thread Cert.UkvDx.nD Cert.UkvDx.τ).loc Cert.UkvDx.main_arg0) = m ((c.tc : Thread Cert.UkvDx.nD Cert.UkvDx.τ).loc Cert.UkvDx.main_arg0)
      ∧ r.2.mem ((c.tc : Thread Cert.UkvDx.nD Cert.UkvDx.τ).loc Cert.UkvDx.main_arg1) = m ((c.tc : Thread Cert.UkvDx.nD Cert.UkvDx.τ).loc Cert.UkvDx.main_arg1))
      ∧ r.2.sem = fun _ => 0)

def quiescent_UkvDxIdeal [hUkvDxIdeal : Cert.UkvDxIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg), Pre_UkvDxIdeal m →
    θ_run (Cert.UkvDxIdeal.defs (F := Ideal)) (onTc (τ := Cert.UkvDxIdeal.τ) (Cert.UkvDxIdeal.main (F := Ideal))) ⟨m, fun _ => 0, g⟩ (fun r => (∀ c : Dev Cert.UkvDxIdeal.nD,
      r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
      ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1))
      ∧ r.2.sem = fun _ => 0)

def quiescent_UkvDxReferenceIdeal [hUkvDxReferenceIdeal : Cert.UkvDxReferenceIdeal.Facts] : Prop :=
  ∀ (m : (ℓ : Loc Cert.UkvDxReferenceIdeal.nD Cert.UkvDxReferenceIdeal.τ Cert.UkvDxReferenceIdeal.sig) → Buf (Elt Ideal) ℓ) (g : Dev Cert.UkvDxReferenceIdeal.nD → PrngReg), Pre_UkvDxReferenceIdeal m →
    θ_run (Cert.UkvDxReferenceIdeal.defs (F := Ideal)) (onTc (τ := Cert.UkvDxReferenceIdeal.τ) (Cert.UkvDxReferenceIdeal.main (F := Ideal))) ⟨m, fun _ => 0, g⟩ (fun r => (∀ c : Dev Cert.UkvDxReferenceIdeal.nD,
      r.2.mem ((c.tc : Thread Cert.UkvDxReferenceIdeal.nD Cert.UkvDxReferenceIdeal.τ).loc Cert.UkvDxReferenceIdeal.main_arg0) = m ((c.tc : Thread Cert.UkvDxReferenceIdeal.nD Cert.UkvDxReferenceIdeal.τ).loc Cert.UkvDxReferenceIdeal.main_arg0)
      ∧ r.2.mem ((c.tc : Thread Cert.UkvDxReferenceIdeal.nD Cert.UkvDxReferenceIdeal.τ).loc Cert.UkvDxReferenceIdeal.main_arg1) = m ((c.tc : Thread Cert.UkvDxReferenceIdeal.nD Cert.UkvDxReferenceIdeal.τ).loc Cert.UkvDxReferenceIdeal.main_arg1))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ r.2.sem = fun _ => 0)

def quiescent_UqDwReferenceIdeal [hUqDwReferenceIdeal : Cert.UqDwReferenceIdeal.Facts] : Prop :=
  ∀ (m : (ℓ : Loc Cert.UqDwReferenceIdeal.nD Cert.UqDwReferenceIdeal.τ Cert.UqDwReferenceIdeal.sig) → Buf (Elt Ideal) ℓ) (g : Dev Cert.UqDwReferenceIdeal.nD → PrngReg), Pre_UqDwReferenceIdeal m →
    θ_run (Cert.UqDwReferenceIdeal.defs (F := Ideal)) (onTc (τ := Cert.UqDwReferenceIdeal.τ) (Cert.UqDwReferenceIdeal.main (F := Ideal))) ⟨m, fun _ => 0, g⟩ (fun r => (∀ c : Dev Cert.UqDwReferenceIdeal.nD,
      r.2.mem ((c.tc : Thread Cert.UqDwReferenceIdeal.nD Cert.UqDwReferenceIdeal.τ).loc Cert.UqDwReferenceIdeal.main_arg0) = m ((c.tc : Thread Cert.UqDwReferenceIdeal.nD Cert.UqDwReferenceIdeal.τ).loc Cert.UqDwReferenceIdeal.main_arg0)
      ∧ r.2.mem ((c.tc : Thread Cert.UqDwReferenceIdeal.nD Cert.UqDwReferenceIdeal.τ).loc Cert.UqDwReferenceIdeal.main_arg1) = m ((c.tc : Thread Cert.UqDwReferenceIdeal.nD Cert.UqDwReferenceIdeal.τ).loc Cert.UqDwReferenceIdeal.main_arg1))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ r.2.sem = fun _ => 0)

def quiescent_UkvDwReferenceIdeal [hUkvDwReferenceIdeal : Cert.UkvDwReferenceIdeal.Facts] : Prop :=
  ∀ (m : (ℓ : Loc Cert.UkvDwReferenceIdeal.nD Cert.UkvDwReferenceIdeal.τ Cert.UkvDwReferenceIdeal.sig) → Buf (Elt Ideal) ℓ) (g : Dev Cert.UkvDwReferenceIdeal.nD → PrngReg), Pre_UkvDwReferenceIdeal m →
    θ_run (Cert.UkvDwReferenceIdeal.defs (F := Ideal)) (onTc (τ := Cert.UkvDwReferenceIdeal.τ) (Cert.UkvDwReferenceIdeal.main (F := Ideal))) ⟨m, fun _ => 0, g⟩ (fun r => (∀ c : Dev Cert.UkvDwReferenceIdeal.nD,
      r.2.mem ((c.tc : Thread Cert.UkvDwReferenceIdeal.nD Cert.UkvDwReferenceIdeal.τ).loc Cert.UkvDwReferenceIdeal.main_arg0) = m ((c.tc : Thread Cert.UkvDwReferenceIdeal.nD Cert.UkvDwReferenceIdeal.τ).loc Cert.UkvDwReferenceIdeal.main_arg0)
      ∧ r.2.mem ((c.tc : Thread Cert.UkvDwReferenceIdeal.nD Cert.UkvDwReferenceIdeal.τ).loc Cert.UkvDwReferenceIdeal.main_arg1) = m ((c.tc : Thread Cert.UkvDwReferenceIdeal.nD Cert.UkvDwReferenceIdeal.τ).loc Cert.UkvDwReferenceIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_fwd [hAttnFwdIdeal : Cert.AttnFwdIdeal.Facts] [hPre_finite_fwd : Cert.Pre_finite_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def quiescent_AttnFwdReferenceIdeal_pre_finite_fwd [hAttnFwdReferenceIdeal : Cert.AttnFwdReferenceIdeal.Facts] [hPre_finite_fwd : Cert.Pre_finite_fwd.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_finite_fwd m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def quiescent_AttnDelta [hAttnDelta : Cert.AttnDelta.Facts] : Prop :=
  ∀ (m : (ℓ : Loc Cert.AttnDelta.nD Cert.AttnDelta.τ Cert.AttnDelta.sig) → Buf (Elt Bits) ℓ) (g : Dev Cert.AttnDelta.nD → PrngReg), Pre_AttnDelta m →
    θ_run (Cert.AttnDelta.defs (F := Bits)) (onTc (τ := Cert.AttnDelta.τ) (Cert.AttnDelta.main (F := Bits))) ⟨m, fun _ => 0, g⟩ (fun r => (∀ c : Dev Cert.AttnDelta.nD,
      r.2.mem ((c.tc : Thread Cert.AttnDelta.nD Cert.AttnDelta.τ).loc Cert.AttnDelta.main_arg0) = m ((c.tc : Thread Cert.AttnDelta.nD Cert.AttnDelta.τ).loc Cert.AttnDelta.main_arg0)
      ∧ r.2.mem ((c.tc : Thread Cert.AttnDelta.nD Cert.AttnDelta.τ).loc Cert.AttnDelta.main_arg1) = m ((c.tc : Thread Cert.AttnDelta.nD Cert.AttnDelta.τ).loc Cert.AttnDelta.main_arg1))
      ∧ r.2.sem = fun _ => 0)

def quiescent_AttnDeltaIdeal [hAttnDeltaIdeal : Cert.AttnDeltaIdeal.Facts] : Prop :=
  ∀ (m : (ℓ : Loc Cert.AttnDeltaIdeal.nD Cert.AttnDeltaIdeal.τ Cert.AttnDeltaIdeal.sig) → Buf (Elt Ideal) ℓ) (g : Dev Cert.AttnDeltaIdeal.nD → PrngReg), Pre_AttnDeltaIdeal m →
    θ_run (Cert.AttnDeltaIdeal.defs (F := Ideal)) (onTc (τ := Cert.AttnDeltaIdeal.τ) (Cert.AttnDeltaIdeal.main (F := Ideal))) ⟨m, fun _ => 0, g⟩ (fun r => (∀ c : Dev Cert.AttnDeltaIdeal.nD,
      r.2.mem ((c.tc : Thread Cert.AttnDeltaIdeal.nD Cert.AttnDeltaIdeal.τ).loc Cert.AttnDeltaIdeal.main_arg0) = m ((c.tc : Thread Cert.AttnDeltaIdeal.nD Cert.AttnDeltaIdeal.τ).loc Cert.AttnDeltaIdeal.main_arg0)
      ∧ r.2.mem ((c.tc : Thread Cert.AttnDeltaIdeal.nD Cert.AttnDeltaIdeal.τ).loc Cert.AttnDeltaIdeal.main_arg1) = m ((c.tc : Thread Cert.AttnDeltaIdeal.nD Cert.AttnDeltaIdeal.τ).loc Cert.AttnDeltaIdeal.main_arg1))
      ∧ r.2.sem = fun _ => 0)

def quiescent_AttnDeltaReferenceIdeal [hAttnDeltaReferenceIdeal : Cert.AttnDeltaReferenceIdeal.Facts] : Prop :=
  ∀ (m : (ℓ : Loc Cert.AttnDeltaReferenceIdeal.nD Cert.AttnDeltaReferenceIdeal.τ Cert.AttnDeltaReferenceIdeal.sig) → Buf (Elt Ideal) ℓ) (g : Dev Cert.AttnDeltaReferenceIdeal.nD → PrngReg), Pre_AttnDeltaReferenceIdeal m →
    θ_run (Cert.AttnDeltaReferenceIdeal.defs (F := Ideal)) (onTc (τ := Cert.AttnDeltaReferenceIdeal.τ) (Cert.AttnDeltaReferenceIdeal.main (F := Ideal))) ⟨m, fun _ => 0, g⟩ (fun r => (∀ c : Dev Cert.AttnDeltaReferenceIdeal.nD,
      r.2.mem ((c.tc : Thread Cert.AttnDeltaReferenceIdeal.nD Cert.AttnDeltaReferenceIdeal.τ).loc Cert.AttnDeltaReferenceIdeal.main_arg0) = m ((c.tc : Thread Cert.AttnDeltaReferenceIdeal.nD Cert.AttnDeltaReferenceIdeal.τ).loc Cert.AttnDeltaReferenceIdeal.main_arg0)
      ∧ r.2.mem ((c.tc : Thread Cert.AttnDeltaReferenceIdeal.nD Cert.AttnDeltaReferenceIdeal.τ).loc Cert.AttnDeltaReferenceIdeal.main_arg1) = m ((c.tc : Thread Cert.AttnDeltaReferenceIdeal.nD Cert.AttnDeltaReferenceIdeal.τ).loc Cert.AttnDeltaReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v4) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v6) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_GateUpDw_GateUpDwIdeal : Prop :=
  True

def algebraic_GateUpDwIdeal_GateUpDwReferenceIdeal [hGateUpDwIdeal : Cert.GateUpDwIdeal.Facts] [hGateUpDwReferenceIdeal : Cert.GateUpDwReferenceIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg)
    (m' : (ℓ : Loc Cert.GateUpDwReferenceIdeal.nD Cert.GateUpDwReferenceIdeal.τ Cert.GateUpDwReferenceIdeal.sig) → Buf (Elt Ideal) ℓ) (g' : Dev Cert.GateUpDwReferenceIdeal.nD → PrngReg), Pre_GateUpDwIdeal m →
    (∀ c : Dev Cert.GateUpDwIdeal.nD,
      m' ((c.tc : Thread Cert.GateUpDwReferenceIdeal.nD Cert.GateUpDwReferenceIdeal.τ).loc Cert.GateUpDwReferenceIdeal.main_arg0) = m ((c.tc : Thread Cert.GateUpDwIdeal.nD Cert.GateUpDwIdeal.τ).loc Cert.GateUpDwIdeal.main_arg0)
      ∧ m' ((c.tc : Thread Cert.GateUpDwReferenceIdeal.nD Cert.GateUpDwReferenceIdeal.τ).loc Cert.GateUpDwReferenceIdeal.main_arg1) = m ((c.tc : Thread Cert.GateUpDwIdeal.nD Cert.GateUpDwIdeal.τ).loc Cert.GateUpDwIdeal.main_arg1)
      ∧ m' ((c.tc : Thread Cert.GateUpDwReferenceIdeal.nD Cert.GateUpDwReferenceIdeal.τ).loc Cert.GateUpDwReferenceIdeal.main_arg2) = m ((c.tc : Thread Cert.GateUpDwIdeal.nD Cert.GateUpDwIdeal.τ).loc Cert.GateUpDwIdeal.main_arg2)) →
    ∃ (v0 : (c : Dev Cert.GateUpDwIdeal.nD) → Buf (Elt Ideal) ((c.tc : Thread Cert.GateUpDwIdeal.nD Cert.GateUpDwIdeal.τ).loc Cert.GateUpDwIdeal.main_v0_0)) (v1 : (c : Dev Cert.GateUpDwIdeal.nD) → Buf (Elt Ideal) ((c.tc : Thread Cert.GateUpDwIdeal.nD Cert.GateUpDwIdeal.τ).loc Cert.GateUpDwIdeal.main_v0_1)),
      θ_run (Cert.GateUpDwIdeal.defs (F := Ideal)) (onTc (τ := Cert.GateUpDwIdeal.τ) (Cert.GateUpDwIdeal.main (F := Ideal))) ⟨m, fun _ => 0, g⟩ (fun r => ∀ c : Dev Cert.GateUpDwIdeal.nD,
          r.2.mem ((c.tc : Thread Cert.GateUpDwIdeal.nD Cert.GateUpDwIdeal.τ).loc Cert.GateUpDwIdeal.main_v0_0) = v0 c
          ∧ r.2.mem ((c.tc : Thread Cert.GateUpDwIdeal.nD Cert.GateUpDwIdeal.τ).loc Cert.GateUpDwIdeal.main_v0_1) = v1 c
          ∧ r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
          ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1)
          ∧ r.2.mem ((c.tc : Thread Cert.GateUpDwIdeal.nD Cert.GateUpDwIdeal.τ).loc Cert.GateUpDwIdeal.main_arg2) = m ((c.tc : Thread Cert.GateUpDwIdeal.nD Cert.GateUpDwIdeal.τ).loc Cert.GateUpDwIdeal.main_arg2))
      ∧ θ_run (Cert.GateUpDwReferenceIdeal.defs (F := Ideal)) (onTc (τ := Cert.GateUpDwReferenceIdeal.τ) (Cert.GateUpDwReferenceIdeal.main (F := Ideal))) ⟨m', fun _ => 0, g'⟩ (fun r => ∀ c : Dev Cert.GateUpDwReferenceIdeal.nD,
          r.2.mem ((c.tc : Thread Cert.GateUpDwReferenceIdeal.nD Cert.GateUpDwReferenceIdeal.τ).loc Cert.GateUpDwReferenceIdeal.main_v14) = v0 c
          ∧ r.2.mem ((c.tc : Thread Cert.GateUpDwReferenceIdeal.nD Cert.GateUpDwReferenceIdeal.τ).loc Cert.GateUpDwReferenceIdeal.main_v15) = v1 c
          ∧ r.2.mem ((c.tc : Thread Cert.GateUpDwReferenceIdeal.nD Cert.GateUpDwReferenceIdeal.τ).loc Cert.GateUpDwReferenceIdeal.main_arg0) = m' ((c.tc : Thread Cert.GateUpDwReferenceIdeal.nD Cert.GateUpDwReferenceIdeal.τ).loc Cert.GateUpDwReferenceIdeal.main_arg0)
          ∧ r.2.mem ((c.tc : Thread Cert.GateUpDwReferenceIdeal.nD Cert.GateUpDwReferenceIdeal.τ).loc Cert.GateUpDwReferenceIdeal.main_arg1) = m' ((c.tc : Thread Cert.GateUpDwReferenceIdeal.nD Cert.GateUpDwReferenceIdeal.τ).loc Cert.GateUpDwReferenceIdeal.main_arg1)
          ∧ r.2.mem ((c.tc : Thread Cert.GateUpDwReferenceIdeal.nD Cert.GateUpDwReferenceIdeal.τ).loc Cert.GateUpDwReferenceIdeal.main_arg2) = m' ((c.tc : Thread Cert.GateUpDwReferenceIdeal.nD Cert.GateUpDwReferenceIdeal.τ).loc Cert.GateUpDwReferenceIdeal.main_arg2))

def preserves_GateUpDx_GateUpDxIdeal : Prop :=
  True

def algebraic_GateUpDxIdeal_GateUpDxReferenceIdeal [hGateUpDxIdeal : Cert.GateUpDxIdeal.Facts] [hGateUpDxReferenceIdeal : Cert.GateUpDxReferenceIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg)
    (m' : (ℓ : Loc Cert.GateUpDxReferenceIdeal.nD Cert.GateUpDxReferenceIdeal.τ Cert.GateUpDxReferenceIdeal.sig) → Buf (Elt Ideal) ℓ) (g' : Dev Cert.GateUpDxReferenceIdeal.nD → PrngReg), Pre_GateUpDxIdeal m →
    (∀ c : Dev Cert.GateUpDxIdeal.nD,
      m' ((c.tc : Thread Cert.GateUpDxReferenceIdeal.nD Cert.GateUpDxReferenceIdeal.τ).loc Cert.GateUpDxReferenceIdeal.main_arg0) = m ((c.tc : Thread Cert.GateUpDxIdeal.nD Cert.GateUpDxIdeal.τ).loc Cert.GateUpDxIdeal.main_arg0)
      ∧ m' ((c.tc : Thread Cert.GateUpDxReferenceIdeal.nD Cert.GateUpDxReferenceIdeal.τ).loc Cert.GateUpDxReferenceIdeal.main_arg1) = m ((c.tc : Thread Cert.GateUpDxIdeal.nD Cert.GateUpDxIdeal.τ).loc Cert.GateUpDxIdeal.main_arg1)
      ∧ m' ((c.tc : Thread Cert.GateUpDxReferenceIdeal.nD Cert.GateUpDxReferenceIdeal.τ).loc Cert.GateUpDxReferenceIdeal.main_arg2) = m ((c.tc : Thread Cert.GateUpDxIdeal.nD Cert.GateUpDxIdeal.τ).loc Cert.GateUpDxIdeal.main_arg2)
      ∧ m' ((c.tc : Thread Cert.GateUpDxReferenceIdeal.nD Cert.GateUpDxReferenceIdeal.τ).loc Cert.GateUpDxReferenceIdeal.main_arg3) = m ((c.tc : Thread Cert.GateUpDxIdeal.nD Cert.GateUpDxIdeal.τ).loc Cert.GateUpDxIdeal.main_arg3)) →
    ∃ (v0 : (c : Dev Cert.GateUpDxIdeal.nD) → Buf (Elt Ideal) ((c.tc : Thread Cert.GateUpDxIdeal.nD Cert.GateUpDxIdeal.τ).loc Cert.GateUpDxIdeal.main_v0)),
      θ_run (Cert.GateUpDxIdeal.defs (F := Ideal)) (onTc (τ := Cert.GateUpDxIdeal.τ) (Cert.GateUpDxIdeal.main (F := Ideal))) ⟨m, fun _ => 0, g⟩ (fun r => ∀ c : Dev Cert.GateUpDxIdeal.nD,
          r.2.mem ((c.tc : Thread Cert.GateUpDxIdeal.nD Cert.GateUpDxIdeal.τ).loc Cert.GateUpDxIdeal.main_v0) = v0 c
          ∧ r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
          ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1)
          ∧ r.2.mem ((c.tc : Thread Cert.GateUpDxIdeal.nD Cert.GateUpDxIdeal.τ).loc Cert.GateUpDxIdeal.main_arg2) = m ((c.tc : Thread Cert.GateUpDxIdeal.nD Cert.GateUpDxIdeal.τ).loc Cert.GateUpDxIdeal.main_arg2)
          ∧ r.2.mem ((c.tc : Thread Cert.GateUpDxIdeal.nD Cert.GateUpDxIdeal.τ).loc Cert.GateUpDxIdeal.main_arg3) = m ((c.tc : Thread Cert.GateUpDxIdeal.nD Cert.GateUpDxIdeal.τ).loc Cert.GateUpDxIdeal.main_arg3))
      ∧ θ_run (Cert.GateUpDxReferenceIdeal.defs (F := Ideal)) (onTc (τ := Cert.GateUpDxReferenceIdeal.τ) (Cert.GateUpDxReferenceIdeal.main (F := Ideal))) ⟨m', fun _ => 0, g'⟩ (fun r => ∀ c : Dev Cert.GateUpDxReferenceIdeal.nD,
          r.2.mem ((c.tc : Thread Cert.GateUpDxReferenceIdeal.nD Cert.GateUpDxReferenceIdeal.τ).loc Cert.GateUpDxReferenceIdeal.main_v13) = v0 c
          ∧ r.2.mem ((c.tc : Thread Cert.GateUpDxReferenceIdeal.nD Cert.GateUpDxReferenceIdeal.τ).loc Cert.GateUpDxReferenceIdeal.main_arg0) = m' ((c.tc : Thread Cert.GateUpDxReferenceIdeal.nD Cert.GateUpDxReferenceIdeal.τ).loc Cert.GateUpDxReferenceIdeal.main_arg0)
          ∧ r.2.mem ((c.tc : Thread Cert.GateUpDxReferenceIdeal.nD Cert.GateUpDxReferenceIdeal.τ).loc Cert.GateUpDxReferenceIdeal.main_arg1) = m' ((c.tc : Thread Cert.GateUpDxReferenceIdeal.nD Cert.GateUpDxReferenceIdeal.τ).loc Cert.GateUpDxReferenceIdeal.main_arg1)
          ∧ r.2.mem ((c.tc : Thread Cert.GateUpDxReferenceIdeal.nD Cert.GateUpDxReferenceIdeal.τ).loc Cert.GateUpDxReferenceIdeal.main_arg2) = m' ((c.tc : Thread Cert.GateUpDxReferenceIdeal.nD Cert.GateUpDxReferenceIdeal.τ).loc Cert.GateUpDxReferenceIdeal.main_arg2)
          ∧ r.2.mem ((c.tc : Thread Cert.GateUpDxReferenceIdeal.nD Cert.GateUpDxReferenceIdeal.τ).loc Cert.GateUpDxReferenceIdeal.main_arg3) = m' ((c.tc : Thread Cert.GateUpDxReferenceIdeal.nD Cert.GateUpDxReferenceIdeal.τ).loc Cert.GateUpDxReferenceIdeal.main_arg3))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v4) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v6) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v8) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v5) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v3) = v0 c
          ∧ r.2.mem ((c.tc : Thread Cert.GateUpReferenceIdeal.nD Cert.GateUpReferenceIdeal.τ).loc Cert.GateUpReferenceIdeal.main_v7) = v1 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v3) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Uq_UqIdeal : Prop :=
  True

def algebraic_UqIdeal_UqReferenceIdeal [hUqIdeal : Cert.UqIdeal.Facts] [hUqReferenceIdeal : Cert.UqReferenceIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqReferenceIdeal.nD Cert.UqReferenceIdeal.τ Cert.UqReferenceIdeal.sig) → Buf (Elt Ideal) ℓ) (g' : Dev Cert.UqReferenceIdeal.nD → PrngReg), Pre_UqIdeal m →
    (∀ c : Dev Cert.UqIdeal.nD,
      m' ((c.tc : Thread Cert.UqReferenceIdeal.nD Cert.UqReferenceIdeal.τ).loc Cert.UqReferenceIdeal.main_arg0) = m ((c.tc : Thread Cert.UqIdeal.nD Cert.UqIdeal.τ).loc Cert.UqIdeal.main_arg0)
      ∧ m' ((c.tc : Thread Cert.UqReferenceIdeal.nD Cert.UqReferenceIdeal.τ).loc Cert.UqReferenceIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v0)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqReferenceIdeal.defs (F := Ideal)) (onTc (τ := Cert.UqReferenceIdeal.τ) (Cert.UqReferenceIdeal.main (F := Ideal))) ⟨m', fun _ => 0, g'⟩ (fun r => ∀ c : Dev Cert.UqReferenceIdeal.nD,
          r.2.mem ((c.tc : Thread Cert.UqReferenceIdeal.nD Cert.UqReferenceIdeal.τ).loc Cert.UqReferenceIdeal.main_v2) = v0 c
          ∧ r.2.mem ((c.tc : Thread Cert.UqReferenceIdeal.nD Cert.UqReferenceIdeal.τ).loc Cert.UqReferenceIdeal.main_arg0) = m' ((c.tc : Thread Cert.UqReferenceIdeal.nD Cert.UqReferenceIdeal.τ).loc Cert.UqReferenceIdeal.main_arg0)
          ∧ r.2.mem ((c.tc : Thread Cert.UqReferenceIdeal.nD Cert.UqReferenceIdeal.τ).loc Cert.UqReferenceIdeal.main_arg1) = m' ((c.tc : Thread Cert.UqReferenceIdeal.nD Cert.UqReferenceIdeal.τ).loc Cert.UqReferenceIdeal.main_arg1))

def preserves_Ukv_UkvIdeal : Prop :=
  True

def algebraic_UkvIdeal_UkvReferenceIdeal [hUkvIdeal : Cert.UkvIdeal.Facts] [hUkvReferenceIdeal : Cert.UkvReferenceIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvReferenceIdeal.nD Cert.UkvReferenceIdeal.τ Cert.UkvReferenceIdeal.sig) → Buf (Elt Ideal) ℓ) (g' : Dev Cert.UkvReferenceIdeal.nD → PrngReg), Pre_UkvIdeal m →
    (∀ c : Dev Cert.UkvIdeal.nD,
      m' ((c.tc : Thread Cert.UkvReferenceIdeal.nD Cert.UkvReferenceIdeal.τ).loc Cert.UkvReferenceIdeal.main_arg0) = m ((c.tc : Thread Cert.UkvIdeal.nD Cert.UkvIdeal.τ).loc Cert.UkvIdeal.main_arg0)
      ∧ m' ((c.tc : Thread Cert.UkvReferenceIdeal.nD Cert.UkvReferenceIdeal.τ).loc Cert.UkvReferenceIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v0)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v0) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvReferenceIdeal.defs (F := Ideal)) (onTc (τ := Cert.UkvReferenceIdeal.τ) (Cert.UkvReferenceIdeal.main (F := Ideal))) ⟨m', fun _ => 0, g'⟩ (fun r => ∀ c : Dev Cert.UkvReferenceIdeal.nD,
          r.2.mem ((c.tc : Thread Cert.UkvReferenceIdeal.nD Cert.UkvReferenceIdeal.τ).loc Cert.UkvReferenceIdeal.main_v2) = v0 c
          ∧ r.2.mem ((c.tc : Thread Cert.UkvReferenceIdeal.nD Cert.UkvReferenceIdeal.τ).loc Cert.UkvReferenceIdeal.main_arg0) = m' ((c.tc : Thread Cert.UkvReferenceIdeal.nD Cert.UkvReferenceIdeal.τ).loc Cert.UkvReferenceIdeal.main_arg0)
          ∧ r.2.mem ((c.tc : Thread Cert.UkvReferenceIdeal.nD Cert.UkvReferenceIdeal.τ).loc Cert.UkvReferenceIdeal.main_arg1) = m' ((c.tc : Thread Cert.UkvReferenceIdeal.nD Cert.UkvReferenceIdeal.τ).loc Cert.UkvReferenceIdeal.main_arg1))

def preserves_UqDx_UqDxIdeal : Prop :=
  True

def algebraic_UqDxIdeal_UqDxReferenceIdeal [hUqDxIdeal : Cert.UqDxIdeal.Facts] [hUqDxReferenceIdeal : Cert.UqDxReferenceIdeal.Facts] : Prop :=
  ∀ (m : (ℓ : Loc Cert.UqDxIdeal.nD Cert.UqDxIdeal.τ Cert.UqDxIdeal.sig) → Buf (Elt Ideal) ℓ) (g : Dev Cert.UqDxIdeal.nD → PrngReg)
    (m' : (ℓ : Loc Cert.UqDxReferenceIdeal.nD Cert.UqDxReferenceIdeal.τ Cert.UqDxReferenceIdeal.sig) → Buf (Elt Ideal) ℓ) (g' : Dev Cert.UqDxReferenceIdeal.nD → PrngReg), Pre_UqDxIdeal m →
    (∀ c : Dev Cert.UqDxIdeal.nD,
      m' ((c.tc : Thread Cert.UqDxReferenceIdeal.nD Cert.UqDxReferenceIdeal.τ).loc Cert.UqDxReferenceIdeal.main_arg0) = m ((c.tc : Thread Cert.UqDxIdeal.nD Cert.UqDxIdeal.τ).loc Cert.UqDxIdeal.main_arg0)
      ∧ m' ((c.tc : Thread Cert.UqDxReferenceIdeal.nD Cert.UqDxReferenceIdeal.τ).loc Cert.UqDxReferenceIdeal.main_arg1) = m ((c.tc : Thread Cert.UqDxIdeal.nD Cert.UqDxIdeal.τ).loc Cert.UqDxIdeal.main_arg1)) →
    ∃ (v0 : (c : Dev Cert.UqDxIdeal.nD) → Buf (Elt Ideal) ((c.tc : Thread Cert.UqDxIdeal.nD Cert.UqDxIdeal.τ).loc Cert.UqDxIdeal.main_v0)),
      θ_run (Cert.UqDxIdeal.defs (F := Ideal)) (onTc (τ := Cert.UqDxIdeal.τ) (Cert.UqDxIdeal.main (F := Ideal))) ⟨m, fun _ => 0, g⟩ (fun r => ∀ c : Dev Cert.UqDxIdeal.nD,
          r.2.mem ((c.tc : Thread Cert.UqDxIdeal.nD Cert.UqDxIdeal.τ).loc Cert.UqDxIdeal.main_v0) = v0 c
          ∧ r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
          ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1))
      ∧ θ_run (Cert.UqDxReferenceIdeal.defs (F := Ideal)) (onTc (τ := Cert.UqDxReferenceIdeal.τ) (Cert.UqDxReferenceIdeal.main (F := Ideal))) ⟨m', fun _ => 0, g'⟩ (fun r => ∀ c : Dev Cert.UqDxReferenceIdeal.nD,
          r.2.mem ((c.tc : Thread Cert.UqDxReferenceIdeal.nD Cert.UqDxReferenceIdeal.τ).loc Cert.UqDxReferenceIdeal.main_v4) = v0 c
          ∧ r.2.mem ((c.tc : Thread Cert.UqDxReferenceIdeal.nD Cert.UqDxReferenceIdeal.τ).loc Cert.UqDxReferenceIdeal.main_arg0) = m' ((c.tc : Thread Cert.UqDxReferenceIdeal.nD Cert.UqDxReferenceIdeal.τ).loc Cert.UqDxReferenceIdeal.main_arg0)
          ∧ r.2.mem ((c.tc : Thread Cert.UqDxReferenceIdeal.nD Cert.UqDxReferenceIdeal.τ).loc Cert.UqDxReferenceIdeal.main_arg1) = m' ((c.tc : Thread Cert.UqDxReferenceIdeal.nD Cert.UqDxReferenceIdeal.τ).loc Cert.UqDxReferenceIdeal.main_arg1))

def preserves_UkvDx_UkvDxIdeal : Prop :=
  True

def algebraic_UkvDxIdeal_UkvDxReferenceIdeal [hUkvDxIdeal : Cert.UkvDxIdeal.Facts] [hUkvDxReferenceIdeal : Cert.UkvDxReferenceIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg)
    (m' : (ℓ : Loc Cert.UkvDxReferenceIdeal.nD Cert.UkvDxReferenceIdeal.τ Cert.UkvDxReferenceIdeal.sig) → Buf (Elt Ideal) ℓ) (g' : Dev Cert.UkvDxReferenceIdeal.nD → PrngReg), Pre_UkvDxIdeal m →
    (∀ c : Dev Cert.UkvDxIdeal.nD,
      m' ((c.tc : Thread Cert.UkvDxReferenceIdeal.nD Cert.UkvDxReferenceIdeal.τ).loc Cert.UkvDxReferenceIdeal.main_arg0) = m ((c.tc : Thread Cert.UkvDxIdeal.nD Cert.UkvDxIdeal.τ).loc Cert.UkvDxIdeal.main_arg0)
      ∧ m' ((c.tc : Thread Cert.UkvDxReferenceIdeal.nD Cert.UkvDxReferenceIdeal.τ).loc Cert.UkvDxReferenceIdeal.main_arg1) = m ((c.tc : Thread Cert.UkvDxIdeal.nD Cert.UkvDxIdeal.τ).loc Cert.UkvDxIdeal.main_arg1)) →
    ∃ (v0 : (c : Dev Cert.UkvDxIdeal.nD) → Buf (Elt Ideal) ((c.tc : Thread Cert.UkvDxIdeal.nD Cert.UkvDxIdeal.τ).loc Cert.UkvDxIdeal.main_v0)),
      θ_run (Cert.UkvDxIdeal.defs (F := Ideal)) (onTc (τ := Cert.UkvDxIdeal.τ) (Cert.UkvDxIdeal.main (F := Ideal))) ⟨m, fun _ => 0, g⟩ (fun r => ∀ c : Dev Cert.UkvDxIdeal.nD,
          r.2.mem ((c.tc : Thread Cert.UkvDxIdeal.nD Cert.UkvDxIdeal.τ).loc Cert.UkvDxIdeal.main_v0) = v0 c
          ∧ r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
          ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1))
      ∧ θ_run (Cert.UkvDxReferenceIdeal.defs (F := Ideal)) (onTc (τ := Cert.UkvDxReferenceIdeal.τ) (Cert.UkvDxReferenceIdeal.main (F := Ideal))) ⟨m', fun _ => 0, g'⟩ (fun r => ∀ c : Dev Cert.UkvDxReferenceIdeal.nD,
          r.2.mem ((c.tc : Thread Cert.UkvDxReferenceIdeal.nD Cert.UkvDxReferenceIdeal.τ).loc Cert.UkvDxReferenceIdeal.main_v4) = v0 c
          ∧ r.2.mem ((c.tc : Thread Cert.UkvDxReferenceIdeal.nD Cert.UkvDxReferenceIdeal.τ).loc Cert.UkvDxReferenceIdeal.main_arg0) = m' ((c.tc : Thread Cert.UkvDxReferenceIdeal.nD Cert.UkvDxReferenceIdeal.τ).loc Cert.UkvDxReferenceIdeal.main_arg0)
          ∧ r.2.mem ((c.tc : Thread Cert.UkvDxReferenceIdeal.nD Cert.UkvDxReferenceIdeal.τ).loc Cert.UkvDxReferenceIdeal.main_arg1) = m' ((c.tc : Thread Cert.UkvDxReferenceIdeal.nD Cert.UkvDxReferenceIdeal.τ).loc Cert.UkvDxReferenceIdeal.main_arg1))

def preserves_UqDw_UqDwIdeal : Prop :=
  True

def algebraic_UqDwIdeal_UqDwReferenceIdeal [hUqDwIdeal : Cert.UqDwIdeal.Facts] [hUqDwReferenceIdeal : Cert.UqDwReferenceIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwReferenceIdeal.nD Cert.UqDwReferenceIdeal.τ Cert.UqDwReferenceIdeal.sig) → Buf (Elt Ideal) ℓ) (g' : Dev Cert.UqDwReferenceIdeal.nD → PrngReg), Pre_UqDwIdeal m →
    (∀ c : Dev Cert.UqDwIdeal.nD,
      m' ((c.tc : Thread Cert.UqDwReferenceIdeal.nD Cert.UqDwReferenceIdeal.τ).loc Cert.UqDwReferenceIdeal.main_arg0) = m ((c.tc : Thread Cert.UqDwIdeal.nD Cert.UqDwIdeal.τ).loc Cert.UqDwIdeal.main_arg0)
      ∧ m' ((c.tc : Thread Cert.UqDwReferenceIdeal.nD Cert.UqDwReferenceIdeal.τ).loc Cert.UqDwReferenceIdeal.main_arg1) = m ((c.tc : Thread Cert.UqDwIdeal.nD Cert.UqDwIdeal.τ).loc Cert.UqDwIdeal.main_arg1)) →
    ∃ (v0 : (c : Dev Cert.UqDwIdeal.nD) → Buf (Elt Ideal) ((c.tc : Thread Cert.UqDwIdeal.nD Cert.UqDwIdeal.τ).loc Cert.UqDwIdeal.main_v0)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v0) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ θ_run (Cert.UqDwReferenceIdeal.defs (F := Ideal)) (onTc (τ := Cert.UqDwReferenceIdeal.τ) (Cert.UqDwReferenceIdeal.main (F := Ideal))) ⟨m', fun _ => 0, g'⟩ (fun r => ∀ c : Dev Cert.UqDwReferenceIdeal.nD,
          r.2.mem ((c.tc : Thread Cert.UqDwReferenceIdeal.nD Cert.UqDwReferenceIdeal.τ).loc Cert.UqDwReferenceIdeal.main_v6) = v0 c
          ∧ r.2.mem ((c.tc : Thread Cert.UqDwReferenceIdeal.nD Cert.UqDwReferenceIdeal.τ).loc Cert.UqDwReferenceIdeal.main_arg0) = m' ((c.tc : Thread Cert.UqDwReferenceIdeal.nD Cert.UqDwReferenceIdeal.τ).loc Cert.UqDwReferenceIdeal.main_arg0)
          ∧ r.2.mem ((c.tc : Thread Cert.UqDwReferenceIdeal.nD Cert.UqDwReferenceIdeal.τ).loc Cert.UqDwReferenceIdeal.main_arg1) = m' ((c.tc : Thread Cert.UqDwReferenceIdeal.nD Cert.UqDwReferenceIdeal.τ).loc Cert.UqDwReferenceIdeal.main_arg1))

def preserves_UkvDw_UkvDwIdeal : Prop :=
  True

def algebraic_UkvDwIdeal_UkvDwReferenceIdeal [hUkvDwIdeal : Cert.UkvDwIdeal.Facts] [hUkvDwReferenceIdeal : Cert.UkvDwReferenceIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.UkvDwReferenceIdeal.nD Cert.UkvDwReferenceIdeal.τ Cert.UkvDwReferenceIdeal.sig) → Buf (Elt Ideal) ℓ) (g' : Dev Cert.UkvDwReferenceIdeal.nD → PrngReg), Pre_UkvDwIdeal m →
    (∀ c : Dev Cert.UkvDwIdeal.nD,
      m' ((c.tc : Thread Cert.UkvDwReferenceIdeal.nD Cert.UkvDwReferenceIdeal.τ).loc Cert.UkvDwReferenceIdeal.main_arg0) = m ((c.tc : Thread Cert.UkvDwIdeal.nD Cert.UkvDwIdeal.τ).loc Cert.UkvDwIdeal.main_arg0)
      ∧ m' ((c.tc : Thread Cert.UkvDwReferenceIdeal.nD Cert.UkvDwReferenceIdeal.τ).loc Cert.UkvDwReferenceIdeal.main_arg1) = m ((c.tc : Thread Cert.UkvDwIdeal.nD Cert.UkvDwIdeal.τ).loc Cert.UkvDwIdeal.main_arg1)) →
    ∃ (v0 : (c : Dev Cert.UkvDwIdeal.nD) → Buf (Elt Ideal) ((c.tc : Thread Cert.UkvDwIdeal.nD Cert.UkvDwIdeal.τ).loc Cert.UkvDwIdeal.main_v0)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v0) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ θ_run (Cert.UkvDwReferenceIdeal.defs (F := Ideal)) (onTc (τ := Cert.UkvDwReferenceIdeal.τ) (Cert.UkvDwReferenceIdeal.main (F := Ideal))) ⟨m', fun _ => 0, g'⟩ (fun r => ∀ c : Dev Cert.UkvDwReferenceIdeal.nD,
          r.2.mem ((c.tc : Thread Cert.UkvDwReferenceIdeal.nD Cert.UkvDwReferenceIdeal.τ).loc Cert.UkvDwReferenceIdeal.main_v6) = v0 c
          ∧ r.2.mem ((c.tc : Thread Cert.UkvDwReferenceIdeal.nD Cert.UkvDwReferenceIdeal.τ).loc Cert.UkvDwReferenceIdeal.main_arg0) = m' ((c.tc : Thread Cert.UkvDwReferenceIdeal.nD Cert.UkvDwReferenceIdeal.τ).loc Cert.UkvDwReferenceIdeal.main_arg0)
          ∧ r.2.mem ((c.tc : Thread Cert.UkvDwReferenceIdeal.nD Cert.UkvDwReferenceIdeal.τ).loc Cert.UkvDwReferenceIdeal.main_arg1) = m' ((c.tc : Thread Cert.UkvDwReferenceIdeal.nD Cert.UkvDwReferenceIdeal.τ).loc Cert.UkvDwReferenceIdeal.main_arg1))

def preserves_AttnFwd_AttnFwdIdeal : Prop :=
  IdealRules.named_const.Statement Cert.AttnFwdIdeal.κ "mask" .f32 0xF149F2CA#32 ⊥

def algebraic_AttnFwdIdeal_AttnFwdReferenceIdeal_pre_finite_fwd [hAttnFwdIdeal : Cert.AttnFwdIdeal.Facts] [hAttnFwdReferenceIdeal : Cert.AttnFwdReferenceIdeal.Facts] [hPre_finite_fwd : Cert.Pre_finite_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal_finite_fwd m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)
      ∧ m' ((c.tc : Thread Cert.AttnFwdReferenceIdeal.nD Cert.AttnFwdReferenceIdeal.τ).loc Cert.AttnFwdReferenceIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0_0)) (v1 : (c : Dev Cert.AttnFwdIdeal.nD) → Buf (Elt Ideal) ((c.tc : Thread Cert.AttnFwdIdeal.nD Cert.AttnFwdIdeal.τ).loc Cert.AttnFwdIdeal.main_v0_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0_0) = v0 c
          ∧ r.2.mem ((c.tc : Thread Cert.AttnFwdIdeal.nD Cert.AttnFwdIdeal.τ).loc Cert.AttnFwdIdeal.main_v0_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v25) = v0 c
          ∧ r.2.mem ((c.tc : Thread Cert.AttnFwdReferenceIdeal.nD Cert.AttnFwdReferenceIdeal.τ).loc Cert.AttnFwdReferenceIdeal.main_v30) = v1 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1)
          ∧ r.2.mem ((c.tc : Thread Cert.AttnFwdReferenceIdeal.nD Cert.AttnFwdReferenceIdeal.τ).loc Cert.AttnFwdReferenceIdeal.main_arg2) = m' ((c.tc : Thread Cert.AttnFwdReferenceIdeal.nD Cert.AttnFwdReferenceIdeal.τ).loc Cert.AttnFwdReferenceIdeal.main_arg2))

def preserves_AttnDelta_AttnDeltaIdeal : Prop :=
  True

def algebraic_AttnDeltaIdeal_AttnDeltaReferenceIdeal [hAttnDeltaIdeal : Cert.AttnDeltaIdeal.Facts] [hAttnDeltaReferenceIdeal : Cert.AttnDeltaReferenceIdeal.Facts] : Prop :=
  ∀ (m : (ℓ : Loc Cert.AttnDeltaIdeal.nD Cert.AttnDeltaIdeal.τ Cert.AttnDeltaIdeal.sig) → Buf (Elt Ideal) ℓ) (g : Dev Cert.AttnDeltaIdeal.nD → PrngReg)
    (m' : (ℓ : Loc Cert.AttnDeltaReferenceIdeal.nD Cert.AttnDeltaReferenceIdeal.τ Cert.AttnDeltaReferenceIdeal.sig) → Buf (Elt Ideal) ℓ) (g' : Dev Cert.AttnDeltaReferenceIdeal.nD → PrngReg), Pre_AttnDeltaIdeal m →
    (∀ c : Dev Cert.AttnDeltaIdeal.nD,
      m' ((c.tc : Thread Cert.AttnDeltaReferenceIdeal.nD Cert.AttnDeltaReferenceIdeal.τ).loc Cert.AttnDeltaReferenceIdeal.main_arg0) = m ((c.tc : Thread Cert.AttnDeltaIdeal.nD Cert.AttnDeltaIdeal.τ).loc Cert.AttnDeltaIdeal.main_arg0)
      ∧ m' ((c.tc : Thread Cert.AttnDeltaReferenceIdeal.nD Cert.AttnDeltaReferenceIdeal.τ).loc Cert.AttnDeltaReferenceIdeal.main_arg1) = m ((c.tc : Thread Cert.AttnDeltaIdeal.nD Cert.AttnDeltaIdeal.τ).loc Cert.AttnDeltaIdeal.main_arg1)) →
    ∃ (v0 : (c : Dev Cert.AttnDeltaIdeal.nD) → Buf (Elt Ideal) ((c.tc : Thread Cert.AttnDeltaIdeal.nD Cert.AttnDeltaIdeal.τ).loc Cert.AttnDeltaIdeal.main_v0)),
      θ_run (Cert.AttnDeltaIdeal.defs (F := Ideal)) (onTc (τ := Cert.AttnDeltaIdeal.τ) (Cert.AttnDeltaIdeal.main (F := Ideal))) ⟨m, fun _ => 0, g⟩ (fun r => ∀ c : Dev Cert.AttnDeltaIdeal.nD,
          r.2.mem ((c.tc : Thread Cert.AttnDeltaIdeal.nD Cert.AttnDeltaIdeal.τ).loc Cert.AttnDeltaIdeal.main_v0) = v0 c
          ∧ r.2.mem ((c.tc : Thread Cert.AttnDeltaIdeal.nD Cert.AttnDeltaIdeal.τ).loc Cert.AttnDeltaIdeal.main_arg0) = m ((c.tc : Thread Cert.AttnDeltaIdeal.nD Cert.AttnDeltaIdeal.τ).loc Cert.AttnDeltaIdeal.main_arg0)
          ∧ r.2.mem ((c.tc : Thread Cert.AttnDeltaIdeal.nD Cert.AttnDeltaIdeal.τ).loc Cert.AttnDeltaIdeal.main_arg1) = m ((c.tc : Thread Cert.AttnDeltaIdeal.nD Cert.AttnDeltaIdeal.τ).loc Cert.AttnDeltaIdeal.main_arg1))
      ∧ θ_run (Cert.AttnDeltaReferenceIdeal.defs (F := Ideal)) (onTc (τ := Cert.AttnDeltaReferenceIdeal.τ) (Cert.AttnDeltaReferenceIdeal.main (F := Ideal))) ⟨m', fun _ => 0, g'⟩ (fun r => ∀ c : Dev Cert.AttnDeltaReferenceIdeal.nD,
          r.2.mem ((c.tc : Thread Cert.AttnDeltaReferenceIdeal.nD Cert.AttnDeltaReferenceIdeal.τ).loc Cert.AttnDeltaReferenceIdeal.main_v5) = v0 c
          ∧ r.2.mem ((c.tc : Thread Cert.AttnDeltaReferenceIdeal.nD Cert.AttnDeltaReferenceIdeal.τ).loc Cert.AttnDeltaReferenceIdeal.main_arg0) = m' ((c.tc : Thread Cert.AttnDeltaReferenceIdeal.nD Cert.AttnDeltaReferenceIdeal.τ).loc Cert.AttnDeltaReferenceIdeal.main_arg0)
          ∧ r.2.mem ((c.tc : Thread Cert.AttnDeltaReferenceIdeal.nD Cert.AttnDeltaReferenceIdeal.τ).loc Cert.AttnDeltaReferenceIdeal.main_arg1) = m' ((c.tc : Thread Cert.AttnDeltaReferenceIdeal.nD Cert.AttnDeltaReferenceIdeal.τ).loc Cert.AttnDeltaReferenceIdeal.main_arg1))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hGateUpDw : Cert.GateUpDw.Facts) (hGateUpDwIdeal : Cert.GateUpDwIdeal.Facts) (hGateUpDwReferenceIdeal : Cert.GateUpDwReferenceIdeal.Facts) (hGateUpDx : Cert.GateUpDx.Facts) (hGateUpDxIdeal : Cert.GateUpDxIdeal.Facts) (hGateUpDxReferenceIdeal : Cert.GateUpDxReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hInDw : Cert.InDw.Facts) (hInDwIdeal : Cert.InDwIdeal.Facts) (hInDwReferenceIdeal : Cert.InDwReferenceIdeal.Facts) (hInDx : Cert.InDx.Facts) (hInDxIdeal : Cert.InDxIdeal.Facts) (hInDxReferenceIdeal : Cert.InDxReferenceIdeal.Facts) (hGateUp : Cert.GateUp.Facts) (hGateUpIdeal : Cert.GateUpIdeal.Facts) (hGateUpReferenceIdeal : Cert.GateUpReferenceIdeal.Facts) (hDown : Cert.Down.Facts) (hDownIdeal : Cert.DownIdeal.Facts) (hDownReferenceIdeal : Cert.DownReferenceIdeal.Facts) (hOut : Cert.Out.Facts) (hOutIdeal : Cert.OutIdeal.Facts) (hOutReferenceIdeal : Cert.OutReferenceIdeal.Facts) (hIn : Cert.In.Facts) (hInIdeal : Cert.InIdeal.Facts) (hInReferenceIdeal : Cert.InReferenceIdeal.Facts) (hUq : Cert.Uq.Facts) (hUqIdeal : Cert.UqIdeal.Facts) (hUqReferenceIdeal : Cert.UqReferenceIdeal.Facts) (hUkv : Cert.Ukv.Facts) (hUkvIdeal : Cert.UkvIdeal.Facts) (hUkvReferenceIdeal : Cert.UkvReferenceIdeal.Facts) (hUqDx : Cert.UqDx.Facts) (hUqDxIdeal : Cert.UqDxIdeal.Facts) (hUqDxReferenceIdeal : Cert.UqDxReferenceIdeal.Facts) (hUkvDx : Cert.UkvDx.Facts) (hUkvDxIdeal : Cert.UkvDxIdeal.Facts) (hUkvDxReferenceIdeal : Cert.UkvDxReferenceIdeal.Facts) (hUqDw : Cert.UqDw.Facts) (hUqDwIdeal : Cert.UqDwIdeal.Facts) (hUqDwReferenceIdeal : Cert.UqDwReferenceIdeal.Facts) (hUkvDw : Cert.UkvDw.Facts) (hUkvDwIdeal : Cert.UkvDwIdeal.Facts) (hUkvDwReferenceIdeal : Cert.UkvDwReferenceIdeal.Facts) (hAttnFwd : Cert.AttnFwd.Facts) (hAttnFwdIdeal : Cert.AttnFwdIdeal.Facts) (hAttnFwdReferenceIdeal : Cert.AttnFwdReferenceIdeal.Facts) (hAttnDelta : Cert.AttnDelta.Facts) (hAttnDeltaIdeal : Cert.AttnDeltaIdeal.Facts) (hAttnDeltaReferenceIdeal : Cert.AttnDeltaReferenceIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_GateUpDw (hGateUpDw := hGateUpDw)
    ∧ quiescent_GateUpDwIdeal (hGateUpDwIdeal := hGateUpDwIdeal)
    ∧ quiescent_GateUpDwReferenceIdeal (hGateUpDwReferenceIdeal := hGateUpDwReferenceIdeal)
    ∧ quiescent_GateUpDx (hGateUpDx := hGateUpDx)
    ∧ quiescent_GateUpDxIdeal (hGateUpDxIdeal := hGateUpDxIdeal)
    ∧ quiescent_GateUpDxReferenceIdeal (hGateUpDxReferenceIdeal := hGateUpDxReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Out (hOut := hOut)
    ∧ quiescent_OutIdeal (hOutIdeal := hOutIdeal)
    ∧ quiescent_OutReferenceIdeal (hOutReferenceIdeal := hOutReferenceIdeal)
    ∧ quiescent_In (hIn := hIn)
    ∧ quiescent_InIdeal (hInIdeal := hInIdeal)
    ∧ quiescent_InReferenceIdeal (hInReferenceIdeal := hInReferenceIdeal)
    ∧ quiescent_Uq (hUq := hUq)
    ∧ quiescent_UqIdeal (hUqIdeal := hUqIdeal)
    ∧ quiescent_UqReferenceIdeal (hUqReferenceIdeal := hUqReferenceIdeal)
    ∧ quiescent_Ukv (hUkv := hUkv)
    ∧ quiescent_UkvIdeal (hUkvIdeal := hUkvIdeal)
    ∧ quiescent_UkvReferenceIdeal (hUkvReferenceIdeal := hUkvReferenceIdeal)
    ∧ quiescent_UqDx (hUqDx := hUqDx)
    ∧ quiescent_UqDxIdeal (hUqDxIdeal := hUqDxIdeal)
    ∧ quiescent_UqDxReferenceIdeal (hUqDxReferenceIdeal := hUqDxReferenceIdeal)
    ∧ quiescent_UkvDx (hUkvDx := hUkvDx)
    ∧ quiescent_UkvDxIdeal (hUkvDxIdeal := hUkvDxIdeal)
    ∧ quiescent_UkvDxReferenceIdeal (hUkvDxReferenceIdeal := hUkvDxReferenceIdeal)
    ∧ quiescent_UqDw (hUqDw := hUqDw)
    ∧ quiescent_UqDwIdeal (hUqDwIdeal := hUqDwIdeal)
    ∧ quiescent_UqDwReferenceIdeal (hUqDwReferenceIdeal := hUqDwReferenceIdeal)
    ∧ quiescent_UkvDw (hUkvDw := hUkvDw)
    ∧ quiescent_UkvDwIdeal (hUkvDwIdeal := hUkvDwIdeal)
    ∧ quiescent_UkvDwReferenceIdeal (hUkvDwReferenceIdeal := hUkvDwReferenceIdeal)
    ∧ quiescent_AttnFwd (hAttnFwd := hAttnFwd)
    ∧ quiescent_AttnFwdIdeal (hAttnFwdIdeal := hAttnFwdIdeal)
    ∧ quiescent_AttnFwdIdeal_pre_finite_fwd (hAttnFwdIdeal := hAttnFwdIdeal) (hPre_finite_fwd := hPre_finite_fwd)
    ∧ quiescent_AttnFwdReferenceIdeal (hAttnFwdReferenceIdeal := hAttnFwdReferenceIdeal)
    ∧ quiescent_AttnFwdReferenceIdeal_pre_finite_fwd (hAttnFwdReferenceIdeal := hAttnFwdReferenceIdeal) (hPre_finite_fwd := hPre_finite_fwd)
    ∧ quiescent_AttnDelta (hAttnDelta := hAttnDelta)
    ∧ quiescent_AttnDeltaIdeal (hAttnDeltaIdeal := hAttnDeltaIdeal)
    ∧ quiescent_AttnDeltaReferenceIdeal (hAttnDeltaReferenceIdeal := hAttnDeltaReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_GateUpDw_GateUpDwIdeal
    ∧ algebraic_GateUpDwIdeal_GateUpDwReferenceIdeal (hGateUpDwIdeal := hGateUpDwIdeal) (hGateUpDwReferenceIdeal := hGateUpDwReferenceIdeal)
    ∧ preserves_GateUpDx_GateUpDxIdeal
    ∧ algebraic_GateUpDxIdeal_GateUpDxReferenceIdeal (hGateUpDxIdeal := hGateUpDxIdeal) (hGateUpDxReferenceIdeal := hGateUpDxReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_InDw_InDwIdeal
    ∧ algebraic_InDwIdeal_InDwReferenceIdeal (hInDwIdeal := hInDwIdeal) (hInDwReferenceIdeal := hInDwReferenceIdeal)
    ∧ preserves_InDx_InDxIdeal
    ∧ algebraic_InDxIdeal_InDxReferenceIdeal (hInDxIdeal := hInDxIdeal) (hInDxReferenceIdeal := hInDxReferenceIdeal)
    ∧ preserves_GateUp_GateUpIdeal
    ∧ algebraic_GateUpIdeal_GateUpReferenceIdeal (hGateUpIdeal := hGateUpIdeal) (hGateUpReferenceIdeal := hGateUpReferenceIdeal)
    ∧ preserves_Down_DownIdeal
    ∧ algebraic_DownIdeal_DownReferenceIdeal (hDownIdeal := hDownIdeal) (hDownReferenceIdeal := hDownReferenceIdeal)
    ∧ preserves_Out_OutIdeal
    ∧ algebraic_OutIdeal_OutReferenceIdeal (hOutIdeal := hOutIdeal) (hOutReferenceIdeal := hOutReferenceIdeal)
    ∧ preserves_In_InIdeal
    ∧ algebraic_InIdeal_InReferenceIdeal (hInIdeal := hInIdeal) (hInReferenceIdeal := hInReferenceIdeal)
    ∧ preserves_Uq_UqIdeal
    ∧ algebraic_UqIdeal_UqReferenceIdeal (hUqIdeal := hUqIdeal) (hUqReferenceIdeal := hUqReferenceIdeal)
    ∧ preserves_Ukv_UkvIdeal
    ∧ algebraic_UkvIdeal_UkvReferenceIdeal (hUkvIdeal := hUkvIdeal) (hUkvReferenceIdeal := hUkvReferenceIdeal)
    ∧ preserves_UqDx_UqDxIdeal
    ∧ algebraic_UqDxIdeal_UqDxReferenceIdeal (hUqDxIdeal := hUqDxIdeal) (hUqDxReferenceIdeal := hUqDxReferenceIdeal)
    ∧ preserves_UkvDx_UkvDxIdeal
    ∧ algebraic_UkvDxIdeal_UkvDxReferenceIdeal (hUkvDxIdeal := hUkvDxIdeal) (hUkvDxReferenceIdeal := hUkvDxReferenceIdeal)
    ∧ preserves_UqDw_UqDwIdeal
    ∧ algebraic_UqDwIdeal_UqDwReferenceIdeal (hUqDwIdeal := hUqDwIdeal) (hUqDwReferenceIdeal := hUqDwReferenceIdeal)
    ∧ preserves_UkvDw_UkvDwIdeal
    ∧ algebraic_UkvDwIdeal_UkvDwReferenceIdeal (hUkvDwIdeal := hUkvDwIdeal) (hUkvDwReferenceIdeal := hUkvDwReferenceIdeal)
    ∧ preserves_AttnFwd_AttnFwdIdeal
    ∧ algebraic_AttnFwdIdeal_AttnFwdReferenceIdeal_pre_finite_fwd (hAttnFwdIdeal := hAttnFwdIdeal) (hAttnFwdReferenceIdeal := hAttnFwdReferenceIdeal) (hPre_finite_fwd := hPre_finite_fwd)
    ∧ preserves_AttnDelta_AttnDeltaIdeal
    ∧ algebraic_AttnDeltaIdeal_AttnDeltaReferenceIdeal (hAttnDeltaIdeal := hAttnDeltaIdeal) (hAttnDeltaReferenceIdeal := hAttnDeltaReferenceIdeal)
-- ==== Pre_finite.lean ====
abbrev S8x2048x256 : Shape := ⟨3, ![8, 2048, 256]⟩
abbrev S8x2048x128 : Shape := ⟨3, ![8, 2048, 128]⟩
abbrev S2048x1024 : Shape := ⟨2, ![2048, 1024]⟩
abbrev S_ : Shape := ⟨0, ![]⟩

class Facts : Prop where
  bitsLt_bf16_f32 : FTy.bits .bf16 < FTy.bits .f32
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v16 : IVec S_ 1) (main_v17 : FVec F S2048x1024 .f32) : IVec S_ 1 :=
  let main_cst_4 : FVec F S_ .f32 := constant S_ .f32 0x7F800000#32
  let main_v18 : FVec F S2048x1024 .f32 := broadcastInDim S2048x1024 ![] bcast_S_S2048x1024 main_cst_4
  let main_v19 : IVec S2048x1024 1 := cmpf .olt main_v17 main_v18
  let main_c_5 : IVec S_ 1 := constantI S_ 1 1#1
  let main_v20 : IVec S_ 1 := (fun x v => Host.reduce IntOp.andi x v reducesTo_S2048x1024_S_d0_1 h_S_) main_v19 main_c_5
  let main_v21 : IVec S_ 1 := andi main_v16 main_v20
  main_v21

def fn {F : FTy → Type} [FloatOps F] (main_arg0 : FVec F S8x2048x256 .bf16) (main_arg1 : FVec F S8x2048x256 .bf16) (main_arg2 : FVec F S8x2048x128 .bf16) (main_arg3 : FVec F S2048x1024 .f32) : IVec S_ 1 :=
  let main_v0 : FVec F S8x2048x256 .f32 := (extf .f32 · bitsLt_bf16_f32) main_arg0
  let main_v1 : FVec F S8x2048x256 .f32 := Host.absf main_v0
  let main_cst : FVec F S_ .f32 := constant S_ .f32 0x7F800000#32
  let main_v2 : FVec F S8x2048x256 .f32 := broadcastInDim S8x2048x256 ![] bcast_S_S8x2048x256 main_cst
  let main_v3 : IVec S8x2048x256 1 := cmpf .olt main_v1 main_v2
  let main_c : IVec S_ 1 := constantI S_ 1 1#1
  let main_v4 : IVec S_ 1 := (fun x v => Host.reduce IntOp.andi x v reducesTo_S8x2048x256_S_d0_1_2 h_S_) main_v3 main_c
  let main_v5 : FVec F S8x2048x256 .f32 := (extf .f32 · bitsLt_bf16_f32) main_arg1
  let main_v6 : FVec F S8x2048x256 .f32 := Host.absf main_v5
  let main_cst_0 : FVec F S_ .f32 := constant S_ .f32 0x7F800000#32
  let main_v7 : FVec F S8x2048x256 .f32 := broadcastInDim S8x2048x256 ![] bcast_S_S8x2048x256 main_cst_0
  let main_v8 : IVec S8x2048x256 1 := cmpf .olt main_v6 main_v7
  let main_c_1 : IVec S_ 1 := constantI S_ 1 1#1
  let main_v9 : IVec S_ 1 := (fun x v => Host.reduce IntOp.andi x v reducesTo_S8x2048x256_S_d0_1_2 h_S_) main_v8 main_c_1
  let main_v10 : IVec S_ 1 := andi main_v4 main_v9
  let main_v11 : FVec F S8x2048x128 .f32 := (extf .f32 · bitsLt_bf16_f32) main_arg2
  let main_v12 : FVec F S8x2048x128 .f32 := Host.absf main_v11
  let main_cst_2 : FVec F S_ .f32 := constant S_ .f32 0x7F800000#32
  let main_v13 : FVec F S8x2048x128 .f32 := broadcastInDim S8x2048x128 ![] bcast_S_S8x2048x128 main_cst_2
  let main_v14 : IVec S8x2048x128 1 := cmpf .olt main_v12 main_v13
  let main_c_3 : IVec S_ 1 := constantI S_ 1 1#1
  let main_v15 : IVec S_ 1 := (fun x v => Host.reduce IntOp.andi x v reducesTo_S8x2048x128_S_d0_1_2 h_S_) main_v14 main_c_3
  let main_v16 : IVec S_ 1 := andi main_v10 main_v15
  let main_v17 : FVec F S2048x1024 .f32 := Host.absf main_arg3
  fn_part1 (F := F) main_v16 main_v17
-- ==== Pre_finite_fwd.lean ====
abbrev S8x2048x256 : Shape := ⟨3, ![8, 2048, 256]⟩
abbrev S8x2048x128 : Shape := ⟨3, ![8, 2048, 128]⟩
abbrev S_ : Shape := ⟨0, ![]⟩

class Facts : Prop where
  bitsLt_bf16_f32 : FTy.bits .bf16 < FTy.bits .f32
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_

variable [Facts]

def fn {F : FTy → Type} [FloatOps F] (main_arg0 : FVec F S8x2048x256 .bf16) (main_arg1 : FVec F S8x2048x256 .bf16) (main_arg2 : FVec F S8x2048x128 .bf16) : IVec S_ 1 :=
  let main_v0 : FVec F S8x2048x256 .f32 := (extf .f32 · bitsLt_bf16_f32) main_arg0
  let main_v1 : FVec F S8x2048x256 .f32 := Host.absf main_v0
  let main_cst : FVec F S_ .f32 := constant S_ .f32 0x7F800000#32
  let main_v2 : FVec F S8x2048x256 .f32 := broadcastInDim S8x2048x256 ![] bcast_S_S8x2048x256 main_cst
  let main_v3 : IVec S8x2048x256 1 := cmpf .olt main_v1 main_v2
  let main_c : IVec S_ 1 := constantI S_ 1 1#1
  let main_v4 : IVec S_ 1 := (fun x v => Host.reduce IntOp.andi x v reducesTo_S8x2048x256_S_d0_1_2 h_S_) main_v3 main_c
  let main_v5 : FVec F S8x2048x256 .f32 := (extf .f32 · bitsLt_bf16_f32) main_arg1
  let main_v6 : FVec F S8x2048x256 .f32 := Host.absf main_v5
  let main_cst_0 : FVec F S_ .f32 := constant S_ .f32 0x7F800000#32
  let main_v7 : FVec F S8x2048x256 .f32 := broadcastInDim S8x2048x256 ![] bcast_S_S8x2048x256 main_cst_0
  let main_v8 : IVec S8x2048x256 1 := cmpf .olt main_v6 main_v7
  let main_c_1 : IVec S_ 1 := constantI S_ 1 1#1
  let main_v9 : IVec S_ 1 := (fun x v => Host.reduce IntOp.andi x v reducesTo_S8x2048x256_S_d0_1_2 h_S_) main_v8 main_c_1
  let main_v10 : IVec S_ 1 := andi main_v4 main_v9
  let main_v11 : FVec F S8x2048x128 .f32 := (extf .f32 · bitsLt_bf16_f32) main_arg2
  let main_v12 : FVec F S8x2048x128 .f32 := Host.absf main_v11
  let main_cst_2 : FVec F S_ .f32 := constant S_ .f32 0x7F800000#32
  let main_v13 : FVec F S8x2048x128 .f32 := broadcastInDim S8x2048x128 ![] bcast_S_S8x2048x128 main_cst_2
  let main_v14 : IVec S8x2048x128 1 := cmpf .olt main_v12 main_v13
  let main_c_3 : IVec S_ 1 := constantI S_ 1 1#1
  let main_v15 : IVec S_ 1 := (fun x v => Host.reduce IntOp.andi x v reducesTo_S8x2048x128_S_d0_1_2 h_S_) main_v14 main_c_3
  let main_v16 : IVec S_ 1 := andi main_v10 main_v15
  main_v16
-- ==== Kernel.lean ====
abbrev S8x2048x256 : Shape := ⟨3, ![8, 2048, 256]⟩
abbrev S8x2048x128 : Shape := ⟨3, ![8, 2048, 128]⟩
abbrev S2048x1024 : Shape := ⟨2, ![2048, 1024]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S2048x8x128 : Shape := ⟨3, ![2048, 8, 128]⟩
abbrev S8x1x2048 : Shape := ⟨3, ![8, 1, 2048]⟩
abbrev S8x8x2048 : Shape := ⟨3, ![8, 8, 2048]⟩
abbrev S4x2048x256 : Shape := ⟨3, ![4, 2048, 256]⟩
abbrev S4x256x256 : Shape := ⟨3, ![4, 256, 256]⟩
abbrev S4x256x128 : Shape := ⟨3, ![4, 256, 128]⟩
abbrev S2048x512 : Shape := ⟨2, ![2048, 512]⟩
abbrev S4x8x2048 : Shape := ⟨3, ![4, 8, 2048]⟩
abbrev S256x256 : Shape := ⟨2, ![256, 256]⟩
abbrev S256x128 : Shape := ⟨2, ![256, 128]⟩
abbrev S1x256x256 : Shape := ⟨3, ![1, 256, 256]⟩
abbrev S1x1x256 : Shape := ⟨3, ![1, 1, 256]⟩
abbrev S1x256 : Shape := ⟨2, ![1, 256]⟩
abbrev S1x256x128 : Shape := ⟨3, ![1, 256, 128]⟩

abbrev nBuf : Space → Nat
  | .hbm => 67
  | .vmem => 18
  | .smem => 0
  | _ => 0

abbrev bufTy : (tb : Table) → Fin (tcTables nBuf tb) → BufTy
  | .hbm, ⟨0, _⟩ => ⟨S8x2048x256, .bf16⟩
  | .hbm, ⟨1, _⟩ => ⟨S8x2048x256, .bf16⟩
  | .hbm, ⟨2, _⟩ => ⟨S8x2048x128, .bf16⟩
  | .hbm, ⟨3, _⟩ => ⟨S2048x1024, .f32⟩
  | .hbm, ⟨4, _⟩ => ⟨S8x2048x256, .f32⟩
  | .hbm, ⟨5, _⟩ => ⟨S8x2048x256, .f32⟩
  | .hbm, ⟨6, _⟩ => ⟨S8x2048x128, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S2048, .i32⟩
  | .hbm, ⟨12, _⟩ => ⟨S_, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S1x2048, .i32⟩
  | .hbm, ⟨31, _⟩ => ⟨S2048x1, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S8x2048x2048, .i1⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S8x2048x2048, .f32⟩
  | .hbm, ⟨50, _⟩ => ⟨S8x2048x2048, .f32⟩
  | .hbm, ⟨51, _⟩ => ⟨S8x2048x128, .f32⟩
  | .hbm, ⟨52, _⟩ => ⟨S2048x8x128, .f32⟩
  | .hbm, ⟨53, _⟩ => ⟨S8x2048x128, .f32⟩
  | .hbm, ⟨54, _⟩ => ⟨S8x2048x128, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S8x2048x1, .f32⟩
  | .hbm, ⟨59, _⟩ => ⟨S8x2048, .f32⟩
  | .hbm, ⟨60, _⟩ => ⟨S8x1x2048, .f32⟩
  | .hbm, ⟨61, _⟩ => ⟨S8x8x2048, .f32⟩
  | .hbm, ⟨62, _⟩ => ⟨S8x1x2048, .f32⟩
  | .hbm, ⟨63, _⟩ => ⟨S8x8x2048, .f32⟩
  | .hbm, ⟨64, _⟩ => ⟨S8x2048x256, .f32⟩
  | .hbm, ⟨65, _⟩ => ⟨S8x2048x256, .f32⟩
  | .hbm, ⟨66, _⟩ => ⟨S8x2048x128, .f32⟩
  | .local _ .vmem, ⟨0, _⟩ => ⟨S4x2048x256, .bf16⟩
  | .local _ .vmem, ⟨1, _⟩ => ⟨S4x2048x256, .bf16⟩
  | .local _ .vmem, ⟨2, _⟩ => ⟨S4x256x256, .bf16⟩
  | .local _ .vmem, ⟨3, _⟩ => ⟨S4x256x256, .bf16⟩
  | .local _ .vmem, ⟨4, _⟩ => ⟨S4x256x128, .bf16⟩
  | .local _ .vmem, ⟨5, _⟩ => ⟨S4x256x128, .bf16⟩
  | .local _ .vmem, ⟨6, _⟩ => ⟨S2048x512, .f32⟩
  | .local _ .vmem, ⟨7, _⟩ => ⟨S2048x512, .f32⟩
  | .local _ .vmem, ⟨8, _⟩ => ⟨S4x8x2048, .f32⟩
  | .local _ .vmem, ⟨9, _⟩ => ⟨S4x8x2048, .f32⟩
  | .local _ .vmem, ⟨10, _⟩ => ⟨S4x8x2048, .f32⟩
  | .local _ .vmem, ⟨11, _⟩ => ⟨S4x8x2048, .f32⟩
  | .local _ .vmem, ⟨12, _⟩ => ⟨S4x2048x256, .f32⟩
  | .local _ .vmem, ⟨13, _⟩ => ⟨S4x2048x256, .f32⟩
  | .local _ .vmem, ⟨14, _⟩ => ⟨S4x256x256, .f32⟩
  | .local _ .vmem, ⟨15, _⟩ => ⟨S4x256x256, .f32⟩
  | .local _ .vmem, ⟨16, _⟩ => ⟨S4x256x128, .f32⟩
  | .local _ .vmem, ⟨17, _⟩ => ⟨S4x256x128, .f32⟩
  | _, _ => ⟨S8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_3 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35_0 : Ref sig .tc := ⟨.hbm, 64, rfl⟩
abbrev main_v35_1 : Ref sig .tc := ⟨.hbm, 65, rfl⟩
abbrev main_v35_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c256_i32 : BitVec 32 := 256#32
  let v57 : BitVec 32 := Scalar.muli arg1 c256_i32
  v57
def k0_off1 (i : grid0.Coords) : Fin 3 → Nat :=
  let c0 : Index := 0#32
  let arg1 : BitVec 32 := BitVec.ofNat 32 (i 1).val
  let c256_i32 : BitVec 32 := 256#32
  let v57 : BitVec 32 := Scalar.muli arg1 c256_i32
  let v58 : BitVec 32 := v57
  let v59 : Index := Scalar.indexCast v58
  let c0_15 : Index := 0#32
  ![0, v59.toNat, 0]
def k0_off2 (i : grid0.Coords) : Fin 2 → Nat :=
  let arg1 : BitVec 32 := BitVec.ofNat 32 (i 1).val
  let c256_i32 : BitVec 32 := 256#32
  let v57 : BitVec 32 := Scalar.muli arg1 c256_i32
  let v58 : BitVec 32 := v57
  let v64 : Index := Scalar.indexCast v58
  let c0_19 : Index := 0#32
  ![v64.toNat, 0]
def k0_off3 (i : grid0.Coords) : Fin 3 → Nat :=
  let c0_23 : Index := 0#32
  let c0_24 : Index := 0#32
  let arg1 : BitVec 32 := BitVec.ofNat 32 (i 1).val
  let c256_i32 : BitVec 32 := 256#32
  let v57 : BitVec 32 := Scalar.muli arg1 c256_i32
  let v58 : BitVec 32 := v57
  let v72 : Index := Scalar.indexCast v58
  ![0, 0, v72.toNat]
def k0_mult2 (i : grid0.Coords) : BitVec 32 :=
  let arg1 : BitVec 32 := BitVec.ofNat 32 (i 1).val
  let c256_i32_39 : BitVec 32 := 256#32
  let v104 : BitVec 32 := Scalar.muli arg1 c256_i32_39
  v104
def k0_off4 (i : grid0.Coords) : Fin 3 → Nat :=
  let c1 : Index := 1#32
  let arg1 : BitVec 32 := BitVec.ofNat 32 (i 1).val
  let c256_i32_39 : BitVec 32 := 256#32
  let v104 : BitVec 32 := Scalar.muli arg1 c256_i32_39
  let v105 : BitVec 32 := v104
  let v106 : Index := Scalar.indexCast v105
  let c0_40 : Index := 0#32
  ![1, v106.toNat, 0]
def k0_off5 (i : grid0.Coords) : Fin 2 → Nat :=
  let arg1 : BitVec 32 := BitVec.ofNat 32 (i 1).val
  let c256_i32_39 : BitVec 32 := 256#32
  let v104 : BitVec 32 := Scalar.muli arg1 c256_i32_39
  let v105 : BitVec 32 := v104
  let v111 : Index := Scalar.indexCast v105
  let c128 : Index := 128#32
  ![v111.toNat, 128]
def k0_off6 (i : grid0.Coords) : Fin 3 → Nat :=
  let c1_47 : Index := 1#32
  let c0_48 : Index := 0#32
  let arg1 : BitVec 32 := BitVec.ofNat 32 (i 1).val
  let c256_i32_39 : BitVec 32 := 256#32
  let v104 : BitVec 32 := Scalar.muli arg1 c256_i32_39
  let v105 : BitVec 32 := v104
  let v119 : Index := Scalar.indexCast v105
  ![1, 0, v119.toNat]
def k0_mult3 (i : grid0.Coords) : BitVec 32 :=
  let arg1 : BitVec 32 := BitVec.ofNat 32 (i 1).val
  let c256_i32_63 : BitVec 32 := 256#32
  let v151 : BitVec 32 := Scalar.muli arg1 c256_i32_63
  v151
def k0_off7 (i : grid0.Coords) : Fin 3 → Nat :=
  let c2 : Index := 2#32
  let arg1 : BitVec 32 := BitVec.ofNat 32 (i 1).val
  let c256_i32_63 : BitVec 32 := 256#32
  let v151 : BitVec 32 := Scalar.muli arg1 c256_i32_63
  let v152 : BitVec 32 := v151
  let v153 : Index := Scalar.indexCast v152
  let c0_64 : Index := 0#32
  ![2, v153.toNat, 0]
def k0_off8 (i : grid0.Coords) : Fin 2 → Nat :=
  let arg1 : BitVec 32 := BitVec.ofNat 32 (i 1).val
  let c256_i32_63 : BitVec 32 := 256#32
  let v151 : BitVec 32 := Scalar.muli arg1 c256_i32_63
  let v152 : BitVec 32 := v151
  let v158 : Index := Scalar.indexCast v152
  let c256 : Index := 256#32
  ![v158.toNat, 256]
def k0_off9 (i : grid0.Coords) : Fin 3 → Nat :=
  let c2_71 : Index := 2#32
  let c0_72 : Index := 0#32
  let arg1 : BitVec 32 := BitVec.ofNat 32 (i 1).val
  let c256_i32_63 : BitVec 32 := 256#32
  let v151 : BitVec 32 := Scalar.muli arg1 c256_i32_63
  let v152 : BitVec 32 := v151
  let v166 : Index := Scalar.indexCast v152
  ![2, 0, v166.toNat]
def k0_mult4 (i : grid0.Coords) : BitVec 32 :=
  let arg1 : BitVec 32 := BitVec.ofNat 32 (i 1).val
  let c256_i32_87 : BitVec 32 := 256#32
  let v198 : BitVec 32 := Scalar.muli arg1 c256_i32_87
  v198
def k0_off10 (i : grid0.Coords) : Fin 3 → Nat :=
  let c3 : Index := 3#32
  let arg1 : BitVec 32 := BitVec.ofNat 32 (i 1).val
  let c256_i32_87 : BitVec 32 := 256#32
  let v198 : BitVec 32 := Scalar.muli arg1 c256_i32_87
  let v199 : BitVec 32 := v198
  let v200 : Index := Scalar.indexCast v199
  let c0_88 : Index := 0#32
  ![3, v200.toNat, 0]
def k0_off11 (i : grid0.Coords) : Fin 2 → Nat :=
  let arg1 : BitVec 32 := BitVec.ofNat 32 (i 1).val
  let c256_i32_87 : BitVec 32 := 256#32
  let v198 : BitVec 32 := Scalar.muli arg1 c256_i32_87
  let v199 : BitVec 32 := v198
  let v205 : Index := Scalar.indexCast v199
  let c384 : Index := 384#32
  ![v205.toNat, 384]
def k0_off12 (i : grid0.Coords) : Fin 3 → Nat :=
  let c3_95 : Index := 3#32
  let c0_96 : Index := 0#32
  let arg1 : BitVec 32 := BitVec.ofNat 32 (i 1).val
  let c256_i32_87 : BitVec 32 := 256#32
  let v198 : BitVec 32 := Scalar.muli arg1 c256_i32_87
  let v199 : BitVec 32 := v198
  let v213 : Index := Scalar.indexCast v199
  ![3, 0, v213.toNat]
@[reducible] def k0_t1_loop (i : grid0.Coords) : Scf.Loop 32 :=
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_112 : BitVec 32 := 1#32
  ⟨v5, v249, c1_i32_112⟩
def k0_mult5 (i : grid0.Coords) (k0_t1 : Fin (k0_t1_loop i).trips) : BitVec 32 :=
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_138 : BitVec 32 := 256#32
  let v276 : BitVec 32 := Scalar.muli arg11 c256_i32_138
  v276
def k0_off13 (i : grid0.Coords) (k0_t1 : Fin (k0_t1_loop i).trips) : Fin 3 → Nat :=
  let c0_139 : Index := 0#32
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_138 : BitVec 32 := 256#32
  let v276 : BitVec 32 := Scalar.muli arg11 c256_i32_138
  let v277 : BitVec 32 := v276
  let v278 : Index := Scalar.indexCast v277
  let c0_140 : Index := 0#32
  ![0, v278.toNat, 0]
def k0_off14 (i : grid0.Coords) (k0_t1 : Fin (k0_t1_loop i).trips) : Fin 2 → Nat :=
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_138 : BitVec 32 := 256#32
  let v276 : BitVec 32 := Scalar.muli arg11 c256_i32_138
  let v277 : BitVec 32 := v276
  let v283 : Index := Scalar.indexCast v277
  let c0_144 : Index := 0#32
  ![v283.toNat, 0]
def k0_off15 (i : grid0.Coords) (k0_t1 : Fin (k0_t1_loop i).trips) : Fin 3 → Nat :=
  let c0_147 : Index := 0#32
  let c0_148 : Index := 0#32
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_138 : BitVec 32 := 256#32
  let v276 : BitVec 32 := Scalar.muli arg11 c256_i32_138
  let v277 : BitVec 32 := v276
  let v289 : Index := Scalar.indexCast v277
  ![0, 0, v289.toNat]
def k0_mult6 (i : grid0.Coords) (k0_t1 : Fin (k0_t1_loop i).trips) : BitVec 32 :=
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_163 : BitVec 32 := 256#32
  let v321 : BitVec 32 := Scalar.muli arg11 c256_i32_163
  v321
def k0_off16 (i : grid0.Coords) (k0_t1 : Fin (k0_t1_loop i).trips) : Fin 3 → Nat :=
  let c1_164 : Index := 1#32
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_163 : BitVec 32 := 256#32
  let v321 : BitVec 32 := Scalar.muli arg11 c256_i32_163
  let v322 : BitVec 32 := v321
  let v323 : Index := Scalar.indexCast v322
  let c0_165 : Index := 0#32
  ![1, v323.toNat, 0]
def k0_off17 (i : grid0.Coords) (k0_t1 : Fin (k0_t1_loop i).trips) : Fin 2 → Nat :=
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_163 : BitVec 32 := 256#32
  let v321 : BitVec 32 := Scalar.muli arg11 c256_i32_163
  let v322 : BitVec 32 := v321
  let v328 : Index := Scalar.indexCast v322
  let c128_169 : Index := 128#32
  ![v328.toNat, 128]
def k0_off18 (i : grid0.Coords) (k0_t1 : Fin (k0_t1_loop i).trips) : Fin 3 → Nat :=
  let c1_172 : Index := 1#32
  let c0_173 : Index := 0#32
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_163 : BitVec 32 := 256#32
  let v321 : BitVec 32 := Scalar.muli arg11 c256_i32_163
  let v322 : BitVec 32 := v321
  let v334 : Index := Scalar.indexCast v322
  ![1, 0, v334.toNat]
def k0_mult7 (i : grid0.Coords) (k0_t1 : Fin (k0_t1_loop i).trips) : BitVec 32 :=
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_188 : BitVec 32 := 256#32
  let v366 : BitVec 32 := Scalar.muli arg11 c256_i32_188
  v366
def k0_off19 (i : grid0.Coords) (k0_t1 : Fin (k0_t1_loop i).trips) : Fin 3 → Nat :=
  let c2_189 : Index := 2#32
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_188 : BitVec 32 := 256#32
  let v366 : BitVec 32 := Scalar.muli arg11 c256_i32_188
  let v367 : BitVec 32 := v366
  let v368 : Index := Scalar.indexCast v367
  let c0_190 : Index := 0#32
  ![2, v368.toNat, 0]
def k0_off20 (i : grid0.Coords) (k0_t1 : Fin (k0_t1_loop i).trips) : Fin 2 → Nat :=
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_188 : BitVec 32 := 256#32
  let v366 : BitVec 32 := Scalar.muli arg11 c256_i32_188
  let v367 : BitVec 32 := v366
  let v373 : Index := Scalar.indexCast v367
  let c256_194 : Index := 256#32
  ![v373.toNat, 256]
def k0_off21 (i : grid0.Coords) (k0_t1 : Fin (k0_t1_loop i).trips) : Fin 3 → Nat :=
  let c2_197 : Index := 2#32
  let c0_198 : Index := 0#32
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_188 : BitVec 32 := 256#32
  let v366 : BitVec 32 := Scalar.muli arg11 c256_i32_188
  let v367 : BitVec 32 := v366
  let v379 : Index := Scalar.indexCast v367
  ![2, 0, v379.toNat]
def k0_mult8 (i : grid0.Coords) (k0_t1 : Fin (k0_t1_loop i).trips) : BitVec 32 :=
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_213 : BitVec 32 := 256#32
  let v411 : BitVec 32 := Scalar.muli arg11 c256_i32_213
  v411
def k0_off22 (i : grid0.Coords) (k0_t1 : Fin (k0_t1_loop i).trips) : Fin 3 → Nat :=
  let c3_214 : Index := 3#32
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_213 : BitVec 32 := 256#32
  let v411 : BitVec 32 := Scalar.muli arg11 c256_i32_213
  let v412 : BitVec 32 := v411
  let v413 : Index := Scalar.indexCast v412
  let c0_215 : Index := 0#32
  ![3, v413.toNat, 0]
def k0_off23 (i : grid0.Coords) (k0_t1 : Fin (k0_t1_loop i).trips) : Fin 2 → Nat :=
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_213 : BitVec 32 := 256#32
  let v411 : BitVec 32 := Scalar.muli arg11 c256_i32_213
  let v412 : BitVec 32 := v411
  let v418 : Index := Scalar.indexCast v412
  let c384_219 : Index := 384#32
  ![v418.toNat, 384]
def k0_off24 (i : grid0.Coords) (k0_t1 : Fin (k0_t1_loop i).trips) : Fin 3 → Nat :=
  let c3_222 : Index := 3#32
  let c0_223 : Index := 0#32
  let arg1 : BitVec 32 := BitVec.ofNat 32 (i 1).val
  let c1_i32 : BitVec 32 := 1#32
  let v5 : BitVec 32 := Scalar.addi arg1 c1_i32
  let c1_i32_112 : BitVec 32 := 1#32
  let arg11 : BitVec 32 := Scf.iv v5 c1_i32_112 k0_t1
  let c256_i32_213 : BitVec 32 := 256#32
  let v411 : BitVec 32 := Scalar.muli arg11 c256_i32_213
  let v412 : BitVec 32 := v411
  let v424 : Index := Scalar.indexCast v412
  ![3, 0, v424.toNat]
@[reducible] def k0_t2_loop (i : grid0.Coords) : Scf.Loop 32 :=
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let v246 : BitVec 32 := Scalar.addi v5 v245
  let c1_i32_113 : BitVec 32 := 1#32
  ⟨v249, v246, c1_i32_113⟩
def k0_mult9 (i : grid0.Coords) (k0_t2 : Fin (k0_t2_loop i).trips) : BitVec 32 :=
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_138 : BitVec 32 := 256#32
  let v276 : BitVec 32 := Scalar.muli arg11 c256_i32_138
  v276
def k0_off25 (i : grid0.Coords) (k0_t2 : Fin (k0_t2_loop i).trips) : Fin 3 → Nat :=
  let c0_139 : Index := 0#32
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_138 : BitVec 32 := 256#32
  let v276 : BitVec 32 := Scalar.muli arg11 c256_i32_138
  let v277 : BitVec 32 := v276
  let v278 : Index := Scalar.indexCast v277
  let c0_140 : Index := 0#32
  ![0, v278.toNat, 0]
def k0_off26 (i : grid0.Coords) (k0_t2 : Fin (k0_t2_loop i).trips) : Fin 2 → Nat :=
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_138 : BitVec 32 := 256#32
  let v276 : BitVec 32 := Scalar.muli arg11 c256_i32_138
  let v277 : BitVec 32 := v276
  let v283 : Index := Scalar.indexCast v277
  let c0_144 : Index := 0#32
  ![v283.toNat, 0]
def k0_off27 (i : grid0.Coords) (k0_t2 : Fin (k0_t2_loop i).trips) : Fin 3 → Nat :=
  let c0_147 : Index := 0#32
  let c0_148 : Index := 0#32
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_138 : BitVec 32 := 256#32
  let v276 : BitVec 32 := Scalar.muli arg11 c256_i32_138
  let v277 : BitVec 32 := v276
  let v289 : Index := Scalar.indexCast v277
  ![0, 0, v289.toNat]
def k0_mult10 (i : grid0.Coords) (k0_t2 : Fin (k0_t2_loop i).trips) : BitVec 32 :=
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_163 : BitVec 32 := 256#32
  let v321 : BitVec 32 := Scalar.muli arg11 c256_i32_163
  v321
def k0_off28 (i : grid0.Coords) (k0_t2 : Fin (k0_t2_loop i).trips) : Fin 3 → Nat :=
  let c1_164 : Index := 1#32
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_163 : BitVec 32 := 256#32
  let v321 : BitVec 32 := Scalar.muli arg11 c256_i32_163
  let v322 : BitVec 32 := v321
  let v323 : Index := Scalar.indexCast v322
  let c0_165 : Index := 0#32
  ![1, v323.toNat, 0]
def k0_off29 (i : grid0.Coords) (k0_t2 : Fin (k0_t2_loop i).trips) : Fin 2 → Nat :=
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_163 : BitVec 32 := 256#32
  let v321 : BitVec 32 := Scalar.muli arg11 c256_i32_163
  let v322 : BitVec 32 := v321
  let v328 : Index := Scalar.indexCast v322
  let c128_169 : Index := 128#32
  ![v328.toNat, 128]
def k0_off30 (i : grid0.Coords) (k0_t2 : Fin (k0_t2_loop i).trips) : Fin 3 → Nat :=
  let c1_172 : Index := 1#32
  let c0_173 : Index := 0#32
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_163 : BitVec 32 := 256#32
  let v321 : BitVec 32 := Scalar.muli arg11 c256_i32_163
  let v322 : BitVec 32 := v321
  let v334 : Index := Scalar.indexCast v322
  ![1, 0, v334.toNat]
def k0_mult11 (i : grid0.Coords) (k0_t2 : Fin (k0_t2_loop i).trips) : BitVec 32 :=
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_188 : BitVec 32 := 256#32
  let v366 : BitVec 32 := Scalar.muli arg11 c256_i32_188
  v366
def k0_off31 (i : grid0.Coords) (k0_t2 : Fin (k0_t2_loop i).trips) : Fin 3 → Nat :=
  let c2_189 : Index := 2#32
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_188 : BitVec 32 := 256#32
  let v366 : BitVec 32 := Scalar.muli arg11 c256_i32_188
  let v367 : BitVec 32 := v366
  let v368 : Index := Scalar.indexCast v367
  let c0_190 : Index := 0#32
  ![2, v368.toNat, 0]
def k0_off32 (i : grid0.Coords) (k0_t2 : Fin (k0_t2_loop i).trips) : Fin 2 → Nat :=
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_188 : BitVec 32 := 256#32
  let v366 : BitVec 32 := Scalar.muli arg11 c256_i32_188
  let v367 : BitVec 32 := v366
  let v373 : Index := Scalar.indexCast v367
  let c256_194 : Index := 256#32
  ![v373.toNat, 256]
def k0_off33 (i : grid0.Coords) (k0_t2 : Fin (k0_t2_loop i).trips) : Fin 3 → Nat :=
  let c2_197 : Index := 2#32
  let c0_198 : Index := 0#32
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_188 : BitVec 32 := 256#32
  let v366 : BitVec 32 := Scalar.muli arg11 c256_i32_188
  let v367 : BitVec 32 := v366
  let v379 : Index := Scalar.indexCast v367
  ![2, 0, v379.toNat]
def k0_mult12 (i : grid0.Coords) (k0_t2 : Fin (k0_t2_loop i).trips) : BitVec 32 :=
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_213 : BitVec 32 := 256#32
  let v411 : BitVec 32 := Scalar.muli arg11 c256_i32_213
  v411
def k0_off34 (i : grid0.Coords) (k0_t2 : Fin (k0_t2_loop i).trips) : Fin 3 → Nat :=
  let c3_214 : Index := 3#32
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_213 : BitVec 32 := 256#32
  let v411 : BitVec 32 := Scalar.muli arg11 c256_i32_213
  let v412 : BitVec 32 := v411
  let v413 : Index := Scalar.indexCast v412
  let c0_215 : Index := 0#32
  ![3, v413.toNat, 0]
def k0_off35 (i : grid0.Coords) (k0_t2 : Fin (k0_t2_loop i).trips) : Fin 2 → Nat :=
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_213 : BitVec 32 := 256#32
  let v411 : BitVec 32 := Scalar.muli arg11 c256_i32_213
  let v412 : BitVec 32 := v411
  let v418 : Index := Scalar.indexCast v412
  let c384_219 : Index := 384#32
  ![v418.toNat, 384]
def k0_off36 (i : grid0.Coords) (k0_t2 : Fin (k0_t2_loop i).trips) : Fin 3 → Nat :=
  let c3_222 : Index := 3#32
  let c0_223 : Index := 0#32
  let arg1 : BitVec 32 := BitVec.ofNat 32 (i 1).val
  let c1_i32 : BitVec 32 := 1#32
  let v5 : BitVec 32 := Scalar.addi arg1 c1_i32
  let c8_i32 : BitVec 32 := 8#32
  let v245 : BitVec 32 := Scalar.subi c8_i32 v5
  let c1_i32_111 : BitVec 32 := 1#32
  let v247 : BitVec 32 := Scalar.divsi v245 c1_i32_111
  let v248 : BitVec 32 := Scalar.muli v247 c1_i32_111
  let v249 : BitVec 32 := Scalar.addi v5 v248
  let c1_i32_113 : BitVec 32 := 1#32
  let arg11 : BitVec 32 := Scf.iv v249 c1_i32_113 k0_t2
  let c256_i32_213 : BitVec 32 := 256#32
  let v411 : BitVec 32 := Scalar.muli arg11 c256_i32_213
  let v412 : BitVec 32 := v411
  let v424 : Index := Scalar.indexCast v412
  ![3, 0, v424.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x256 : Shape := ⟨3, ![8, 2048, 256]⟩
abbrev S8x2048x128 : Shape := ⟨3, ![8, 2048, 128]⟩
abbrev S2048x1024 : Shape := ⟨2, ![2048, 1024]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S2048x8x128 : Shape := ⟨3, ![2048, 8, 128]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x256, .bf16⟩
  | .hbm, ⟨1, _⟩ => ⟨S8x2048x256, .bf16⟩
  | .hbm, ⟨2, _⟩ => ⟨S8x2048x128, .bf16⟩
  | .hbm, ⟨3, _⟩ => ⟨S2048x1024, .f32⟩
  | .hbm, ⟨4, _⟩ => ⟨S8x2048x256, .f32⟩
  | .hbm, ⟨5, _⟩ => ⟨S8x2048x256, .f32⟩
  | .hbm, ⟨6, _⟩ => ⟨S8x2048x128, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S2048, .i32⟩
  | .hbm, ⟨12, _⟩ => ⟨S_, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S1x2048, .i32⟩
  | .hbm, ⟨31, _⟩ => ⟨S2048x1, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S8x2048x2048, .i1⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S8x2048x2048, .f32⟩
  | .hbm, ⟨46, _⟩ => ⟨S8x2048x2048, .i1⟩
  | .hbm, ⟨47, _⟩ => ⟨S8x2048x2048, .f32⟩
  | .hbm, ⟨48, _⟩ => ⟨S_, .f32⟩
  | .hbm, ⟨49, _⟩ => ⟨S8x2048, .f32⟩
  | .hbm, ⟨50, _⟩ => ⟨S_, .f32⟩
  | .hbm, ⟨51, _⟩ => ⟨S8x2048, .f32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S8x2048, .i1⟩
  | .hbm, ⟨56, _⟩ => ⟨S_, .f32⟩
  | .hbm, ⟨57, _⟩ => ⟨S8x2048, .f32⟩
  | .hbm, ⟨58, _⟩ => ⟨S8x2048, .i1⟩
  | .hbm, ⟨59, _⟩ => ⟨S_, .f32⟩
  | .hbm, ⟨60, _⟩ => ⟨S8x2048, .f32⟩
  | .hbm, ⟨61, _⟩ => ⟨S_, .f32⟩
  | .hbm, ⟨62, _⟩ => ⟨S8x2048, .f32⟩
  | .hbm, ⟨63, _⟩ => ⟨S_, .f32⟩
  | .hbm, ⟨64, _⟩ => ⟨S8x2048, .f32⟩
  | .hbm, ⟨65, _⟩ => ⟨S8x2048, .f32⟩
  | .hbm, ⟨66, _⟩ => ⟨S8x2048, .f32⟩
  | .hbm, ⟨67, _⟩ => ⟨S8x2048x1, .f32⟩
  | .hbm, ⟨68, _⟩ => ⟨S8x2048x2048, .f32⟩
  | .hbm, ⟨69, _⟩ => ⟨S8x2048x2048, .f32⟩
  | .hbm, ⟨70, _⟩ => ⟨S8x2048x2048, .f32⟩
  | .hbm, ⟨71, _⟩ => ⟨S_, .f32⟩
  | .hbm, ⟨72, _⟩ => ⟨S8x2048, .f32⟩
  | .hbm, ⟨73, _⟩ => ⟨S8x2048x1, .f32⟩
  | .hbm, ⟨74, _⟩ => ⟨S8x2048x2048, .f32⟩
  | .hbm, ⟨75, _⟩ => ⟨S8x2048x2048, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S8x128x2048, .f32⟩
  | .hbm, ⟨81, _⟩ => ⟨S2048x8x128, .f32⟩
  | .hbm, ⟨82, _⟩ => ⟨S2048x1024, .f32⟩
  | .hbm, ⟨83, _⟩ => ⟨S2048x8x128, .f32⟩
  | .hbm, ⟨84, _⟩ => ⟨S8x128x2048, .f32⟩
  | .hbm, ⟨85, _⟩ => ⟨S8x2048x2048, .f32⟩
  | .hbm, ⟨86, _⟩ => ⟨S8x128x2048, .f32⟩
  | .hbm, ⟨87, _⟩ => ⟨S8x2048x128, .f32⟩
  | .hbm, ⟨88, _⟩ => ⟨S8x2048x2048, .f32⟩
  | .hbm, ⟨89, _⟩ => ⟨S8x2048x2048, .f32⟩
  | .hbm, ⟨90, _⟩ => ⟨S8x2048x2048, .f32⟩
  | .hbm, ⟨91, _⟩ => ⟨S_, .f32⟩
  | .hbm, ⟨92, _⟩ => ⟨S8x2048, .f32⟩
  | .hbm, ⟨93, _⟩ => ⟨S8x2048x1, .f32⟩
  | .hbm, ⟨94, _⟩ => ⟨S8x2048x1, .f32⟩
  | .hbm, ⟨95, _⟩ => ⟨S8x2048x2048, .f32⟩
  | .hbm, ⟨96, _⟩ => ⟨S8x2048x2048, .f32⟩
  | .hbm, ⟨97, _⟩ => ⟨S_, .f32⟩
  | .hbm, ⟨98, _⟩ => ⟨S8x2048, .f32⟩
  | .hbm, ⟨99, _⟩ => ⟨S8x2048x2048, .f32⟩
  | .hbm, ⟨100, _⟩ => ⟨S8x2048x2048, .f32⟩
  | .hbm, ⟨101, _⟩ => ⟨S8x2048x2048, .f32⟩
  | .hbm, ⟨102, _⟩ => ⟨S_, .f32⟩
  | .hbm, ⟨103, _⟩ => ⟨S8x2048x2048, .f32⟩
  | .hbm, ⟨104, _⟩ => ⟨S8x2048x2048, .f32⟩
  | .hbm, ⟨105, _⟩ => ⟨S_, .f32⟩
  | .hbm, ⟨106, _⟩ => ⟨S8x2048x2048, .f32⟩
  | .hbm, ⟨107, _⟩ => ⟨S8x2048x2048, .f32⟩
  | .hbm, ⟨108, _⟩ => ⟨S8x2048x256, .f32⟩
  | .hbm, ⟨109, _⟩ => ⟨S8x2048x256, .f32⟩
  | _, _ => ⟨S8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_call1_v0 : Ref sig .tc := ⟨.hbm, 36, rfl⟩
abbrev main_v13_1 : Ref sig .tc := ⟨.hbm, 37, rfl⟩
abbrev main_call1_v2 : Ref sig .tc := ⟨.hbm, 38, rfl⟩
abbrev main_v13_0 : Ref sig .tc := ⟨.hbm, 39, rfl⟩
abbrev main_call1_cst : Ref sig .tc := ⟨.hbm, 40, rfl⟩
abbrev main_v13_2 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_2 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_v21 : Ref sig .tc := ⟨.hbm, 52, rfl⟩
abbrev main_cst_4 : Ref sig .tc := ⟨.hbm, 53, rfl⟩
abbrev main_v22 : Ref sig .tc := ⟨.hbm, 54, rfl⟩
abbrev main_v23 : Ref sig .tc := ⟨.hbm, 55, rfl⟩
abbrev main_cst_5 : Ref sig .tc := ⟨.hbm, 56, rfl⟩
abbrev main_v24 : Ref sig .tc := ⟨.hbm, 57, rfl⟩
abbrev main_v25 : Ref sig .tc := ⟨.hbm, 58, rfl⟩
abbrev main_cst_6 : Ref sig .tc := ⟨.hbm, 59, rfl⟩
abbrev main_v26 : Ref sig .tc := ⟨.hbm, 60, rfl⟩
abbrev main_cst_7 : Ref sig .tc := ⟨.hbm, 61, rfl⟩
abbrev main_v27 : Ref sig .tc := ⟨.hbm, 62, rfl⟩
abbrev main_cst_8 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_9 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_10 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_11 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_12 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_call2_cst : Ref sig .tc := ⟨.hbm, 102, rfl⟩
abbrev main_call2_v0 : Ref sig .tc := ⟨.hbm, 103, rfl⟩
abbrev main_v62 : Ref sig .tc := ⟨.hbm, 104, rfl⟩
abbrev main_cst_13 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩

abbrev nD : Nat := 1
abbrev τ : Topo := Topo.v7x

variable {F : FTy → Type} [FloatOps F]

def κ : String → Option EReal := fun
  | "mask" => some ⊥
  | _ => none
-- ==== DownDx.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S5632x2048, .f32⟩
  | .hbm, ⟨3, _⟩ => ⟨S_, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x5632, .f32⟩
  | .hbm, ⟨3, _⟩ => ⟨S_, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateUpDw.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S4x2048x1408, .bf16⟩
  | .hbm, ⟨4, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateUpDwReferenceIdeal.lean ====
abbrev S2048x2048 : Shape := ⟨2, ![2048, 2048]⟩
abbrev S2048x5632 : Shape := ⟨2, ![2048, 5632]⟩
abbrev S_ : Shape := ⟨0, ![]⟩
abbrev S4x2048x1408 : Shape := ⟨3, ![4, 2048, 1408]⟩
abbrev S2048x4x1408 : Shape := ⟨3, ![2048, 4, 1408]⟩
abbrev S4x1408x2048 : Shape := ⟨3, ![4, 1408, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x2048, .f32⟩
  | .hbm, ⟨4, _⟩ => ⟨S_, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S2048x4x1408, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S2048x4x1408, .f32⟩
  | .hbm, ⟨13, _⟩ => ⟨S4x1408x2048, .f32⟩
  | .hbm, ⟨14, _⟩ => ⟨S4x2048x1408, .f32⟩
  | .hbm, ⟨15, _⟩ => ⟨S2048x4x1408, .f32⟩
  | .hbm, ⟨16, _⟩ => ⟨S4x1408x2048, .f32⟩
  | .hbm, ⟨17, _⟩ => ⟨S4x2048x1408, .f32⟩
  | .hbm, ⟨18, _⟩ => ⟨S4x2048x1408, .bf16⟩
  | .hbm, ⟨19, _⟩ => ⟨S4x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== GateUpDx.lean ====
abbrev S2048x5632 : Shape := ⟨2, ![2048, 5632]⟩
abbrev S4x2048x1408 : Shape := ⟨3, ![4, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S2048x5632, .bf16⟩
  | .hbm, ⟨3, _⟩ => ⟨S4x2048x1408, .bf16⟩
  | .hbm, ⟨4, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GateUpDxReferenceIdeal.lean ====
abbrev S2048x5632 : Shape := ⟨2, ![2048, 5632]⟩
abbrev S4x2048x1408 : Shape := ⟨3, ![4, 2048, 1408]⟩
abbrev S_ : Shape := ⟨0, ![]⟩
abbrev S2048x2048 : Shape := ⟨2, ![2048, 2048]⟩
abbrev S2048x4x1408 : Shape := ⟨3, ![2048, 4, 1408]⟩

abbrev nBuf : Space → Nat
  | .hbm => 19
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S2048x5632, .bf16⟩
  | .hbm, ⟨3, _⟩ => ⟨S4x2048x1408, .bf16⟩
  | .hbm, ⟨4, _⟩ => ⟨S4x2048x1408, .f32⟩
  | .hbm, ⟨5, _⟩ => ⟨S4x2048x1408, .f32⟩
  | .hbm, ⟨6, _⟩ => ⟨S_, .f32⟩
  | .hbm, ⟨7, _⟩ => ⟨S2048x2048, .f32⟩
  | .hbm, ⟨8, _⟩ => ⟨S2048x4x1408, .f32⟩
  | .hbm, ⟨9, _⟩ => ⟨S2048x5632, .f32⟩
  | .hbm, ⟨10, _⟩ => ⟨S2048x4x1408, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x4x1408, .f32⟩
  | .hbm, ⟨15, _⟩ => ⟨S2048x2048, .f32⟩
  | .hbm, ⟨16, _⟩ => ⟨S2048x4x1408, .f32⟩
  | .hbm, ⟨17, _⟩ => ⟨S2048x2048, .f32⟩
  | .hbm, ⟨18, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== OutDx.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S2048x4096 : Shape := ⟨2, ![2048, 4096]⟩
abbrev S2048x2048 : Shape := ⟨2, ![2048, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S2048x4096 : Shape := ⟨2, ![2048, 4096]⟩
abbrev S2048x2048 : Shape := ⟨2, ![2048, 2048]⟩
abbrev S_ : Shape := ⟨0, ![]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S4096x2048, .f32⟩
  | .hbm, ⟨9, _⟩ => ⟨S2048x4096, .f32⟩
  | .hbm, ⟨10, _⟩ => ⟨S4096x2048, .f32⟩
  | .hbm, ⟨11, _⟩ => ⟨S4096x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InDx.lean ====
abbrev S2048x4096 : Shape := ⟨2, ![2048, 4096]⟩
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S2048x4096 : Shape := ⟨2, ![2048, 4096]⟩
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateUp.lean ====
abbrev S2048x2048 : Shape := ⟨2, ![2048, 2048]⟩
abbrev S4x2048x1408 : Shape := ⟨3, ![4, 2048, 1408]⟩
abbrev S2048x5632 : Shape := ⟨2, ![2048, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S4x2048x1408, .bf16⟩
  | .hbm, ⟨3, _⟩ => ⟨S2048x5632, .f32⟩
  | .hbm, ⟨4, _⟩ => ⟨S2048x5632, .f32⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateUpReferenceIdeal.lean ====
abbrev S2048x2048 : Shape := ⟨2, ![2048, 2048]⟩
abbrev S4x2048x1408 : Shape := ⟨3, ![4, 2048, 1408]⟩
abbrev S2048x4x1408 : Shape := ⟨3, ![2048, 4, 1408]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S4x2048x1408, .bf16⟩
  | .hbm, ⟨3, _⟩ => ⟨S2048x2048, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S2048x2048, .f32⟩
  | .hbm, ⟨8, _⟩ => ⟨S4x2048x1408, .f32⟩
  | .hbm, ⟨9, _⟩ => ⟨S2048x4x1408, .f32⟩
  | .hbm, ⟨10, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== In.lean ====
abbrev S2048x2048 : Shape := ⟨2, ![2048, 2048]⟩
abbrev S4096x2048 : Shape := ⟨2, ![4096, 2048]⟩
abbrev S2048x4096 : Shape := ⟨2, ![2048, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S2048x2048 : Shape := ⟨2, ![2048, 2048]⟩
abbrev S4096x2048 : Shape := ⟨2, ![4096, 2048]⟩
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S2048x2048, .f32⟩
  | .hbm, ⟨3, _⟩ => ⟨S4096x2048, .f32⟩
  | .hbm, ⟨4, _⟩ => ⟨S2048x4096, .f32⟩
  | .hbm, ⟨5, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Uq.lean ====
abbrev S2048x768 : Shape := ⟨2, ![2048, 768]⟩
abbrev S768x1536 : Shape := ⟨2, ![768, 1536]⟩
abbrev S2048x1536 : Shape := ⟨2, ![2048, 1536]⟩
abbrev S1024x768 : Shape := ⟨2, ![1024, 768]⟩
abbrev S768x768 : Shape := ⟨2, ![768, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x768, .bf16⟩
  | .hbm, ⟨1, _⟩ => ⟨S768x1536, .bf16⟩
  | .hbm, ⟨2, _⟩ => ⟨S2048x1536, .f32⟩
  | .local _ .vmem, ⟨0, _⟩ => ⟨S1024x768, .bf16⟩
  | .local _ .vmem, ⟨1, _⟩ => ⟨S1024x768, .bf16⟩
  | .local _ .vmem, ⟨2, _⟩ => ⟨S768x768, .bf16⟩
  | .local _ .vmem, ⟨3, _⟩ => ⟨S768x768, .bf16⟩
  | .local _ .vmem, ⟨4, _⟩ => ⟨S1024x768, .f32⟩
  | .local _ .vmem, ⟨5, _⟩ => ⟨S1024x768, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqReferenceIdeal.lean ====
abbrev S2048x768 : Shape := ⟨2, ![2048, 768]⟩
abbrev S768x1536 : Shape := ⟨2, ![768, 1536]⟩
abbrev S2048x1536 : Shape := ⟨2, ![2048, 1536]⟩

abbrev nBuf : Space → Nat
  | .hbm => 5
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S768x1536, .bf16⟩
  | .hbm, ⟨2, _⟩ => ⟨S2048x768, .f32⟩
  | .hbm, ⟨3, _⟩ => ⟨S768x1536, .f32⟩
  | .hbm, ⟨4, _⟩ => ⟨S2048x1536, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ukv.lean ====
abbrev S2048x512 : Shape := ⟨2, ![2048, 512]⟩
abbrev S512x2048 : Shape := ⟨2, ![512, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvReferenceIdeal.lean ====
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x512, .f32⟩
  | .hbm, ⟨3, _⟩ => ⟨S512x2048, .f32⟩
  | .hbm, ⟨4, _⟩ => ⟨S2048x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UqDx.lean ====
abbrev S2048x1536 : Shape := ⟨2, ![2048, 1536]⟩
abbrev S768x1536 : Shape := ⟨2, ![768, 1536]⟩
abbrev S2048x768 : Shape := ⟨2, ![2048, 768]⟩
abbrev S1024x1536 : Shape := ⟨2, ![1024, 1536]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1536, .bf16⟩
  | .hbm, ⟨1, _⟩ => ⟨S768x1536, .bf16⟩
  | .hbm, ⟨2, _⟩ => ⟨S2048x768, .f32⟩
  | .local _ .vmem, ⟨0, _⟩ => ⟨S1024x1536, .bf16⟩
  | .local _ .vmem, ⟨1, _⟩ => ⟨S1024x1536, .bf16⟩
  | .local _ .vmem, ⟨2, _⟩ => ⟨S768x1536, .bf16⟩
  | .local _ .vmem, ⟨3, _⟩ => ⟨S1024x768, .f32⟩
  | .local _ .vmem, ⟨4, _⟩ => ⟨S1024x768, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDxReferenceIdeal.lean ====
abbrev S2048x1536 : Shape := ⟨2, ![2048, 1536]⟩
abbrev S768x1536 : Shape := ⟨2, ![768, 1536]⟩
abbrev S_ : Shape := ⟨0, ![]⟩
abbrev S2048x768 : Shape := ⟨2, ![2048, 768]⟩

abbrev nBuf : Space → Nat
  | .hbm => 8
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S768x1536, .bf16⟩
  | .hbm, ⟨2, _⟩ => ⟨S768x1536, .f32⟩
  | .hbm, ⟨3, _⟩ => ⟨S_, .f32⟩
  | .hbm, ⟨4, _⟩ => ⟨S2048x768, .f32⟩
  | .hbm, ⟨5, _⟩ => ⟨S2048x1536, .f32⟩
  | .hbm, ⟨6, _⟩ => ⟨S2048x1536, .f32⟩
  | .hbm, ⟨7, _⟩ => ⟨S2048x768, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UkvDx.lean ====
abbrev S2048x2048 : Shape := ⟨2, ![2048, 2048]⟩
abbrev S512x2048 : Shape := ⟨2, ![512, 2048]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S512x2048, .bf16⟩
  | .hbm, ⟨2, _⟩ => ⟨S2048x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDxReferenceIdeal.lean ====
abbrev S2048x2048 : Shape := ⟨2, ![2048, 2048]⟩
abbrev S512x2048 : Shape := ⟨2, ![512, 2048]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S512x2048, .bf16⟩
  | .hbm, ⟨2, _⟩ => ⟨S512x2048, .f32⟩
  | .hbm, ⟨3, _⟩ => ⟨S_, .f32⟩
  | .hbm, ⟨4, _⟩ => ⟨S2048x512, .f32⟩
  | .hbm, ⟨5, _⟩ => ⟨S2048x2048, .f32⟩
  | .hbm, ⟨6, _⟩ => ⟨S2048x2048, .f32⟩
  | .hbm, ⟨7, _⟩ => ⟨S2048x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UqDw.lean ====
abbrev S2048x768 : Shape := ⟨2, ![2048, 768]⟩
abbrev S2048x1536 : Shape := ⟨2, ![2048, 1536]⟩
abbrev S768x1536 : Shape := ⟨2, ![768, 1536]⟩
abbrev S768x768 : Shape := ⟨2, ![768, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x768, .bf16⟩
  | .hbm, ⟨1, _⟩ => ⟨S2048x1536, .bf16⟩
  | .hbm, ⟨2, _⟩ => ⟨S768x1536, .bf16⟩
  | .local _ .vmem, ⟨0, _⟩ => ⟨S2048x768, .bf16⟩
  | .local _ .vmem, ⟨1, _⟩ => ⟨S2048x768, .bf16⟩
  | .local _ .vmem, ⟨2, _⟩ => ⟨S2048x768, .bf16⟩
  | .local _ .vmem, ⟨3, _⟩ => ⟨S768x768, .bf16⟩
  | .local _ .vmem, ⟨4, _⟩ => ⟨S768x768, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDwReferenceIdeal.lean ====
abbrev S2048x768 : Shape := ⟨2, ![2048, 768]⟩
abbrev S2048x1536 : Shape := ⟨2, ![2048, 1536]⟩
abbrev S_ : Shape := ⟨0, ![]⟩
abbrev S768x1536 : Shape := ⟨2, ![768, 1536]⟩
abbrev S1536x768 : Shape := ⟨2, ![1536, 768]⟩

abbrev nBuf : Space → Nat
  | .hbm => 10
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x1536, .bf16⟩
  | .hbm, ⟨2, _⟩ => ⟨S2048x768, .f32⟩
  | .hbm, ⟨3, _⟩ => ⟨S_, .f32⟩
  | .hbm, ⟨4, _⟩ => ⟨S768x1536, .f32⟩
  | .hbm, ⟨5, _⟩ => ⟨S2048x1536, .f32⟩
  | .hbm, ⟨6, _⟩ => ⟨S2048x1536, .f32⟩
  | .hbm, ⟨7, _⟩ => ⟨S1536x768, .f32⟩
  | .hbm, ⟨8, _⟩ => ⟨S768x1536, .f32⟩
  | .hbm, ⟨9, _⟩ => ⟨S768x1536, .bf16⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UkvDw.lean ====
abbrev S2048x512 : Shape := ⟨2, ![2048, 512]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S512x2048, .bf16⟩
  | .local _ .vmem, ⟨0, _⟩ => ⟨S2048x512, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDwReferenceIdeal.lean ====
abbrev S2048x512 : Shape := ⟨2, ![2048, 512]⟩
abbrev S2048x2048 : Shape := ⟨2, ![2048, 2048]⟩
abbrev S_ : Shape := ⟨0, ![]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S2048x512, .f32⟩
  | .hbm, ⟨3, _⟩ => ⟨S_, .f32⟩
  | .hbm, ⟨4, _⟩ => ⟨S512x2048, .f32⟩
  | .hbm, ⟨5, _⟩ => ⟨S2048x2048, .f32⟩
  | .hbm, ⟨6, _⟩ => ⟨S2048x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnFwd.lean ====
abbrev S8x2048x256 : Shape := ⟨3, ![8, 2048, 256]⟩
abbrev S8x2048x128 : Shape := ⟨3, ![8, 2048, 128]⟩
abbrev S2048x1024 : Shape := ⟨2, ![2048, 1024]⟩
abbrev S8x8x2048 : Shape := ⟨3, ![8, 8, 2048]⟩
abbrev S2048x2048 : Shape := ⟨2, ![2048, 2048]⟩
abbrev S8x256x256 : Shape := ⟨3, ![8, 256, 256]⟩
abbrev S256x1024 : Shape := ⟨2, ![256, 1024]⟩
abbrev S8x8x256 : Shape := ⟨3, ![8, 8, 256]⟩
abbrev S256x1 : Shape := ⟨2, ![256, 1]⟩
abbrev S256x128 : Shape := ⟨2, ![256, 128]⟩
abbrev S1x256x256 : Shape := ⟨3, ![1, 256, 256]⟩
abbrev S256x256 : Shape := ⟨2, ![256, 256]⟩
abbrev S256 : Shape := ⟨1, ![256]⟩
abbrev S1x256x128 : Shape := ⟨3, ![1, 256, 128]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 6
  | .vmem => 10
  | .smem => 0
  | _ => 0

abbrev bufTy : (tb : Table) → Fin (tcTables nBuf tb) → BufTy
  | .hbm, ⟨0, _⟩ => ⟨S8x2048x256, .bf16⟩
  | .hbm, ⟨1, _⟩ => ⟨S8x2048x256, .bf16⟩
  | .hbm, ⟨2, _⟩ => ⟨S8x2048x128, .bf16⟩
  | .hbm, ⟨3, _⟩ => ⟨S2048x1024, .f32⟩
  | .hbm, ⟨4, _⟩ => ⟨S8x8x2048, .f32⟩
  | .hbm, ⟨5, _⟩ => ⟨S2048x2048, .bf16⟩
  | .local _ .vmem, ⟨0, _⟩ => ⟨S8x256x256, .bf16⟩
  | .local _ .vmem, ⟨1, _⟩ => ⟨S8x256x256, .bf16⟩
  | .local _ .vmem, ⟨2, _⟩ => ⟨S8x2048x256, .bf16⟩
  | .local _ .vmem, ⟨3, _⟩ => ⟨S8x2048x128, .bf16⟩
  | .local _ .vmem, ⟨4, _⟩ => ⟨S256x1024, .f32⟩
  | .local _ .vmem, ⟨5, _⟩ => ⟨S256x1024, .f32⟩
  | .local _ .vmem, ⟨6, _⟩ => ⟨S8x8x256, .f32⟩
  | .local _ .vmem, ⟨7, _⟩ => ⟨S8x8x256, .f32⟩
  | .local _ .vmem, ⟨8, _⟩ => ⟨S256x1024, .bf16⟩
  | .local _ .vmem, ⟨9, _⟩ => ⟨S256x1024, .bf16⟩
  | _, _ => ⟨S8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 8], ![false, false]⟩

@[reducible] def k0_t1_loop (i : grid0.Coords) : Scf.Loop 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_2 : BitVec 32 := 1#32
  ⟨c0_i32, v7, c1_i32_2⟩
def k0_mult1 (i : grid0.Coords) (k0_t1 : Fin (k0_t1_loop i).trips) : BitVec 32 :=
  let c0_i32 : BitVec 32 := 0#32
  let c1_i32_2 : BitVec 32 := 1#32
  let arg8 : BitVec 32 := Scf.iv c0_i32 c1_i32_2 k0_t1
  let c256_i32_169 : BitVec 32 := 256#32
  let v445 : BitVec 32 := Scalar.muli arg8 c256_i32_169
  v445
def k0_off1 (i : grid0.Coords) (k0_t1 : Fin (k0_t1_loop i).trips) : Fin 3 → Nat :=
  let c0_173 : Index := 0#32
  let c0_i32 : BitVec 32 := 0#32
  let c1_i32_2 : BitVec 32 := 1#32
  let arg8 : BitVec 32 := Scf.iv c0_i32 c1_i32_2 k0_t1
  let c256_i32_169 : BitVec 32 := 256#32
  let v445 : BitVec 32 := Scalar.muli arg8 c256_i32_169
  let v446 : BitVec 32 := v445
  let v449 : Index := Scalar.indexCast v446
  let c0_174 : Index := 0#32
  ![0, v449.toNat, 0]
def k0_off2 (i : grid0.Coords) (k0_t1 : Fin (k0_t1_loop i).trips) : Fin 3 → Nat :=
  let c0_179 : Index := 0#32
  let c0_i32 : BitVec 32 := 0#32
  let c1_i32_2 : BitVec 32 := 1#32
  let arg8 : BitVec 32 := Scf.iv c0_i32 c1_i32_2 k0_t1
  let c256_i32_169 : BitVec 32 := 256#32
  let v445 : BitVec 32 := Scalar.muli arg8 c256_i32_169
  let v446 : BitVec 32 := v445
  let v470 : Index := Scalar.indexCast v446
  let c0_180 : Index := 0#32
  ![0, v470.toNat, 0]
def k0_mult2 (i : grid0.Coords) (k0_t1 : Fin (k0_t1_loop i).trips) : BitVec 32 :=
  let c0_i32 : BitVec 32 := 0#32
  let c1_i32_2 : BitVec 32 := 1#32
  let arg8 : BitVec 32 := Scf.iv c0_i32 c1_i32_2 k0_t1
  let c256_i32_182 : BitVec 32 := 256#32
  let v475 : BitVec 32 := Scalar.muli arg8 c256_i32_182
  v475
def k0_off3 (i : grid0.Coords) (k0_t1 : Fin (k0_t1_loop i).trips) : Fin 3 → Nat :=
  let c1_186 : Index := 1#32
  let c0_i32 : BitVec 32 := 0#32
  let c1_i32_2 : BitVec 32 := 1#32
  let arg8 : BitVec 32 := Scf.iv c0_i32 c1_i32_2 k0_t1
  let c256_i32_182 : BitVec 32 := 256#32
  let v475 : BitVec 32 := Scalar.muli arg8 c256_i32_182
  let v476 : BitVec 32 := v475
  let v479 : Index := Scalar.indexCast v476
  let c0_187 : Index := 0#32
  ![1, v479.toNat, 0]
def k0_off4 (i : grid0.Coords) (k0_t1 : Fin (k0_t1_loop i).trips) : Fin 3 → Nat :=
  let c1_192 : Index := 1#32
  let c0_i32 : BitVec 32 := 0#32
  let c1_i32_2 : BitVec 32 := 1#32
  let arg8 : BitVec 32 := Scf.iv c0_i32 c1_i32_2 k0_t1
  let c256_i32_182 : BitVec 32 := 256#32
  let v475 : BitVec 32 := Scalar.muli arg8 c256_i32_182
  let v476 : BitVec 32 := v475
  let v500 : Index := Scalar.indexCast v476
  let c0_193 : Index := 0#32
  ![1, v500.toNat, 0]
def k0_mult3 (i : grid0.Coords) (k0_t1 : Fin (k0_t1_loop i).trips) : BitVec 32 :=
  let c0_i32 : BitVec 32 := 0#32
  let c1_i32_2 : BitVec 32 := 1#32
  let arg8 : BitVec 32 := Scf.iv c0_i32 c1_i32_2 k0_t1
  let c256_i32_195 : BitVec 32 := 256#32
  let v505 : BitVec 32 := Scalar.muli arg8 c256_i32_195
  v505
def k0_off5 (i : grid0.Coords) (k0_t1 : Fin (k0_t1_loop i).trips) : Fin 3 → Nat :=
  let c2_199 : Index := 2#32
  let c0_i32 : BitVec 32 := 0#32
  let c1_i32_2 : BitVec 32 := 1#32
  let arg8 : BitVec 32 := Scf.iv c0_i32 c1_i32_2 k0_t1
  let c256_i32_195 : BitVec 32 := 256#32
  let v505 : BitVec 32 := Scalar.muli arg8 c256_i32_195
  let v506 : BitVec 32 := v505
  let v509 : Index := Scalar.indexCast v506
  let c0_200 : Index := 0#32
  ![2, v509.toNat, 0]
def k0_off6 (i : grid0.Coords) (k0_t1 : Fin (k0_t1_loop i).trips) : Fin 3 → Nat :=
  let c2_205 : Index := 2#32
  let c0_i32 : BitVec 32 := 0#32
  let c1_i32_2 : BitVec 32 := 1#32
  let arg8 : BitVec 32 := Scf.iv c0_i32 c1_i32_2 k0_t1
  let c256_i32_195 : BitVec 32 := 256#32
  let v505 : BitVec 32 := Scalar.muli arg8 c256_i32_195
  let v506 : BitVec 32 := v505
  let v530 : Index := Scalar.indexCast v506
  let c0_206 : Index := 0#32
  ![2, v530.toNat, 0]
def k0_mult4 (i : grid0.Coords) (k0_t1 : Fin (k0_t1_loop i).trips) : BitVec 32 :=
  let c0_i32 : BitVec 32 := 0#32
  let c1_i32_2 : BitVec 32 := 1#32
  let arg8 : BitVec 32 := Scf.iv c0_i32 c1_i32_2 k0_t1
  let c256_i32_208 : BitVec 32 := 256#32
  let v535 : BitVec 32 := Scalar.muli arg8 c256_i32_208
  v535
def k0_off7 (i : grid0.Coords) (k0_t1 : Fin (k0_t1_loop i).trips) : Fin 3 → Nat :=
  let c3_212 : Index := 3#32
  let c0_i32 : BitVec 32 := 0#32
  let c1_i32_2 : BitVec 32 := 1#32
  let arg8 : BitVec 32 := Scf.iv c0_i32 c1_i32_2 k0_t1
  let c256_i32_208 : BitVec 32 := 256#32
  let v535 : BitVec 32 := Scalar.muli arg8 c256_i32_208
  let v536 : BitVec 32 := v535
  let v539 : Index := Scalar.indexCast v536
  let c0_213 : Index := 0#32
  ![3, v539.toNat, 0]
def k0_off8 (i : grid0.Coords) (k0_t1 : Fin (k0_t1_loop i).trips) : Fin 3 → Nat :=
  let c3_218 : Index := 3#32
  let c0_i32 : BitVec 32 := 0#32
  let c1_i32_2 : BitVec 32 := 1#32
  let arg8 : BitVec 32 := Scf.iv c0_i32 c1_i32_2 k0_t1
  let c256_i32_208 : BitVec 32 := 256#32
  let v535 : BitVec 32 := Scalar.muli arg8 c256_i32_208
  let v536 : BitVec 32 := v535
  let v560 : Index := Scalar.indexCast v536
  let c0_219 : Index := 0#32
  ![3, v560.toNat, 0]
def k0_mult5 (i : grid0.Coords) (k0_t1 : Fin (k0_t1_loop i).trips) : BitVec 32 :=
  let c0_i32 : BitVec 32 := 0#32
  let c1_i32_2 : BitVec 32 := 1#32
  let arg8 : BitVec 32 := Scf.iv c0_i32 c1_i32_2 k0_t1
  let c256_i32_221 : BitVec 32 := 256#32
  let v565 : BitVec 32 := Scalar.muli arg8 c256_i32_221
  v565
def k0_off9 (i : grid0.Coords) (k0_t1 : Fin (k0_t1_loop i).trips) : Fin 3 → Nat :=
  let c4_225 : Index := 4#32
  let c0_i32 : BitVec 32 := 0#32
  let c1_i32_2 : BitVec 32 := 1#32
  let arg8 : BitVec 32 := Scf.iv c0_i32 c1_i32_2 k0_t1
  let c256_i32_221 : BitVec 32 := 256#32
  let v565 : BitVec 32 := Scalar.muli arg8 c256_i32_221
  let v566 : BitVec 32 := v565
  let v569 : Index := Scalar.indexCast v566
  let c0_226 : Index := 0#32
  ![4, v569.toNat, 0]
def k0_off10 (i : grid0.Coords) (k0_t1 : Fin (k0_t1_loop i).trips) : Fin 3 → Nat :=
  let c4_231 : Index := 4#32
  let c0_i32 : BitVec 32 := 0#32
  let c1_i32_2 : BitVec 32 := 1#32
  let arg8 : BitVec 32 := Scf.iv c0_i32 c1_i32_2 k0_t1
  let c256_i32_221 : BitVec 32 := 256#32
  let v565 : BitVec 32 := Scalar.muli arg8 c256_i32_221
  let v566 : BitVec 32 := v565
  let v590 : Index := Scalar.indexCast v566
  let c0_232 : Index := 0#32
  ![4, v590.toNat, 0]
def k0_mult6 (i : grid0.Coords) (k0_t1 : Fin (k0_t1_loop i).trips) : BitVec 32 :=
  let c0_i32 : BitVec 32 := 0#32
  let c1_i32_2 : BitVec 32 := 1#32
  let arg8 : BitVec 32 := Scf.iv c0_i32 c1_i32_2 k0_t1
  let c256_i32_234 : BitVec 32 := 256#32
  let v595 : BitVec 32 := Scalar.muli arg8 c256_i32_234
  v595
def k0_off11 (i : grid0.Coords) (k0_t1 : Fin (k0_t1_loop i).trips) : Fin 3 → Nat :=
  let c5_238 : Index := 5#32
  let c0_i32 : BitVec 32 := 0#32
  let c1_i32_2 : BitVec 32 := 1#32
  let arg8 : BitVec 32 := Scf.iv c0_i32 c1_i32_2 k0_t1
  let c256_i32_234 : BitVec 32 := 256#32
  let v595 : BitVec 32 := Scalar.muli arg8 c256_i32_234
  let v596 : BitVec 32 := v595
  let v599 : Index := Scalar.indexCast v596
  let c0_239 : Index := 0#32
  ![5, v599.toNat, 0]
def k0_off12 (i : grid0.Coords) (k0_t1 : Fin (k0_t1_loop i).trips) : Fin 3 → Nat :=
  let c5_244 : Index := 5#32
  let c0_i32 : BitVec 32 := 0#32
  let c1_i32_2 : BitVec 32 := 1#32
  let arg8 : BitVec 32 := Scf.iv c0_i32 c1_i32_2 k0_t1
  let c256_i32_234 : BitVec 32 := 256#32
  let v595 : BitVec 32 := Scalar.muli arg8 c256_i32_234
  let v596 : BitVec 32 := v595
  let v620 : Index := Scalar.indexCast v596
  let c0_245 : Index := 0#32
  ![5, v620.toNat, 0]
def k0_mult7 (i : grid0.Coords) (k0_t1 : Fin (k0_t1_loop i).trips) : BitVec 32 :=
  let c0_i32 : BitVec 32 := 0#32
  let c1_i32_2 : BitVec 32 := 1#32
  let arg8 : BitVec 32 := Scf.iv c0_i32 c1_i32_2 k0_t1
  let c256_i32_247 : BitVec 32 := 256#32
  let v625 : BitVec 32 := Scalar.muli arg8 c256_i32_247
  v625
def k0_off13 (i : grid0.Coords) (k0_t1 : Fin (k0_t1_loop i).trips) : Fin 3 → Nat :=
  let c6_251 : Index := 6#32
  let c0_i32 : BitVec 32 := 0#32
  let c1_i32_2 : BitVec 32 := 1#32
  let arg8 : BitVec 32 := Scf.iv c0_i32 c1_i32_2 k0_t1
  let c256_i32_247 : BitVec 32 := 256#32
  let v625 : BitVec 32 := Scalar.muli arg8 c256_i32_247
  let v626 : BitVec 32 := v625
  let v629 : Index := Scalar.indexCast v626
  let c0_252 : Index := 0#32
  ![6, v629.toNat, 0]
def k0_off14 (i : grid0.Coords) (k0_t1 : Fin (k0_t1_loop i).trips) : Fin 3 → Nat :=
  let c6_257 : Index := 6#32
  let c0_i32 : BitVec 32 := 0#32
  let c1_i32_2 : BitVec 32 := 1#32
  let arg8 : BitVec 32 := Scf.iv c0_i32 c1_i32_2 k0_t1
  let c256_i32_247 : BitVec 32 := 256#32
  let v625 : BitVec 32 := Scalar.muli arg8 c256_i32_247
  let v626 : BitVec 32 := v625
  let v650 : Index := Scalar.indexCast v626
  let c0_258 : Index := 0#32
  ![6, v650.toNat, 0]
def k0_mult8 (i : grid0.Coords) (k0_t1 : Fin (k0_t1_loop i).trips) : BitVec 32 :=
  let c0_i32 : BitVec 32 := 0#32
  let c1_i32_2 : BitVec 32 := 1#32
  let arg8 : BitVec 32 := Scf.iv c0_i32 c1_i32_2 k0_t1
  let c256_i32_260 : BitVec 32 := 256#32
  let v655 : BitVec 32 := Scalar.muli arg8 c256_i32_260
  v655
def k0_off15 (i : grid0.Coords) (k0_t1 : Fin (k0_t1_loop i).trips) : Fin 3 → Nat :=
  let c7_264 : Index := 7#32
  let c0_i32 : BitVec 32 := 0#32
  let c1_i32_2 : BitVec 32 := 1#32
  let arg8 : BitVec 32 := Scf.iv c0_i32 c1_i32_2 k0_t1
  let c256_i32_260 : BitVec 32 := 256#32
  let v655 : BitVec 32 := Scalar.muli arg8 c256_i32_260
  let v656 : BitVec 32 := v655
  let v659 : Index := Scalar.indexCast v656
  let c0_265 : Index := 0#32
  ![7, v659.toNat, 0]
def k0_off16 (i : grid0.Coords) (k0_t1 : Fin (k0_t1_loop i).trips) : Fin 3 → Nat :=
  let c7_270 : Index := 7#32
  let c0_i32 : BitVec 32 := 0#32
  let c1_i32_2 : BitVec 32 := 1#32
  let arg8 : BitVec 32 := Scf.iv c0_i32 c1_i32_2 k0_t1
  let c256_i32_260 : BitVec 32 := 256#32
  let v655 : BitVec 32 := Scalar.muli arg8 c256_i32_260
  let v656 : BitVec 32 := v655
  let v680 : Index := Scalar.indexCast v656
  let c0_271 : Index := 0#32
  ![7, v680.toNat, 0]
@[reducible] def k0_t2_loop (i : grid0.Coords) : Scf.Loop 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let v4 : BitVec 32 := Scalar.addi c0_i32 v3
  let c1_i32_3 : BitVec 32 := 1#32
  ⟨v7, v4, c1_i32_3⟩
def k0_mult9 (i : grid0.Coords) (k0_t2 : Fin (k0_t2_loop i).trips) : BitVec 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_169 : BitVec 32 := 256#32
  let v445 : BitVec 32 := Scalar.muli arg8 c256_i32_169
  v445
def k0_off17 (i : grid0.Coords) (k0_t2 : Fin (k0_t2_loop i).trips) : Fin 3 → Nat :=
  let c0_173 : Index := 0#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_169 : BitVec 32 := 256#32
  let v445 : BitVec 32 := Scalar.muli arg8 c256_i32_169
  let v446 : BitVec 32 := v445
  let v449 : Index := Scalar.indexCast v446
  let c0_174 : Index := 0#32
  ![0, v449.toNat, 0]
def k0_off18 (i : grid0.Coords) (k0_t2 : Fin (k0_t2_loop i).trips) : Fin 3 → Nat :=
  let c0_179 : Index := 0#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_169 : BitVec 32 := 256#32
  let v445 : BitVec 32 := Scalar.muli arg8 c256_i32_169
  let v446 : BitVec 32 := v445
  let v470 : Index := Scalar.indexCast v446
  let c0_180 : Index := 0#32
  ![0, v470.toNat, 0]
def k0_mult10 (i : grid0.Coords) (k0_t2 : Fin (k0_t2_loop i).trips) : BitVec 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_182 : BitVec 32 := 256#32
  let v475 : BitVec 32 := Scalar.muli arg8 c256_i32_182
  v475
def k0_off19 (i : grid0.Coords) (k0_t2 : Fin (k0_t2_loop i).trips) : Fin 3 → Nat :=
  let c1_186 : Index := 1#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_182 : BitVec 32 := 256#32
  let v475 : BitVec 32 := Scalar.muli arg8 c256_i32_182
  let v476 : BitVec 32 := v475
  let v479 : Index := Scalar.indexCast v476
  let c0_187 : Index := 0#32
  ![1, v479.toNat, 0]
def k0_off20 (i : grid0.Coords) (k0_t2 : Fin (k0_t2_loop i).trips) : Fin 3 → Nat :=
  let c1_192 : Index := 1#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_182 : BitVec 32 := 256#32
  let v475 : BitVec 32 := Scalar.muli arg8 c256_i32_182
  let v476 : BitVec 32 := v475
  let v500 : Index := Scalar.indexCast v476
  let c0_193 : Index := 0#32
  ![1, v500.toNat, 0]
def k0_mult11 (i : grid0.Coords) (k0_t2 : Fin (k0_t2_loop i).trips) : BitVec 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_195 : BitVec 32 := 256#32
  let v505 : BitVec 32 := Scalar.muli arg8 c256_i32_195
  v505
def k0_off21 (i : grid0.Coords) (k0_t2 : Fin (k0_t2_loop i).trips) : Fin 3 → Nat :=
  let c2_199 : Index := 2#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_195 : BitVec 32 := 256#32
  let v505 : BitVec 32 := Scalar.muli arg8 c256_i32_195
  let v506 : BitVec 32 := v505
  let v509 : Index := Scalar.indexCast v506
  let c0_200 : Index := 0#32
  ![2, v509.toNat, 0]
def k0_off22 (i : grid0.Coords) (k0_t2 : Fin (k0_t2_loop i).trips) : Fin 3 → Nat :=
  let c2_205 : Index := 2#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_195 : BitVec 32 := 256#32
  let v505 : BitVec 32 := Scalar.muli arg8 c256_i32_195
  let v506 : BitVec 32 := v505
  let v530 : Index := Scalar.indexCast v506
  let c0_206 : Index := 0#32
  ![2, v530.toNat, 0]
def k0_mult12 (i : grid0.Coords) (k0_t2 : Fin (k0_t2_loop i).trips) : BitVec 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_208 : BitVec 32 := 256#32
  let v535 : BitVec 32 := Scalar.muli arg8 c256_i32_208
  v535
def k0_off23 (i : grid0.Coords) (k0_t2 : Fin (k0_t2_loop i).trips) : Fin 3 → Nat :=
  let c3_212 : Index := 3#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_208 : BitVec 32 := 256#32
  let v535 : BitVec 32 := Scalar.muli arg8 c256_i32_208
  let v536 : BitVec 32 := v535
  let v539 : Index := Scalar.indexCast v536
  let c0_213 : Index := 0#32
  ![3, v539.toNat, 0]
def k0_off24 (i : grid0.Coords) (k0_t2 : Fin (k0_t2_loop i).trips) : Fin 3 → Nat :=
  let c3_218 : Index := 3#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_208 : BitVec 32 := 256#32
  let v535 : BitVec 32 := Scalar.muli arg8 c256_i32_208
  let v536 : BitVec 32 := v535
  let v560 : Index := Scalar.indexCast v536
  let c0_219 : Index := 0#32
  ![3, v560.toNat, 0]
def k0_mult13 (i : grid0.Coords) (k0_t2 : Fin (k0_t2_loop i).trips) : BitVec 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_221 : BitVec 32 := 256#32
  let v565 : BitVec 32 := Scalar.muli arg8 c256_i32_221
  v565
def k0_off25 (i : grid0.Coords) (k0_t2 : Fin (k0_t2_loop i).trips) : Fin 3 → Nat :=
  let c4_225 : Index := 4#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_221 : BitVec 32 := 256#32
  let v565 : BitVec 32 := Scalar.muli arg8 c256_i32_221
  let v566 : BitVec 32 := v565
  let v569 : Index := Scalar.indexCast v566
  let c0_226 : Index := 0#32
  ![4, v569.toNat, 0]
def k0_off26 (i : grid0.Coords) (k0_t2 : Fin (k0_t2_loop i).trips) : Fin 3 → Nat :=
  let c4_231 : Index := 4#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_221 : BitVec 32 := 256#32
  let v565 : BitVec 32 := Scalar.muli arg8 c256_i32_221
  let v566 : BitVec 32 := v565
  let v590 : Index := Scalar.indexCast v566
  let c0_232 : Index := 0#32
  ![4, v590.toNat, 0]
def k0_mult14 (i : grid0.Coords) (k0_t2 : Fin (k0_t2_loop i).trips) : BitVec 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_234 : BitVec 32 := 256#32
  let v595 : BitVec 32 := Scalar.muli arg8 c256_i32_234
  v595
def k0_off27 (i : grid0.Coords) (k0_t2 : Fin (k0_t2_loop i).trips) : Fin 3 → Nat :=
  let c5_238 : Index := 5#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_234 : BitVec 32 := 256#32
  let v595 : BitVec 32 := Scalar.muli arg8 c256_i32_234
  let v596 : BitVec 32 := v595
  let v599 : Index := Scalar.indexCast v596
  let c0_239 : Index := 0#32
  ![5, v599.toNat, 0]
def k0_off28 (i : grid0.Coords) (k0_t2 : Fin (k0_t2_loop i).trips) : Fin 3 → Nat :=
  let c5_244 : Index := 5#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_234 : BitVec 32 := 256#32
  let v595 : BitVec 32 := Scalar.muli arg8 c256_i32_234
  let v596 : BitVec 32 := v595
  let v620 : Index := Scalar.indexCast v596
  let c0_245 : Index := 0#32
  ![5, v620.toNat, 0]
def k0_mult15 (i : grid0.Coords) (k0_t2 : Fin (k0_t2_loop i).trips) : BitVec 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_247 : BitVec 32 := 256#32
  let v625 : BitVec 32 := Scalar.muli arg8 c256_i32_247
  v625
def k0_off29 (i : grid0.Coords) (k0_t2 : Fin (k0_t2_loop i).trips) : Fin 3 → Nat :=
  let c6_251 : Index := 6#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_247 : BitVec 32 := 256#32
  let v625 : BitVec 32 := Scalar.muli arg8 c256_i32_247
  let v626 : BitVec 32 := v625
  let v629 : Index := Scalar.indexCast v626
  let c0_252 : Index := 0#32
  ![6, v629.toNat, 0]
def k0_off30 (i : grid0.Coords) (k0_t2 : Fin (k0_t2_loop i).trips) : Fin 3 → Nat :=
  let c6_257 : Index := 6#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_247 : BitVec 32 := 256#32
  let v625 : BitVec 32 := Scalar.muli arg8 c256_i32_247
  let v626 : BitVec 32 := v625
  let v650 : Index := Scalar.indexCast v626
  let c0_258 : Index := 0#32
  ![6, v650.toNat, 0]
def k0_mult16 (i : grid0.Coords) (k0_t2 : Fin (k0_t2_loop i).trips) : BitVec 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_260 : BitVec 32 := 256#32
  let v655 : BitVec 32 := Scalar.muli arg8 c256_i32_260
  v655
def k0_off31 (i : grid0.Coords) (k0_t2 : Fin (k0_t2_loop i).trips) : Fin 3 → Nat :=
  let c7_264 : Index := 7#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_260 : BitVec 32 := 256#32
  let v655 : BitVec 32 := Scalar.muli arg8 c256_i32_260
  let v656 : BitVec 32 := v655
  let v659 : Index := Scalar.indexCast v656
  let c0_265 : Index := 0#32
  ![7, v659.toNat, 0]
def k0_off32 (i : grid0.Coords) (k0_t2 : Fin (k0_t2_loop i).trips) : Fin 3 → Nat :=
  let c7_270 : Index := 7#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c256_i32_260 : BitVec 32 := 256#32
  let v655 : BitVec 32 := Scalar.muli arg8 c256_i32_260
  let v656 : BitVec 32 := v655
  let v680 : Index := Scalar.indexCast v656
  let c0_271 : Index := 0#32
  ![7, v680.toNat, 0]
def k0_mult17 (i : grid0.Coords) : BitVec 32 :=
  let arg1 : BitVec 32 := BitVec.ofNat 32 (i 1).val
  let c256_i32 : BitVec 32 := 256#32
  let v61 : BitVec 32 := Scalar.muli arg1 c256_i32
  v61
def k0_off33 (i : grid0.Coords) : Fin 3 → Nat :=
  let c0_19 : Index := 0#32
  let arg1 : BitVec 32 := BitVec.ofNat 32 (i 1).val
  let c256_i32 : BitVec 32 := 256#32
  let v61 : BitVec 32 := Scalar.muli arg1 c256_i32
  let v62 : BitVec 32 := v61
  let v65 : Index := Scalar.indexCast v62
  let c0_20 : Index := 0#32
  ![0, v65.toNat, 0]
def k0_off34 (i : grid0.Coords) : Fin 3 → Nat :=
  let c0_26 : Index := 0#32
  let arg1 : BitVec 32 := BitVec.ofNat 32 (i 1).val
  let c256_i32 : BitVec 32 := 256#32
  let v61 : BitVec 32 := Scalar.muli arg1 c256_i32
  let v62 : BitVec 32 := v61
  let v88 : Index := Scalar.indexCast v62
  let c0_27 : Index := 0#32
  ![0, v88.toNat, 0]
def k0_mult18 (i : grid0.Coords) : BitVec 32 :=
  let arg1 : BitVec 32 := BitVec.ofNat 32 (i 1).val
  let c256_i32_29 : BitVec 32 := 256#32
  let v93 : BitVec 32 := Scalar.muli arg1 c256_i32_29
  v93
def k0_off35 (i : grid0.Coords) : Fin 3 → Nat :=
  let c1_32 : Index := 1#32
  let arg1 : BitVec 32 := BitVec.ofNat 32 (i 1).val
  let c256_i32_29 : BitVec 32 := 256#32
  let v93 : BitVec 32 := Scalar.muli arg1 c256_i32_29
  let v94 : BitVec 32 := v93
  let v97 : Index := Scalar.indexCast v94
  let c0_33 : Index := 0#32
  ![1, v97.toNat, 0]
def k0_off36 (i : grid0.Coords) : Fin 3 → Nat :=
  let c1_39 : Index := 1#32
  let arg1 : BitVec 32 := BitVec.ofNat 32 (i 1).val
  let c256_i32_29 : BitVec 32 := 256#32
  let v93 : BitVec 32 := Scalar.muli arg1 c256_i32_29
  let v94 : BitVec 32 := v93
  let v120 : Index := Scalar.indexCast v94
  let c0_40 : Index := 0#32
  ![1, v120.toNat, 0]
def k0_mult19 (i : grid0.Coords) : BitVec 32 :=
  let arg1 : BitVec 32 := BitVec.ofNat 32 (i 1).val
  let c256_i32_42 : BitVec 32 := 256#32
  let v125 : BitVec 32 := Scalar.muli arg1 c256_i32_42
  v125
def k0_off37 (i : grid0.Coords) : Fin 3 → Nat :=
  let c2_45 : Index := 2#32
  let arg1 : BitVec 32 := BitVec.ofNat 32 (i 1).val
  let c256_i32_42 : BitVec 32 := 256#32
  let v125 : BitVec 32 := Scalar.muli arg1 c256_i32_42
  let v126 : BitVec 32 := v125
  let v129 : Index := Scalar.indexCast v126
  let c0_46 : Index := 0#32
  ![2, v129.toNat, 0]
def k0_off38 (i : grid0.Coords) : Fin 3 → Nat :=
  let c2_52 : Index := 2#32
  let arg1 : BitVec 32 := BitVec.ofNat 32 (i 1).val
  let c256_i32_42 : BitVec 32 := 256#32
  let v125 : BitVec 32 := Scalar.muli arg1 c256_i32_42
  let v126 : BitVec 32 := v125
  let v152 : Index := Scalar.indexCast v126
  let c0_53 : Index := 0#32
  ![2, v152.toNat, 0]
def k0_mult20 (i : grid0.Coords) : BitVec 32 :=
  let arg1 : BitVec 32 := BitVec.ofNat 32 (i 1).val
  let c256_i32_55 : BitVec 32 := 256#32
  let v157 : BitVec 32 := Scalar.muli arg1 c256_i32_55
  v157
def k0_off39 (i : grid0.Coords) : Fin 3 → Nat :=
  let c3_58 : Index := 3#32
  let arg1 : BitVec 32 := BitVec.ofNat 32 (i 1).val
  let c256_i32_55 : BitVec 32 := 256#32
  let v157 : BitVec 32 := Scalar.muli arg1 c256_i32_55
  let v158 : BitVec 32 := v157
  let v161 : Index := Scalar.indexCast v158
  let c0_59 : Index := 0#32
  ![3, v161.toNat, 0]
def k0_off40 (i : grid0.Coords) : Fin 3 → Nat :=
  let c3_65 : Index := 3#32
  let arg1 : BitVec 32 := BitVec.ofNat 32 (i 1).val
  let c256_i32_55 : BitVec 32 := 256#32
  let v157 : BitVec 32 := Scalar.muli arg1 c256_i32_55
  let v158 : BitVec 32 := v157
  let v184 : Index := Scalar.indexCast v158
  let c0_66 : Index := 0#32
  ![3, v184.toNat, 0]
def k0_mult21 (i : grid0.Coords) : BitVec 32 :=
  let arg1 : BitVec 32 := BitVec.ofNat 32 (i 1).val
  let c256_i32_68 : BitVec 32 := 256#32
  let v189 : BitVec 32 := Scalar.muli arg1 c256_i32_68
  v189
def k0_off41 (i : grid0.Coords) : Fin 3 → Nat :=
  let c4_71 : Index := 4#32
  let arg1 : BitVec 32 := BitVec.ofNat 32 (i 1).val
  let c256_i32_68 : BitVec 32 := 256#32
  let v189 : BitVec 32 := Scalar.muli arg1 c256_i32_68
  let v190 : BitVec 32 := v189
  let v193 : Index := Scalar.indexCast v190
  let c0_72 : Index := 0#32
  ![4, v193.toNat, 0]
def k0_off42 (i : grid0.Coords) : Fin 3 → Nat :=
  let c4_78 : Index := 4#32
  let arg1 : BitVec 32 := BitVec.ofNat 32 (i 1).val
  let c256_i32_68 : BitVec 32 := 256#32
  let v189 : BitVec 32 := Scalar.muli arg1 c256_i32_68
  let v190 : BitVec 32 := v189
  let v216 : Index := Scalar.indexCast v190
  let c0_79 : Index := 0#32
  ![4, v216.toNat, 0]
def k0_mult22 (i : grid0.Coords) : BitVec 32 :=
  let arg1 : BitVec 32 := BitVec.ofNat 32 (i 1).val
  let c256_i32_81 : BitVec 32 := 256#32
  let v221 : BitVec 32 := Scalar.muli arg1 c256_i32_81
  v221
def k0_off43 (i : grid0.Coords) : Fin 3 → Nat :=
  let c5_84 : Index := 5#32
  let arg1 : BitVec 32 := BitVec.ofNat 32 (i 1).val
  let c256_i32_81 : BitVec 32 := 256#32
  let v221 : BitVec 32 := Scalar.muli arg1 c256_i32_81
  let v222 : BitVec 32 := v221
  let v225 : Index := Scalar.indexCast v222
  let c0_85 : Index := 0#32
  ![5, v225.toNat, 0]
def k0_off44 (i : grid0.Coords) : Fin 3 → Nat :=
  let c5_91 : Index := 5#32
  let arg1 : BitVec 32 := BitVec.ofNat 32 (i 1).val
  let c256_i32_81 : BitVec 32 := 256#32
  let v221 : BitVec 32 := Scalar.muli arg1 c256_i32_81
  let v222 : BitVec 32 := v221
  let v248 : Index := Scalar.indexCast v222
  let c0_92 : Index := 0#32
  ![5, v248.toNat, 0]
def k0_mult23 (i : grid0.Coords) : BitVec 32 :=
  let arg1 : BitVec 32 := BitVec.ofNat 32 (i 1).val
  let c256_i32_94 : BitVec 32 := 256#32
  let v253 : BitVec 32 := Scalar.muli arg1 c256_i32_94
  v253
def k0_off45 (i : grid0.Coords) : Fin 3 → Nat :=
  let c6_97 : Index := 6#32
  let arg1 : BitVec 32 := BitVec.ofNat 32 (i 1).val
  let c256_i32_94 : BitVec 32 := 256#32
  let v253 : BitVec 32 := Scalar.muli arg1 c256_i32_94
  let v254 : BitVec 32 := v253
  let v257 : Index := Scalar.indexCast v254
  let c0_98 : Index := 0#32
  ![6, v257.toNat, 0]
def k0_off46 (i : grid0.Coords) : Fin 3 → Nat :=
  let c6_104 : Index := 6#32
  let arg1 : BitVec 32 := BitVec.ofNat 32 (i 1).val
  let c256_i32_94 : BitVec 32 := 256#32
  let v253 : BitVec 32 := Scalar.muli arg1 c256_i32_94
  let v254 : BitVec 32 := v253
  let v280 : Index := Scalar.indexCast v254
  let c0_105 : Index := 0#32
  ![6, v280.toNat, 0]
def k0_mult24 (i : grid0.Coords) : BitVec 32 :=
  let arg1 : BitVec 32 := BitVec.ofNat 32 (i 1).val
  let c256_i32_107 : BitVec 32 := 256#32
  let v285 : BitVec 32 := Scalar.muli arg1 c256_i32_107
  v285
def k0_off47 (i : grid0.Coords) : Fin 3 → Nat :=
  let c7_110 : Index := 7#32
  let arg1 : BitVec 32 := BitVec.ofNat 32 (i 1).val
  let c256_i32_107 : BitVec 32 := 256#32
  let v285 : BitVec 32 := Scalar.muli arg1 c256_i32_107
  let v286 : BitVec 32 := v285
  let v289 : Index := Scalar.indexCast v286
  let c0_111 : Index := 0#32
  ![7, v289.toNat, 0]
def k0_off48 (i : grid0.Coords) : Fin 3 → Nat :=
  let c7_117 : Index := 7#32
  let arg1 : BitVec 32 := BitVec.ofNat 32 (i 1).val
  let c256_i32_107 : BitVec 32 := 256#32
  let v285 : BitVec 32 := Scalar.muli arg1 c256_i32_107
  let v286 : BitVec 32 := v285
  let v312 : Index := Scalar.indexCast v286
  let c0_118 : Index := 0#32
  ![7, v312.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnFwdIdeal.lean ====
variable {F : FTy → Type} [FloatOps F] [Named F]
def κ : String → Option EReal := fun
  | "mask" => some ⊥
  | _ => none
-- ==== AttnFwdReferenceIdeal.lean ====
abbrev S8x2048x256 : Shape := ⟨3, ![8, 2048, 256]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S2048x8x128 : Shape := ⟨3, ![2048, 8, 128]⟩
abbrev S2048x1024 : Shape := ⟨2, ![2048, 1024]⟩
abbrev S8x1x2048 : Shape := ⟨3, ![8, 1, 2048]⟩
abbrev S8x8x2048 : Shape := ⟨3, ![8, 8, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8x2048x256, .bf16⟩
  | .hbm, ⟨1, _⟩ => ⟨S8x2048x256, .bf16⟩
  | .hbm, ⟨2, _⟩ => ⟨S8x2048x128, .bf16⟩
  | .hbm, ⟨3, _⟩ => ⟨S8x2048x256, .f32⟩
  | .hbm, ⟨4, _⟩ => ⟨S8x2048x256, .f32⟩
  | .hbm, ⟨5, _⟩ => ⟨S8x2048x128, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S8x2048x2048, .i1⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | .hbm, ⟨50, _⟩ => ⟨S8x128x2048, .f32⟩
  | .hbm, ⟨51, _⟩ => ⟨S2048x8x128, .f32⟩
  | .hbm, ⟨52, _⟩ => ⟨S2048x1024, .f32⟩
  | .hbm, ⟨53, _⟩ => ⟨S8x2048x1, .f32⟩
  | .hbm, ⟨54, _⟩ => ⟨S8x2048x1, .f32⟩
  | .hbm, ⟨55, _⟩ => ⟨S8x2048, .f32⟩
  | .hbm, ⟨56, _⟩ => ⟨S8x1x2048, .f32⟩
  | .hbm, ⟨57, _⟩ => ⟨S8x8x2048, .f32⟩
  | _, _ => ⟨S8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩

abbrev nD : Nat := 1
abbrev τ : Topo := Topo.v7x

variable {F : FTy → Type} [FloatOps F]

def κ : String → Option EReal := fun
  | "mask" => some ⊥
  | _ => none
-- ==== AttnDelta.lean ====
abbrev S2048x1024 : Shape := ⟨2, ![2048, 1024]⟩
abbrev S8x8x2048 : Shape := ⟨3, ![8, 8, 2048]⟩
abbrev S256x1024 : Shape := ⟨2, ![256, 1024]⟩
abbrev S8x8x256 : Shape := ⟨3, ![8, 8, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S8x8x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x8x256, .f32⟩
  | .local _ .vmem, ⟨5, _⟩ => ⟨S8x8x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnDeltaReferenceIdeal.lean ====
abbrev S2048x1024 : Shape := ⟨2, ![2048, 1024]⟩
abbrev S2048x8x128 : Shape := ⟨3, ![2048, 8, 128]⟩
abbrev S_ : Shape := ⟨0, ![]⟩
abbrev S2048x8 : Shape := ⟨2, ![2048, 8]⟩
abbrev S8x2048 : Shape := ⟨2, ![8, 2048]⟩
abbrev S8x1x2048 : Shape := ⟨3, ![8, 1, 2048]⟩
abbrev S8x8x2048 : Shape := ⟨3, ![8, 8, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x8x128, .f32⟩
  | .hbm, ⟨4, _⟩ => ⟨S_, .f32⟩
  | .hbm, ⟨5, _⟩ => ⟨S2048x8, .f32⟩
  | .hbm, ⟨6, _⟩ => ⟨S8x2048, .f32⟩
  | .hbm, ⟨7, _⟩ => ⟨S8x1x2048, .f32⟩
  | .hbm, ⟨8, _⟩ => ⟨S8x8x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Spec.lean ====
module

public import proofs.«01_k».proof.Proof.Gen.KernelIdeal.Skeleton
public import Idealize.ShloMosaic.Lib.Pointwise
public import Idealize.ShloMosaic.Lib.WholeRead

@[expose] public section

noncomputable section

namespace Cert.KernelIdeal.Hand

open Idealize.ShloMosaic Idealize.ShloMosaic.TcCoe
open Cert.KernelIdeal.Gen

/-! # What one grid point of the attention gradient computes

A grid point works on four heads and on one block of 256 keys. Its blocks are `x0` (the queries, all
rows), `x1` (the keys of the block), `x2` (the values of the block), `x3` (the gradient of the
output, all rows), `x4` and `x5` (per query row the logarithm of the softmax's denominator and the
row's inner product of output and gradient). Everything is over the extended reals. -/

/-- The factor of the scores. -/
def sc : EReal := Ideal.ofBits .f32 0x3D93CD3A#32

/-- Query row `c` of the block `n` of 256 rows. -/
def row (n : Fin 8) (c : Fin 256) : Fin 2048 := ⟨256 * n.val + c.val, by omega⟩

/-- Column `e` of head `b` in a row of the output's gradient. -/
def col (b : Fin 4) (e : Fin 128) : Fin 512 := ⟨128 * b.val + e.val, by omega⟩

section
variable (kb : Fin 8) (x0 : Vec Ideal S4x2048x256 .bf16) (x1 : Vec Ideal S4x256x256 .bf16)
  (x2 : Vec Ideal S4x256x128 .bf16) (x3 : Vec Ideal S2048x512 .f32)
  (x4 x5 : Vec Ideal S4x8x2048 .f32)

/-- The score of key `J` of the block against query row `R`. -/
def sco (b : Fin 4) (R : Fin 2048) (J : Fin 256) : EReal :=
  (∑ e : Fin 256, x1 (ix3 b J e) * x0 (ix3 b R e)) * sc

/-- The probability of key `J` of block `kb` in row `R`: zero where the key's chunk is later than the row's. -/
def pr (b : Fin 4) (R : Fin 2048) (J : Fin 256) : EReal :=
  if (256 * kb.val + J.val) / 64 ≤ R.val / 64 then Ideal.exp (sco x0 x1 b R J - x4 (ix3 b 0 R)) else 0

/-- The gradient of the probability's inner product with the values. -/
def dpr (b : Fin 4) (R : Fin 2048) (J : Fin 256) : EReal :=
  ∑ e : Fin 128, x2 (ix3 b J e) * x3 (ix2 R (col b e))

/-- The gradient of the score. -/
def dsc (b : Fin 4) (R : Fin 2048) (J : Fin 256) : EReal :=
  pr kb x0 x1 x4 b R J * (dpr x2 x3 b R J - x5 (ix3 b 0 R)) * sc

/-- What the query rows of block `n` add to the gradient of the keys. -/
def addK (n : Fin 8) (b : Fin 4) (J : Fin 256) (e : Fin 256) : EReal :=
  ∑ c : Fin 256, dsc kb x0 x1 x2 x3 x4 x5 b (row n c) J * x0 (ix3 b (row n c) e)

/-- What the query rows of block `n` add to the gradient of the values. -/
def addV (n : Fin 8) (b : Fin 4) (J : Fin 256) (e : Fin 128) : EReal :=
  ∑ c : Fin 256, pr kb x0 x1 x4 b (row n c) J * x3 (ix2 (row n c) (col b e))

/-- What the keys of the block add to the gradient of query row `R`. -/
def addQ (b : Fin 4) (R : Fin 2048) (e : Fin 256) : EReal :=
  ∑ J : Fin 256, dsc kb x0 x1 x2 x3 x4 x5 b R J * x1 (ix3 b J e)

end

/-! ## One head of one step -/

/-- The six vectors a head of a step loads, for head `b` and the query rows of block `n`. -/
structure Loaded (x0 : Vec Ideal S4x2048x256 .bf16) (x1 : Vec Ideal S4x256x256 .bf16)
    (x2 : Vec Ideal S4x256x128 .bf16) (x3 : Vec Ideal S2048x512 .f32)
    (x4 x5 : Vec Ideal S4x8x2048 .f32) (b : Fin 4) (n : Fin 8)
    (q k : Vec Ideal S1x256x256 .bf16) (d : Vec Ideal S256x128 .f32) (l : Vec Ideal S1x1x256 .f32)
    (v : Vec Ideal S1x256x128 .bf16) (l' : Vec Ideal S1x1x256 .f32) : Prop where
  hq : ∀ (c : Fin 256) (e : Fin 256), q (ix3 0 c e) = x0 (ix3 b (row n c) e)
  hk : ∀ (J : Fin 256) (e : Fin 256), k (ix3 0 J e) = x1 (ix3 b J e)
  hd : ∀ (c : Fin 256) (e : Fin 128), d (ix2 c e) = x3 (ix2 (row n c) (col b e))
  hl : ∀ c : Fin 256, l (ix3 0 0 c) = x4 (ix3 b 0 (row n c))
  hv : ∀ (J : Fin 256) (e : Fin 128), v (ix3 0 J e) = x2 (ix3 b J e)
  hl' : ∀ c : Fin 256, l' (ix3 0 0 c) = x5 (ix3 b 0 (row n c))

section
variable {kb : Fin 8} {x0 : Vec Ideal S4x2048x256 .bf16} {x1 : Vec Ideal S4x256x256 .bf16}
  {x2 : Vec Ideal S4x256x128 .bf16} {x3 : Vec Ideal S2048x512 .f32}
  {x4 x5 : Vec Ideal S4x8x2048 .f32} {b : Fin 4} {n : Fin 8}
  {q k : Vec Ideal S1x256x256 .bf16} {d : Vec Ideal S256x128 .f32} {l : Vec Ideal S1x1x256 .f32}
  {v : Vec Ideal S1x256x128 .bf16} {l' : Vec Ideal S1x1x256 .f32}

/-- Past the diagonal block every key's chunk is allowed. -/
theorem pr_past (h : kb.val < n.val) (c J : Fin 256) :
    pr kb x0 x1 x4 b (row n c) J = Ideal.exp (sco x0 x1 b (row n c) J - x4 (ix3 b 0 (row n c))) := by
  refine if_pos ?_
  show (256 * kb.val + J.val) / 64 ≤ (256 * n.val + c.val) / 64
  omega

/-- Before the diagonal block no key's chunk is allowed. -/
theorem pr_before (h : n.val < kb.val) (c J : Fin 256) : pr kb x0 x1 x4 b (row n c) J = 0 := by
  refine if_neg ?_
  show ¬ (256 * kb.val + J.val) / 64 ≤ (256 * n.val + c.val) / 64
  omega

theorem head_p (L : Loaded x0 x1 x2 x3 x4 x5 b n q k d l v l') (h : kb.val < n.val) (J c : Fin 256) :
    k0_pay7 q k l (ix2 J c) = pr kb x0 x1 x4 b (row n c) J := by
  rw [pr_past h]
  pointwise [k0_pay7, k0_pay5, k0_pay4]
  simp only [sco, sc, L.hq, L.hk, L.hl]

theorem head_ds (L : Loaded x0 x1 x2 x3 x4 x5 b n q k d l v l') (h : kb.val < n.val) (J c : Fin 256) :
    k0_pay9 q k d l v l' (ix2 J c) = dsc kb x0 x1 x2 x3 x4 x5 b (row n c) J := by
  pointwise [k0_pay9, k0_pay6]
  rw [head_p L h]
  simp only [dsc, dpr, sc, L.hd, L.hv, L.hl']

theorem head_dv (L : Loaded x0 x1 x2 x3 x4 x5 b n q k d l v l') (h : kb.val < n.val)
    (a : FVec Ideal S256x128 .f32) (J : Fin 256) (e : Fin 128) :
    k0_pay8 a q k d l (ix2 J e) = a (ix2 J e) + addV kb x0 x1 x3 x4 n b J e := by
  pointwise [k0_pay8, k0_pay6]
  simp only [head_p L h, L.hd]; rfl

theorem head_dk (L : Loaded x0 x1 x2 x3 x4 x5 b n q k d l v l') (h : kb.val < n.val)
    (a : FVec Ideal S256x256 .f32) (J : Fin 256) (e : Fin 256) :
    k0_pay10 a q k d l v l' (ix2 J e) = a (ix2 J e) + addK kb x0 x1 x2 x3 x4 x5 n b J e := by
  pointwise [k0_pay10, k0_pay4]
  simp only [head_ds L h, L.hq]; rfl

theorem head_dq (L : Loaded x0 x1 x2 x3 x4 x5 b n q k d l v l') (h : kb.val < n.val)
    (o : Vec Ideal S1x256x256 .f32) (c : Fin 256) (e : Fin 256) :
    k0_pay11 (k0_pay5 k) (k0_pay9 q k d l v l') o (ix3 0 c e)
      = o (ix3 0 c e) + addQ kb x0 x1 x2 x3 x4 x5 b (row n c) e := by
  pointwise [k0_pay11, k0_pay5]
  simp only [head_ds L h, L.hk]; rfl

/-! ## One head of the diagonal step -/

/-- The number of the chunk a lane lies in, as the kernel spells it. -/
theorem chunk_word (c : Fin 256) :
    Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 c.val) 64#32) 0#32))
        (IntOp.subi (IntOp.divsi ArithUnit.vector (BitVec.ofNat 32 c.val) 64#32) 1#32)
        (IntOp.divsi ArithUnit.vector (BitVec.ofNat 32 c.val) 64#32) = BitVec.ofNat 32 (c.val / 64) := by
  revert c; decide +kernel

theorem chunk_le (r c : Fin 256) :
    IntOp.cmpi CmpIPredicate.sle (BitVec.ofNat 32 (r.val / 64)) (BitVec.ofNat 32 (c.val / 64))
      = if r.val / 64 ≤ c.val / 64 then 1#1 else 0#1 := by
  have h : ∀ a b : Fin 4, IntOp.cmpi CmpIPredicate.sle (BitVec.ofNat 32 a.val) (BitVec.ofNat 32 b.val)
      = if a.val ≤ b.val then 1#1 else 0#1 := by decide +kernel
  exact h ⟨r.val / 64, by omega⟩ ⟨c.val / 64, by omega⟩

/-- The diagonal block's mask. -/
abbrev msk : IVec S256x256 1 :=
  k0_pay68 k0_pay65 (iota .tc S256x256 32 [1] iota_S256x256_d1_w32) 64#32 k0_pay66 k0_pay67 0#32

theorem msk_apply (r c : Fin 256) : msk (ix2 r c) = if r.val / 64 ≤ c.val / 64 then 1#1 else 0#1 := by
  rw [← chunk_le, ← chunk_word r, ← chunk_word c]
  pointwise [k0_pay68, k0_pay65, k0_pay66, k0_pay67]

/-- The diagonal block's probabilities. -/
abbrev diagP (q k : Vec Ideal S1x256x256 .bf16) (l : Vec Ideal S1x1x256 .f32) : FVec Ideal S256x256 .f32 :=
  k0_pay72 k0_pay65 (iota .tc S256x256 32 [1] iota_S256x256_d1_w32) 64#32 k0_pay66 k0_pay67 0#32 q k l

theorem diag_p (L : Loaded x0 x1 x2 x3 x4 x5 b kb q k d l v l') (J c : Fin 256) :
    diagP q k l (ix2 J c) = pr kb x0 x1 x4 b (row kb c) J := by
  pointwise [k0_pay72, k0_pay69, k0_pay70]
  have hw := msk_apply J c
  unfold msk at hw
  rw [hw]
  have hc : ((256 * kb.val + J.val) / 64 ≤ (row kb c).val / 64) ↔ J.val / 64 ≤ c.val / 64 := by
    show (256 * kb.val + J.val) / 64 ≤ (256 * kb.val + c.val) / 64 ↔ _
    omega
  by_cases h : J.val / 64 ≤ c.val / 64
  · rw [if_pos h, pr, if_pos (hc.mpr h)]
    simp only [sco, sc, L.hq, L.hk, L.hl]
    rfl
  · rw [if_neg h, pr, if_neg (fun g => h (hc.mp g))]
    have hb : (⊥ : EReal) - l (ix3 0 0 c) = ⊥ := EReal.bot_sub _
    exact (congrArg Ideal.exp hb).trans rfl

theorem diag_ds (L : Loaded x0 x1 x2 x3 x4 x5 b kb q k d l v l') (J c : Fin 256) :
    k0_pay74 (k0_pay71 d) (diagP q k l) v l' (ix2 J c) = dsc kb x0 x1 x2 x3 x4 x5 b (row kb c) J := by
  pointwise [k0_pay74, k0_pay71]
  rw [diag_p L]
  simp only [dsc, dpr, sc, L.hd, L.hv, L.hl']

theorem diag_dv (L : Loaded x0 x1 x2 x3 x4 x5 b kb q k d l v l') (J : Fin 256) (e : Fin 128) :
    k0_pay73 k0_pay64 k0_pay65 (iota .tc S256x256 32 [1] iota_S256x256_d1_w32) 64#32 k0_pay66 k0_pay67 0#32 q k d l (ix2 J e)
      = addV kb x0 x1 x3 x4 kb b J e := by
  pointwise [k0_pay73, k0_pay71, k0_pay64]
  simp only [diag_p L, L.hd]; rfl

theorem diag_dk (L : Loaded x0 x1 x2 x3 x4 x5 b kb q k d l v l') (J : Fin 256) (e : Fin 256) :
    k0_pay75 k0_pay63 (k0_pay69 q) (k0_pay71 d) (diagP q k l) v l' (ix2 J e) = addK kb x0 x1 x2 x3 x4 x5 kb b J e := by
  pointwise [k0_pay75, k0_pay69, k0_pay63]
  simp only [diag_ds L, L.hq]; rfl

theorem diag_dq (L : Loaded x0 x1 x2 x3 x4 x5 b kb q k d l v l') (o : Vec Ideal S1x256x256 .f32) (c : Fin 256) (e : Fin 256) :
    k0_pay76 (k0_pay70 k) (k0_pay71 d) (diagP q k l) v l' o (ix3 0 c e)
      = o (ix3 0 c e) + addQ kb x0 x1 x2 x3 x4 x5 b (row kb c) e := by
  pointwise [k0_pay76, k0_pay70]
  simp only [diag_ds L, L.hk]; rfl

end

end Cert.KernelIdeal.Hand

end
-- ==== Proof.Blocks.lean ====
module

public import proofs.«01_k».proof.Proof.Spec
public import Idealize.ShloMosaic.Lib.WritesUnit

@[expose] public section

noncomputable section

namespace Cert.KernelIdeal.Hand

open Idealize.ShloMosaic Idealize.ShloMosaic.TcCoe
open Cert.KernelIdeal.Gen

/-! # What a step loads, and what its four stores into the queries' gradient leave -/

/-- The six loads of one head, through whole buffers that hold the blocks `x0` to `x5`. -/
theorem loaded {arg2 : Memref sig .tc .vmem S4x2048x256 .bf16} (h2 : arg2.IsWhole)
    {arg3 : Memref sig .tc .vmem S4x256x256 .bf16} (h3 : arg3.IsWhole)
    {arg4 : Memref sig .tc .vmem S4x256x128 .bf16} (h4 : arg4.IsWhole)
    {arg5 : Memref sig .tc .vmem S2048x512 .f32} (h5 : arg5.IsWhole)
    {arg6 : Memref sig .tc .vmem S4x8x2048 .f32} (h6 : arg6.IsWhole)
    {arg7 : Memref sig .tc .vmem S4x8x2048 .f32} (h7 : arg7.IsWhole)
    (x0 : Vec Ideal S4x2048x256 .bf16) (x1 : Vec Ideal S4x256x256 .bf16)
    (x2 : Vec Ideal S4x256x128 .bf16) (x3 : Vec Ideal S2048x512 .f32)
    (x4 x5 : Vec Ideal S4x8x2048 .f32) (b : Fin 4) (n : Fin 8)
    {oq ok ov ol ol' : Fin 3 → ℕ} {od : Fin 2 → ℕ}
    (iq : ∀ a, oq a + S1x256x256.size a ≤ S4x2048x256.size a) (ik : ∀ a, ok a + S1x256x256.size a ≤ S4x256x256.size a)
    (id : ∀ a, od a + S256x128.size a ≤ S2048x512.size a) (il : ∀ a, ol a + S1x1x256.size a ≤ S4x8x2048.size a)
    (iv : ∀ a, ov a + S1x256x128.size a ≤ S4x256x128.size a) (il' : ∀ a, ol' a + S1x1x256.size a ≤ S4x8x2048.size a)
    (eq : oq = ![b.val, 256 * n.val, 0]) (ek : ok = ![b.val, 0, 0]) (ed : od = ![256 * n.val, 128 * b.val])
    (el : ol = ![b.val, 0, 256 * n.val]) (ev : ov = ![b.val, 0, 0]) (el' : ol' = ![b.val, 0, 256 * n.val]) :
    Loaded x0 x1 x2 x3 x4 x5 b n
      (View.readAt (Elt Ideal) arg2.view (Rect.unit (s := S4x2048x256) oq S1x256x256.size iq).toLoadRect (h2.unread x0))
      (View.readAt (Elt Ideal) arg3.view (Rect.unit (s := S4x256x256) ok S1x256x256.size ik).toLoadRect (h3.unread x1))
      (View.readAt (Elt Ideal) arg5.view (Rect.unit (s := S2048x512) od S256x128.size id).toLoadRect (h5.unread x3))
      (View.readAt (Elt Ideal) arg6.view (Rect.unit (s := S4x8x2048) ol S1x1x256.size il).toLoadRect (h6.unread x4))
      (View.readAt (Elt Ideal) arg4.view (Rect.unit (s := S4x256x128) ov S1x256x128.size iv).toLoadRect (h4.unread x2))
      (View.readAt (Elt Ideal) arg7.view (Rect.unit (s := S4x8x2048) ol' S1x1x256.size il').toLoadRect (h7.unread x5)) := by
  subst eq ek ed el ev el'
  refine ⟨fun c e => ?_, fun J e => ?_, fun c e => ?_, fun c => ?_, fun J e => ?_, fun c => ?_⟩ <;>
    rw [Memref.IsWhole.readAt_unread]
  · refine congrArg x0 (funext fun a => Fin.ext ?_)
    fin_cases a
    · show b.val + 1 * 0 = b.val; omega
    · show 256 * n.val + 1 * c.val = 256 * n.val + c.val; omega
    · show 0 + 1 * e.val = e.val; omega
  · refine congrArg x1 (funext fun a => Fin.ext ?_)
    fin_cases a
    · show b.val + 1 * 0 = b.val; omega
    · show 0 + 1 * J.val = J.val; omega
    · show 0 + 1 * e.val = e.val; omega
  · refine congrArg x3 (funext fun a => Fin.ext ?_)
    fin_cases a
    · show 256 * n.val + 1 * c.val = 256 * n.val + c.val; omega
    · show 128 * b.val + 1 * e.val = 128 * b.val + e.val; omega
  · refine congrArg x4 (funext fun a => Fin.ext ?_)
    fin_cases a
    · show b.val + 1 * 0 = b.val; omega
    · show 0 + 1 * 0 = 0; rfl
    · show 256 * n.val + 1 * c.val = 256 * n.val + c.val; omega
  · refine congrArg x2 (funext fun a => Fin.ext ?_)
    fin_cases a
    · show b.val + 1 * 0 = b.val; omega
    · show 0 + 1 * J.val = J.val; omega
    · show 0 + 1 * e.val = e.val; omega
  · refine congrArg x5 (funext fun a => Fin.ext ?_)
    fin_cases a
    · show b.val + 1 * 0 = b.val; omega
    · show 0 + 1 * 0 = 0; rfl
    · show 256 * n.val + 1 * c.val = 256 * n.val + c.val; omega

section
variable (v : View sig .tc .vmem S4x2048x256 .f32) (f : v.ty.Contents (Elt Ideal))
  (Y : Fin 4 → Fin 2048 → Fin 256 → EReal) (n : Fin 8)

/-- The gradient buffer holds `Y`: head, query row, column. -/
def Holds : Prop := ∀ b R e, v.read (Elt Ideal) f (ix3 b R e) = Y b R e

variable {v f Y n}

/-- The load of a head's rows of block `n`. -/
theorem Holds.load (h : Holds v f Y) {b : Fin 4} {o : Fin 3 → ℕ} (io : ∀ a, o a + S1x256x256.size a ≤ S4x2048x256.size a)
    (eo : o = ![b.val, 256 * n.val, 0]) (c e : Fin 256) :
    View.readAt (Elt Ideal) v (Rect.unit (s := S4x2048x256) o S1x256x256.size io).toLoadRect f (ix3 0 c e) = Y b (row n c) e := by
  subst eo
  rw [← h b (row n c) e]
  refine congrArg (v.read (Elt Ideal) f) (funext fun a => Fin.ext ?_)
  fin_cases a
  · show b.val + 1 * 0 = b.val; omega
  · show 256 * n.val + 1 * c.val = 256 * n.val + c.val; omega
  · show 0 + 1 * e.val = e.val; omega

/-- One store of a head's rows of block `n`, over a list of earlier ones. -/
theorem read_one (L : List (View.Piece (Elt Ideal) S4x2048x256 .f32)) (b : Fin 4) {o : Fin 3 → ℕ}
    (io : ∀ a, o a + S1x256x256.size a ≤ S4x2048x256.size a) (w : Vec Ideal S1x256x256 .f32)
    (eo : o = ![b.val, 256 * n.val, 0]) (Z : Fin 2048 → Fin 256 → EReal) (hw : ∀ c e, w (ix3 0 c e) = Z (row n c) e)
    (h : Holds v (v.writes (Elt Ideal) f L) Y) :
    Holds v (v.writes (Elt Ideal) f (⟨Rect.unit (s := S4x2048x256) o S1x256x256.size io, w⟩ :: L))
      (fun b' R e => if b' = b ∧ R.val / 256 = n.val then Z R e else Y b' R e) := by
  intro b' R e
  beta_reduce
  by_cases hb : b' = b ∧ R.val / 256 = n.val
  · rw [if_pos hb]
    obtain ⟨rfl, hR⟩ := hb
    have hr : row n ⟨R.val % 256, by omega⟩ = R := Fin.ext (by show 256 * n.val + R.val % 256 = R.val; omega)
    rw [View.read_writes_cons_unit_of_mem v f io w L (ix3 b' R e) (ix3 0 ⟨R.val % 256, by omega⟩ e) eo]
    · rw [hw, hr]
    · intro a
      fin_cases a
      · show b'.val = b'.val + 0; rfl
      · show R.val = 256 * n.val + R.val % 256; omega
      · show e.val = 0 + e.val; omega
  · rw [if_neg hb, ← h b' R e]
    by_cases hb' : b' = b
    · refine View.read_writes_cons_unit_of_not_mem v f io w L (ix3 b' R e) eo 1 ?_
      have : R.val / 256 ≠ n.val := fun g => hb ⟨hb', g⟩
      show R.val < 256 * n.val ∨ 256 * n.val + 256 ≤ R.val
      omega
    · refine View.read_writes_cons_unit_of_not_mem v f io w L (ix3 b' R e) eo 0 ?_
      have : b'.val ≠ b.val := fun g => hb' (Fin.ext g)
      show b'.val < b.val ∨ b.val + 1 ≤ b'.val
      omega

/-- What a step over the query rows of block `n` leaves: `A` is added to those rows. -/
def stepQ (n : Fin 8) (A Y : Fin 4 → Fin 2048 → Fin 256 → EReal) (b : Fin 4) (R : Fin 2048) (e : Fin 256) : EReal :=
  Y b R e + if R.val / 256 = n.val then A b R e else 0

/-- The four stores of one step, one per head. -/
theorem read_four (L : List (View.Piece (Elt Ideal) S4x2048x256 .f32)) (A : Fin 4 → Fin 2048 → Fin 256 → EReal)
    {o0 o1 o2 o3 : Fin 3 → ℕ}
    (i0 : ∀ a, o0 a + S1x256x256.size a ≤ S4x2048x256.size a) (i1 : ∀ a, o1 a + S1x256x256.size a ≤ S4x2048x256.size a)
    (i2 : ∀ a, o2 a + S1x256x256.size a ≤ S4x2048x256.size a) (i3 : ∀ a, o3 a + S1x256x256.size a ≤ S4x2048x256.size a)
    (w0 w1 w2 w3 : Vec Ideal S1x256x256 .f32)
    (e0 : o0 = ![0, 256 * n.val, 0]) (e1 : o1 = ![1, 256 * n.val, 0]) (e2 : o2 = ![2, 256 * n.val, 0]) (e3 : o3 = ![3, 256 * n.val, 0])
    (h0 : ∀ c e, w0 (ix3 0 c e) = Y 0 (row n c) e + A 0 (row n c) e)
    (h1 : ∀ c e, w1 (ix3 0 c e) = Y 1 (row n c) e + A 1 (row n c) e)
    (h2 : ∀ c e, w2 (ix3 0 c e) = Y 2 (row n c) e + A 2 (row n c) e)
    (h3 : ∀ c e, w3 (ix3 0 c e) = Y 3 (row n c) e + A 3 (row n c) e)
    (h : Holds v (v.writes (Elt Ideal) f L) Y) :
    Holds v (v.writes (Elt Ideal) f (⟨Rect.unit (s := S4x2048x256) o3 S1x256x256.size i3, w3⟩ :: ⟨Rect.unit (s := S4x2048x256) o2 S1x256x256.size i2, w2⟩
        :: ⟨Rect.unit (s := S4x2048x256) o1 S1x256x256.size i1, w1⟩ :: ⟨Rect.unit (s := S4x2048x256) o0 S1x256x256.size i0, w0⟩ :: L))
      (stepQ n A Y) := by
  have H := read_one _ 3 i3 w3 e3 (fun R e => Y 3 R e + A 3 R e) h3
    (read_one _ 2 i2 w2 e2 (fun R e => Y 2 R e + A 2 R e) h2
      (read_one _ 1 i1 w1 e1 (fun R e => Y 1 R e + A 1 R e) h1
        (read_one _ 0 i0 w0 e0 (fun R e => Y 0 R e + A 0 R e) h0 h)))
  intro b R e
  refine (H b R e).trans ?_
  unfold stepQ
  by_cases hR : R.val / 256 = n.val
  · simp only [hR, and_true, if_true]
    fin_cases b <;> rfl
  · simp only [hR, and_false, if_false, add_zero]

end

end Cert.KernelIdeal.Hand

end
-- ==== Proof.Trip.lean ====
module

public import proofs.«01_k».proof.Proof.Blocks
public import proofs.«01_k».proof.Proof.Gen.KernelIdeal.Loops

@[expose] public section

set_option maxRecDepth 16384

noncomputable section

namespace Cert.KernelIdeal.Hand

open Idealize.ShloMosaic Idealize.ShloMosaic.TcCoe
open Cert.KernelIdeal.Gen

/-! # One trip of the loop over the later query blocks -/

/-- The two gradients a step carries, of every head's keys and values. -/
abbrev Carry : Type := FVec Ideal S256x256 .f32 × FVec Ideal S256x128 .f32 × FVec Ideal S256x256 .f32 × FVec Ideal S256x128 .f32
  × FVec Ideal S256x256 .f32 × FVec Ideal S256x128 .f32 × FVec Ideal S256x256 .f32 × FVec Ideal S256x128 .f32

/-- The carried vectors are `A` (head, key, column of the keys' gradient) and `B` (the values' gradient). -/
structure Carries (p : Carry) (A : Fin 4 → Fin 256 → Fin 256 → EReal) (B : Fin 4 → Fin 256 → Fin 128 → EReal) : Prop where
  k0 : ∀ J e, p.1 (ix2 J e) = A 0 J e
  v0 : ∀ J e, p.2.1 (ix2 J e) = B 0 J e
  k1 : ∀ J e, p.2.2.1 (ix2 J e) = A 1 J e
  v1 : ∀ J e, p.2.2.2.1 (ix2 J e) = B 1 J e
  k2 : ∀ J e, p.2.2.2.2.1 (ix2 J e) = A 2 J e
  v2 : ∀ J e, p.2.2.2.2.2.1 (ix2 J e) = B 2 J e
  k3 : ∀ J e, p.2.2.2.2.2.2.1 (ix2 J e) = A 3 J e
  v3 : ∀ J e, p.2.2.2.2.2.2.2 (ix2 J e) = B 3 J e

/-- The grid point's block of keys. -/
abbrev kbOf (i : grid0.Coords) : Fin 8 := i 1

/-- The loop runs once for every later block of queries. -/
theorem trips_eq : ∀ i : grid0.Coords, (k0_t1_loop i).trips = 7 - (kbOf i).val := by decide +kernel

/-- The block of queries of trip `k`. -/
def blk (i : grid0.Coords) (k : Fin (k0_t1_loop i).trips) : Fin 8 :=
  ⟨(i 1).val + k.val + 1, by have h := trips_eq i; have := k.isLt; simp only [kbOf] at h; omega⟩

theorem blk_gt (i : grid0.Coords) (k : Fin (k0_t1_loop i).trips) : (kbOf i).val < (blk i k).val := by
  show (i 1).val < (i 1).val + k.val + 1
  omega

theorem blk_word (i : grid0.Coords) (k : Fin (k0_t1_loop i).trips) :
    256 * (i 1).val + 256 * k.val + 256 = 256 * (blk i k).val := by
  show _ = 256 * ((i 1).val + k.val + 1)
  omega

variable {i : grid0.Coords} {k : Fin (k0_t1_loop i).trips}

theorem blk_q {b : ℕ} {o : Fin 3 → ℕ} (h : o = ![b, 256 * (i 1).val + 256 * k.val + 256, 0]) : o = ![b, 256 * (blk i k).val, 0] := by
  rw [h, blk_word]

theorem blk_d {b : ℕ} {o : Fin 2 → ℕ} (h : o = ![256 * (i 1).val + 256 * k.val + 256, b]) : o = ![256 * (blk i k).val, b] := by
  rw [h, blk_word]

theorem blk_l {b : ℕ} {o : Fin 3 → ℕ} (h : o = ![b, 0, 256 * (i 1).val + 256 * k.val + 256]) : o = ![b, 0, 256 * (blk i k).val] := by
  rw [h, blk_word]

variable (𝒱 : Variants) (c : Dev nD) (bd : Option 𝒱.V) (i k) (arg2 : Memref sig .tc .vmem S4x2048x256 .bf16) (harg2 : arg2.IsWhole) (arg3 : Memref sig .tc .vmem S4x256x256 .bf16) (harg3 : arg3.IsWhole)
  (arg4 : Memref sig .tc .vmem S4x256x128 .bf16) (harg4 : arg4.IsWhole) (arg5 : Memref sig .tc .vmem S2048x512 .f32) (harg5 : arg5.IsWhole)
  (arg6 : Memref sig .tc .vmem S4x8x2048 .f32) (harg6 : arg6.IsWhole) (arg7 : Memref sig .tc .vmem S4x8x2048 .f32) (harg7 : arg7.IsWhole)
  (arg8 : Memref sig .tc .vmem S4x2048x256 .f32) (harg8 : arg8.IsWhole) (arg9 : Memref sig .tc .vmem S4x256x256 .f32) (harg9 : arg9.IsWhole)
  (arg10 : Memref sig .tc .vmem S4x256x128 .f32) (harg10 : arg10.IsWhole)
  (v5 : BitVec 32) (v80 : FVec Ideal S256x128 .f32) (v94 : FVec Ideal S256x256 .f32) (v127 : FVec Ideal S256x128 .f32) (v141 : FVec Ideal S256x256 .f32)
  (v174 : FVec Ideal S256x128 .f32) (v188 : FVec Ideal S256x256 .f32) (v199 : BitVec 32) (v204 : FVec Ideal S256x256 .bf16) (v221 : FVec Ideal S256x128 .f32)
  (v233 : FVec Ideal S256x256 .bf16) (v235 : FVec Ideal S256x256 .f32)
  (x0 : Vec Ideal S4x2048x256 .bf16) (x1 : Vec Ideal S4x256x256 .bf16) (x2 : Vec Ideal S4x256x128 .bf16) (x3 : Vec Ideal S2048x512 .f32)
  (x4 x5 : Vec Ideal S4x8x2048 .f32)

/-- A trip adds its query rows' part to the two carried gradients. -/
theorem trip_carry (p : Carry) (f : BufTy.Contents (Elt Ideal) arg8.view.ty) {A B} (h : Carries p A B) :
    Carries (tripR_k0_t1 (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 (harg2.unread x0) (harg3.unread x1) (harg4.unread x2) (harg5.unread x3) (harg6.unread x4) (harg7.unread x5) k p f)
      (fun b J e => A b J e + addK (kbOf i) x0 x1 x2 x3 x4 x5 (blk i k) b J e)
      (fun b J e => B b J e + addV (kbOf i) x0 x1 x3 x4 (blk i k) b J e) := by
  have L0 := loaded harg2 harg3 harg4 harg5 harg6 harg7 x0 x1 x2 x3 x4 x5 0 (blk i k) (k0_off13_inb i k) inb_S4x256x256_S1x256x256_0_0_0
    (k0_off14_inb i k) (k0_off15_inb i k) inb_S4x256x128_S1x256x128_0_0_0 (k0_off15_inb i k)
    (blk_q (k0_off13_eq i k)) rfl (blk_d (k0_off14_eq i k)) (blk_l (k0_off15_eq i k)) rfl (blk_l (k0_off15_eq i k))
  have L1 := loaded harg2 harg3 harg4 harg5 harg6 harg7 x0 x1 x2 x3 x4 x5 1 (blk i k) (k0_off16_inb i k) inb_S4x256x256_S1x256x256_1_0_0
    (k0_off17_inb i k) (k0_off18_inb i k) inb_S4x256x128_S1x256x128_1_0_0 (k0_off18_inb i k)
    (blk_q (k0_off16_eq i k)) rfl (blk_d (k0_off17_eq i k)) (blk_l (k0_off18_eq i k)) rfl (blk_l (k0_off18_eq i k))
  have L2 := loaded harg2 harg3 harg4 harg5 harg6 harg7 x0 x1 x2 x3 x4 x5 2 (blk i k) (k0_off19_inb i k) inb_S4x256x256_S1x256x256_2_0_0
    (k0_off20_inb i k) (k0_off21_inb i k) inb_S4x256x128_S1x256x128_2_0_0 (k0_off21_inb i k)
    (blk_q (k0_off19_eq i k)) rfl (blk_d (k0_off20_eq i k)) (blk_l (k0_off21_eq i k)) rfl (blk_l (k0_off21_eq i k))
  have L3 := loaded harg2 harg3 harg4 harg5 harg6 harg7 x0 x1 x2 x3 x4 x5 3 (blk i k) (k0_off22_inb i k) inb_S4x256x256_S1x256x256_3_0_0
    (k0_off23_inb i k) (k0_off24_inb i k) inb_S4x256x128_S1x256x128_3_0_0 (k0_off24_inb i k)
    (blk_q (k0_off22_eq i k)) rfl (blk_d (k0_off23_eq i k)) (blk_l (k0_off24_eq i k)) rfl (blk_l (k0_off24_eq i k))
  have hn := blk_gt i k
  unfold tripR_k0_t1 trip_k0_t1
  refine ⟨fun J e => ?_, fun J e => ?_, fun J e => ?_, fun J e => ?_, fun J e => ?_, fun J e => ?_, fun J e => ?_, fun J e => ?_⟩
  · exact (head_dk L0 hn p.1 J e).trans (by rw [h.k0])
  · exact (head_dv L0 hn p.2.1 J e).trans (by rw [h.v0])
  · exact (head_dk L1 hn p.2.2.1 J e).trans (by rw [h.k1])
  · exact (head_dv L1 hn p.2.2.2.1 J e).trans (by rw [h.v1])
  · exact (head_dk L2 hn p.2.2.2.2.1 J e).trans (by rw [h.k2])
  · exact (head_dv L2 hn p.2.2.2.2.2.1 J e).trans (by rw [h.v2])
  · exact (head_dk L3 hn p.2.2.2.2.2.2.1 J e).trans (by rw [h.k3])
  · exact (head_dv L3 hn p.2.2.2.2.2.2.2 J e).trans (by rw [h.v3])

/-- A trip adds its keys' part to its query rows of the queries' gradient. -/
theorem trip_rows (p : Carry) (f : BufTy.Contents (Elt Ideal) arg8.view.ty) {Y} (h : Holds arg8.view f Y) :
    Holds arg8.view (arg8.view.writes (Elt Ideal) f (tripL_k0_t1 (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 (harg2.unread x0) (harg3.unread x1) (harg4.unread x2) (harg5.unread x3) (harg6.unread x4) (harg7.unread x5) k p f))
      (stepQ (blk i k) (addQ (kbOf i) x0 x1 x2 x3 x4 x5) Y) := by
  have L0 := loaded harg2 harg3 harg4 harg5 harg6 harg7 x0 x1 x2 x3 x4 x5 0 (blk i k) (k0_off13_inb i k) inb_S4x256x256_S1x256x256_0_0_0
    (k0_off14_inb i k) (k0_off15_inb i k) inb_S4x256x128_S1x256x128_0_0_0 (k0_off15_inb i k)
    (blk_q (k0_off13_eq i k)) rfl (blk_d (k0_off14_eq i k)) (blk_l (k0_off15_eq i k)) rfl (blk_l (k0_off15_eq i k))
  have L1 := loaded harg2 harg3 harg4 harg5 harg6 harg7 x0 x1 x2 x3 x4 x5 1 (blk i k) (k0_off16_inb i k) inb_S4x256x256_S1x256x256_1_0_0
    (k0_off17_inb i k) (k0_off18_inb i k) inb_S4x256x128_S1x256x128_1_0_0 (k0_off18_inb i k)
    (blk_q (k0_off16_eq i k)) rfl (blk_d (k0_off17_eq i k)) (blk_l (k0_off18_eq i k)) rfl (blk_l (k0_off18_eq i k))
  have L2 := loaded harg2 harg3 harg4 harg5 harg6 harg7 x0 x1 x2 x3 x4 x5 2 (blk i k) (k0_off19_inb i k) inb_S4x256x256_S1x256x256_2_0_0
    (k0_off20_inb i k) (k0_off21_inb i k) inb_S4x256x128_S1x256x128_2_0_0 (k0_off21_inb i k)
    (blk_q (k0_off19_eq i k)) rfl (blk_d (k0_off20_eq i k)) (blk_l (k0_off21_eq i k)) rfl (blk_l (k0_off21_eq i k))
  have L3 := loaded harg2 harg3 harg4 harg5 harg6 harg7 x0 x1 x2 x3 x4 x5 3 (blk i k) (k0_off22_inb i k) inb_S4x256x256_S1x256x256_3_0_0
    (k0_off23_inb i k) (k0_off24_inb i k) inb_S4x256x128_S1x256x128_3_0_0 (k0_off24_inb i k)
    (blk_q (k0_off22_eq i k)) rfl (blk_d (k0_off23_eq i k)) (blk_l (k0_off24_eq i k)) rfl (blk_l (k0_off24_eq i k))
  have hn := blk_gt i k
  unfold tripL_k0_t1 trip_k0_t1
  refine read_four (v := arg8.view) (f := f) (n := blk i k) (Y := Y) [] (addQ (kbOf i) x0 x1 x2 x3 x4 x5)
    (k0_off13_inb i k) (k0_off16_inb i k) (k0_off19_inb i k) (k0_off22_inb i k) _ _ _ _
    (blk_q (k0_off13_eq i k)) (blk_q (k0_off16_eq i k)) (blk_q (k0_off19_eq i k)) (blk_q (k0_off22_eq i k)) ?_ ?_ ?_ ?_ h
  · exact fun c e => (head_dq L0 hn _ c e).trans (congrArg (· + _) (h.load (b := 0) (n := blk i k) (k0_off13_inb i k) (blk_q (k0_off13_eq i k)) c e))
  · exact fun c e => (head_dq L1 hn _ c e).trans (congrArg (· + _) (h.load (b := 1) (n := blk i k) (k0_off16_inb i k) (blk_q (k0_off16_eq i k)) c e))
  · exact fun c e => (head_dq L2 hn _ c e).trans (congrArg (· + _) (h.load (b := 2) (n := blk i k) (k0_off19_inb i k) (blk_q (k0_off19_eq i k)) c e))
  · exact fun c e => (head_dq L3 hn _ c e).trans (congrArg (· + _) (h.load (b := 3) (n := blk i k) (k0_off22_inb i k) (blk_q (k0_off22_eq i k)) c e))

end Cert.KernelIdeal.Hand

end
-- ==== Proof.Loop.lean ====
module

public import proofs.«01_k».proof.Proof.Trip

@[expose] public section

set_option maxRecDepth 16384

noncomputable section

namespace Cert.KernelIdeal.Hand

open Idealize.ShloMosaic Idealize.ShloMosaic.TcCoe
open Cert.KernelIdeal.Gen

/-! # The loop over the later query blocks

The step at the diagonal leaves the diagonal block's part; after `j` trips the blocks up to `j` past the
diagonal are added. Blocks before the diagonal would add nothing. -/

/-- The sum over the blocks from `kb` to `kb + j`. -/
def upto (kb j : ℕ) (f : Fin 8 → EReal) : EReal := ∑ n : Fin 8, if kb ≤ n.val ∧ n.val ≤ kb + j then f n else 0

theorem upto_zero (kb : Fin 8) (f : Fin 8 → EReal) : upto kb.val 0 f = f kb := by
  unfold upto
  rw [Finset.sum_eq_single kb]
  · exact if_pos ⟨le_rfl, le_rfl⟩
  · intro n _ hn
    refine if_neg fun h => hn (Fin.ext ?_)
    omega
  · exact fun h => absurd (Finset.mem_univ _) h

theorem upto_succ (kb j : ℕ) (f : Fin 8 → EReal) (m : Fin 8) (hm : m.val = kb + j + 1) :
    upto kb (j + 1) f = upto kb j f + f m := by
  have h1 : f m = ∑ n : Fin 8, if n = m then f n else 0 := by rw [Finset.sum_ite_eq' Finset.univ m f, if_pos (Finset.mem_univ _)]
  unfold upto
  rw [h1, ← Finset.sum_add_distrib]
  refine Finset.sum_congr rfl fun n _ => ?_
  by_cases hn : n = m
  · subst hn
    rw [if_pos (by omega), if_neg (by omega), if_pos rfl, zero_add]
  · have : n.val ≠ m.val := fun g => hn (Fin.ext g)
    rw [if_neg hn, add_zero]
    by_cases g : kb ≤ n.val ∧ n.val ≤ kb + j
    · rw [if_pos (by omega), if_pos g]
    · rw [if_neg (by omega), if_neg g]

/-- Once every later block is in, the sum is over all blocks, the earlier ones adding nothing. -/
theorem upto_all (kb : Fin 8) (f : Fin 8 → EReal) (h : ∀ n, n.val < kb.val → f n = 0) :
    upto kb.val (7 - kb.val) f = ∑ n : Fin 8, f n := by
  refine Finset.sum_congr rfl fun n _ => ?_
  by_cases g : kb.val ≤ n.val
  · exact if_pos (by omega)
  · rw [if_neg (by omega), h n (by omega)]

/-- The queries' gradient once the query blocks from `kb` to `kb + j` have their part `A`. -/
def rowsUpto (kb j : ℕ) (A Y : Fin 4 → Fin 2048 → Fin 256 → EReal) (b : Fin 4) (R : Fin 2048) (e : Fin 256) : EReal :=
  Y b R e + if kb ≤ R.val / 256 ∧ R.val / 256 ≤ kb + j then A b R e else 0

theorem rowsUpto_zero (kb : Fin 8) (A Y) : stepQ kb A Y = rowsUpto kb.val 0 A Y := by
  funext b R e
  unfold stepQ rowsUpto
  by_cases h : R.val / 256 = kb.val
  · rw [if_pos h, if_pos (by omega)]
  · rw [if_neg h, if_neg (by omega)]

theorem rowsUpto_succ (kb j : ℕ) (A Y) (m : Fin 8) (hm : m.val = kb + j + 1) :
    stepQ m A (rowsUpto kb j A Y) = rowsUpto kb (j + 1) A Y := by
  funext b R e
  unfold stepQ rowsUpto
  by_cases h : R.val / 256 = m.val
  · rw [if_pos h, if_neg (by omega), if_pos (by omega), add_zero]
  · rw [if_neg h, add_zero]
    by_cases g : kb ≤ R.val / 256 ∧ R.val / 256 ≤ kb + j
    · rw [if_pos g, if_pos (by omega)]
    · rw [if_neg g, if_neg (by omega)]

theorem rowsUpto_all (kb : Fin 8) (A Y) (h : ∀ b R e, R.val / 256 < kb.val → A b R e = 0) (b : Fin 4) (R : Fin 2048) (e : Fin 256) :
    rowsUpto kb.val (7 - kb.val) A Y b R e = Y b R e + A b R e := by
  unfold rowsUpto
  by_cases g : kb.val ≤ R.val / 256
  · rw [if_pos (by omega)]
  · rw [if_neg (by omega), h b R e (by omega)]

section
variable (kb : Fin 8) (x0 : Vec Ideal S4x2048x256 .bf16) (x1 : Vec Ideal S4x256x256 .bf16) (x2 : Vec Ideal S4x256x128 .bf16) (x3 : Vec Ideal S2048x512 .f32)
  (x4 x5 : Vec Ideal S4x8x2048 .f32)

theorem row_split (R : Fin 2048) : R = row ⟨R.val / 256, by omega⟩ ⟨R.val % 256, by omega⟩ :=
  Fin.ext (by show R.val = 256 * (R.val / 256) + R.val % 256; omega)

theorem dsc_before (b : Fin 4) (R : Fin 2048) (J : Fin 256) (h : R.val / 256 < kb.val) :
    dsc kb x0 x1 x2 x3 x4 x5 b R J = 0 := by
  have : pr kb x0 x1 x4 b R J = 0 := by rw [row_split R]; exact pr_before h _ _
  rw [dsc, this, zero_mul, zero_mul]

theorem addK_before (n : Fin 8) (h : n.val < kb.val) (b J e) : addK kb x0 x1 x2 x3 x4 x5 n b J e = 0 := by
  refine Finset.sum_eq_zero fun c _ => ?_
  rw [dsc_before kb x0 x1 x2 x3 x4 x5 b (row n c) J (by show (256 * n.val + c.val) / 256 < kb.val; omega), zero_mul]

theorem addV_before (n : Fin 8) (h : n.val < kb.val) (b J e) : addV kb x0 x1 x3 x4 n b J e = 0 := by
  refine Finset.sum_eq_zero fun c _ => ?_
  rw [pr_before h, zero_mul]

theorem addQ_before (b R e) (h : R.val / 256 < kb.val) : addQ kb x0 x1 x2 x3 x4 x5 b R e = 0 := by
  refine Finset.sum_eq_zero fun J _ => ?_
  rw [dsc_before kb x0 x1 x2 x3 x4 x5 b R J h, zero_mul]

/-- The keys' gradient after the diagonal step and `j` trips. -/
def upK (j : ℕ) (b : Fin 4) (J e : Fin 256) : EReal := upto kb.val j fun n => addK kb x0 x1 x2 x3 x4 x5 n b J e

/-- The values' gradient after the diagonal step and `j` trips. -/
def upV (j : ℕ) (b : Fin 4) (J : Fin 256) (e : Fin 128) : EReal := upto kb.val j fun n => addV kb x0 x1 x3 x4 n b J e

/-- The queries' gradient after the diagonal step and `j` trips. -/
def upQ (Y : Fin 4 → Fin 2048 → Fin 256 → EReal) (j : ℕ) : Fin 4 → Fin 2048 → Fin 256 → EReal :=
  rowsUpto kb.val j (addQ kb x0 x1 x2 x3 x4 x5) Y

end

variable (𝒱 : Variants) (c : Dev nD) (bd : Option 𝒱.V) (i : grid0.Coords) (arg2 : Memref sig .tc .vmem S4x2048x256 .bf16) (harg2 : arg2.IsWhole) (arg3 : Memref sig .tc .vmem S4x256x256 .bf16) (harg3 : arg3.IsWhole)
  (arg4 : Memref sig .tc .vmem S4x256x128 .bf16) (harg4 : arg4.IsWhole) (arg5 : Memref sig .tc .vmem S2048x512 .f32) (harg5 : arg5.IsWhole)
  (arg6 : Memref sig .tc .vmem S4x8x2048 .f32) (harg6 : arg6.IsWhole) (arg7 : Memref sig .tc .vmem S4x8x2048 .f32) (harg7 : arg7.IsWhole)
  (arg8 : Memref sig .tc .vmem S4x2048x256 .f32) (harg8 : arg8.IsWhole) (arg9 : Memref sig .tc .vmem S4x256x256 .f32) (harg9 : arg9.IsWhole)
  (arg10 : Memref sig .tc .vmem S4x256x128 .f32) (harg10 : arg10.IsWhole)
  (v5 : BitVec 32) (v80 : FVec Ideal S256x128 .f32) (v94 : FVec Ideal S256x256 .f32) (v127 : FVec Ideal S256x128 .f32) (v141 : FVec Ideal S256x256 .f32)
  (v174 : FVec Ideal S256x128 .f32) (v188 : FVec Ideal S256x256 .f32) (v199 : BitVec 32) (v204 : FVec Ideal S256x256 .bf16) (v221 : FVec Ideal S256x128 .f32)
  (v233 : FVec Ideal S256x256 .bf16) (v235 : FVec Ideal S256x256 .f32)
  (x0 : Vec Ideal S4x2048x256 .bf16) (x1 : Vec Ideal S4x256x256 .bf16) (x2 : Vec Ideal S4x256x128 .bf16) (x3 : Vec Ideal S2048x512 .f32)
  (x4 x5 : Vec Ideal S4x8x2048 .f32)

/-- The carried sums along the loop. -/
theorem loop_carry (G : BufTy.Contents (Elt Ideal) arg8.view.ty) (p : Carry)
    (hp : Carries p (upK (kbOf i) x0 x1 x2 x3 x4 x5 0) (upV (kbOf i) x0 x1 x3 x4 0))
    (j : ℕ) (hj : j ≤ (k0_t1_loop i).trips) :
    Carries (st_k0_t1 (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 (harg2.unread x0) (harg3.unread x1) (harg4.unread x2) (harg5.unread x3) (harg6.unread x4) (harg7.unread x5) G p j).1
        (upK (kbOf i) x0 x1 x2 x3 x4 x5 j) (upV (kbOf i) x0 x1 x3 x4 j) := by
  induction j with
  | zero => exact hp
  | succ j ih =>
    have H := ih (by omega)
    have e := st_k0_t1_succ (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 (harg2.unread x0) (harg3.unread x1) (harg4.unread x2) (harg5.unread x3) (harg6.unread x4) (harg7.unread x5) G p ⟨j, hj⟩
    rw [e]
    have hm : (blk i ⟨j, hj⟩).val = (kbOf i).val + j + 1 := rfl
    have T := trip_carry i ⟨j, hj⟩ 𝒱 c bd arg2 harg2 arg3 harg3 arg4 harg4 arg5 harg5 arg6 harg6 arg7 harg7 arg8 harg8 arg9 harg9 arg10 harg10 v5 v80 v94 v127 v141 v174 v188 v199 v204 v221 v233 v235 x0 x1 x2 x3 x4 x5 _
      (arg8.view.writes (Elt Ideal) G (st_k0_t1 (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 (harg2.unread x0) (harg3.unread x1) (harg4.unread x2) (harg5.unread x3) (harg6.unread x4) (harg7.unread x5) G p j).2) H
    have eK : upK (kbOf i) x0 x1 x2 x3 x4 x5 (j + 1) = fun b J e => upK (kbOf i) x0 x1 x2 x3 x4 x5 j b J e
        + addK (kbOf i) x0 x1 x2 x3 x4 x5 (blk i ⟨j, hj⟩) b J e := by
      funext b J e; exact upto_succ _ _ _ _ hm
    have eV : upV (kbOf i) x0 x1 x3 x4 (j + 1) = fun b J e => upV (kbOf i) x0 x1 x3 x4 j b J e
        + addV (kbOf i) x0 x1 x3 x4 (blk i ⟨j, hj⟩) b J e := by
      funext b J e; exact upto_succ _ _ _ _ hm
    rw [eK, eV]
    exact T

/-- After `j` trips. -/
theorem loop_upto (G : BufTy.Contents (Elt Ideal) arg8.view.ty) (p : Carry) (Y)
    (hp : Carries p (upK (kbOf i) x0 x1 x2 x3 x4 x5 0) (upV (kbOf i) x0 x1 x3 x4 0))
    (hG : Holds arg8.view G (upQ (kbOf i) x0 x1 x2 x3 x4 x5 Y 0)) (j : ℕ) (hj : j ≤ (k0_t1_loop i).trips) :
    Carries (st_k0_t1 (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 (harg2.unread x0) (harg3.unread x1) (harg4.unread x2) (harg5.unread x3) (harg6.unread x4) (harg7.unread x5) G p j).1
        (upK (kbOf i) x0 x1 x2 x3 x4 x5 j) (upV (kbOf i) x0 x1 x3 x4 j)
      ∧ Holds arg8.view (arg8.view.writes (Elt Ideal) G (st_k0_t1 (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 (harg2.unread x0) (harg3.unread x1) (harg4.unread x2) (harg5.unread x3) (harg6.unread x4) (harg7.unread x5) G p j).2)
        (upQ (kbOf i) x0 x1 x2 x3 x4 x5 Y j) := by
  induction j with
  | zero => exact ⟨hp, hG⟩
  | succ j ih =>
    have H := ih (by omega)
    have e := st_k0_t1_succ (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 (harg2.unread x0) (harg3.unread x1) (harg4.unread x2) (harg5.unread x3) (harg6.unread x4) (harg7.unread x5) G p ⟨j, hj⟩
    rw [e]
    have hm : (blk i ⟨j, hj⟩).val = (kbOf i).val + j + 1 := rfl
    constructor
    · exact e ▸ loop_carry 𝒱 c bd i arg2 harg2 arg3 harg3 arg4 harg4 arg5 harg5 arg6 harg6 arg7 harg7 arg8 harg8 arg9 harg9 arg10 harg10 v5 v80 v94 v127 v141 v174 v188 v199 v204 v221 v233 v235 x0 x1 x2 x3 x4 x5 G p hp (j + 1) hj
    · have T := trip_rows i ⟨j, hj⟩ 𝒱 c bd arg2 harg2 arg3 harg3 arg4 harg4 arg5 harg5 arg6 harg6 arg7 harg7 arg8 harg8 arg9 harg9 arg10 harg10 v5 v80 v94 v127 v141 v174 v188 v199 v204 v221 v233 v235 x0 x1 x2 x3 x4 x5
        (st_k0_t1 (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 (harg2.unread x0) (harg3.unread x1) (harg4.unread x2) (harg5.unread x3) (harg6.unread x4) (harg7.unread x5) G p j).1 _ H.2
      have eQ : upQ (kbOf i) x0 x1 x2 x3 x4 x5 Y (j + 1)
          = stepQ (blk i ⟨j, hj⟩) (addQ (kbOf i) x0 x1 x2 x3 x4 x5) (upQ (kbOf i) x0 x1 x2 x3 x4 x5 Y j) :=
        (rowsUpto_succ _ _ _ _ _ hm).symm
      rw [eQ]
      dsimp only
      rw [View.writes_append]
      exact T

end Cert.KernelIdeal.Hand

end
-- ==== Proof.Diag.lean ====
module

public import proofs.«01_k».proof.Proof.Loop

@[expose] public section

set_option maxRecDepth 16384

noncomputable section

namespace Cert.KernelIdeal.Hand

open Idealize.ShloMosaic Idealize.ShloMosaic.TcCoe
open Cert.KernelIdeal.Gen

/-! # What one grid point leaves in its three output blocks -/

/-- The second loop, of the same body, never runs. -/
theorem trips2_eq : ∀ i : grid0.Coords, (k0_t2_loop i).trips = 0 := by decide +kernel

section
variable (kb : Fin 8) (x0 : Vec Ideal S4x2048x256 .bf16) (x1 : Vec Ideal S4x256x256 .bf16) (x2 : Vec Ideal S4x256x128 .bf16) (x3 : Vec Ideal S2048x512 .f32)
  (x4 x5 : Vec Ideal S4x8x2048 .f32)

/-- The keys' gradient of the block: every query block's part. -/
def outK (b : Fin 4) (J e : Fin 256) : EReal := ∑ n : Fin 8, addK kb x0 x1 x2 x3 x4 x5 n b J e

/-- The values' gradient of the block: every query block's part. -/
def outV (b : Fin 4) (J : Fin 256) (e : Fin 128) : EReal := ∑ n : Fin 8, addV kb x0 x1 x3 x4 n b J e

/-- The queries' gradient with the block's part added. -/
def outQ (Y : Fin 4 → Fin 2048 → Fin 256 → EReal) (b : Fin 4) (R : Fin 2048) (e : Fin 256) : EReal :=
  Y b R e + addQ kb x0 x1 x2 x3 x4 x5 b R e

end

section
variable {kb : Fin 8} {x0 : Vec Ideal S4x2048x256 .bf16} {x1 : Vec Ideal S4x256x256 .bf16} {x2 : Vec Ideal S4x256x128 .bf16} {x3 : Vec Ideal S2048x512 .f32}
  {x4 x5 : Vec Ideal S4x8x2048 .f32}
  {q0 k0 q1 k1 q2 k2 q3 k3 : Vec Ideal S1x256x256 .bf16} {d0 d1 d2 d3 : Vec Ideal S256x128 .f32}
  {l0 m0 l1 m1 l2 m2 l3 m3 : Vec Ideal S1x1x256 .f32} {v0 v1 v2 v3 : Vec Ideal S1x256x128 .bf16}

theorem upK_zero (b J e) : upK kb x0 x1 x2 x3 x4 x5 0 b J e = addK kb x0 x1 x2 x3 x4 x5 kb b J e := upto_zero kb _

theorem upV_zero (b J e) : upV kb x0 x1 x3 x4 0 b J e = addV kb x0 x1 x3 x4 kb b J e := upto_zero kb _

/-- What the diagonal step carries into the loop. -/
theorem diag_carries (L0 : Loaded x0 x1 x2 x3 x4 x5 0 kb q0 k0 d0 l0 v0 m0)
    (L1 : Loaded x0 x1 x2 x3 x4 x5 1 kb q1 k1 d1 l1 v1 m1)
    (L2 : Loaded x0 x1 x2 x3 x4 x5 2 kb q2 k2 d2 l2 v2 m2)
    (L3 : Loaded x0 x1 x2 x3 x4 x5 3 kb q3 k3 d3 l3 v3 m3) :
    Carries (k0_pay75 k0_pay63 (k0_pay69 q0) (k0_pay71 d0) (diagP q0 k0 l0) v0 m0, k0_pay73 k0_pay64 k0_pay65 (iota .tc S256x256 32 [1] iota_S256x256_d1_w32) 64#32 k0_pay66 k0_pay67 0#32 q0 k0 d0 l0,
      k0_pay75 k0_pay63 (k0_pay69 q1) (k0_pay71 d1) (diagP q1 k1 l1) v1 m1, k0_pay73 k0_pay64 k0_pay65 (iota .tc S256x256 32 [1] iota_S256x256_d1_w32) 64#32 k0_pay66 k0_pay67 0#32 q1 k1 d1 l1,
      k0_pay75 k0_pay63 (k0_pay69 q2) (k0_pay71 d2) (diagP q2 k2 l2) v2 m2, k0_pay73 k0_pay64 k0_pay65 (iota .tc S256x256 32 [1] iota_S256x256_d1_w32) 64#32 k0_pay66 k0_pay67 0#32 q2 k2 d2 l2,
      k0_pay75 k0_pay63 (k0_pay69 q3) (k0_pay71 d3) (diagP q3 k3 l3) v3 m3, k0_pay73 k0_pay64 k0_pay65 (iota .tc S256x256 32 [1] iota_S256x256_d1_w32) 64#32 k0_pay66 k0_pay67 0#32 q3 k3 d3 l3)
      (upK kb x0 x1 x2 x3 x4 x5 0) (upV kb x0 x1 x3 x4 0) :=
  ⟨fun J e => (diag_dk L0 J e).trans (upK_zero 0 J e).symm, fun J e => (diag_dv L0 J e).trans (upV_zero 0 J e).symm,
    fun J e => (diag_dk L1 J e).trans (upK_zero 1 J e).symm, fun J e => (diag_dv L1 J e).trans (upV_zero 1 J e).symm,
    fun J e => (diag_dk L2 J e).trans (upK_zero 2 J e).symm, fun J e => (diag_dv L2 J e).trans (upV_zero 2 J e).symm,
    fun J e => (diag_dk L3 J e).trans (upK_zero 3 J e).symm, fun J e => (diag_dv L3 J e).trans (upV_zero 3 J e).symm⟩

/-- The rows of the queries' gradient after the diagonal step. -/
theorem diag_rows {v : View sig .tc .vmem S4x2048x256 .f32} {f : v.ty.Contents (Elt Ideal)} {Y : Fin 4 → Fin 2048 → Fin 256 → EReal}
    (L : List (View.Piece (Elt Ideal) S4x2048x256 .f32)) {f0 f1 f2 f3 : Fin 3 → ℕ}
    (i0 : ∀ a, f0 a + S1x256x256.size a ≤ S4x2048x256.size a) (i1 : ∀ a, f1 a + S1x256x256.size a ≤ S4x2048x256.size a)
    (i2 : ∀ a, f2 a + S1x256x256.size a ≤ S4x2048x256.size a) (i3 : ∀ a, f3 a + S1x256x256.size a ≤ S4x2048x256.size a)
    (e0 : f0 = ![0, 256 * kb.val, 0]) (e1 : f1 = ![1, 256 * kb.val, 0]) (e2 : f2 = ![2, 256 * kb.val, 0]) (e3 : f3 = ![3, 256 * kb.val, 0])
    (L0 : Loaded x0 x1 x2 x3 x4 x5 0 kb q0 k0 d0 l0 v0 m0)
    (L1 : Loaded x0 x1 x2 x3 x4 x5 1 kb q1 k1 d1 l1 v1 m1)
    (L2 : Loaded x0 x1 x2 x3 x4 x5 2 kb q2 k2 d2 l2 v2 m2)
    (L3 : Loaded x0 x1 x2 x3 x4 x5 3 kb q3 k3 d3 l3 v3 m3)
    (o0 o1 o2 o3 : Vec Ideal S1x256x256 .f32)
    (h0 : ∀ c e, o0 (ix3 0 c e) = Y 0 (row kb c) e) (h1 : ∀ c e, o1 (ix3 0 c e) = Y 1 (row kb c) e)
    (h2 : ∀ c e, o2 (ix3 0 c e) = Y 2 (row kb c) e) (h3 : ∀ c e, o3 (ix3 0 c e) = Y 3 (row kb c) e)
    (h : Holds v (v.writes (Elt Ideal) f L) Y) :
    Holds v (v.writes (Elt Ideal) f (⟨Rect.unit (s := S4x2048x256) f3 S1x256x256.size i3, k0_pay76 (k0_pay70 k3) (k0_pay71 d3) (diagP q3 k3 l3) v3 m3 o3⟩
        :: ⟨Rect.unit (s := S4x2048x256) f2 S1x256x256.size i2, k0_pay76 (k0_pay70 k2) (k0_pay71 d2) (diagP q2 k2 l2) v2 m2 o2⟩
        :: ⟨Rect.unit (s := S4x2048x256) f1 S1x256x256.size i1, k0_pay76 (k0_pay70 k1) (k0_pay71 d1) (diagP q1 k1 l1) v1 m1 o1⟩
        :: ⟨Rect.unit (s := S4x2048x256) f0 S1x256x256.size i0, k0_pay76 (k0_pay70 k0) (k0_pay71 d0) (diagP q0 k0 l0) v0 m0 o0⟩ :: L))
      (upQ kb x0 x1 x2 x3 x4 x5 Y 0) := by
  rw [upQ, ← rowsUpto_zero]
  exact read_four L (addQ kb x0 x1 x2 x3 x4 x5) i0 i1 i2 i3 _ _ _ _ e0 e1 e2 e3
    (fun c e => (diag_dq L0 o0 c e).trans (congrArg (· + _) (h0 c e))) (fun c e => (diag_dq L1 o1 c e).trans (congrArg (· + _) (h1 c e)))
    (fun c e => (diag_dq L2 o2 c e).trans (congrArg (· + _) (h2 c e))) (fun c e => (diag_dq L3 o3 c e).trans (congrArg (· + _) (h3 c e))) h

end

/-! ## The stores into the keys' and the values' gradient -/

theorem cast_keys (a : FVec Ideal S256x256 .f32) (J e : Fin 256) : k0_pay2 a (ix3 0 J e) = a (ix2 J e) := by
  pointwise [k0_pay2]

theorem cast_values (a : FVec Ideal S256x128 .f32) (J : Fin 256) (e : Fin 128) : k0_pay3 a (ix3 0 J e) = a (ix2 J e) := by
  pointwise [k0_pay3]

/-- Four stores, one per head, fill the keys' gradient. -/
theorem read_keys {v : View sig .tc .vmem S4x256x256 .f32} {f : v.ty.Contents (Elt Ideal)} (L : List (View.Piece (Elt Ideal) S4x256x256 .f32))
    (i0 : ∀ a, (![0, 0, 0] : Fin 3 → ℕ) a + S1x256x256.size a ≤ S4x256x256.size a) (i1 : ∀ a, (![1, 0, 0] : Fin 3 → ℕ) a + S1x256x256.size a ≤ S4x256x256.size a)
    (i2 : ∀ a, (![2, 0, 0] : Fin 3 → ℕ) a + S1x256x256.size a ≤ S4x256x256.size a) (i3 : ∀ a, (![3, 0, 0] : Fin 3 → ℕ) a + S1x256x256.size a ≤ S4x256x256.size a)
    (w0 w1 w2 w3 : Vec Ideal S1x256x256 .f32) (X : Fin 4 → Fin 256 → Fin 256 → EReal)
    (h0 : ∀ J e, w0 (ix3 0 J e) = X 0 J e) (h1 : ∀ J e, w1 (ix3 0 J e) = X 1 J e)
    (h2 : ∀ J e, w2 (ix3 0 J e) = X 2 J e) (h3 : ∀ J e, w3 (ix3 0 J e) = X 3 J e) (b J e) :
    v.read (Elt Ideal) (v.writes (Elt Ideal) f (⟨Rect.unit (s := S4x256x256) ![3, 0, 0] S1x256x256.size i3, w3⟩ :: ⟨Rect.unit (s := S4x256x256) ![2, 0, 0] S1x256x256.size i2, w2⟩
      :: ⟨Rect.unit (s := S4x256x256) ![1, 0, 0] S1x256x256.size i1, w1⟩ :: ⟨Rect.unit (s := S4x256x256) ![0, 0, 0] S1x256x256.size i0, w0⟩ :: L)) (ix3 b J e) = X b J e := by
  have hit : ∀ (b : Fin 4) (ib : ∀ a, (![b.val, 0, 0] : Fin 3 → ℕ) a + S1x256x256.size a ≤ S4x256x256.size a) (w : Vec Ideal S1x256x256 .f32) (M : List (View.Piece (Elt Ideal) S4x256x256 .f32)),
      v.read (Elt Ideal) (v.writes (Elt Ideal) f (⟨Rect.unit (s := S4x256x256) ![b.val, 0, 0] S1x256x256.size ib, w⟩ :: M)) (ix3 b J e) = w (ix3 0 J e) := by
    intro b ib w M
    refine View.read_writes_cons_unit_of_mem v f ib w M (ix3 b J e) (ix3 0 J e) rfl fun a => ?_
    fin_cases a
    · rfl
    · exact (Nat.zero_add _).symm
    · exact (Nat.zero_add _).symm
  have miss : ∀ (b b' : Fin 4) (ib : ∀ a, (![b.val, 0, 0] : Fin 3 → ℕ) a + S1x256x256.size a ≤ S4x256x256.size a) (w : Vec Ideal S1x256x256 .f32) (M : List (View.Piece (Elt Ideal) S4x256x256 .f32)),
      b'.val < b.val → v.read (Elt Ideal) (v.writes (Elt Ideal) f (⟨Rect.unit (s := S4x256x256) ![b.val, 0, 0] S1x256x256.size ib, w⟩ :: M)) (ix3 b' J e)
        = v.read (Elt Ideal) (v.writes (Elt Ideal) f M) (ix3 b' J e) :=
    fun b b' ib w M h => View.read_writes_cons_unit_of_not_mem v f ib w M (ix3 b' J e) rfl 0 (Or.inl h)
  fin_cases b
  · exact (miss 3 0 i3 w3 _ (by decide)).trans ((miss 2 0 i2 w2 _ (by decide)).trans ((miss 1 0 i1 w1 _ (by decide)).trans ((hit 0 i0 w0 L).trans (h0 J e))))
  · exact (miss 3 1 i3 w3 _ (by decide)).trans ((miss 2 1 i2 w2 _ (by decide)).trans ((hit 1 i1 w1 _).trans (h1 J e)))
  · exact (miss 3 2 i3 w3 _ (by decide)).trans ((hit 2 i2 w2 _).trans (h2 J e))
  · exact (hit 3 i3 w3 _).trans (h3 J e)

/-- Four stores, one per head, fill the values' gradient. -/
theorem read_values {v : View sig .tc .vmem S4x256x128 .f32} {f : v.ty.Contents (Elt Ideal)} (L : List (View.Piece (Elt Ideal) S4x256x128 .f32))
    (i0 : ∀ a, (![0, 0, 0] : Fin 3 → ℕ) a + S1x256x128.size a ≤ S4x256x128.size a) (i1 : ∀ a, (![1, 0, 0] : Fin 3 → ℕ) a + S1x256x128.size a ≤ S4x256x128.size a)
    (i2 : ∀ a, (![2, 0, 0] : Fin 3 → ℕ) a + S1x256x128.size a ≤ S4x256x128.size a) (i3 : ∀ a, (![3, 0, 0] : Fin 3 → ℕ) a + S1x256x128.size a ≤ S4x256x128.size a)
    (w0 w1 w2 w3 : Vec Ideal S1x256x128 .f32) (X : Fin 4 → Fin 256 → Fin 128 → EReal)
    (h0 : ∀ J e, w0 (ix3 0 J e) = X 0 J e) (h1 : ∀ J e, w1 (ix3 0 J e) = X 1 J e)
    (h2 : ∀ J e, w2 (ix3 0 J e) = X 2 J e) (h3 : ∀ J e, w3 (ix3 0 J e) = X 3 J e) (b J e) :
    v.read (Elt Ideal) (v.writes (Elt Ideal) f (⟨Rect.unit (s := S4x256x128) ![3, 0, 0] S1x256x128.size i3, w3⟩ :: ⟨Rect.unit (s := S4x256x128) ![2, 0, 0] S1x256x128.size i2, w2⟩
      :: ⟨Rect.unit (s := S4x256x128) ![1, 0, 0] S1x256x128.size i1, w1⟩ :: ⟨Rect.unit (s := S4x256x128) ![0, 0, 0] S1x256x128.size i0, w0⟩ :: L)) (ix3 b J e) = X b J e := by
  have hit : ∀ (b : Fin 4) (ib : ∀ a, (![b.val, 0, 0] : Fin 3 → ℕ) a + S1x256x128.size a ≤ S4x256x128.size a) (w : Vec Ideal S1x256x128 .f32) (M : List (View.Piece (Elt Ideal) S4x256x128 .f32)),
      v.read (Elt Ideal) (v.writes (Elt Ideal) f (⟨Rect.unit (s := S4x256x128) ![b.val, 0, 0] S1x256x128.size ib, w⟩ :: M)) (ix3 b J e) = w (ix3 0 J e) := by
    intro b ib w M
    refine View.read_writes_cons_unit_of_mem v f ib w M (ix3 b J e) (ix3 0 J e) rfl fun a => ?_
    fin_cases a
    · rfl
    · exact (Nat.zero_add _).symm
    · exact (Nat.zero_add _).symm
  have miss : ∀ (b b' : Fin 4) (ib : ∀ a, (![b.val, 0, 0] : Fin 3 → ℕ) a + S1x256x128.size a ≤ S4x256x128.size a) (w : Vec Ideal S1x256x128 .f32) (M : List (View.Piece (Elt Ideal) S4x256x128 .f32)),
      b'.val < b.val → v.read (Elt Ideal) (v.writes (Elt Ideal) f (⟨Rect.unit (s := S4x256x128) ![b.val, 0, 0] S1x256x128.size ib, w⟩ :: M)) (ix3 b' J e)
        = v.read (Elt Ideal) (v.writes (Elt Ideal) f M) (ix3 b' J e) :=
    fun b b' ib w M h => View.read_writes_cons_unit_of_not_mem v f ib w M (ix3 b' J e) rfl 0 (Or.inl h)
  fin_cases b
  · exact (miss 3 0 i3 w3 _ (by decide)).trans ((miss 2 0 i2 w2 _ (by decide)).trans ((miss 1 0 i1 w1 _ (by decide)).trans ((hit 0 i0 w0 L).trans (h0 J e))))
  · exact (miss 3 1 i3 w3 _ (by decide)).trans ((miss 2 1 i2 w2 _ (by decide)).trans ((hit 1 i1 w1 _).trans (h1 J e)))
  · exact (miss 3 2 i3 w3 _ (by decide)).trans ((hit 2 i2 w2 _).trans (h2 J e))
  · exact (hit 3 i3 w3 _).trans (h3 J e)

variable (𝒱 : Variants) (c : Dev nD) (bd : Option 𝒱.V) (i : grid0.Coords) (arg2 : Memref sig .tc .vmem S4x2048x256 .bf16) (harg2 : arg2.IsWhole) (arg3 : Memref sig .tc .vmem S4x256x256 .bf16) (harg3 : arg3.IsWhole)
  (arg4 : Memref sig .tc .vmem S4x256x128 .bf16) (harg4 : arg4.IsWhole) (arg5 : Memref sig .tc .vmem S2048x512 .f32) (harg5 : arg5.IsWhole)
  (arg6 : Memref sig .tc .vmem S4x8x2048 .f32) (harg6 : arg6.IsWhole) (arg7 : Memref sig .tc .vmem S4x8x2048 .f32) (harg7 : arg7.IsWhole)
  (arg8 : Memref sig .tc .vmem S4x2048x256 .f32) (harg8 : arg8.IsWhole) (arg9 : Memref sig .tc .vmem S4x256x256 .f32) (harg9 : arg9.IsWhole)
  (arg10 : Memref sig .tc .vmem S4x256x128 .f32) (harg10 : arg10.IsWhole)
  (v5 : BitVec 32) (v80 : FVec Ideal S256x128 .f32) (v94 : FVec Ideal S256x256 .f32) (v127 : FVec Ideal S256x128 .f32) (v141 : FVec Ideal S256x256 .f32)
  (v174 : FVec Ideal S256x128 .f32) (v188 : FVec Ideal S256x256 .f32) (v199 : BitVec 32) (v204 : FVec Ideal S256x256 .bf16) (v221 : FVec Ideal S256x128 .f32)
  (v233 : FVec Ideal S256x256 .bf16) (v235 : FVec Ideal S256x256 .f32)
  (v249 : BitVec 32) (x0 : Vec Ideal S4x2048x256 .bf16) (x1 : Vec Ideal S4x256x256 .bf16) (x2 : Vec Ideal S4x256x128 .bf16) (x3 : Vec Ideal S2048x512 .f32)
  (x4 x5 : Vec Ideal S4x8x2048 .f32)

theorem second_loop (G : BufTy.Contents (Elt Ideal) arg8.view.ty) (p : Carry) :
    st_k0_t2 (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 v249 (harg2.unread x0) (harg3.unread x1) (harg4.unread x2) (harg5.unread x3) (harg6.unread x4) (harg7.unread x5) G p (k0_t2_loop i).trips = (p, []) := by
  rw [trips2_eq i]
  rfl

/-- The carried sums at the end of the first loop. -/
theorem first_carries (G1 : BufTy.Contents (Elt Ideal) arg8.view.ty) (p : Carry) {T1 : ℕ} (h1 : T1 = (k0_t1_loop i).trips)
    (hp : Carries p (upK (kbOf i) x0 x1 x2 x3 x4 x5 0) (upV (kbOf i) x0 x1 x3 x4 0)) :
    Carries (st_k0_t1 (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 (harg2.unread x0) (harg3.unread x1) (harg4.unread x2) (harg5.unread x3) (harg6.unread x4) (harg7.unread x5) G1 p T1).1
        (outK (kbOf i) x0 x1 x2 x3 x4 x5) (outV (kbOf i) x0 x1 x3 x4) := by
  subst h1
  have H := loop_carry 𝒱 c bd i arg2 harg2 arg3 harg3 arg4 harg4 arg5 harg5 arg6 harg6 arg7 harg7 arg8 harg8 arg9 harg9 arg10 harg10 v5 v80 v94 v127 v141 v174 v188 v199 v204 v221 v233 v235 x0 x1 x2 x3 x4 x5 G1 p hp _ le_rfl
  have eK : upK (kbOf i) x0 x1 x2 x3 x4 x5 (k0_t1_loop i).trips = outK (kbOf i) x0 x1 x2 x3 x4 x5 := by
    funext b J e
    rw [trips_eq]
    exact upto_all (kbOf i) _ fun n hn => addK_before (kbOf i) x0 x1 x2 x3 x4 x5 n hn b J e
  have eV : upV (kbOf i) x0 x1 x3 x4 (k0_t1_loop i).trips = outV (kbOf i) x0 x1 x3 x4 := by
    funext b J e
    rw [trips_eq]
    exact upto_all (kbOf i) _ fun n hn => addV_before (kbOf i) x0 x1 x3 x4 n hn b J e
  rw [← eK, ← eV]
  exact H

/-- The second loop makes no trip, so it keeps what the first one carried. -/
theorem second_carries (G2 : BufTy.Contents (Elt Ideal) arg8.view.ty) {T2 : ℕ} (h2 : T2 = (k0_t2_loop i).trips) (p2 : Carry) {A B}
    (hp : Carries p2 A B) : Carries (st_k0_t2 (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 v249 (harg2.unread x0) (harg3.unread x1) (harg4.unread x2) (harg5.unread x3) (harg6.unread x4) (harg7.unread x5) G2 p2 T2).1 A B := by
  subst h2
  rw [second_loop]
  exact hp

/-- From the state the diagonal step leaves to the end of both loops. -/
theorem both_loops (base G2 : BufTy.Contents (Elt Ideal) arg8.view.ty) (D : List (View.Piece (Elt Ideal) S4x2048x256 .f32)) (p : Carry) (Y) {T1 T2 : ℕ}
    (h1 : T1 = (k0_t1_loop i).trips) (h2 : T2 = (k0_t2_loop i).trips) (p2 : Carry)
    (h3 : p2 = (st_k0_t1 (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 (harg2.unread x0) (harg3.unread x1) (harg4.unread x2) (harg5.unread x3) (harg6.unread x4) (harg7.unread x5) (arg8.view.writes (Elt Ideal) base D) p T1).1)
    (hp : Carries p (upK (kbOf i) x0 x1 x2 x3 x4 x5 0) (upV (kbOf i) x0 x1 x3 x4 0))
    (hG : Holds arg8.view (arg8.view.writes (Elt Ideal) base D) (upQ (kbOf i) x0 x1 x2 x3 x4 x5 Y 0)) :
    Carries (st_k0_t2 (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 v249 (harg2.unread x0) (harg3.unread x1) (harg4.unread x2) (harg5.unread x3) (harg6.unread x4) (harg7.unread x5) G2 p2 T2).1
        (outK (kbOf i) x0 x1 x2 x3 x4 x5) (outV (kbOf i) x0 x1 x3 x4)
      ∧ Holds arg8.view (arg8.view.writes (Elt Ideal) base
          ((st_k0_t2 (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 v249 (harg2.unread x0) (harg3.unread x1) (harg4.unread x2) (harg5.unread x3) (harg6.unread x4) (harg7.unread x5) G2 p2 T2).2
          ++ ((st_k0_t1 (F := Ideal) 𝒱 c bd i arg2 harg2 arg3 harg3 arg4 harg4 arg5 harg5 arg6 harg6 arg7 harg7 arg8 harg8 arg9 harg9 arg10 harg10 v5 v80 v94 v127 v141 v174 v188 v199 v204 v221 v233 v235 (harg2.unread x0) (harg3.unread x1) (harg4.unread x2) (harg5.unread x3) (harg6.unread x4) (harg7.unread x5) (arg8.view.writes (Elt Ideal) base D) p T1).2 ++ D)))
        (outQ (kbOf i) x0 x1 x2 x3 x4 x5 Y) := by
  subst h1 h2 h3
  have H := loop_upto 𝒱 c bd i arg2 harg2 arg3 harg3 arg4 harg4 arg5 harg5 arg6 harg6 arg7 harg7 arg8 harg8 arg9 harg9 arg10 harg10 v5 v80 v94 v127 v141 v174 v188 v199 v204 v221 v233 v235 x0 x1 x2 x3 x4 x5 _ p Y hp hG _ le_rfl
  have eQ : upQ (kbOf i) x0 x1 x2 x3 x4 x5 Y (k0_t1_loop i).trips = outQ (kbOf i) x0 x1 x2 x3 x4 x5 Y := by
    funext b R e
    rw [trips_eq]
    exact rowsUpto_all (kbOf i) _ _ (fun b R e h => addQ_before (kbOf i) x0 x1 x2 x3 x4 x5 b R e h) b R e
  have C := first_carries 𝒱 c bd i arg2 harg2 arg3 harg3 arg4 harg4 arg5 harg5 arg6 harg6 arg7 harg7 arg8 harg8 arg9 harg9 arg10 harg10 v5 v80 v94 v127 v141 v174 v188 v199 v204 v221 v233 v235 x0 x1 x2 x3 x4 x5 (arg8.view.writes (Elt Ideal) base D) p rfl hp
  rw [second_loop]
  refine ⟨C, ?_⟩
  rw [← eQ]
  have T := H.2
  rw [List.nil_append, View.writes_append]
  exact T

end Cert.KernelIdeal.Hand

end
-- ==== Proof.RunA.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The condition of the body's one conditional: the first key block. -/
abbrev first (i : grid0.Coords) : Prop := (Scalar.cmpi .ne (Scalar.extui (Scalar.cmpi .eq (BitVec.ofNat 32 (i 1).val) 0#32)) 0#32) = 1#1

set_option maxHeartbeats 1000000 in
/-- The body at the first key block: what it writes through each output buffer is found by the run. -/
def runA (c : Dev nD) (i : grid0.Coords) (arg2 : Memref sig .tc .vmem S4x2048x256 .bf16) (harg2 : arg2.IsWhole) (arg3 : Memref sig .tc .vmem S4x256x256 .bf16) (harg3 : arg3.IsWhole) (arg4 : Memref sig .tc .vmem S4x256x128 .bf16) (harg4 : arg4.IsWhole) (arg5 : Memref sig .tc .vmem S2048x512 .f32) (harg5 : arg5.IsWhole) (arg6 : Memref sig .tc .vmem S4x8x2048 .f32) (harg6 : arg6.IsWhole) (arg7 : Memref sig .tc .vmem S4x8x2048 .f32) (harg7 : arg7.IsWhole) (arg8 : Memref sig .tc .vmem S4x2048x256 .f32) (harg8 : arg8.IsWhole) (arg9 : Memref sig .tc .vmem S4x256x256 .f32) (harg9 : arg9.IsWhole) (arg10 : Memref sig .tc .vmem S4x256x128 .f32) (harg10 : arg10.IsWhole) (hc0 : first i)
    (x0 : Vec F S4x2048x256 .bf16) (x1 : Vec F S4x256x256 .bf16) (x2 : Vec F S4x256x128 .bf16) (x3 : Vec F S2048x512 .f32) (x4 : Vec F S4x8x2048 .f32) (x5 : Vec F S4x8x2048 .f32)   :
    Σ' (L6 : List (View.Piece (Elt F) S4x2048x256 .f32)) (L7 : List (View.Piece (Elt F) S4x256x256 .f32)), { L8 : List (View.Piece (Elt F) S4x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) arg8.view.junk L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_attn_bwd_eq_skeleton]; unfold cc0_attn_bwd_skel
    simp only [k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexact H6
    isplitl [H7]
    · iexists _; iexact H7
    iexists _; iexact H8

end Cert.KernelIdeal.Hand

end
-- ==== Proof.ValA.lean ====
module

public import proofs.«01_k».proof.Proof.Diag
public import proofs.«01_k».proof.Proof.RunA

@[expose] public section

set_option maxRecDepth 16384
set_option maxHeartbeats 1000000

noncomputable section

namespace Cert.KernelIdeal.Hand

open Idealize.ShloMosaic Idealize.ShloMosaic.TcCoe
open Cert.KernelIdeal.Gen

/-! # What the first key block's grid point leaves -/

variable (c : Dev nD) (i : grid0.Coords) (arg2 : Memref sig .tc .vmem S4x2048x256 .bf16) (harg2 : arg2.IsWhole) (arg3 : Memref sig .tc .vmem S4x256x256 .bf16) (harg3 : arg3.IsWhole)
  (arg4 : Memref sig .tc .vmem S4x256x128 .bf16) (harg4 : arg4.IsWhole) (arg5 : Memref sig .tc .vmem S2048x512 .f32) (harg5 : arg5.IsWhole)
  (arg6 : Memref sig .tc .vmem S4x8x2048 .f32) (harg6 : arg6.IsWhole) (arg7 : Memref sig .tc .vmem S4x8x2048 .f32) (harg7 : arg7.IsWhole)
  (arg8 : Memref sig .tc .vmem S4x2048x256 .f32) (harg8 : arg8.IsWhole) (arg9 : Memref sig .tc .vmem S4x256x256 .f32) (harg9 : arg9.IsWhole)
  (arg10 : Memref sig .tc .vmem S4x256x128 .f32) (harg10 : arg10.IsWhole)
  (x0 : Vec Ideal S4x2048x256 .bf16) (x1 : Vec Ideal S4x256x256 .bf16) (x2 : Vec Ideal S4x256x128 .bf16) (x3 : Vec Ideal S2048x512 .f32)
  (x4 x5 : Vec Ideal S4x8x2048 .f32)

/-- The body sets the whole buffer of the queries' gradient to zero first. -/
theorem zero_holds (v : View sig .tc .vmem S4x2048x256 .f32) (f : v.ty.Contents (Elt Ideal)) :
    Holds v (v.writes (Elt Ideal) f [⟨Rect.unit (s := S4x2048x256) ![0, 0, 0] S4x2048x256.size inb_S4x2048x256_S4x2048x256_0_0_0, k0_pay62 (F := Ideal)⟩])
      (fun _ _ _ => 0) := by
  intro b R e
  refine (View.read_writes_cons_unit_of_mem (s := S4x2048x256) v f inb_S4x2048x256_S4x2048x256_0_0_0 (k0_pay62 (F := Ideal)) [] (ix3 b R e) (ix3 b R e) rfl
    (by intro a; fin_cases a <;> exact (Nat.zero_add _).symm)).trans ?_
  pointwise [k0_pay62]

/-- The diagonal step at the first key block: each head's load is of the zeros, its rows not being stored yet. -/
theorem diagA_rows :
    Holds arg8.view (arg8.view.writes (Elt Ideal) arg8.view.junk (⟨Rect.unit (s := S4x2048x256) (k0_off10 i) S1x256x256.size (k0_off10_inb i),
        k0_pay101 (runA.sl.r_19 (F := Ideal) c arg3 harg3 x1) (runA.sl.r_21 c i arg2 harg2 arg3 harg3 arg4 harg4 arg5 harg5 arg6 harg6 arg7 harg7 x0 x1 x2 x3 x4 x5)
          (runA.sl.v237 c i arg2 harg2 arg3 harg3 arg4 harg4 arg5 harg5 arg6 harg6 arg7 harg7 arg8 x0 x1 x2 x3 x4 x5)⟩
        :: runA.sl.H6_4 c i arg2 harg2 arg3 harg3 arg4 harg4 arg5 harg5 arg6 harg6 arg7 harg7 arg8 x0 x1 x2 x3 x4 x5))
      (upQ (kbOf i) x0 x1 x2 x3 x4 x5 (fun _ _ _ => 0) 0) := by
  have L0 := loaded harg2 harg3 harg4 harg5 harg6 harg7 x0 x1 x2 x3 x4 x5 0 (kbOf i) (k0_off1_inb i) inb_S4x256x256_S1x256x256_0_0_0
    (k0_off2_inb i) (k0_off3_inb i) inb_S4x256x128_S1x256x128_0_0_0 (k0_off3_inb i)
    (k0_off1_eq i) rfl (k0_off2_eq i) (k0_off3_eq i) rfl (k0_off3_eq i)
  have L1 := loaded harg2 harg3 harg4 harg5 harg6 harg7 x0 x1 x2 x3 x4 x5 1 (kbOf i) (k0_off4_inb i) inb_S4x256x256_S1x256x256_1_0_0
    (k0_off5_inb i) (k0_off6_inb i) inb_S4x256x128_S1x256x128_1_0_0 (k0_off6_inb i)
    (k0_off4_eq i) rfl (k0_off5_eq i) (k0_off6_eq i) rfl (k0_off6_eq i)
  have L2 := loaded harg2 harg3 harg4 harg5 harg6 harg7 x0 x1 x2 x3 x4 x5 2 (kbOf i) (k0_off7_inb i) inb_S4x256x256_S1x256x256_2_0_0
    (k0_off8_inb i) (k0_off9_inb i) inb_S4x256x128_S1x256x128_2_0_0 (k0_off9_inb i)
    (k0_off7_eq i) rfl (k0_off8_eq i) (k0_off9_eq i) rfl (k0_off9_eq i)
  have L3 := loaded harg2 harg3 harg4 harg5 harg6 harg7 x0 x1 x2 x3 x4 x5 3 (kbOf i) (k0_off10_inb i) inb_S4x256x256_S1x256x256_3_0_0
    (k0_off11_inb i) (k0_off12_inb i) inb_S4x256x128_S1x256x128_3_0_0 (k0_off12_inb i)
    (k0_off10_eq i) rfl (k0_off11_eq i) (k0_off12_eq i) rfl (k0_off12_eq i)

  have hz := zero_holds arg8.view arg8.view.junk
  have z0 := hz.load (b := 0) (n := kbOf i) (k0_off1_inb i) (k0_off1_eq i)
  have H0 := read_one (n := kbOf i) _ 0 (k0_off1_inb i) _ (k0_off1_eq i) (fun R e => 0 + addQ (kbOf i) x0 x1 x2 x3 x4 x5 0 R e)
    (fun c e => (diag_dq L0 _ c e).trans (congrArg (· + addQ (kbOf i) x0 x1 x2 x3 x4 x5 0 (row (kbOf i) c) e) (z0 c e))) hz
  have z1 := fun c e => (H0.load (b := 1) (n := kbOf i) (k0_off4_inb i) (k0_off4_eq i) c e).trans (if_neg fun h => absurd h.1 (by decide))
  have H1 := read_one (n := kbOf i) _ 1 (k0_off4_inb i) _ (k0_off4_eq i) (fun R e => 0 + addQ (kbOf i) x0 x1 x2 x3 x4 x5 1 R e)
    (fun c e => (diag_dq L1 _ c e).trans (congrArg (· + addQ (kbOf i) x0 x1 x2 x3 x4 x5 1 (row (kbOf i) c) e) (z1 c e))) H0
  have z2 := fun c e => (H1.load (b := 2) (n := kbOf i) (k0_off7_inb i) (k0_off7_eq i) c e).trans (((if_neg fun h => absurd h.1 (by decide))).trans (if_neg fun h => absurd h.1 (by decide)))
  have H2 := read_one (n := kbOf i) _ 2 (k0_off7_inb i) _ (k0_off7_eq i) (fun R e => 0 + addQ (kbOf i) x0 x1 x2 x3 x4 x5 2 R e)
    (fun c e => (diag_dq L2 _ c e).trans (congrArg (· + addQ (kbOf i) x0 x1 x2 x3 x4 x5 2 (row (kbOf i) c) e) (z2 c e))) H1
  have z3 := fun c e => (H2.load (b := 3) (n := kbOf i) (k0_off10_inb i) (k0_off10_eq i) c e).trans (((((if_neg fun h => absurd h.1 (by decide))).trans (if_neg fun h => absurd h.1 (by decide)))).trans (if_neg fun h => absurd h.1 (by decide)))
  exact diag_rows [⟨Rect.unit (s := S4x2048x256) ![0, 0, 0] S4x2048x256.size inb_S4x2048x256_S4x2048x256_0_0_0, k0_pay62 (F := Ideal)⟩]
    _ _ _ _ (k0_off1_eq i) (k0_off4_eq i) (k0_off7_eq i) (k0_off10_eq i) L0 L1 L2 L3 _ _ _ _ z0 z1 z2 z3 hz

variable (hc0 : first i)

/-- The queries' gradient: the block's part is added. -/
theorem runA_rows :
    Holds arg8.view (arg8.view.writes (Elt Ideal) arg8.view.junk (runA (F := Ideal) c i arg2 harg2 arg3 harg3 arg4 harg4 arg5 harg5 arg6 harg6 arg7 harg7 arg8 harg8 arg9 harg9 arg10 harg10 hc0 x0 x1 x2 x3 x4 x5).1)
      (outQ (kbOf i) x0 x1 x2 x3 x4 x5 (fun _ _ _ => 0)) := by
  have L0 := loaded harg2 harg3 harg4 harg5 harg6 harg7 x0 x1 x2 x3 x4 x5 0 (kbOf i) (k0_off1_inb i) inb_S4x256x256_S1x256x256_0_0_0
    (k0_off2_inb i) (k0_off3_inb i) inb_S4x256x128_S1x256x128_0_0_0 (k0_off3_inb i)
    (k0_off1_eq i) rfl (k0_off2_eq i) (k0_off3_eq i) rfl (k0_off3_eq i)
  have L1 := loaded harg2 harg3 harg4 harg5 harg6 harg7 x0 x1 x2 x3 x4 x5 1 (kbOf i) (k0_off4_inb i) inb_S4x256x256_S1x256x256_1_0_0
    (k0_off5_inb i) (k0_off6_inb i) inb_S4x256x128_S1x256x128_1_0_0 (k0_off6_inb i)
    (k0_off4_eq i) rfl (k0_off5_eq i) (k0_off6_eq i) rfl (k0_off6_eq i)
  have L2 := loaded harg2 harg3 harg4 harg5 harg6 harg7 x0 x1 x2 x3 x4 x5 2 (kbOf i) (k0_off7_inb i) inb_S4x256x256_S1x256x256_2_0_0
    (k0_off8_inb i) (k0_off9_inb i) inb_S4x256x128_S1x256x128_2_0_0 (k0_off9_inb i)
    (k0_off7_eq i) rfl (k0_off8_eq i) (k0_off9_eq i) rfl (k0_off9_eq i)
  have L3 := loaded harg2 harg3 harg4 harg5 harg6 harg7 x0 x1 x2 x3 x4 x5 3 (kbOf i) (k0_off10_inb i) inb_S4x256x256_S1x256x256_3_0_0
    (k0_off11_inb i) (k0_off12_inb i) inb_S4x256x128_S1x256x128_3_0_0 (k0_off12_inb i)
    (k0_off10_eq i) rfl (k0_off11_eq i) (k0_off12_eq i) rfl (k0_off12_eq i)

  unfold runA
  dsimp only
  refine (both_loops Variants.none c none i arg2 harg2 arg3 harg3 arg4 harg4 arg5 harg5 arg6 harg6 arg7 harg7 arg8 harg8 arg9 harg9 arg10 harg10 _ _ _ _ _ _ _ _ _ _ _ _ _ x0 x1 x2 x3 x4 x5 arg8.view.junk _ _ _ (fun _ _ _ => 0) ?_ ?_ _ ?_ ?_ ?_).2
  · rfl
  · rfl
  · simp only [Prod.mk.eta]
  · exact diag_carries L0 L1 L2 L3
  · exact diagA_rows c i arg2 harg2 arg3 harg3 arg4 harg4 arg5 harg5 arg6 harg6 arg7 harg7 arg8 x0 x1 x2 x3 x4 x5

/-- The keys' gradient. -/
theorem runA_keys (f : arg9.view.ty.Contents (Elt Ideal)) (b J e) :
    arg9.view.read (Elt Ideal) (arg9.view.writes (Elt Ideal) f (runA (F := Ideal) c i arg2 harg2 arg3 harg3 arg4 harg4 arg5 harg5 arg6 harg6 arg7 harg7 arg8 harg8 arg9 harg9 arg10 harg10 hc0 x0 x1 x2 x3 x4 x5).2.1) (ix3 b J e)
      = outK (kbOf i) x0 x1 x2 x3 x4 x5 b J e := by
  have L0 := loaded harg2 harg3 harg4 harg5 harg6 harg7 x0 x1 x2 x3 x4 x5 0 (kbOf i) (k0_off1_inb i) inb_S4x256x256_S1x256x256_0_0_0
    (k0_off2_inb i) (k0_off3_inb i) inb_S4x256x128_S1x256x128_0_0_0 (k0_off3_inb i)
    (k0_off1_eq i) rfl (k0_off2_eq i) (k0_off3_eq i) rfl (k0_off3_eq i)
  have L1 := loaded harg2 harg3 harg4 harg5 harg6 harg7 x0 x1 x2 x3 x4 x5 1 (kbOf i) (k0_off4_inb i) inb_S4x256x256_S1x256x256_1_0_0
    (k0_off5_inb i) (k0_off6_inb i) inb_S4x256x128_S1x256x128_1_0_0 (k0_off6_inb i)
    (k0_off4_eq i) rfl (k0_off5_eq i) (k0_off6_eq i) rfl (k0_off6_eq i)
  have L2 := loaded harg2 harg3 harg4 harg5 harg6 harg7 x0 x1 x2 x3 x4 x5 2 (kbOf i) (k0_off7_inb i) inb_S4x256x256_S1x256x256_2_0_0
    (k0_off8_inb i) (k0_off9_inb i) inb_S4x256x128_S1x256x128_2_0_0 (k0_off9_inb i)
    (k0_off7_eq i) rfl (k0_off8_eq i) (k0_off9_eq i) rfl (k0_off9_eq i)
  have L3 := loaded harg2 harg3 harg4 harg5 harg6 harg7 x0 x1 x2 x3 x4 x5 3 (kbOf i) (k0_off10_inb i) inb_S4x256x256_S1x256x256_3_0_0
    (k0_off11_inb i) (k0_off12_inb i) inb_S4x256x128_S1x256x128_3_0_0 (k0_off12_inb i)
    (k0_off10_eq i) rfl (k0_off11_eq i) (k0_off12_eq i) rfl (k0_off12_eq i)

  unfold runA
  dsimp only
  unfold runA.sl.r_24 runA.sl.r_26
  refine read_keys [] _ _ _ _ _ _ _ _ (outK (kbOf i) x0 x1 x2 x3 x4 x5) (fun J e => (cast_keys _ J e).trans ?_) (fun J e => (cast_keys _ J e).trans ?_)
    (fun J e => (cast_keys _ J e).trans ?_) (fun J e => (cast_keys _ J e).trans ?_) b J e
  · refine Carries.k0 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3
  · refine Carries.k1 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3
  · refine Carries.k2 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3
  · refine Carries.k3 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3

/-- The values' gradient. -/
theorem runA_values (f : arg10.view.ty.Contents (Elt Ideal)) (b J e) :
    arg10.view.read (Elt Ideal) (arg10.view.writes (Elt Ideal) f (runA (F := Ideal) c i arg2 harg2 arg3 harg3 arg4 harg4 arg5 harg5 arg6 harg6 arg7 harg7 arg8 harg8 arg9 harg9 arg10 harg10 hc0 x0 x1 x2 x3 x4 x5).2.2.1) (ix3 b J e)
      = outV (kbOf i) x0 x1 x3 x4 b J e := by
  have L0 := loaded harg2 harg3 harg4 harg5 harg6 harg7 x0 x1 x2 x3 x4 x5 0 (kbOf i) (k0_off1_inb i) inb_S4x256x256_S1x256x256_0_0_0
    (k0_off2_inb i) (k0_off3_inb i) inb_S4x256x128_S1x256x128_0_0_0 (k0_off3_inb i)
    (k0_off1_eq i) rfl (k0_off2_eq i) (k0_off3_eq i) rfl (k0_off3_eq i)
  have L1 := loaded harg2 harg3 harg4 harg5 harg6 harg7 x0 x1 x2 x3 x4 x5 1 (kbOf i) (k0_off4_inb i) inb_S4x256x256_S1x256x256_1_0_0
    (k0_off5_inb i) (k0_off6_inb i) inb_S4x256x128_S1x256x128_1_0_0 (k0_off6_inb i)
    (k0_off4_eq i) rfl (k0_off5_eq i) (k0_off6_eq i) rfl (k0_off6_eq i)
  have L2 := loaded harg2 harg3 harg4 harg5 harg6 harg7 x0 x1 x2 x3 x4 x5 2 (kbOf i) (k0_off7_inb i) inb_S4x256x256_S1x256x256_2_0_0
    (k0_off8_inb i) (k0_off9_inb i) inb_S4x256x128_S1x256x128_2_0_0 (k0_off9_inb i)
    (k0_off7_eq i) rfl (k0_off8_eq i) (k0_off9_eq i) rfl (k0_off9_eq i)
  have L3 := loaded harg2 harg3 harg4 harg5 harg6 harg7 x0 x1 x2 x3 x4 x5 3 (kbOf i) (k0_off10_inb i) inb_S4x256x256_S1x256x256_3_0_0
    (k0_off11_inb i) (k0_off12_inb i) inb_S4x256x128_S1x256x128_3_0_0 (k0_off12_inb i)
    (k0_off10_eq i) rfl (k0_off11_eq i) (k0_off12_eq i) rfl (k0_off12_eq i)

  unfold runA
  dsimp only
  unfold runA.sl.r_23 runA.sl.r_25
  refine read_values [] _ _ _ _ _ _ _ _ (outV (kbOf i) x0 x1 x3 x4) (fun J e => (cast_values _ J e).trans ?_) (fun J e => (cast_values _ J e).trans ?_)
    (fun J e => (cast_values _ J e).trans ?_) (fun J e => (cast_values _ J e).trans ?_) b J e
  · refine Carries.v0 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3
  · refine Carries.v1 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3
  · refine Carries.v2 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3
  · refine Carries.v3 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3

end Cert.KernelIdeal.Hand

end
-- ==== Proof.RunB.lean ====
module

public import proofs.«01_k».proof.Proof.RunA
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- The body at a later key block: what it writes through each output buffer is found by the run. -/
def runB (c : Dev nD) (i : grid0.Coords) (arg2 : Memref sig .tc .vmem S4x2048x256 .bf16) (harg2 : arg2.IsWhole) (arg3 : Memref sig .tc .vmem S4x256x256 .bf16) (harg3 : arg3.IsWhole) (arg4 : Memref sig .tc .vmem S4x256x128 .bf16) (harg4 : arg4.IsWhole) (arg5 : Memref sig .tc .vmem S2048x512 .f32) (harg5 : arg5.IsWhole) (arg6 : Memref sig .tc .vmem S4x8x2048 .f32) (harg6 : arg6.IsWhole) (arg7 : Memref sig .tc .vmem S4x8x2048 .f32) (harg7 : arg7.IsWhole) (arg8 : Memref sig .tc .vmem S4x2048x256 .f32) (harg8 : arg8.IsWhole) (arg9 : Memref sig .tc .vmem S4x256x256 .f32) (harg9 : arg9.IsWhole) (arg10 : Memref sig .tc .vmem S4x256x128 .f32) (harg10 : arg10.IsWhole) (hc0 : ¬ first i)
    (x0 : Vec F S4x2048x256 .bf16) (x1 : Vec F S4x256x256 .bf16) (x2 : Vec F S4x256x128 .bf16) (x3 : Vec F S2048x512 .f32) (x4 : Vec F S4x8x2048 .f32) (x5 : Vec F S4x8x2048 .f32) (y6 : Vec F S4x2048x256 .f32) :
    Σ' (L6 : List (View.Piece (Elt F) S4x2048x256 .f32)) (L7 : List (View.Piece (Elt F) S4x256x256 .f32)), { L8 : List (View.Piece (Elt F) S4x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread y6) L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_attn_bwd_eq_skeleton]; unfold cc0_attn_bwd_skel
    simp only [k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexact H6
    isplitl [H7]
    · iexists _; iexact H7
    iexists _; iexact H8

end Cert.KernelIdeal.Hand

end
-- ==== Proof.ValB.lean ====
module

public import proofs.«01_k».proof.Proof.Diag
public import proofs.«01_k».proof.Proof.RunB

@[expose] public section

set_option maxRecDepth 16384
set_option maxHeartbeats 1000000

noncomputable section

namespace Cert.KernelIdeal.Hand

open Idealize.ShloMosaic Idealize.ShloMosaic.TcCoe
open Cert.KernelIdeal.Gen

/-! # What a grid point past the first key block leaves -/

variable (c : Dev nD) (i : grid0.Coords) (arg2 : Memref sig .tc .vmem S4x2048x256 .bf16) (harg2 : arg2.IsWhole) (arg3 : Memref sig .tc .vmem S4x256x256 .bf16) (harg3 : arg3.IsWhole)
  (arg4 : Memref sig .tc .vmem S4x256x128 .bf16) (harg4 : arg4.IsWhole) (arg5 : Memref sig .tc .vmem S2048x512 .f32) (harg5 : arg5.IsWhole)
  (arg6 : Memref sig .tc .vmem S4x8x2048 .f32) (harg6 : arg6.IsWhole) (arg7 : Memref sig .tc .vmem S4x8x2048 .f32) (harg7 : arg7.IsWhole)
  (arg8 : Memref sig .tc .vmem S4x2048x256 .f32) (harg8 : arg8.IsWhole) (arg9 : Memref sig .tc .vmem S4x256x256 .f32) (harg9 : arg9.IsWhole)
  (arg10 : Memref sig .tc .vmem S4x256x128 .f32) (harg10 : arg10.IsWhole) (hc0 : ¬ first i)
  (x0 : Vec Ideal S4x2048x256 .bf16) (x1 : Vec Ideal S4x256x256 .bf16) (x2 : Vec Ideal S4x256x128 .bf16) (x3 : Vec Ideal S2048x512 .f32)
  (x4 x5 : Vec Ideal S4x8x2048 .f32) (y6 : Vec Ideal S4x2048x256 .f32)

/-- The queries' gradient: the block's part is added. -/
theorem runB_rows (Y) (hY : Holds arg8.view (harg8.unread y6) Y) :
    Holds arg8.view (arg8.view.writes (Elt Ideal) (harg8.unread y6) (runB (F := Ideal) c i arg2 harg2 arg3 harg3 arg4 harg4 arg5 harg5 arg6 harg6 arg7 harg7 arg8 harg8 arg9 harg9 arg10 harg10 hc0 x0 x1 x2 x3 x4 x5 y6).1)
      (outQ (kbOf i) x0 x1 x2 x3 x4 x5 Y) := by
  have L0 := loaded harg2 harg3 harg4 harg5 harg6 harg7 x0 x1 x2 x3 x4 x5 0 (kbOf i) (k0_off1_inb i) inb_S4x256x256_S1x256x256_0_0_0
    (k0_off2_inb i) (k0_off3_inb i) inb_S4x256x128_S1x256x128_0_0_0 (k0_off3_inb i)
    (k0_off1_eq i) rfl (k0_off2_eq i) (k0_off3_eq i) rfl (k0_off3_eq i)
  have L1 := loaded harg2 harg3 harg4 harg5 harg6 harg7 x0 x1 x2 x3 x4 x5 1 (kbOf i) (k0_off4_inb i) inb_S4x256x256_S1x256x256_1_0_0
    (k0_off5_inb i) (k0_off6_inb i) inb_S4x256x128_S1x256x128_1_0_0 (k0_off6_inb i)
    (k0_off4_eq i) rfl (k0_off5_eq i) (k0_off6_eq i) rfl (k0_off6_eq i)
  have L2 := loaded harg2 harg3 harg4 harg5 harg6 harg7 x0 x1 x2 x3 x4 x5 2 (kbOf i) (k0_off7_inb i) inb_S4x256x256_S1x256x256_2_0_0
    (k0_off8_inb i) (k0_off9_inb i) inb_S4x256x128_S1x256x128_2_0_0 (k0_off9_inb i)
    (k0_off7_eq i) rfl (k0_off8_eq i) (k0_off9_eq i) rfl (k0_off9_eq i)
  have L3 := loaded harg2 harg3 harg4 harg5 harg6 harg7 x0 x1 x2 x3 x4 x5 3 (kbOf i) (k0_off10_inb i) inb_S4x256x256_S1x256x256_3_0_0
    (k0_off11_inb i) (k0_off12_inb i) inb_S4x256x128_S1x256x128_3_0_0 (k0_off12_inb i)
    (k0_off10_eq i) rfl (k0_off11_eq i) (k0_off12_eq i) rfl (k0_off12_eq i)

  unfold runB
  dsimp only
  refine (both_loops Variants.none c none i arg2 harg2 arg3 harg3 arg4 harg4 arg5 harg5 arg6 harg6 arg7 harg7 arg8 harg8 arg9 harg9 arg10 harg10 _ _ _ _ _ _ _ _ _ _ _ _ _ x0 x1 x2 x3 x4 x5 (harg8.unread y6) _ _ _ Y ?_ ?_ _ ?_ ?_ ?_).2
  · rfl
  · rfl
  · simp only [Prod.mk.eta]
  · exact diag_carries L0 L1 L2 L3
  · exact diag_rows [] _ _ _ _ (k0_off1_eq i) (k0_off4_eq i) (k0_off7_eq i) (k0_off10_eq i) L0 L1 L2 L3 _ _ _ _
      (hY.load (b := 0) (k0_off1_inb i) (k0_off1_eq i)) (hY.load (b := 1) (k0_off4_inb i) (k0_off4_eq i))
      (hY.load (b := 2) (k0_off7_inb i) (k0_off7_eq i)) (hY.load (b := 3) (k0_off10_inb i) (k0_off10_eq i)) hY

/-- The keys' gradient. -/
theorem runB_keys (f : arg9.view.ty.Contents (Elt Ideal)) (b J e) :
    arg9.view.read (Elt Ideal) (arg9.view.writes (Elt Ideal) f (runB (F := Ideal) c i arg2 harg2 arg3 harg3 arg4 harg4 arg5 harg5 arg6 harg6 arg7 harg7 arg8 harg8 arg9 harg9 arg10 harg10 hc0 x0 x1 x2 x3 x4 x5 y6).2.1) (ix3 b J e)
      = outK (kbOf i) x0 x1 x2 x3 x4 x5 b J e := by
  have L0 := loaded harg2 harg3 harg4 harg5 harg6 harg7 x0 x1 x2 x3 x4 x5 0 (kbOf i) (k0_off1_inb i) inb_S4x256x256_S1x256x256_0_0_0
    (k0_off2_inb i) (k0_off3_inb i) inb_S4x256x128_S1x256x128_0_0_0 (k0_off3_inb i)
    (k0_off1_eq i) rfl (k0_off2_eq i) (k0_off3_eq i) rfl (k0_off3_eq i)
  have L1 := loaded harg2 harg3 harg4 harg5 harg6 harg7 x0 x1 x2 x3 x4 x5 1 (kbOf i) (k0_off4_inb i) inb_S4x256x256_S1x256x256_1_0_0
    (k0_off5_inb i) (k0_off6_inb i) inb_S4x256x128_S1x256x128_1_0_0 (k0_off6_inb i)
    (k0_off4_eq i) rfl (k0_off5_eq i) (k0_off6_eq i) rfl (k0_off6_eq i)
  have L2 := loaded harg2 harg3 harg4 harg5 harg6 harg7 x0 x1 x2 x3 x4 x5 2 (kbOf i) (k0_off7_inb i) inb_S4x256x256_S1x256x256_2_0_0
    (k0_off8_inb i) (k0_off9_inb i) inb_S4x256x128_S1x256x128_2_0_0 (k0_off9_inb i)
    (k0_off7_eq i) rfl (k0_off8_eq i) (k0_off9_eq i) rfl (k0_off9_eq i)
  have L3 := loaded harg2 harg3 harg4 harg5 harg6 harg7 x0 x1 x2 x3 x4 x5 3 (kbOf i) (k0_off10_inb i) inb_S4x256x256_S1x256x256_3_0_0
    (k0_off11_inb i) (k0_off12_inb i) inb_S4x256x128_S1x256x128_3_0_0 (k0_off12_inb i)
    (k0_off10_eq i) rfl (k0_off11_eq i) (k0_off12_eq i) rfl (k0_off12_eq i)

  unfold runB
  dsimp only
  unfold runB.sl.r_24 runB.sl.r_26
  refine read_keys [] _ _ _ _ _ _ _ _ (outK (kbOf i) x0 x1 x2 x3 x4 x5) (fun J e => (cast_keys _ J e).trans ?_) (fun J e => (cast_keys _ J e).trans ?_)
    (fun J e => (cast_keys _ J e).trans ?_) (fun J e => (cast_keys _ J e).trans ?_) b J e
  · refine Carries.k0 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3
  · refine Carries.k1 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3
  · refine Carries.k2 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3
  · refine Carries.k3 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3

/-- The values' gradient. -/
theorem runB_values (f : arg10.view.ty.Contents (Elt Ideal)) (b J e) :
    arg10.view.read (Elt Ideal) (arg10.view.writes (Elt Ideal) f (runB (F := Ideal) c i arg2 harg2 arg3 harg3 arg4 harg4 arg5 harg5 arg6 harg6 arg7 harg7 arg8 harg8 arg9 harg9 arg10 harg10 hc0 x0 x1 x2 x3 x4 x5 y6).2.2.1) (ix3 b J e)
      = outV (kbOf i) x0 x1 x3 x4 b J e := by
  have L0 := loaded harg2 harg3 harg4 harg5 harg6 harg7 x0 x1 x2 x3 x4 x5 0 (kbOf i) (k0_off1_inb i) inb_S4x256x256_S1x256x256_0_0_0
    (k0_off2_inb i) (k0_off3_inb i) inb_S4x256x128_S1x256x128_0_0_0 (k0_off3_inb i)
    (k0_off1_eq i) rfl (k0_off2_eq i) (k0_off3_eq i) rfl (k0_off3_eq i)
  have L1 := loaded harg2 harg3 harg4 harg5 harg6 harg7 x0 x1 x2 x3 x4 x5 1 (kbOf i) (k0_off4_inb i) inb_S4x256x256_S1x256x256_1_0_0
    (k0_off5_inb i) (k0_off6_inb i) inb_S4x256x128_S1x256x128_1_0_0 (k0_off6_inb i)
    (k0_off4_eq i) rfl (k0_off5_eq i) (k0_off6_eq i) rfl (k0_off6_eq i)
  have L2 := loaded harg2 harg3 harg4 harg5 harg6 harg7 x0 x1 x2 x3 x4 x5 2 (kbOf i) (k0_off7_inb i) inb_S4x256x256_S1x256x256_2_0_0
    (k0_off8_inb i) (k0_off9_inb i) inb_S4x256x128_S1x256x128_2_0_0 (k0_off9_inb i)
    (k0_off7_eq i) rfl (k0_off8_eq i) (k0_off9_eq i) rfl (k0_off9_eq i)
  have L3 := loaded harg2 harg3 harg4 harg5 harg6 harg7 x0 x1 x2 x3 x4 x5 3 (kbOf i) (k0_off10_inb i) inb_S4x256x256_S1x256x256_3_0_0
    (k0_off11_inb i) (k0_off12_inb i) inb_S4x256x128_S1x256x128_3_0_0 (k0_off12_inb i)
    (k0_off10_eq i) rfl (k0_off11_eq i) (k0_off12_eq i) rfl (k0_off12_eq i)

  unfold runB
  dsimp only
  unfold runB.sl.r_23 runB.sl.r_25
  refine read_values [] _ _ _ _ _ _ _ _ (outV (kbOf i) x0 x1 x3 x4) (fun J e => (cast_values _ J e).trans ?_) (fun J e => (cast_values _ J e).trans ?_)
    (fun J e => (cast_values _ J e).trans ?_) (fun J e => (cast_values _ J e).trans ?_) b J e
  · refine Carries.v0 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3
  · refine Carries.v1 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3
  · refine Carries.v2 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3
  · refine Carries.v3 (p := (st_k0_t2 (F := Ideal) Variants.none c none i arg2 harg2 arg3 harg3 arg4 harg4 arg5 harg5 arg6 harg6 arg7 harg7 arg8 harg8 arg9 harg9 arg10 harg10 _ _ _ _ _ _ _ _ _ _ _ _ _ _ _ _ _ _ _ _ _ _).1)
      (A := outK (kbOf i) x0 x1 x2 x3 x4 x5) (B := outV (kbOf i) x0 x1 x3 x4) ?_ J e
    refine second_carries Variants.none c none i arg2 harg2 arg3 harg3 arg4 harg4 arg5 harg5 arg6 harg6 arg7 harg7 arg8 harg8 arg9 harg9 arg10 harg10 _ _ _ _ _ _ _ _ _ _ _ _ _ x0 x1 x2 x3 x4 x5 _ ?_ _ ?_
    · rfl
    simp only [Prod.mk.eta]
    refine first_carries Variants.none c none i arg2 harg2 arg3 harg3 arg4 harg4 arg5 harg5 arg6 harg6 arg7 harg7 arg8 harg8 arg9 harg9 arg10 harg10 _ _ _ _ _ _ _ _ _ _ _ _ x0 x1 x2 x3 x4 x5 _ _ ?_ ?_
    · rfl
    · exact diag_carries L0 L1 L2 L3

end Cert.KernelIdeal.Hand

end
-- ==== Proof.Region.lean ====
module

public import proofs.«01_k».proof.Proof.ValA
public import proofs.«01_k».proof.Proof.ValB
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-! # The pipelined region: what every grid point finds and leaves, and the run -/

/-- The body's conditional is taken at the first key block of a group of heads. -/
theorem first_iff (t : Fin cfg0.N) : first (grid0.coords t) ↔ t.val % 8 = 0 := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  simp only [first, e0, e1]
  word_cmp

theorem kbOf_val (t : Fin cfg0.N) : (kbOf (grid0.coords t)).val = t.val % 8 := by
  have e1 : (grid0.coords t 1).val = t.val / 1 % 8 := Pipeline.Grid.coords_val t 1 (by decide) rfl
  rw [Nat.div_one] at e1
  exact e1

variable (m : (ℓ : Loc nD τ sig) → Buf (Elt Ideal) ℓ) (ρ : Dev nD → PrngReg)

/-! ## The blocks a point reads -/

abbrev bq (c : Dev nD) (t : Fin cfg0.N) : Vec Ideal S4x2048x256 .bf16 := iblk m c 0 t
abbrev bk (c : Dev nD) (t : Fin cfg0.N) : Vec Ideal S4x256x256 .bf16 := iblk m c 1 t
abbrev bv (c : Dev nD) (t : Fin cfg0.N) : Vec Ideal S4x256x128 .bf16 := iblk m c 2 t
abbrev bdo (c : Dev nD) (t : Fin cfg0.N) : Vec Ideal S2048x512 .f32 := iblk m c 3 t
abbrev bl (c : Dev nD) (t : Fin cfg0.N) : Vec Ideal S4x8x2048 .f32 := iblk m c 4 t
abbrev bd (c : Dev nD) (t : Fin cfg0.N) : Vec Ideal S4x8x2048 .f32 := iblk m c 5 t

/-! ## What a point leaves -/

/-- The queries' gradient after point `n`: at a first key block the point's part over zero, later over what the point before left. -/
def rows (c : Dev nD) : (n : ℕ) → n < cfg0.N → Fin 4 → Fin 2048 → Fin 256 → EReal
  | 0, h => outQ (kbOf (grid0.coords ⟨0, h⟩)) (bq m c ⟨0, h⟩) (bk m c ⟨0, h⟩) (bv m c ⟨0, h⟩) (bdo m c ⟨0, h⟩) (bl m c ⟨0, h⟩) (bd m c ⟨0, h⟩) (fun _ _ _ => 0)
  | n + 1, h => outQ (kbOf (grid0.coords ⟨n + 1, h⟩)) (bq m c ⟨n + 1, h⟩) (bk m c ⟨n + 1, h⟩) (bv m c ⟨n + 1, h⟩) (bdo m c ⟨n + 1, h⟩) (bl m c ⟨n + 1, h⟩) (bd m c ⟨n + 1, h⟩)
      (if (n + 1) % 8 = 0 then fun _ _ _ => 0 else rows c n (Nat.lt_of_succ_lt h))

def left6 (c : Dev nD) (t : Fin cfg0.N) : Vec Ideal S4x2048x256 .f32 := fun ix => rows m c t.val t.isLt (ix 0) (ix 1) (ix 2)
def left7 (c : Dev nD) (t : Fin cfg0.N) : Vec Ideal S4x256x256 .f32 :=
  fun ix => outK (kbOf (grid0.coords t)) (bq m c t) (bk m c t) (bv m c t) (bdo m c t) (bl m c t) (bd m c t) (ix 0) (ix 1) (ix 2)
def left8 (c : Dev nD) (t : Fin cfg0.N) : Vec Ideal S4x256x128 .f32 :=
  fun ix => outV (kbOf (grid0.coords t)) (bq m c t) (bk m c t) (bdo m c t) (bl m c t) (ix 0) (ix 1) (ix 2)

theorem rows_first (c : Dev nD) (t : Fin cfg0.N) (h : t.val % 8 = 0) :
    rows m c t.val t.isLt = outQ (kbOf (grid0.coords t)) (bq m c t) (bk m c t) (bv m c t) (bdo m c t) (bl m c t) (bd m c t) (fun _ _ _ => 0) := by
  obtain ⟨n, hn⟩ := t
  cases n with
  | zero => rfl
  | succ n => rw [rows, if_pos h]

theorem rows_later (c : Dev nD) (t : Fin cfg0.N) (h : t.val % 8 ≠ 0) :
    rows m c t.val t.isLt = outQ (kbOf (grid0.coords t)) (bq m c t) (bk m c t) (bv m c t) (bdo m c t) (bl m c t) (bd m c t)
      (rows m c (t.val - 1) (Nat.lt_of_le_of_lt (Nat.sub_le _ _) t.isLt)) := by
  obtain ⟨n, hn⟩ := t
  cases n with
  | zero => exact absurd rfl h
  | succ n => rw [rows, if_neg h]; rfl

/-! ## The proof data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => left6 m c t
    | ⟨7, _⟩ => left7 m c t
    | ⟨8, _⟩ => left8 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = left6 m c t := by dsimp only [dats]
theorem after_7 (c : Dev nD) (t : Fin cfg0.N) : (dats m 0 c).after 7 t = left7 m c t := by dsimp only [dats]
theorem after_8 (c : Dev nD) (t : Fin cfg0.N) : (dats m 0 c).after 8 t = left8 m c t := by dsimp only [dats]

theorem found_0 (c : Dev nD) (t : Fin cfg0.N) (d) : (dats m 0 c).before 0 t d = bq m c t := before0_0_of m (dats m 0 c) (A_eq m c 0) (after_0 m c) t d
theorem found_1 (c : Dev nD) (t : Fin cfg0.N) (d) : (dats m 0 c).before 1 t d = bk m c t := before0_1_of m (dats m 0 c) (A_eq m c 1) (after_1 m c) t d
theorem found_2 (c : Dev nD) (t : Fin cfg0.N) (d) : (dats m 0 c).before 2 t d = bv m c t := before0_2_of m (dats m 0 c) (A_eq m c 2) (after_2 m c) t d
theorem found_3 (c : Dev nD) (t : Fin cfg0.N) (d) : (dats m 0 c).before 3 t d = bdo m c t := before0_3_of m (dats m 0 c) (A_eq m c 3) (after_3 m c) t d
theorem found_4 (c : Dev nD) (t : Fin cfg0.N) (d) : (dats m 0 c).before 4 t d = bl m c t := before0_4_of m (dats m 0 c) (A_eq m c 4) (after_4 m c) t d
theorem found_5 (c : Dev nD) (t : Fin cfg0.N) (d) : (dats m 0 c).before 5 t d = bd m c t := before0_5_of m (dats m 0 c) (A_eq m c 5) (after_5 m c) t d

/-- Past a first key block the queries' gradient is found as the point before left it. -/
theorem found_6 (c : Dev nD) (t : Fin cfg0.N) (h : t.val % 8 ≠ 0) (d) :
    (dats m 0 c).before 6 t d = left6 m c ⟨t.val - 1, Nat.lt_of_le_of_lt (Nat.sub_le _ _) t.isLt⟩ := by
  have h0 : t.val ≠ 0 := fun e => h (by rw [e])
  rw [(dats m 0 c).before_out_kept 6 rfl t h0 (by
      rw [← Bool.not_eq_true, flush0_6]
      dsimp only
      omega) (fun _ => rfl) (fun _ _ => rfl) d, after_6]

/-! ## The body at a point -/

variable (c : Dev nD) (t : Fin cfg0.N)

/-- What the body is called with at point `t`, the windows one by one, -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- A buffer read position by position as `Y` is owned at `Y`. -/
theorem owns_of_read {sh : Shape} {M : Memref sig .tc .vmem sh .f32} {Y : Vec Ideal sh .f32} {f : M.view.ty.Contents (Elt Ideal)}
    (h : M.view.read (Elt Ideal) f = Y) :
    (M.view.loc (c : Thread nD τ) ↦[M.view.set]{fullShare} f : sProp 𝕄) ⊢ owns (c : Thread nD τ) M fullShare Y := by
  unfold owns
  iintro H
  iexists f
  isplitr
  · ipureintro; exact h
  iexact H

/-! What each case of the body leaves, read back. -/

theorem rowsA (h0 : t.val % 8 = 0) :
    (st0_6 t).view.read (Elt Ideal) ((st0_6 t).view.writes (Elt Ideal) (st0_6 t).view.junk (runA (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) ((first_iff t).mpr h0) (bq m c t) (bk m c t) (bv m c t) (bdo m c t) (bl m c t) (bd m c t)).1) = left6 m c t := by
  funext ix
  rw [eq_ix3 ix, left6, rows_first m c t h0]
  exact runA_rows c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (bq m c t) (bk m c t) (bv m c t) (bdo m c t) (bl m c t) (bd m c t) ((first_iff t).mpr h0) (ix 0) (ix 1) (ix 2)

theorem keysA (h0 : t.val % 8 = 0) (f) :
    (st0_7 t).view.read (Elt Ideal) ((st0_7 t).view.writes (Elt Ideal) f (runA (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) ((first_iff t).mpr h0) (bq m c t) (bk m c t) (bv m c t) (bdo m c t) (bl m c t) (bd m c t)).2.1) = left7 m c t := by
  funext ix
  rw [eq_ix3 ix, left7]
  exact runA_keys c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (bq m c t) (bk m c t) (bv m c t) (bdo m c t) (bl m c t) (bd m c t) ((first_iff t).mpr h0) f (ix 0) (ix 1) (ix 2)

theorem valuesA (h0 : t.val % 8 = 0) (f) :
    (st0_8 t).view.read (Elt Ideal) ((st0_8 t).view.writes (Elt Ideal) f (runA (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) ((first_iff t).mpr h0) (bq m c t) (bk m c t) (bv m c t) (bdo m c t) (bl m c t) (bd m c t)).2.2.1) = left8 m c t := by
  funext ix
  rw [eq_ix3 ix, left8]
  exact runA_values c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (bq m c t) (bk m c t) (bv m c t) (bdo m c t) (bl m c t) (bd m c t) ((first_iff t).mpr h0) f (ix 0) (ix 1) (ix 2)

theorem rowsB (h0 : ¬ t.val % 8 = 0) :
    (st0_6 t).view.read (Elt Ideal) ((st0_6 t).view.writes (Elt Ideal) ((hstage0_6 ((cfg0.slots t 6).cast nbuf0_6)).unread (left6 m c ⟨t.val - 1, Nat.lt_of_le_of_lt (Nat.sub_le _ _) t.isLt⟩)) (runB (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) (bq m c t) (bk m c t) (bv m c t) (bdo m c t) (bl m c t) (bd m c t) (left6 m c ⟨t.val - 1, Nat.lt_of_le_of_lt (Nat.sub_le _ _) t.isLt⟩)).1) = left6 m c t := by
  funext ix
  rw [eq_ix3 ix, left6, rows_later m c t h0]
  refine runB_rows c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) (bq m c t) (bk m c t) (bv m c t) (bdo m c t) (bl m c t) (bd m c t) (left6 m c ⟨t.val - 1, Nat.lt_of_le_of_lt (Nat.sub_le _ _) t.isLt⟩) _ ?_ (ix 0) (ix 1) (ix 2)
  intro b R e
  rw [Memref.IsWhole.read_unread]
  rfl

theorem keysB (h0 : ¬ t.val % 8 = 0) (f) :
    (st0_7 t).view.read (Elt Ideal) ((st0_7 t).view.writes (Elt Ideal) f (runB (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) (bq m c t) (bk m c t) (bv m c t) (bdo m c t) (bl m c t) (bd m c t) (left6 m c ⟨t.val - 1, Nat.lt_of_le_of_lt (Nat.sub_le _ _) t.isLt⟩)).2.1) = left7 m c t := by
  funext ix
  rw [eq_ix3 ix, left7]
  exact runB_keys c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) (bq m c t) (bk m c t) (bv m c t) (bdo m c t) (bl m c t) (bd m c t) (left6 m c ⟨t.val - 1, Nat.lt_of_le_of_lt (Nat.sub_le _ _) t.isLt⟩) f (ix 0) (ix 1) (ix 2)

theorem valuesB (h0 : ¬ t.val % 8 = 0) (f) :
    (st0_8 t).view.read (Elt Ideal) ((st0_8 t).view.writes (Elt Ideal) f (runB (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) (bq m c t) (bk m c t) (bv m c t) (bdo m c t) (bl m c t) (bd m c t) (left6 m c ⟨t.val - 1, Nat.lt_of_le_of_lt (Nat.sub_le _ _) t.isLt⟩)).2.2.1) = left8 m c t := by
  funext ix
  rw [eq_ix3 ix, left8]
  exact runB_values c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) (bq m c t) (bk m c t) (bv m c t) (bdo m c t) (bl m c t) (bd m c t) (left6 m c ⟨t.val - 1, Nat.lt_of_le_of_lt (Nat.sub_le _ _) t.isLt⟩) f (ix 0) (ix 1) (ix 2)

set_option maxHeartbeats 1600000 in
/-- The body at any point. -/
theorem sound_body :
    bodyPre m c t ⊢ wp frame (wpE (defs₀ (F := Ideal)) Variants.none c none) Set.univ (bodyAt0 t) (fun _ => bodyPost m c t) := by
  unfold bodyPre bodyPost bodyAt0
  simp only [found_0, found_1, found_2, found_3, found_4, found_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  by_cases h0 : t.val % 8 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) ((first_iff t).mpr h0) (bq m c t) (bk m c t) (bv m c t) (bdo m c t) (bl m c t) (bd m c t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, ⟨%f7, H7⟩, ⟨%f8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (owns_of_read c (rowsA m c t h0))
      iexact H6
    isplitl [H7]
    · iapply (owns_of_read c (keysA m c t h0 f7))
      iexact H7
    iapply (owns_of_read c (valuesA m c t h0 f8))
    iexact H8
  · simp only [found_6 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((first_iff t).mp h)) (bq m c t) (bk m c t) (bv m c t) (bdo m c t) (bl m c t) (bd m c t)
      (left6 m c ⟨t.val - 1, Nat.lt_of_le_of_lt (Nat.sub_le _ _) t.isLt⟩)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%f7, H7⟩, ⟨%f8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (owns_of_read c (rowsB m c t h0))
      iexact H6
    isplitl [H7]
    · iapply (owns_of_read c (keysB m c t h0 f7))
      iexact H7
    iapply (owns_of_read c (valuesB m c t h0 f8))
    iexact H8

/-- The body table's row at point `t`'s slots is the body as `bodyAt0` spells it. -/
theorem defs₀_row : defs₀ (F := Ideal) .tc cfg0.body (cfg0.bodyArgs t (cfg0.slots t)) = bodyAt0 t := by
  unfold defs₀; rw [Defs.onTc_tc]

theorem body_obligation : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
theorem run_quiescent : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := Ideal))) (s₀ m ρ) (Pipeline.FramePost cfgs (dats m) 0 (V m)) :=
  (θ_run defs _ _).mono (fun _ h => h.1) (run_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_post m ρ)

/-- The frame. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiescent m ρ))

end Cert.KernelIdeal.Hand

end
-- ==== Proof.KFrame.lean ====
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The frame of the kernel as printed, over any float values

The values of the outputs are left unsaid: a point may leave anything in its three output buffers. -/

/-- The condition of the body's one conditional: the first key block. -/
abbrev first (i : grid0.Coords) : Prop := (Scalar.cmpi .ne (Scalar.extui (Scalar.cmpi .eq (BitVec.ofNat 32 (i 1).val) 0#32)) 0#32) = 1#1

/-- The nine buffers of a point: the inputs at their blocks, the outputs at anything. -/
abbrev held (c : Dev nD) (arg2 : Memref sig .tc .vmem S4x2048x256 .bf16) (arg3 : Memref sig .tc .vmem S4x256x256 .bf16)
    (arg4 : Memref sig .tc .vmem S4x256x128 .bf16) (arg5 : Memref sig .tc .vmem S2048x512 .f32) (arg6 arg7 : Memref sig .tc .vmem S4x8x2048 .f32)
    (arg8 : Memref sig .tc .vmem S4x2048x256 .f32) (arg9 : Memref sig .tc .vmem S4x256x256 .f32) (arg10 : Memref sig .tc .vmem S4x256x128 .f32)
    (x0 : Vec F S4x2048x256 .bf16) (x1 : Vec F S4x256x256 .bf16) (x2 : Vec F S4x256x128 .bf16) (x3 : Vec F S2048x512 .f32) (x4 x5 : Vec F S4x8x2048 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ (∃ d, owns (c : Thread nD τ) arg8 fullShare d) ∗ (∃ d, owns (c : Thread nD τ) arg9 fullShare d) ∗ (∃ d, owns (c : Thread nD τ) arg10 fullShare d))

set_option maxHeartbeats 2000000 in
/-- The body keeps the buffers, at the first key block and at the later ones. -/
theorem body_run (c : Dev nD) (i : grid0.Coords) (arg2 : Memref sig .tc .vmem S4x2048x256 .bf16) (harg2 : arg2.IsWhole) (arg3 : Memref sig .tc .vmem S4x256x256 .bf16) (harg3 : arg3.IsWhole) (arg4 : Memref sig .tc .vmem S4x256x128 .bf16) (harg4 : arg4.IsWhole) (arg5 : Memref sig .tc .vmem S2048x512 .f32) (harg5 : arg5.IsWhole) (arg6 : Memref sig .tc .vmem S4x8x2048 .f32) (harg6 : arg6.IsWhole) (arg7 : Memref sig .tc .vmem S4x8x2048 .f32) (harg7 : arg7.IsWhole) (arg8 : Memref sig .tc .vmem S4x2048x256 .f32) (harg8 : arg8.IsWhole) (arg9 : Memref sig .tc .vmem S4x256x256 .f32) (harg9 : arg9.IsWhole) (arg10 : Memref sig .tc .vmem S4x256x128 .f32) (harg10 : arg10.IsWhole)
    (x0 : Vec F S4x2048x256 .bf16) (x1 : Vec F S4x256x256 .bf16) (x2 : Vec F S4x256x128 .bf16) (x3 : Vec F S2048x512 .f32) (x4 x5 : Vec F S4x8x2048 .f32) (E : Set ℕ) (K : PUnit → sProp 𝕄) :
    iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ (∃ d, owns (c : Thread nD τ) arg8 fullShare d) ∗ (∃ d, owns (c : Thread nD τ) arg9 fullShare d) ∗ (∃ d, owns (c : Thread nD τ) arg10 fullShare d)
        ∗ (held c arg2 arg3 arg4 arg5 arg6 arg7 arg8 arg9 arg10 x0 x1 x2 x3 x4 x5 -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10) K := by
  simp only [cc0_attn_bwd_eq_skeleton]; unfold cc0_attn_bwd_skel
  simp only [k0_part9_eq_skeleton, k0_part10_eq_skeleton, k0_part11_eq_skeleton, k0_part12_eq_skeleton, k0_part13_eq_skeleton, k0_part14_eq_skeleton, k0_part15_eq_skeleton]
  unfold owns
  rcases Classical.em (first i) with hc0 | hc0
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | sl_exact hc0)
    sl_step
    iapply Hk
    unfold held owns
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

variable (m : (ℓ : Loc nD τ sig) → Buf (Elt F) ℓ) (ρ : Dev nD → PrngReg)

/-- The three output windows, of whose contents nothing is said. -/
def unsaid : Fin 9 → Bool := fun w => decide (5 < w.val)

/-- The proof data: the inputs stay at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
    | ⟨8, h⟩ => Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem found_0 (c : Dev nD) (t : Fin cfg0.N) (d) : (dats m 0 c).before 0 t d = iblk m c 0 t :=
  before0_0_of m (dats m 0 c) (A_eq m c 0) (fun _ => by dsimp only [dats]) t d
theorem found_1 (c : Dev nD) (t : Fin cfg0.N) (d) : (dats m 0 c).before 1 t d = iblk m c 1 t :=
  before0_1_of m (dats m 0 c) (A_eq m c 1) (fun _ => by dsimp only [dats]) t d
theorem found_2 (c : Dev nD) (t : Fin cfg0.N) (d) : (dats m 0 c).before 2 t d = iblk m c 2 t :=
  before0_2_of m (dats m 0 c) (A_eq m c 2) (fun _ => by dsimp only [dats]) t d
theorem found_3 (c : Dev nD) (t : Fin cfg0.N) (d) : (dats m 0 c).before 3 t d = iblk m c 3 t :=
  before0_3_of m (dats m 0 c) (A_eq m c 3) (fun _ => by dsimp only [dats]) t d
theorem found_4 (c : Dev nD) (t : Fin cfg0.N) (d) : (dats m 0 c).before 4 t d = iblk m c 4 t :=
  before0_4_of m (dats m 0 c) (A_eq m c 4) (fun _ => by dsimp only [dats]) t d
theorem found_5 (c : Dev nD) (t : Fin cfg0.N) (d) : (dats m 0 c).before 5 t d = iblk m c 5 t :=
  before0_5_of m (dats m 0 c) (A_eq m c 5) (fun _ => by dsimp only [dats]) t d

section
variable (c : Dev nD) (t : Fin cfg0.N)

/-- What a point starts from, -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d))

/-- and what it ends with. -/
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d))

set_option maxHeartbeats 1600000 in
theorem sound_body :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, H6, H7, H8⟩
  iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro H
  isplitl [HΦ]; · iexact HΦ
  isplitl [Ho]; · iexact Ho
  iexact H

theorem defs₀_row : defs₀ (F := F) .tc cfg0.body (cfg0.bodyArgs t (cfg0.slots t)) = bodyAt0 t := by
  unfold defs₀; rw [Defs.onTc_tc]

end

theorem body_obligation (c : Dev nD) : BodyObligation (dats (F := F) m 0 c) (defs₀ (F := F)) Variants.none () Set.univ unsaid := fun t => by
  rw [bigSep_W0, bigSep_W0, defs₀_row]
  exact triple_restated (sound_body m c t) rfl .rfl fun _ => .rfl

set_option backward.isDefEq.respectTransparency.types false in
theorem run_quiescent : θ_run defs (onTc (τ := τ) (main (F := F))) (s₀ m ρ)
    (fun r => (Pipeline.RDat.FramePost (cfgs 0) (fun c => (dats m 0 c).toRForget unsaid) (V m)) r ∧ r.2.sem = fun _ => 0) :=
  Pipeline.θ_run_frame_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ)
    (Pipeline.RDat.FramePost (cfgs 0) (fun c => (dats m 0 c).toRForget unsaid) (V m)) :=
  (θ_run defs _ _).mono (fun _ h => h.1) (run_quiescent m ρ)

theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged_of m ρ _ (A_eq m) (run_post m ρ)) ((θ_run defs _ _).mono (fun _ h => h.2) (run_quiescent m ρ))

end Cert.Kernel.Hand

end
-- ==== Proof.Softmax.lean ====
module

public import Idealize.ShloMosaic.PureOps.Ideal.Laws

@[expose] public section

noncomputable section

namespace Cert.Attention

open Idealize.ShloMosaic

/-! # The gradients of one head's attention, over the reals

`q`, `k`, `v` are one head's queries, keys and values, `g` is the gradient of the head's output and `c`
the factor of the scores. A query row sees the keys of its own chunk of 64 and of the chunks before. -/

section
variable (q k : Fin 2048 → Fin 256 → ℝ) (v g : Fin 2048 → Fin 128 → ℝ) (c : ℝ)

def score (R K : Fin 2048) : ℝ := (∑ e, q R e * k K e) * c

/-- The keys a query row sees. -/
def keys (R : Fin 2048) : Finset (Fin 2048) := Finset.univ.filter fun K => K.val / 64 ≤ R.val / 64

theorem keys_nonempty (R : Fin 2048) : (keys R).Nonempty := ⟨R, by simp [keys]⟩

/-- The largest score a row sees. -/
def top (R : Fin 2048) : ℝ := (keys R).sup' (keys_nonempty R) (score q k c R)

def weight (R K : Fin 2048) : ℝ := if K.val / 64 ≤ R.val / 64 then Real.exp (score q k c R K - top q k c R) else 0

def mass (R : Fin 2048) : ℝ := ∑ K, weight q k c R K

def prob (R K : Fin 2048) : ℝ := weight q k c R K / mass q k c R

def dprob (R K : Fin 2048) : ℝ := ∑ e, v K e * g R e

/-- The mean of the probabilities' gradient in a row. -/
def share (R : Fin 2048) : ℝ := ∑ K, prob q k c R K * dprob v g R K

def dscore (R K : Fin 2048) : ℝ := prob q k c R K * (dprob v g R K - share q k v g c R) * c

def gradQ (R : Fin 2048) (e : Fin 256) : ℝ := ∑ K, dscore q k v g c R K * k K e
def gradK (K : Fin 2048) (e : Fin 256) : ℝ := ∑ R, dscore q k v g c R K * q R e
def gradV (K : Fin 2048) (e : Fin 128) : ℝ := ∑ R, prob q k c R K * g R e

/-! ## Facts over the reals -/

theorem weight_nonneg (R K : Fin 2048) : 0 ≤ weight q k c R K := by
  unfold weight; split
  · exact (Real.exp_pos _).le
  · exact le_rfl

theorem mass_pos (R : Fin 2048) : 0 < mass q k c R := by
  refine Finset.sum_pos' (fun K _ => weight_nonneg q k c R K) ⟨R, Finset.mem_univ R, ?_⟩
  rw [weight, if_pos le_rfl]; exact Real.exp_pos _

/-- A probability from the row's logarithm of the sum of exponentials. -/
theorem exp_lse (R K : Fin 2048) (h : K.val / 64 ≤ R.val / 64) :
    Real.exp (score q k c R K - (top q k c R + Real.log (mass q k c R))) = prob q k c R K := by
  rw [prob, weight, if_pos h, ← sub_sub, Real.exp_sub, Real.exp_log (mass_pos q k c R)]

theorem prob_masked (R K : Fin 2048) (h : ¬ K.val / 64 ≤ R.val / 64) : prob q k c R K = 0 := by
  rw [prob, weight, if_neg h, zero_div]

/-- The row's mean, from the output: the probabilities are summed against the values first. -/
theorem share_eq (R : Fin 2048) : ∑ e, (∑ K, prob q k c R K * v K e) * g R e = share q k v g c R := by
  simp only [share, dprob, Finset.sum_mul, Finset.mul_sum]
  rw [Finset.sum_comm]
  simp only [mul_assoc]

/-- The score's gradient, as the quotient's derivative spells it. -/
theorem dscore_quotient (R K : Fin 2048) :
    (dprob v g R K / mass q k c R + -(∑ J, dprob v g R J * (1 / (mass q k c R * mass q k c R)) * weight q k c R J)) * weight q k c R K * c
      = dscore q k v g c R K := by
  have hm := (mass_pos q k c R).ne'
  have hs : (∑ J, dprob v g R J * (1 / (mass q k c R * mass q k c R)) * weight q k c R J) = share q k v g c R / mass q k c R := by
    rw [share, Finset.sum_div]
    refine Finset.sum_congr rfl fun J _ => ?_
    rw [prob]; field_simp
  rw [hs, dscore, prob]
  field_simp
  ring

end

/-! ## The same over the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section
variable (q k : Fin 2048 → Fin 256 → ℝ) (c : ℝ)

/-- The score with its mask: minus infinity where the row does not see the key. -/
def masked (R K : Fin 2048) : EReal := if K.val / 64 ≤ R.val / 64 then (score q k c R K : EReal) else ⊥

theorem fold_masked (R : Fin 2048) : Finset.univ.fold max ⊥ (masked q k c R) = (top q k c R : EReal) := by
  show Finset.univ.sup (masked q k c R) = _
  refine le_antisymm (Finset.sup_le fun K _ => ?_) ?_
  · unfold masked; split
    · rename_i h
      exact EReal.coe_le_coe_iff.mpr (Finset.le_sup' (score q k c R) (by simp [keys, h]))
    · exact bot_le
  · obtain ⟨K, hK, e⟩ := Finset.exists_mem_eq_sup' (keys_nonempty R) (score q k c R)
    have hm : masked q k c R K = (top q k c R : EReal) := by
      rw [masked, if_pos (by simpa [keys] using hK), top, e]
    rw [← hm]
    exact Finset.le_sup (f := masked q k c R) (Finset.mem_univ K)

theorem exp_masked (R K : Fin 2048) : Ideal.exp (masked q k c R K - (top q k c R : EReal)) = (weight q k c R K : EReal) := by
  unfold masked weight; split
  · rw [← EReal.coe_sub]; rfl
  · rw [EReal.bot_sub]; rfl

theorem log_mass (R : Fin 2048) : Ideal.log (mass q k c R : EReal) = (Real.log (mass q k c R) : EReal) := by
  rw [Ideal.log_coe, if_neg (mass_pos q k c R).not_ge]

theorem div_coe_coe (x y : ℝ) (h : y ≠ 0) : Ideal.div (x : EReal) (y : EReal) = ((x / y : ℝ) : EReal) := by
  rw [Ideal.div_coe h, ← EReal.coe_mul, mul_one_div]

end

end Cert.Attention

end
-- ==== Proof.Host.lean ====
module

public import proofs.«01_k».proof.Proof.Gen.KernelIdeal.Frame
public import proofs.«01_k».proof.Proof.Gen.ReferenceIdeal.Read
public import proofs.«01_k».proof.Proof.Softmax
public import Idealize.ShloMosaic.Lib.Pointwise

@[expose] public section

set_option maxRecDepth 8192

noncomputable section

namespace Cert.KernelIdeal.Hand

open Idealize.ShloMosaic Idealize.ShloMosaic.TcCoe Idealize.ShloMosaic.StableHlo
open Cert.KernelIdeal.Gen Cert.ReferenceIdeal.Read

/-! # The rows the kernel's call takes from the host -/

/-- Each row's largest score. -/
def hostTop (s : FVec Ideal S8x2048x2048 .f32) : FVec Ideal S8x2048x1 .f32 :=
  broadcastInDim S8x2048x1 ![0, 1] bcast_S8x2048_S8x2048x1_0_1
    (Host.reduce FloatOps.maximumf s (constant S_ .f32 0xFF800000#32) reducesTo_S8x2048x2048_S8x2048_d2 h_S_)

def hostExp (s : FVec Ideal S8x2048x2048 .f32) : FVec Ideal S8x2048x2048 .f32 :=
  Host.exp (subf s (broadcastInDim S8x2048x2048 ![0, 1, 2] bcast_S8x2048x1_S8x2048x2048_0_1_2 (hostTop s)))

def hostMass (s : FVec Ideal S8x2048x2048 .f32) : FVec Ideal S8x2048x1 .f32 :=
  broadcastInDim S8x2048x1 ![0, 1] bcast_S8x2048_S8x2048x1_0_1
    (Host.reduceAdd (hostExp s) (constant S_ .f32 0x00000000#32) reducesTo_S8x2048x2048_S8x2048_d2 h_S_)

/-- Each row's logarithm of the sum of exponentials, eight times. -/
def hostLse (s : FVec Ideal S8x2048x2048 .f32) : FVec Ideal S8x8x2048 .f32 :=
  broadcastInDim S8x8x2048 ![0, 1, 2] bcast_S8x1x2048_S8x8x2048_0_1_2
    (broadcastInDim S8x1x2048 ![0, 2] bcast_S8x2048_S8x1x2048_0_2
      (shapeCast S8x2048 (addf (hostTop s) (Host.log (hostMass s))) shapeCasts_S8x2048x1_S8x2048))

/-- Each row's inner product of output and gradient, eight times. -/
def hostDelta (s : FVec Ideal S8x2048x2048 .f32) (v : FVec Ideal S8x2048x128 .f32) (d : FVec Ideal S2048x1024 .f32) : FVec Ideal S8x8x2048 .f32 :=
  broadcastInDim S8x8x2048 ![0, 1, 2] bcast_S8x1x2048_S8x8x2048_0_1_2
    (broadcastInDim S8x1x2048 ![0, 2] bcast_S8x2048_S8x1x2048_0_2
      (Host.reduceAdd
        (mulf
          (Host.dotGeneral dot_S8x2048x2048_S8x2048x128_S8x2048x128_2_1_1_2_0_0 none
            (Host.divf (hostExp s) (broadcastInDim S8x2048x2048 ![0, 1, 2] bcast_S8x2048x1_S8x2048x2048_0_1_2 (hostMass s))) v)
          (transpose S8x2048x128 [1, 0, 2] (shapeCast S2048x8x128 d shapeCasts_S2048x1024_S2048x8x128) transposes_S2048x8x128_S8x2048x128_1_0_2))
        (constant S_ .f32 0x00000000#32) reducesTo_S8x2048x128_S8x2048_d2 h_S_))

/-! ## Read at an index -/

theorem hostTop_apply (s : FVec Ideal S8x2048x2048 .f32) (h : Fin 8) (R : Fin 2048) (z : Fin 1) :
    hostTop s (ix3 h R z) = Finset.univ.fold max (Ideal.ofBits .f32 0xFF800000#32) fun K => s (ix3 h R K) := by
  pointwise [hostTop]

theorem hostExp_apply (s : FVec Ideal S8x2048x2048 .f32) (h : Fin 8) (R K : Fin 2048) :
    hostExp s (ix3 h R K) = Ideal.exp (s (ix3 h R K) - hostTop s (ix3 h R 0)) := by
  pointwise [hostExp]

theorem hostMass_apply (s : FVec Ideal S8x2048x2048 .f32) (h : Fin 8) (R : Fin 2048) (z : Fin 1) :
    hostMass s (ix3 h R z) = ∑ K, hostExp s (ix3 h R K) := by
  pointwise [hostMass]

theorem lse_form (t l : FVec Ideal S8x2048x1 .f32) (h : Fin 8) (i : Fin 8) (R : Fin 2048) :
    broadcastInDim S8x8x2048 ![0, 1, 2] bcast_S8x1x2048_S8x8x2048_0_1_2
      (broadcastInDim S8x1x2048 ![0, 2] bcast_S8x2048_S8x1x2048_0_2
        (shapeCast S8x2048 (addf t (Host.log l)) shapeCasts_S8x2048x1_S8x2048)) (ix3 h i R)
      = t (ix3 h R 0) + Ideal.log (l (ix3 h R 0)) := by
  pointwise []

theorem hostLse_apply (s : FVec Ideal S8x2048x2048 .f32) (h : Fin 8) (i : Fin 8) (R : Fin 2048) :
    hostLse s (ix3 h i R) = hostTop s (ix3 h R 0) + Ideal.log (hostMass s (ix3 h R 0)) :=
  lse_form (hostTop s) (hostMass s) h i R

theorem delta_form (x : FVec Ideal S8x2048x2048 .f32) (l : FVec Ideal S8x2048x1 .f32) (v : FVec Ideal S8x2048x128 .f32) (d : FVec Ideal S2048x1024 .f32)
    (h : Fin 8) (i : Fin 8) (R : Fin 2048) :
    broadcastInDim S8x8x2048 ![0, 1, 2] bcast_S8x1x2048_S8x8x2048_0_1_2
      (broadcastInDim S8x1x2048 ![0, 2] bcast_S8x2048_S8x1x2048_0_2
        (Host.reduceAdd
          (mulf
            (Host.dotGeneral dot_S8x2048x2048_S8x2048x128_S8x2048x128_2_1_1_2_0_0 none
              (Host.divf x (broadcastInDim S8x2048x2048 ![0, 1, 2] bcast_S8x2048x1_S8x2048x2048_0_1_2 l)) v)
            (transpose S8x2048x128 [1, 0, 2] (shapeCast S2048x8x128 d shapeCasts_S2048x1024_S2048x8x128) transposes_S2048x8x128_S8x2048x128_1_0_2))
          (constant S_ .f32 0x00000000#32) reducesTo_S8x2048x128_S8x2048_d2 h_S_)) (ix3 h i R)
      = ∑ e : Fin 128, (∑ K : Fin 2048, Ideal.div (x (ix3 h R K)) (l (ix3 h R 0)) * v (ix3 h K e)) * d (ix2 R ⟨h.val * 128 + e.val, by omega⟩) := by
  pointwise []

theorem hostDelta_apply (s : FVec Ideal S8x2048x2048 .f32) (v : FVec Ideal S8x2048x128 .f32) (d : FVec Ideal S2048x1024 .f32) (h : Fin 8) (i : Fin 8) (R : Fin 2048) :
    hostDelta s v d (ix3 h i R) = ∑ e : Fin 128, (∑ K : Fin 2048, Ideal.div (hostExp s (ix3 h R K)) (hostMass s (ix3 h R 0)) * v (ix3 h K e)) * d (ix2 R ⟨h.val * 128 + e.val, by omega⟩) :=
  delta_form (hostExp s) (hostMass s) v d h i R

end Cert.KernelIdeal.Hand

end
-- ==== Proof.HostRun.lean ====
module

public import proofs.«01_k».proof.Proof.Host
public import proofs.«01_k».proof.Proof.Gen.KernelIdeal.Frame
public import proofs.«01_k».proof.Proof.Gen.ReferenceIdeal.Read
public import proofs.«01_k».proof.Proof.Softmax
public import Idealize.ShloMosaic.Lib.Pointwise

@[expose] public section

set_option maxRecDepth 8192

noncomputable section

namespace Cert.KernelIdeal.Hand

open Idealize.ShloMosaic Idealize.ShloMosaic.TcCoe Idealize.ShloMosaic.StableHlo
open Cert.KernelIdeal.Gen Cert.ReferenceIdeal.Read

/-! # What the host's operations leave in the rows -/

variable (m : (ℓ : Loc nD τ sig) → Buf (Elt Ideal) ℓ)

/-- The four arguments. -/
abbrev argQ (c : Dev nD) : FVec Ideal S8x2048x256 .bf16 := m ((c : Thread nD τ).loc main_arg0)
abbrev argK (c : Dev nD) : FVec Ideal S8x2048x256 .bf16 := m ((c : Thread nD τ).loc main_arg1)
abbrev argV (c : Dev nD) : FVec Ideal S8x2048x128 .bf16 := m ((c : Thread nD τ).loc main_arg2)
abbrev argG (c : Dev nD) : FVec Ideal S2048x1024 .f32 := m ((c : Thread nD τ).loc main_arg3)

/-- The buffers after the host's masked scores. -/
abbrev W (c : Dev nD) : Valuation τ sig (Elt Ideal) :=
  StableHlo.after (List.flatten [hostOps0, hostOps0_1, hostOps0_2, hostOps0_3]) (fun b => m (c, b))

set_option maxHeartbeats 16000000 in
theorem lse_of (U : Valuation τ sig (Elt Ideal)) :
    StableHlo.after hostOps0_4 U (Proc.devRef .tc main_v32) = hostLse (U (Proc.devRef .tc main_v13)) := by
  simp only [hostOps0_4]
  after_results_simp
  rfl

set_option maxHeartbeats 16000000 in
theorem delta_of (U : Valuation τ sig (Elt Ideal)) :
    StableHlo.after hostOps0_4 U (Proc.devRef .tc main_v34)
      = hostDelta (U (Proc.devRef .tc main_v13)) (U (Proc.devRef .tc main_v2)) (U (Proc.devRef .tc main_arg3)) := by
  simp only [hostOps0_4]
  after_results_simp
  rfl

set_option maxHeartbeats 16000000 in
theorem W_masked (c : Dev nD) : W m c (Proc.devRef .tc main_v13) = val_main_v13_0 (F := Ideal) (argQ m c) (argK m c) := by
  dsimp only [W]
  simp only [hostOps0, hostOps0_1, hostOps0_2, hostOps0_3, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp
  rfl

set_option maxHeartbeats 16000000 in
theorem W_values (c : Dev nD) : W m c (Proc.devRef .tc main_v2) = val_main_v2 (F := Ideal) (argV m c) := by
  dsimp only [W]
  simp only [hostOps0, hostOps0_1, hostOps0_2, hostOps0_3, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp
  rfl

set_option maxHeartbeats 16000000 in
theorem W_grad (c : Dev nD) : W m c (Proc.devRef .tc main_arg3) = argG m c := by
  dsimp only [W]
  simp only [hostOps0, hostOps0_1, hostOps0_2, hostOps0_3, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp

theorem V_split (c : Dev nD) (b : Ref sig .tc) : V m c b = StableHlo.after hostOps0_4 (W m c) (Proc.devRef .tc b) := by
  show StableHlo.after (List.flatten ([hostOps0, hostOps0_1, hostOps0_2, hostOps0_3] ++ [hostOps0_4])) _ _ = _
  rw [List.flatten_append, StableHlo.after_append, List.flatten_cons, List.flatten_nil, List.append_nil]

theorem V_lse (c : Dev nD) : V m c main_v32 = hostLse (val_main_v13_0 (F := Ideal) (argQ m c) (argK m c)) := by
  rw [V_split, lse_of, W_masked]

theorem V_delta (c : Dev nD) : V m c main_v34
    = hostDelta (val_main_v13_0 (F := Ideal) (argQ m c) (argK m c)) (val_main_v2 (F := Ideal) (argV m c)) (argG m c) := by
  rw [V_split, delta_of, W_masked, W_values, W_grad]

end Cert.KernelIdeal.Hand

end
-- ==== Proof.Arrays.lean ====
module

public import proofs.«01_k».proof.Proof.Region
public import proofs.«01_k».proof.Proof.HostRun
public import Idealize.ShloMosaic.Lib.Pipeline.Value

@[expose] public section

set_option maxRecDepth 16384

noncomputable section

namespace Cert.KernelIdeal.Hand

open Idealize.ShloMosaic Idealize.ShloMosaic.TcCoe
open Idealize.ShloMosaic.Pipeline (Dat Cfg Window)
open Cert.KernelIdeal.Gen Cert.ReferenceIdeal.Read

/-! # The blocks a grid point reads, off the arguments -/

/-- Head `b` of the four a point works on. -/
def headAt (t : Fin cfg0.N) (b : Fin 4) : Fin 8 :=
  ⟨4 * (t.val / 8) + b.val, by have : t.val < 16 := Nat.lt_of_lt_of_eq t.isLt N_0; omega⟩

/-- Key `J` of the block of keys a point works on. -/
def keyAt (t : Fin cfg0.N) (J : Fin 256) : Fin 2048 := ⟨256 * (t.val % 8) + J.val, by omega⟩

theorem index_0 (t : Fin cfg0.N) : win0_0.index t 0 = t.val / 8 ∧ win0_0.index t 1 = 0 ∧ win0_0.index t 2 = 0 := by
  revert t; decide +kernel
theorem index_1 (t : Fin cfg0.N) : win0_1.index t 0 = t.val / 8 ∧ win0_1.index t 1 = t.val % 8 ∧ win0_1.index t 2 = 0 := by
  revert t; decide +kernel
theorem index_2 (t : Fin cfg0.N) : win0_2.index t 0 = t.val / 8 ∧ win0_2.index t 1 = t.val % 8 ∧ win0_2.index t 2 = 0 := by
  revert t; decide +kernel
theorem index_3 (t : Fin cfg0.N) : win0_3.index t 0 = 0 ∧ win0_3.index t 1 = t.val / 8 := by
  revert t; decide +kernel
theorem index_4 (t : Fin cfg0.N) : win0_4.index t 0 = t.val / 8 ∧ win0_4.index t 1 = 0 ∧ win0_4.index t 2 = 0 := by
  revert t; decide +kernel
theorem index_5 (t : Fin cfg0.N) : win0_5.index t 0 = t.val / 8 ∧ win0_5.index t 1 = 0 ∧ win0_5.index t 2 = 0 := by
  revert t; decide +kernel
theorem index_6 (t : Fin cfg0.N) : win0_6.index t 0 = t.val / 8 ∧ win0_6.index t 1 = 0 ∧ win0_6.index t 2 = 0 := by
  revert t; decide +kernel
theorem index_7 (t : Fin cfg0.N) : win0_7.index t 0 = t.val / 8 ∧ win0_7.index t 1 = t.val % 8 ∧ win0_7.index t 2 = 0 := by
  revert t; decide +kernel
theorem index_8 (t : Fin cfg0.N) : win0_8.index t 0 = t.val / 8 ∧ win0_8.index t 1 = t.val % 8 ∧ win0_8.index t 2 = 0 := by
  revert t; decide +kernel

theorem at_0 (t : Fin cfg0.N) (b : Fin 4) (R : Fin 2048) (e : Fin 256) :
    (win0_0.rect t).emb (ix3 b R e) = ix3 (headAt t b) R e := by
  obtain ⟨h0, h1, h2⟩ := index_0 t
  refine funext fun a => Fin.ext ?_
  refine (Pipeline.Window.rect_emb_val win0_0 t _ a).trans ?_
  match a with
  | ⟨0, _⟩ => show win0_0.index t 0 * 4 + b.val = 4 * (t.val / 8) + b.val; rw [h0]; omega
  | ⟨1, _⟩ => show win0_0.index t 1 * 2048 + R.val = R.val; rw [h1]; omega
  | ⟨2, _⟩ => show win0_0.index t 2 * 256 + e.val = e.val; rw [h2]; omega

theorem at_1 (t : Fin cfg0.N) (b : Fin 4) (J : Fin 256) (e : Fin 256) :
    (win0_1.rect t).emb (ix3 b J e) = ix3 (headAt t b) (keyAt t J) e := by
  obtain ⟨h0, h1, h2⟩ := index_1 t
  refine funext fun a => Fin.ext ?_
  refine (Pipeline.Window.rect_emb_val win0_1 t _ a).trans ?_
  match a with
  | ⟨0, _⟩ => show win0_1.index t 0 * 4 + b.val = 4 * (t.val / 8) + b.val; rw [h0]; omega
  | ⟨1, _⟩ => show win0_1.index t 1 * 256 + J.val = 256 * (t.val % 8) + J.val; rw [h1]; omega
  | ⟨2, _⟩ => show win0_1.index t 2 * 256 + e.val = e.val; rw [h2]; omega

theorem at_2 (t : Fin cfg0.N) (b : Fin 4) (J : Fin 256) (e : Fin 128) :
    (win0_2.rect t).emb (ix3 b J e) = ix3 (headAt t b) (keyAt t J) e := by
  obtain ⟨h0, h1, h2⟩ := index_2 t
  refine funext fun a => Fin.ext ?_
  refine (Pipeline.Window.rect_emb_val win0_2 t _ a).trans ?_
  match a with
  | ⟨0, _⟩ => show win0_2.index t 0 * 4 + b.val = 4 * (t.val / 8) + b.val; rw [h0]; omega
  | ⟨1, _⟩ => show win0_2.index t 1 * 256 + J.val = 256 * (t.val % 8) + J.val; rw [h1]; omega
  | ⟨2, _⟩ => show win0_2.index t 2 * 128 + e.val = e.val; rw [h2]; omega

/-- Lane `e` of head `h` in a row of the output's gradient. -/
def laneOf (h : Fin 8) (e : Fin 128) : Fin 1024 := ⟨h.val * 128 + e.val, by omega⟩

theorem at_3 (t : Fin cfg0.N) (R : Fin 2048) (b : Fin 4) (e : Fin 128) :
    (win0_3.rect t).emb (ix2 R (col b e)) = ix2 R (laneOf (headAt t b) e) := by
  obtain ⟨h0, h1⟩ := index_3 t
  refine funext fun a => Fin.ext ?_
  refine (Pipeline.Window.rect_emb_val win0_3 t _ a).trans ?_
  match a with
  | ⟨0, _⟩ => show win0_3.index t 0 * 2048 + R.val = R.val; rw [h0]; omega
  | ⟨1, _⟩ => show win0_3.index t 1 * 512 + (128 * b.val + e.val) = (4 * (t.val / 8) + b.val) * 128 + e.val; rw [h1]; omega

theorem at_4 (t : Fin cfg0.N) (b : Fin 4) (i : Fin 8) (R : Fin 2048) :
    (win0_4.rect t).emb (ix3 b i R) = ix3 (headAt t b) i R := by
  obtain ⟨h0, h1, h2⟩ := index_4 t
  refine funext fun a => Fin.ext ?_
  refine (Pipeline.Window.rect_emb_val win0_4 t _ a).trans ?_
  match a with
  | ⟨0, _⟩ => show win0_4.index t 0 * 4 + b.val = 4 * (t.val / 8) + b.val; rw [h0]; omega
  | ⟨1, _⟩ => show win0_4.index t 1 * 8 + i.val = i.val; rw [h1]; omega
  | ⟨2, _⟩ => show win0_4.index t 2 * 2048 + R.val = R.val; rw [h2]; omega

theorem at_5 (t : Fin cfg0.N) (b : Fin 4) (i : Fin 8) (R : Fin 2048) :
    (win0_5.rect t).emb (ix3 b i R) = ix3 (headAt t b) i R := by
  obtain ⟨h0, h1, h2⟩ := index_5 t
  refine funext fun a => Fin.ext ?_
  refine (Pipeline.Window.rect_emb_val win0_5 t _ a).trans ?_
  match a with
  | ⟨0, _⟩ => show win0_5.index t 0 * 4 + b.val = 4 * (t.val / 8) + b.val; rw [h0]; omega
  | ⟨1, _⟩ => show win0_5.index t 1 * 8 + i.val = i.val; rw [h1]; omega
  | ⟨2, _⟩ => show win0_5.index t 2 * 2048 + R.val = R.val; rw [h2]; omega

theorem at_6 (t : Fin cfg0.N) (b : Fin 4) (R : Fin 2048) (e : Fin 256) :
    (win0_6.rect t).emb (ix3 b R e) = ix3 (headAt t b) R e := by
  obtain ⟨h0, h1, h2⟩ := index_6 t
  refine funext fun a => Fin.ext ?_
  refine (Pipeline.Window.rect_emb_val win0_6 t _ a).trans ?_
  match a with
  | ⟨0, _⟩ => show win0_6.index t 0 * 4 + b.val = 4 * (t.val / 8) + b.val; rw [h0]; omega
  | ⟨1, _⟩ => show win0_6.index t 1 * 2048 + R.val = R.val; rw [h1]; omega
  | ⟨2, _⟩ => show win0_6.index t 2 * 256 + e.val = e.val; rw [h2]; omega

theorem at_7 (t : Fin cfg0.N) (b : Fin 4) (J : Fin 256) (e : Fin 256) :
    (win0_7.rect t).emb (ix3 b J e) = ix3 (headAt t b) (keyAt t J) e := by
  obtain ⟨h0, h1, h2⟩ := index_7 t
  refine funext fun a => Fin.ext ?_
  refine (Pipeline.Window.rect_emb_val win0_7 t _ a).trans ?_
  match a with
  | ⟨0, _⟩ => show win0_7.index t 0 * 4 + b.val = 4 * (t.val / 8) + b.val; rw [h0]; omega
  | ⟨1, _⟩ => show win0_7.index t 1 * 256 + J.val = 256 * (t.val % 8) + J.val; rw [h1]; omega
  | ⟨2, _⟩ => show win0_7.index t 2 * 256 + e.val = e.val; rw [h2]; omega

theorem at_8 (t : Fin cfg0.N) (b : Fin 4) (J : Fin 256) (e : Fin 128) :
    (win0_8.rect t).emb (ix3 b J e) = ix3 (headAt t b) (keyAt t J) e := by
  obtain ⟨h0, h1, h2⟩ := index_8 t
  refine funext fun a => Fin.ext ?_
  refine (Pipeline.Window.rect_emb_val win0_8 t _ a).trans ?_
  match a with
  | ⟨0, _⟩ => show win0_8.index t 0 * 4 + b.val = 4 * (t.val / 8) + b.val; rw [h0]; omega
  | ⟨1, _⟩ => show win0_8.index t 1 * 256 + J.val = 256 * (t.val % 8) + J.val; rw [h1]; omega
  | ⟨2, _⟩ => show win0_8.index t 2 * 128 + e.val = e.val; rw [h2]; omega

variable (m : (ℓ : Loc nD τ sig) → Buf (Elt Ideal) ℓ) (c : Dev nD) (t : Fin cfg0.N)

theorem bq_apply (b : Fin 4) (R : Fin 2048) (e : Fin 256) : bq m c t (ix3 b R e) = argQ m c (ix3 (headAt t b) R e) :=
  (congrFun (V_main_arg0 m c) _).trans (congrArg (argQ m c) (at_0 t b R e))
theorem bk_apply (b : Fin 4) (J : Fin 256) (e : Fin 256) : bk m c t (ix3 b J e) = argK m c (ix3 (headAt t b) (keyAt t J) e) :=
  (congrFun (V_main_arg1 m c) _).trans (congrArg (argK m c) (at_1 t b J e))
theorem bv_apply (b : Fin 4) (J : Fin 256) (e : Fin 128) : bv m c t (ix3 b J e) = argV m c (ix3 (headAt t b) (keyAt t J) e) :=
  (congrFun (V_main_arg2 m c) _).trans (congrArg (argV m c) (at_2 t b J e))
theorem bdo_apply (R : Fin 2048) (b : Fin 4) (e : Fin 128) : bdo m c t (ix2 R (col b e)) = argG m c (ix2 R (laneOf (headAt t b) e)) :=
  (congrFun (V_main_arg3 m c) _).trans (congrArg (argG m c) (at_3 t R b e))
/-- A block of the rows handed over, off any buffers. -/
theorem read_4 (U : (b : Ref sig .tc) → Buf (Elt Ideal) ((c : Thread nD τ).loc b)) (y : S4x8x2048.Idx) :
    ((cfg0.win 4).blk t).view.read (Elt Ideal) (U (Pipeline.arrRef spec0 4)) y = U main_v32 ((win0_4.rect t).emb y) := rfl
theorem read_5 (U : (b : Ref sig .tc) → Buf (Elt Ideal) ((c : Thread nD τ).loc b)) (y : S4x8x2048.Idx) :
    ((cfg0.win 5).blk t).view.read (Elt Ideal) (U (Pipeline.arrRef spec0 5)) y = U main_v34 ((win0_5.rect t).emb y) := rfl

theorem bl_of (Y : Vec Ideal S8x8x2048 .f32) (hY : V m c main_v32 = Y) (b : Fin 4) (i : Fin 8) (R : Fin 2048) :
    bl m c t (ix3 b i R) = Y (ix3 (headAt t b) i R) := by
  subst hY
  rw [← at_4 t b i R]
  exact read_4 c t (V m c) (ix3 b i R)
theorem bd_of (Y : Vec Ideal S8x8x2048 .f32) (hY : V m c main_v34 = Y) (b : Fin 4) (i : Fin 8) (R : Fin 2048) :
    bd m c t (ix3 b i R) = Y (ix3 (headAt t b) i R) := by
  subst hY
  rw [← at_5 t b i R]
  exact read_5 c t (V m c) (ix3 b i R)

end Cert.KernelIdeal.Hand

end
-- ==== Proof.RefVal.lean ====
module

public import proofs.«01_k».proof.Proof.Gen.ReferenceIdeal.Read
public import proofs.«01_k».proof.Proof.Softmax
public import Idealize.ShloMosaic.Lib.Pointwise

@[expose] public section

noncomputable section

namespace Cert.ReferenceIdeal.Hand

open Idealize.ShloMosaic Idealize.ShloMosaic.TcCoe
open Cert.ReferenceIdeal Cert.ReferenceIdeal.Gen Cert.ReferenceIdeal.Read Cert.Attention

/-! # The reference's gradients are the real ones, of finite arguments -/

/-- The factor of the scores. -/
def scale : ℝ := (Ideal.ofBits .f32 0x3D93CD3A#32).toReal

theorem scale_eq : Ideal.ofBits .f32 0x3D93CD3A#32 = (scale : EReal) := by
  have h : ∃ r : ℝ, Ideal.ofBits .f32 0x3D93CD3A#32 = (r : EReal) := by
    simp only [Ideal.ofBits, Ideal.ieee]
    rw [if_neg (by decide), if_neg (by decide)]
    exact ⟨_, rfl⟩
  obtain ⟨r, hr⟩ := h
  rw [scale, hr, EReal.toReal_coe]

theorem bot_eq : Ideal.ofBits .f32 0xFF800000#32 = ⊥ := by
  simp only [Ideal.ofBits, Ideal.ieee]
  rw [if_pos (by decide), if_pos (by decide), if_pos (by decide)]

/-- The number of the chunk a row lies in, as the host's floor division spells it. -/
theorem chunk_word (R : Fin 2048) : val_main_v7 (F := Ideal) (ix1 R) = BitVec.ofNat 32 (R.val / 64) := by
  pointwise [val_main_v7, val_main_call0_v11, val_main_call0_v13, val_main_call0_v2, val_main_call0_v6, val_main_call0_v10, val_main_call0_v12, val_main_call0_c_0, val_main_call0_v9, val_main_call0_c, val_main_call0_v8, val_main_call0_v7, val_main_call0_v5, val_main_call0_v4, val_main_call0_v3, val_main_call0_v1, val_main_call0_v0, val_main_c, val_main_v6]
  revert R; decide +kernel

theorem chunk_le (K R : Fin 2048) :
    IntOp.cmpi CmpIPredicate.sle (BitVec.ofNat 32 (K.val / 64)) (BitVec.ofNat 32 (R.val / 64))
      = if K.val / 64 ≤ R.val / 64 then 1#1 else 0#1 := by
  have h : ∀ a b : Fin 32, IntOp.cmpi CmpIPredicate.sle (BitVec.ofNat 32 a.val) (BitVec.ofNat 32 b.val)
      = if a.val ≤ b.val then 1#1 else 0#1 := by decide +kernel
  exact h ⟨K.val / 64, by omega⟩ ⟨R.val / 64, by omega⟩

theorem mask_apply (h : Fin 8) (R K : Fin 2048) :
    val_main_v13_1 (F := Ideal) (ix3 h R K) = if K.val / 64 ≤ R.val / 64 then 1#1 else 0#1 := by
  rw [← chunk_le, ← chunk_word, ← chunk_word]
  pointwise [val_main_v13_1, val_main_v12, val_main_v11, val_main_v10, val_main_v9, val_main_v8]

/-- The column of head `h`'s lane `e` in the output's gradient. -/
def lane (h : Fin 8) (e : Fin 128) : Fin 1024 := ⟨h.val * 128 + e.val, by omega⟩

theorem select_one (a b : EReal) : Scalar.select 1#1 a b = a := by rfl
theorem select_zero (a b : EReal) : Scalar.select 0#1 a b = b := by rfl

/-- The arguments are finite: `q`, `k`, `v` and `g` are their real values. -/
structure Reals (x0 x1 : FVec Ideal S8x2048x256 .bf16) (x2 : FVec Ideal S8x2048x128 .bf16) (x3 : FVec Ideal S2048x1024 .f32)
    (q k : Fin 8 → Fin 2048 → Fin 256 → ℝ) (v g : Fin 8 → Fin 2048 → Fin 128 → ℝ) : Prop where
  hq : ∀ h R e, x0 (ix3 h R e) = (q h R e : EReal)
  hk : ∀ h R e, x1 (ix3 h R e) = (k h R e : EReal)
  hv : ∀ h R e, x2 (ix3 h R e) = (v h R e : EReal)
  hg : ∀ h R e, x3 (ix2 R (lane h e)) = (g h R e : EReal)

section
variable {x0 x1 : FVec Ideal S8x2048x256 .bf16} {x2 : FVec Ideal S8x2048x128 .bf16} {x3 : FVec Ideal S2048x1024 .f32}
  {q k : Fin 8 → Fin 2048 → Fin 256 → ℝ} {v g : Fin 8 → Fin 2048 → Fin 128 → ℝ} (A : Reals x0 x1 x2 x3 q k v g)
include A

theorem lane_grad (h : Fin 8) (R : Fin 2048) (e : Fin 128) (p) : x3 (ix2 R ⟨h.val * 128 + e.val, p⟩) = (g h R e : EReal) := A.hg h R e

theorem score_eq (h : Fin 8) (R K : Fin 2048) : val_main_v5 (F := Ideal) x0 x1 (ix3 h R K) = (score (q h) (k h) scale R K : EReal) := by
  pointwise [val_main_v5, val_main_v3, val_main_v0, val_main_v1, val_main_v4, val_main_cst]
  simp only [A.hq, A.hk, scale_eq, score, EReal.coe_mul, coe_sum]

theorem masked_eq (h : Fin 8) (R K : Fin 2048) : val_main_v13_0 (F := Ideal) x0 x1 (ix3 h R K) = masked (q h) (k h) scale R K := by
  rw [val_main_v13_0_apply, mask_apply, score_eq A]
  unfold masked
  split
  · rfl
  · exact bot_eq

theorem top_eq (h : Fin 8) (R : Fin 2048) : val_main_v14 (F := Ideal) x0 x1 (ix2 h R) = (top (q h) (k h) scale R : EReal) := by
  pointwise [val_main_v14, val_main_cst_1]
  simp only [masked_eq A, bot_eq, fold_masked]

theorem bound_row (h : Fin 8) (R : Fin 2048) : val_main_v21 (F := Ideal) x0 x1 (ix2 h R) = (top (q h) (k h) scale R : EReal) := by
  rw [val_main_v21_apply, val_main_v20_apply, val_main_cst_3_apply, top_eq A]
  exact (congrArg (fun y : EReal => max y _) bot_eq).trans (max_eq_right bot_le)

theorem bound_eq (h : Fin 8) (R : Fin 2048) (z : Fin 1) : val_main_v31 (F := Ideal) x0 x1 (ix3 h R z) = (top (q h) (k h) scale R : EReal) := by
  rw [← bound_row A h R]
  unfold val_main_v31
  generalize val_main_v21 (F := Ideal) x0 x1 = t
  pointwise []

theorem weight_eq (h : Fin 8) (R K : Fin 2048) : val_main_v34 (F := Ideal) x0 x1 (ix3 h R K) = (weight (q h) (k h) scale R K : EReal) := by
  have hm := masked_eq A h R K
  have ht := bound_eq A h R 0
  unfold val_main_v34 val_main_v33 val_main_v32
  generalize val_main_v13_0 (F := Ideal) x0 x1 = s at *
  generalize val_main_v31 (F := Ideal) x0 x1 = t at *
  pointwise []
  rw [hm, ht, exp_masked]

theorem mass_eq (h : Fin 8) (R : Fin 2048) : val_main_v35 (F := Ideal) x0 x1 (ix2 h R) = (mass (q h) (k h) scale R : EReal) := by
  pointwise [val_main_v35, val_main_cst_9]
  simp only [weight_eq A, mass, coe_sum]

theorem prob_eq (h : Fin 8) (R K : Fin 2048) : val_main_v38 (F := Ideal) x0 x1 (ix3 h R K) = (prob (q h) (k h) scale R K : EReal) := by
  pointwise [val_main_v38, val_main_v37, val_main_v36]
  rw [weight_eq A, mass_eq A, div_coe_coe _ _ (mass_pos _ _ _ _).ne', prob]

theorem dprob_eq (h : Fin 8) (R K : Fin 2048) : val_main_v47 (F := Ideal) x2 x3 (ix3 h R K) = (dprob (v h) (g h) R K : EReal) := by
  pointwise [val_main_v47, val_main_v46, val_main_v45, val_main_v2]
  simp only [lane_grad A, A.hv, dprob, coe_sum, EReal.coe_mul, mul_comm]

theorem square_eq (h : Fin 8) (R : Fin 2048) (z : Fin 1) : val_main_v41 (F := Ideal) x0 x1 (ix3 h R z)
    = ((1 / (mass (q h) (k h) scale R * mass (q h) (k h) scale R) : ℝ) : EReal) := by
  pointwise [val_main_v41, val_main_v40, val_main_v39, val_main_v36, val_main_cst_10]
  rw [mass_eq A, ← EReal.coe_mul, ← EReal.coe_one, div_coe_coe _ _ (mul_pos (mass_pos _ _ _ _) (mass_pos _ _ _ _)).ne']

theorem mean_eq (h : Fin 8) (R : Fin 2048) (z : Fin 1) : val_main_v55 (F := Ideal) x0 x1 x2 x3 (ix3 h R z)
    = ((-(∑ J, dprob (v h) (g h) R J * (1 / (mass (q h) (k h) scale R * mass (q h) (k h) scale R)) * weight (q h) (k h) scale R J) : ℝ) : EReal) := by
  pointwise [val_main_v55, val_main_v54, val_main_v53, val_main_v52, val_main_v51, val_main_v50, val_main_cst_11]
  simp only [dprob_eq A, square_eq A, weight_eq A, EReal.coe_neg, coe_sum, EReal.coe_mul]

theorem dscore_eq (h : Fin 8) (R K : Fin 2048) : val_main_v64 (F := Ideal) x0 x1 x2 x3 (ix3 h R K)
    = (dscore (q h) (k h) (v h) (g h) scale R K : EReal) := by
  have e1 := mask_apply h R K
  have e2 := mean_eq A h R 0
  have e3 := mass_eq A h R
  have e4 := dprob_eq A h R K
  have e5 := weight_eq A h R K
  unfold val_main_v64 val_main_v62 val_main_v61 val_main_v60 val_main_v59 val_main_v58 val_main_v57 val_main_v56 val_main_v36
  generalize val_main_v13_1 (F := Ideal) = b at *
  generalize val_main_v55 (F := Ideal) x0 x1 x2 x3 = n at *
  generalize val_main_v35 (F := Ideal) x0 x1 = l at *
  generalize val_main_v47 (F := Ideal) x2 x3 = d at *
  generalize val_main_v34 (F := Ideal) x0 x1 = w at *
  pointwise [val_main_v63, val_main_cst_12, val_main_cst_13, val_main_call2_v0, val_main_call2_cst]
  simp only [Fin.sum_univ_one, Fintype.sum_unique, Fin.default_eq_zero]
  rw [e1, e2, e3, e4, e5, scale_eq, div_coe_coe _ _ (mass_pos _ _ _ _).ne', ← EReal.coe_add, ← EReal.coe_mul]
  by_cases hc : K.val / 64 ≤ R.val / 64
  · rw [if_pos hc]
    refine Eq.trans (select_one _ _) ?_
    rw [← EReal.coe_mul, dscore_quotient]
  · rw [if_neg hc]
    refine Eq.trans (select_zero _ _) ?_
    rw [dscore, prob_masked _ _ _ _ _ hc, zero_mul, zero_mul, EReal.coe_zero]

theorem gradV_eq (h : Fin 8) (K : Fin 2048) (e : Fin 128) : val_main_v49 (F := Ideal) x0 x1 x3 (ix3 h K e)
    = (gradV (q h) (k h) (g h) scale K e : EReal) := by
  pointwise [val_main_v49, val_main_v48, val_main_v46, val_main_v45]
  simp only [lane_grad A, prob_eq A, gradV, coe_sum, EReal.coe_mul, mul_comm]

theorem gradK_eq (h : Fin 8) (K : Fin 2048) (e : Fin 256) : val_main_v65 (F := Ideal) x0 x1 x2 x3 (ix3 h K e)
    = (gradK (q h) (k h) (v h) (g h) scale K e : EReal) := by
  pointwise [val_main_v65, val_main_v0]
  simp only [dscore_eq A, A.hq, gradK, coe_sum, EReal.coe_mul]

theorem gradQ_eq (h : Fin 8) (R : Fin 2048) (e : Fin 256) : val_main_v66 (F := Ideal) x0 x1 x2 x3 (ix3 h R e)
    = (gradQ (q h) (k h) (v h) (g h) scale R e : EReal) := by
  pointwise [val_main_v66, val_main_v1]
  simp only [dscore_eq A, A.hk, gradQ, coe_sum, EReal.coe_mul]

end

end Cert.ReferenceIdeal.Hand

end
-- ==== Proof.Values.lean ====
module

public import proofs.«01_k».proof.Proof.Arrays
public import proofs.«01_k».proof.Proof.RefVal

@[expose] public section

set_option maxRecDepth 16384

noncomputable section

namespace Cert.KernelIdeal.Hand

open Idealize.ShloMosaic Idealize.ShloMosaic.TcCoe
open Idealize.ShloMosaic.Pipeline (Dat Cfg Window)
open Cert.KernelIdeal.Gen Cert.ReferenceIdeal.Read Cert.Attention
open Cert.ReferenceIdeal.Hand (Reals scale scale_eq bot_eq masked_eq)

/-! # What the kernel leaves, at real arguments -/

/-! ## Sums by blocks -/

theorem sum_rows (f : Fin 2048 → ℝ) : ∑ n : Fin 8, ∑ c : Fin 256, f (row n c) = ∑ R, f R := by
  rw [← Fintype.sum_prod_type']
  exact Fintype.sum_equiv (finProdFinEquiv (m := 8) (n := 256)) _ _ fun x => congrArg f (Fin.ext (by
    show 256 * x.1.val + x.2.val = x.2.val + 256 * x.1.val
    omega))

/-- The part of a sum that block `n` holds. -/
def part (f : Fin 2048 → ℝ) (n : ℕ) : ℝ := if h : n < 8 then ∑ c : Fin 256, f (row ⟨n, h⟩ c) else 0

theorem sum_parts (f : Fin 2048 → ℝ) : ∑ n ∈ Finset.range 8, part f n = ∑ R, f R := by
  rw [Finset.sum_range, ← sum_rows]
  exact Finset.sum_congr rfl fun n _ => dif_pos n.isLt

theorem keyAt_row (t : Fin cfg0.N) (J : Fin 256) : keyAt t J = row ⟨t.val % 8, by omega⟩ J := rfl

theorem part_at (t : Fin cfg0.N) (f : Fin 2048 → ℝ) : part f (t.val % 8) = ∑ J, f (keyAt t J) := dif_pos (by omega)

section
variable {m : (ℓ : Loc nD τ sig) → Buf (Elt Ideal) ℓ} {c : Dev nD}
  {q k : Fin 8 → Fin 2048 → Fin 256 → ℝ} {v g : Fin 8 → Fin 2048 → Fin 128 → ℝ}
  (A : Reals (argQ m c) (argK m c) (argV m c) (argG m c) q k v g)
include A

/-! ## The rows the host hands over -/

theorem hostTop_real (h : Fin 8) (R : Fin 2048) (z : Fin 1) :
    hostTop (val_main_v13_0 (F := Ideal) (argQ m c) (argK m c)) (ix3 h R z) = (top (q h) (k h) scale R : EReal) := by
  rw [hostTop_apply]
  simp only [masked_eq A, bot_eq, fold_masked]

theorem hostExp_real (h : Fin 8) (R K : Fin 2048) :
    hostExp (val_main_v13_0 (F := Ideal) (argQ m c) (argK m c)) (ix3 h R K) = (weight (q h) (k h) scale R K : EReal) := by
  rw [hostExp_apply, masked_eq A, hostTop_real A, exp_masked]

theorem hostMass_real (h : Fin 8) (R : Fin 2048) (z : Fin 1) :
    hostMass (val_main_v13_0 (F := Ideal) (argQ m c) (argK m c)) (ix3 h R z) = (mass (q h) (k h) scale R : EReal) := by
  rw [hostMass_apply]
  simp only [hostExp_real A, mass, coe_sum]

theorem lse_real (t : Fin cfg0.N) (b : Fin 4) (i : Fin 8) (R : Fin 2048) : bl m c t (ix3 b i R)
    = ((top (q (headAt t b)) (k (headAt t b)) scale R + Real.log (mass (q (headAt t b)) (k (headAt t b)) scale R) : ℝ) : EReal) := by
  rw [bl_of m c t _ (V_lse m c), hostLse_apply, hostTop_real A, hostMass_real A, log_mass, EReal.coe_add]

theorem delta_real (t : Fin cfg0.N) (b : Fin 4) (i : Fin 8) (R : Fin 2048) : bd m c t (ix3 b i R)
    = (share (q (headAt t b)) (k (headAt t b)) (v (headAt t b)) (g (headAt t b)) scale R : EReal) := by
  rw [bd_of m c t _ (V_delta m c), hostDelta_apply, ← share_eq, coe_sum]
  refine Finset.sum_congr rfl fun e _ => ?_
  rw [EReal.coe_mul, coe_sum]
  refine congrArg₂ (· * ·) (Finset.sum_congr rfl fun K _ => ?_) (A.hg (headAt t b) R e)
  rw [hostExp_real A, hostMass_real A, div_coe_coe _ _ (mass_pos _ _ _ _).ne', EReal.coe_mul]
  exact congrArg (_ * ·) (by rw [val_main_v2_apply]; exact A.hv _ _ _)

/-! ## One point -/

theorem sco_real (t : Fin cfg0.N) (b : Fin 4) (R : Fin 2048) (J : Fin 256) : sco (bq m c t) (bk m c t) b R J
    = (score (q (headAt t b)) (k (headAt t b)) scale R (keyAt t J) : EReal) := by
  unfold sco sc
  simp only [bq_apply, bk_apply, A.hq, A.hk, scale_eq, score, EReal.coe_mul, coe_sum]
  simp only [mul_comm (k _ _ _ : EReal)]

theorem pr_real (t : Fin cfg0.N) (b : Fin 4) (R : Fin 2048) (J : Fin 256) :
    pr (kbOf (grid0.coords t)) (bq m c t) (bk m c t) (bl m c t) b R J
      = (prob (q (headAt t b)) (k (headAt t b)) scale R (keyAt t J) : EReal) := by
  unfold pr
  rw [kbOf_val]
  by_cases h : (256 * (t.val % 8) + J.val) / 64 ≤ R.val / 64
  · rw [if_pos h, sco_real A, lse_real A, ← EReal.coe_sub, Ideal.exp_coe, exp_lse _ _ _ _ _ h]
  · rw [if_neg h, prob_masked _ _ _ _ _ h, EReal.coe_zero]

theorem dpr_real (t : Fin cfg0.N) (b : Fin 4) (R : Fin 2048) (J : Fin 256) :
    dpr (bv m c t) (bdo m c t) b R J = (dprob (v (headAt t b)) (g (headAt t b)) R (keyAt t J) : EReal) := by
  unfold dpr dprob
  rw [coe_sum]
  refine Finset.sum_congr rfl fun e _ => ?_
  rw [bv_apply, bdo_apply, A.hv, EReal.coe_mul]
  exact congrArg (_ * ·) (A.hg (headAt t b) R e)

theorem dsc_real (t : Fin cfg0.N) (b : Fin 4) (R : Fin 2048) (J : Fin 256) :
    dsc (kbOf (grid0.coords t)) (bq m c t) (bk m c t) (bv m c t) (bdo m c t) (bl m c t) (bd m c t) b R J
      = (dscore (q (headAt t b)) (k (headAt t b)) (v (headAt t b)) (g (headAt t b)) scale R (keyAt t J) : EReal) := by
  unfold dsc sc dscore
  rw [pr_real A, dpr_real A, delta_real A, scale_eq, EReal.coe_mul, EReal.coe_mul, EReal.coe_sub]

theorem addQ_real (t : Fin cfg0.N) (b : Fin 4) (R : Fin 2048) (e : Fin 256) :
    addQ (kbOf (grid0.coords t)) (bq m c t) (bk m c t) (bv m c t) (bdo m c t) (bl m c t) (bd m c t) b R e
      = (part (fun K => dscore (q (headAt t b)) (k (headAt t b)) (v (headAt t b)) (g (headAt t b)) scale R K * k (headAt t b) K e) (t.val % 8) : EReal) := by
  unfold addQ
  rw [part_at, coe_sum]
  exact Finset.sum_congr rfl fun J _ => by rw [dsc_real A, bk_apply, A.hk, EReal.coe_mul]

theorem left8_real (t : Fin cfg0.N) (b : Fin 4) (J : Fin 256) (e : Fin 128) :
    left8 m c t (ix3 b J e) = (gradV (q (headAt t b)) (k (headAt t b)) (g (headAt t b)) scale (keyAt t J) e : EReal) := by
  show outV _ _ _ _ _ b J e = _
  unfold outV addV gradV
  rw [← sum_rows, coe_sum]
  refine Finset.sum_congr rfl fun n _ => ?_
  rw [coe_sum]
  refine Finset.sum_congr rfl fun r _ => ?_
  rw [pr_real A, bdo_apply, EReal.coe_mul]
  exact congrArg (_ * ·) (A.hg (headAt t b) (row n r) e)

theorem left7_real (t : Fin cfg0.N) (b : Fin 4) (J : Fin 256) (e : Fin 256) :
    left7 m c t (ix3 b J e)
      = (gradK (q (headAt t b)) (k (headAt t b)) (v (headAt t b)) (g (headAt t b)) scale (keyAt t J) e : EReal) := by
  show outK _ _ _ _ _ _ _ b J e = _
  unfold outK addK gradK
  rw [← sum_rows, coe_sum]
  refine Finset.sum_congr rfl fun n _ => ?_
  rw [coe_sum]
  refine Finset.sum_congr rfl fun r _ => ?_
  rw [dsc_real A, bq_apply, A.hq, EReal.coe_mul]

/-- The queries' gradient after a point: the keys of the blocks up to the point's. -/
theorem rows_real (n : ℕ) : ∀ (hn : n < cfg0.N) (b : Fin 4) (R : Fin 2048) (e : Fin 256), rows m c n hn b R e
    = ((∑ i ∈ Finset.range (n % 8 + 1), part (fun K => dscore (q (headAt ⟨n, hn⟩ b)) (k (headAt ⟨n, hn⟩ b)) (v (headAt ⟨n, hn⟩ b)) (g (headAt ⟨n, hn⟩ b)) scale R K
        * k (headAt ⟨n, hn⟩ b) K e) i : ℝ) : EReal) := by
  induction n using Nat.strong_induction_on with
  | _ n ih =>
    intro hn b R e
    by_cases h : n % 8 = 0
    · rw [rows_first m c ⟨n, hn⟩ h]
      show (0 : EReal) + addQ _ _ _ _ _ _ _ b R e = _
      rw [addQ_real A, zero_add]
      show ((part _ (n % 8) : ℝ) : EReal) = _
      rw [h, zero_add, Finset.sum_range_one]
    · rw [rows_later m c ⟨n, hn⟩ h]
      show rows m c (n - 1) _ b R e + addQ _ _ _ _ _ _ _ b R e = _
      rw [addQ_real A, ih (n - 1) (by omega)]
      have h1 : (n - 1) % 8 + 1 = n % 8 := by omega
      have h2 : headAt ⟨n - 1, Nat.lt_of_le_of_lt (Nat.sub_le _ _) hn⟩ b = headAt ⟨n, hn⟩ b := Fin.ext (by
        show 4 * ((n - 1) / 8) + b.val = 4 * (n / 8) + b.val
        omega)
      rw [h1, h2, Finset.sum_range_succ, EReal.coe_add]

theorem left6_real (t : Fin cfg0.N) (ht : t.val % 8 = 7) (b : Fin 4) (R : Fin 2048) (e : Fin 256) :
    left6 m c t (ix3 b R e)
      = (gradQ (q (headAt t b)) (k (headAt t b)) (v (headAt t b)) (g (headAt t b)) scale R e : EReal) := by
  show rows m c t.val t.isLt b R e = _
  rw [rows_real A, ht, sum_parts]
  rfl

/-! ## The arrays -/

omit A

/-- The gradients as arrays. -/
def arrQ (q k : Fin 8 → Fin 2048 → Fin 256 → ℝ) (v g : Fin 8 → Fin 2048 → Fin 128 → ℝ) : Vec Ideal S8x2048x256 .f32 :=
  fun i => (gradQ (q (i 0)) (k (i 0)) (v (i 0)) (g (i 0)) scale (i 1) (i 2) : EReal)
def arrK (q k : Fin 8 → Fin 2048 → Fin 256 → ℝ) (v g : Fin 8 → Fin 2048 → Fin 128 → ℝ) : Vec Ideal S8x2048x256 .f32 :=
  fun i => (gradK (q (i 0)) (k (i 0)) (v (i 0)) (g (i 0)) scale (i 1) (i 2) : EReal)
def arrV (q k : Fin 8 → Fin 2048 → Fin 256 → ℝ) (g : Fin 8 → Fin 2048 → Fin 128 → ℝ) : Vec Ideal S8x2048x128 .f32 :=
  fun i => (gradV (q (i 0)) (k (i 0)) (g (i 0)) scale (i 1) (i 2) : EReal)

/-- The last point of the group of head `h`. -/
def lastOf (h : Fin 8) : Fin cfg0.N := ⟨8 * (h.val / 4) + 7, Nat.lt_of_lt_of_eq (by omega : 8 * (h.val / 4) + 7 < 16) N_0.symm⟩

/-- The point of head `h` and key `K`. -/
def pointOf (h : Fin 8) (K : Fin 2048) : Fin cfg0.N := ⟨8 * (h.val / 4) + K.val / 256, Nat.lt_of_lt_of_eq (by omega : 8 * (h.val / 4) + K.val / 256 < 16) N_0.symm⟩

theorem cover_6 (h : Fin 8) (R : Fin 2048) (e : Fin 256) :
    ∃ t : Fin cfg0.N, (cfg0.win 6).flush t = true ∧ ix3 h R e ∈ ((cfg0.win 6).blk t).view.set := by
  refine ⟨lastOf h, (flush0_6 _).mpr (by show (8 * (h.val / 4) + 7) % 8 = 7; omega), ?_⟩
  have hm := ((cfg0.win 6).blk (lastOf h)).view.emb_mem_set (ix3 (⟨h.val % 4, by omega⟩ : Fin 4) R e)
  have he : ((cfg0.win 6).blk (lastOf h)).view.emb (ix3 (⟨h.val % 4, by omega⟩ : Fin 4) R e) = ix3 h R e := by
    refine (at_6 (lastOf h) ⟨h.val % 4, by omega⟩ R e).trans ?_
    have : headAt (lastOf h) ⟨h.val % 4, by omega⟩ = h := Fin.ext (by
      show 4 * ((8 * (h.val / 4) + 7) / 8) + h.val % 4 = h.val
      omega)
    rw [this]
  rwa [he] at hm

theorem point_head (h : Fin 8) (K : Fin 2048) : headAt (pointOf h K) ⟨h.val % 4, by omega⟩ = h := Fin.ext (by
  show 4 * ((8 * (h.val / 4) + K.val / 256) / 8) + h.val % 4 = h.val
  omega)
theorem point_key (h : Fin 8) (K : Fin 2048) : keyAt (pointOf h K) ⟨K.val % 256, by omega⟩ = K := Fin.ext (by
  show 256 * ((8 * (h.val / 4) + K.val / 256) % 8) + K.val % 256 = K.val
  omega)

theorem cover_7 (h : Fin 8) (K : Fin 2048) (e : Fin 256) :
    ∃ t : Fin cfg0.N, (cfg0.win 7).flush t = true ∧ ix3 h K e ∈ ((cfg0.win 7).blk t).view.set := by
  refine ⟨pointOf h K, flush0_7 _, ?_⟩
  have hm := ((cfg0.win 7).blk (pointOf h K)).view.emb_mem_set (ix3 (⟨h.val % 4, by omega⟩ : Fin 4) (⟨K.val % 256, by omega⟩ : Fin 256) e)
  have he : ((cfg0.win 7).blk (pointOf h K)).view.emb (ix3 (⟨h.val % 4, by omega⟩ : Fin 4) (⟨K.val % 256, by omega⟩ : Fin 256) e) = ix3 h K e := by
    refine (at_7 (pointOf h K) ⟨h.val % 4, by omega⟩ ⟨K.val % 256, by omega⟩ e).trans ?_
    rw [point_head, point_key]
  rwa [he] at hm

theorem cover_8 (h : Fin 8) (K : Fin 2048) (e : Fin 128) :
    ∃ t : Fin cfg0.N, (cfg0.win 8).flush t = true ∧ ix3 h K e ∈ ((cfg0.win 8).blk t).view.set := by
  refine ⟨pointOf h K, flush0_8 _, ?_⟩
  have hm := ((cfg0.win 8).blk (pointOf h K)).view.emb_mem_set (ix3 (⟨h.val % 4, by omega⟩ : Fin 4) (⟨K.val % 256, by omega⟩ : Fin 256) e)
  have he : ((cfg0.win 8).blk (pointOf h K)).view.emb (ix3 (⟨h.val % 4, by omega⟩ : Fin 4) (⟨K.val % 256, by omega⟩ : Fin 256) e) = ix3 h K e := by
    refine (at_8 (pointOf h K) ⟨h.val % 4, by omega⟩ ⟨K.val % 256, by omega⟩ e).trans ?_
    rw [point_head, point_key]
  rwa [he] at hm

include A

theorem final_6 : (dats m 0 c).arrAt 6 cfg0.N = arrQ q k v g := by
  refine (dats m 0 c).arrAt_eq_of_cover 6 (arrQ q k v g) (fun t hf => ?_) (fun i => ?_)
  rotate_left
  · have hc := cover_6 (i 0) (i 1) (i 2)
    rw [← eq_ix3 i] at hc
    exact hc
  show (cfg0.win 6).cut (grid0.coords t) ((dats m 0 c).after 6 t) = _
  rw [after_6]
  have hl : ∀ (b : Fin 4) (R : Fin 2048) (e : Fin 256), left6 m c t (ix3 b R e) = arrQ q k v g ((win0_6.rect t).emb (ix3 b R e)) := fun b R e => by
    rw [at_6, left6_real A t ((flush0_6 t).mp hf)]; rfl
  funext ix
  have hx := hl (ix 0) (ix 1) (ix 2)
  rw [← eq_ix3 ix] at hx
  exact hx

theorem final_7 : (dats m 0 c).arrAt 7 cfg0.N = arrK q k v g := by
  refine (dats m 0 c).arrAt_eq_of_cover 7 (arrK q k v g) (fun t hf => ?_) (fun i => ?_)
  rotate_left
  · have hc := cover_7 (i 0) (i 1) (i 2)
    rw [← eq_ix3 i] at hc
    exact hc
  show (cfg0.win 7).cut (grid0.coords t) ((dats m 0 c).after 7 t) = _
  rw [after_7]
  have hl : ∀ (b : Fin 4) (J : Fin 256) (e : Fin 256), left7 m c t (ix3 b J e) = arrK q k v g ((win0_7.rect t).emb (ix3 b J e)) := fun b J e => by
    rw [at_7, left7_real A]; rfl
  funext ix
  have hx := hl (ix 0) (ix 1) (ix 2)
  rw [← eq_ix3 ix] at hx
  exact hx

theorem final_8 : (dats m 0 c).arrAt 8 cfg0.N = arrV q k g := by
  refine (dats m 0 c).arrAt_eq_of_cover 8 (arrV q k g) (fun t hf => ?_) (fun i => ?_)
  rotate_left
  · have hc := cover_8 (i 0) (i 1) (i 2)
    rw [← eq_ix3 i] at hc
    exact hc
  show (cfg0.win 8).cut (grid0.coords t) ((dats m 0 c).after 8 t) = _
  rw [after_8]
  have hl : ∀ (b : Fin 4) (J : Fin 256) (e : Fin 128), left8 m c t (ix3 b J e) = arrV q k g ((win0_8.rect t).emb (ix3 b J e)) := fun b J e => by
    rw [at_8, left8_real A]; rfl
  funext ix
  have hx := hl (ix 0) (ix 1) (ix 2)
  rw [← eq_ix3 ix] at hx
  exact hx

end

end Cert.KernelIdeal.Hand

end
-- ==== Proof.Pre.lean ====
module

public import proofs.«01_k».proof.Defs
public import Idealize.ShloMosaic.Lib.ReduceAll
public import Idealize.ShloMosaic.Lib.Pointwise
public import Idealize.ShloMosaic.PureOps.Ideal.Laws

@[expose] public section

set_option maxRecDepth 16384

noncomputable section

namespace Cert.Pre_finite

open Idealize.ShloMosaic

/-! # The precondition: every entry of the arguments is a real number -/

theorem facts : Facts where
  bitsLt_bf16_f32 := by decide
  bcast_S_S8x2048x256 := by decide
  reducesTo_S8x2048x256_S_d0_1_2 := by decide
  h_S_ := by decide
  bcast_S_S8x2048x128 := by decide
  reducesTo_S8x2048x128_S_d0_1_2 := by decide
  bcast_S_S2048x1024 := by decide
  reducesTo_S2048x1024_S_d0_1 := by decide

attribute [local instance] facts

theorem inf_eq : Ideal.ofBits .f32 0x7F800000#32 = ⊤ := by
  show Ideal.ieee 8 23 0x7F800000#32 = ⊤
  rw [Ideal.ieee]
  simp

theorem real_of_lt (x : EReal) (h : max x (-x) < ⊤) : ∃ y : ℝ, x = (y : EReal) := by
  induction x with
  | bot => simp at h
  | coe y => exact ⟨y, rfl⟩
  | top => simp at h

/-- Where a printed finiteness test answers one, the entry is a real number. -/
theorem real_of_cmp (x : EReal) (h : Ideal.cmp .olt (max x (-x)) (Ideal.ofBits .f32 0x7F800000#32) = 1#1) : ∃ y : ℝ, x = (y : EReal) := by
  rw [inf_eq] at h
  refine real_of_lt x ?_
  by_contra hn
  rw [Ideal.cmp, decide_eq_false hn] at h
  exact absurd h (by decide)

instance : Subsingleton S_.Idx := ⟨fun a b => funext fun x => x.elim0⟩

theorem andi_split (a b : BitVec 1) (h : IntOp.andi a b = 1#1) : a = 1#1 ∧ b = 1#1 := by
  revert a b; decide

theorem finite_args (x0 x1 : FVec Ideal S8x2048x256 .bf16) (x2 : FVec Ideal S8x2048x128 .bf16) (x3 : FVec Ideal S2048x1024 .f32)
    (h : fn (F := Ideal) x0 x1 x2 x3 = fun _ => 1#1) :
    (∀ i, ∃ y : ℝ, x0 i = (y : EReal)) ∧ (∀ i, ∃ y : ℝ, x1 i = (y : EReal)) ∧ (∀ i, ∃ y : ℝ, x2 i = (y : EReal))
      ∧ (∀ i, ∃ y : ℝ, x3 i = (y : EReal)) := by
  have h := congrFun h (fun a => a.elim0)
  dsimp only [fn, fn_part1] at h
  obtain ⟨h, h3⟩ := andi_split _ _ h
  obtain ⟨h, h2⟩ := andi_split _ _ h
  obtain ⟨h0, h1⟩ := andi_split _ _ h
  exact ⟨fun i => real_of_cmp _ (Host.reduce_andi_all _ _ _ _ _ h0 i), fun i => real_of_cmp _ (Host.reduce_andi_all _ _ _ _ _ h1 i),
    fun i => real_of_cmp _ (Host.reduce_andi_all _ _ _ _ _ h2 i), fun i => real_of_cmp _ (Host.reduce_andi_all _ _ _ _ _ h3 i)⟩

end Cert.Pre_finite

end
-- ==== Proof.Gradients.lean ====
module

public import proofs.«01_k».proof.Proof.Values
public import proofs.«01_k».proof.Proof.Pre
public import proofs.«01_k».proof.Proof.Gen.ReferenceIdeal.Run

@[expose] public section

set_option maxRecDepth 16384

noncomputable section

namespace Cert.Gradients

open Idealize.ShloMosaic Idealize.ShloMosaic.TcCoe Idealize.SL.Sem
open Cert.KernelIdeal.Hand Cert.Attention
open Cert.ReferenceIdeal.Hand (Reals lane)

/-! # The kernel's gradients and the reference's -/

theorem lane_split (x3 : FVec Ideal Cert.KernelIdeal.S2048x1024 .f32) (h : ∀ i, ∃ y : ℝ, x3 i = (y : EReal)) :
    ∃ g : Fin 8 → Fin 2048 → Fin 128 → ℝ, ∀ h R e, x3 (ix2 R (lane h e)) = (g h R e : EReal) :=
  ⟨fun a R e => (h (ix2 R (lane a e))).choose, fun a R e => (h (ix2 R (lane a e))).choose_spec⟩

/-- Real arguments, read as real functions. -/
theorem reals (x0 x1 : FVec Ideal Cert.KernelIdeal.S8x2048x256 .bf16) (x2 : FVec Ideal Cert.KernelIdeal.S8x2048x128 .bf16) (x3 : FVec Ideal Cert.KernelIdeal.S2048x1024 .f32)
    (h0 : ∀ i, ∃ y : ℝ, x0 i = (y : EReal)) (h1 : ∀ i, ∃ y : ℝ, x1 i = (y : EReal)) (h2 : ∀ i, ∃ y : ℝ, x2 i = (y : EReal))
    (h3 : ∀ i, ∃ y : ℝ, x3 i = (y : EReal)) :
    ∃ (q k : Fin 8 → Fin 2048 → Fin 256 → ℝ) (v g : Fin 8 → Fin 2048 → Fin 128 → ℝ), Reals x0 x1 x2 x3 q k v g := by
  obtain ⟨g, hg⟩ := lane_split x3 h3
  exact ⟨fun a R e => (h0 (ix3 a R e)).choose, fun a R e => (h1 (ix3 a R e)).choose, fun a R e => (h2 (ix3 a R e)).choose, g,
    fun a R e => (h0 (ix3 a R e)).choose_spec, fun a R e => (h1 (ix3 a R e)).choose_spec, fun a R e => (h2 (ix3 a R e)).choose_spec, hg⟩

/-- The reference's three results, at real arguments. -/
theorem reference_arrays {x0 x1 : FVec Ideal Cert.KernelIdeal.S8x2048x256 .bf16} {x2 : FVec Ideal Cert.KernelIdeal.S8x2048x128 .bf16}
    {x3 : FVec Ideal Cert.KernelIdeal.S2048x1024 .f32} {q k : Fin 8 → Fin 2048 → Fin 256 → ℝ} {v g : Fin 8 → Fin 2048 → Fin 128 → ℝ}
    (A : Reals x0 x1 x2 x3 q k v g) :
    Cert.ReferenceIdeal.Read.val_main_v66 (F := Ideal) x0 x1 x2 x3 = arrQ q k v g
      ∧ Cert.ReferenceIdeal.Read.val_main_v65 (F := Ideal) x0 x1 x2 x3 = arrK q k v g
      ∧ Cert.ReferenceIdeal.Read.val_main_v49 (F := Ideal) x0 x1 x3 = arrV q k g := by
  refine ⟨funext fun i => ?_, funext fun i => ?_, funext fun i => ?_⟩
  · have h := Cert.ReferenceIdeal.Hand.gradQ_eq A (i 0) (i 1) (i 2)
    rw [← eq_ix3 i] at h
    exact h
  · have h := Cert.ReferenceIdeal.Hand.gradK_eq A (i 0) (i 1) (i 2)
    rw [← eq_ix3 i] at h
    exact h
  · have h := Cert.ReferenceIdeal.Hand.gradV_eq A (i 0) (i 1) (i 2)
    rw [← eq_ix3 i] at h
    exact h

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hpre hargs
  have hex : ∀ c : Dev Cert.KernelIdeal.nD, ∃ (q k : Fin 8 → Fin 2048 → Fin 256 → ℝ) (v g : Fin 8 → Fin 2048 → Fin 128 → ℝ),
      Reals (argQ m c) (argK m c) (argV m c) (argG m c) q k v g := fun c => by
    obtain ⟨h0, h1, h2, h3⟩ := Cert.Pre_finite.finite_args _ _ _ _ (hpre c)
    exact reals _ _ _ _ h0 h1 h2 h3
  choose q k v g A using hex
  refine ⟨fun c => arrQ (q c) (k c) (v c) (g c), fun c => arrK (q c) (k c) (v c) (g c), fun c => arrV (q c) (k c) (g c), ?_, ?_⟩
  · refine (θ_run _ _ _).mono ?_ (θ_run_and (run_post m ρ) (unchanged m ρ))
    intro r h c
    exact ⟨((h.1 c).1 6).trans (final_6 (A c)), ((h.1 c).1 7).trans (final_7 (A c)), ((h.1 c).1 8).trans (final_8 (A c)), h.2 c⟩
  · refine (θ_run _ _ _).mono ?_ (Cert.ReferenceIdeal.Value.run (F := Ideal) m' ρ')
    intro r h c
    obtain ⟨e0, e1, e2, e3⟩ := hargs c
    obtain ⟨f0, f1, f2⟩ := reference_arrays (A c)
    refine ⟨(h c).1.trans ?_, (h c).2.1.trans ?_, (h c).2.2.1.trans ?_, (h c).2.2.2⟩
    · rw [Cert.ReferenceIdeal.Read.val_main_v66_eq, e0, e1, e2, e3]; exact f0
    · rw [Cert.ReferenceIdeal.Read.val_main_v65_eq, e0, e1, e2, e3]; exact f1
    · rw [Cert.ReferenceIdeal.Read.val_main_v49_eq, e0, e1, e3]; exact f2

end Cert.Gradients

end
-- ==== Proof.DownDx.lean ====
module

public import proofs.«01_k».proof.Defs
public import proofs.«01_k».proof.Proof.Gen.DownDxIdeal.Value
public import proofs.«01_k».proof.Proof.Gen.DownDxReferenceIdeal.Read
public import Idealize.ShloMosaic.Lib.Pointwise
public import Idealize.ShloMosaic.Lib.Pipeline.Value

@[expose] public section

set_option maxRecDepth 16384

noncomputable section

namespace Cert.DownDxIdeal.Hand

open Idealize.ShloMosaic Idealize.ShloMosaic.TcCoe Idealize.SL.Sem
open Cert.DownDxIdeal.Gen

/-! # The gradient of the activations: the output gradient times `w_down`'s transpose -/

/-- Row and column of the result that entry `(r, s)` of a point's block is. -/
def rowAt (t : Fin cfg0.N) (r : Fin 1024) : Fin 2048 := ⟨1024 * (t.val / 4) + r.val, by have : t.val < 8 := Nat.lt_of_lt_of_eq t.isLt N_0; omega⟩
def colAt (t : Fin cfg0.N) (s : Fin 1408) : Fin 5632 := ⟨1408 * (t.val % 4) + s.val, by omega⟩

theorem index_0 (t : Fin cfg0.N) : win0_0.index t 0 = t.val / 4 ∧ win0_0.index t 1 = 0 := by revert t; decide +kernel
theorem index_1 (t : Fin cfg0.N) : win0_1.index t 0 = t.val % 4 ∧ win0_1.index t 1 = 0 := by revert t; decide +kernel
theorem index_2 (t : Fin cfg0.N) : win0_2.index t 0 = t.val / 4 ∧ win0_2.index t 1 = t.val % 4 := by revert t; decide +kernel

theorem at_0 (t : Fin cfg0.N) (r : Fin 1024) (k : Fin 2048) : (win0_0.rect t).emb (ix2 r k) = ix2 (rowAt t r) k := by
  obtain ⟨h0, h1⟩ := index_0 t
  refine funext fun a => Fin.ext ?_
  refine (Pipeline.Window.rect_emb_val win0_0 t _ a).trans ?_
  match a with
  | ⟨0, _⟩ => show win0_0.index t 0 * 1024 + r.val = 1024 * (t.val / 4) + r.val; rw [h0]; omega
  | ⟨1, _⟩ => show win0_0.index t 1 * 2048 + k.val = k.val; rw [h1]; omega

theorem at_1 (t : Fin cfg0.N) (s : Fin 1408) (k : Fin 2048) : (win0_1.rect t).emb (ix2 s k) = ix2 (colAt t s) k := by
  obtain ⟨h0, h1⟩ := index_1 t
  refine funext fun a => Fin.ext ?_
  refine (Pipeline.Window.rect_emb_val win0_1 t _ a).trans ?_
  match a with
  | ⟨0, _⟩ => show win0_1.index t 0 * 1408 + s.val = 1408 * (t.val % 4) + s.val; rw [h0]; omega
  | ⟨1, _⟩ => show win0_1.index t 1 * 2048 + k.val = k.val; rw [h1]; omega

theorem at_2 (t : Fin cfg0.N) (r : Fin 1024) (s : Fin 1408) : (win0_2.rect t).emb (ix2 r s) = ix2 (rowAt t r) (colAt t s) := by
  obtain ⟨h0, h1⟩ := index_2 t
  refine funext fun a => Fin.ext ?_
  refine (Pipeline.Window.rect_emb_val win0_2 t _ a).trans ?_
  match a with
  | ⟨0, _⟩ => show win0_2.index t 0 * 1024 + r.val = 1024 * (t.val / 4) + r.val; rw [h0]; omega
  | ⟨1, _⟩ => show win0_2.index t 1 * 1408 + s.val = 1408 * (t.val % 4) + s.val; rw [h1]; omega

/-- What the body leaves of two blocks: their product, into a zero accumulator. -/
theorem block_apply (x0 : Vec Ideal S1024x2048 .bf16) (x1 : Vec Ideal S1408x2048 .bf16) (r : Fin 1024) (s : Fin 1408) :
    out0_2 x0 x1 (ix2 r s) = ∑ k : Fin 2048, x0 (ix2 r k) * x1 (ix2 s k) := by
  unfold out0_2
  rw [View.canon_unit_zero (funext fun a => by fin_cases a <;> rfl), View.ld_unit_zero (funext fun a => by fin_cases a <;> rfl),
    View.ld_unit_zero (funext fun a => by fin_cases a <;> rfl)]
  pointwise [k0_pay1]

/-- The gradient, entry by entry. -/
def grad (df : FVec Ideal S2048x2048 .bf16) (w : FVec Ideal S5632x2048 .bf16) : Vec Ideal S2048x5632 .f32 :=
  fun i => ∑ k : Fin 2048, df (ix2 (i 0) k) * w (ix2 (i 1) k)

variable (m : (ℓ : Loc nD τ sig) → Buf (Elt Ideal) ℓ) (c : Dev nD)

theorem cover (R : Fin 2048) (C : Fin 5632) :
    ∃ t : Fin cfg0.N, (cfg0.win 2).flush t = true ∧ ix2 R C ∈ ((cfg0.win 2).blk t).view.set := by
  let t : Fin cfg0.N := ⟨4 * (R.val / 1024) + C.val / 1408, Nat.lt_of_lt_of_eq (by omega : _ < 8) N_0.symm⟩
  refine ⟨t, flush0_2 t, ?_⟩
  have hm := ((cfg0.win 2).blk t).view.emb_mem_set (ix2 (⟨R.val % 1024, by omega⟩ : Fin 1024) (⟨C.val % 1408, by omega⟩ : Fin 1408))
  have he : ((cfg0.win 2).blk t).view.emb (ix2 (⟨R.val % 1024, by omega⟩ : Fin 1024) (⟨C.val % 1408, by omega⟩ : Fin 1408)) = ix2 R C := by
    refine (at_2 t ⟨R.val % 1024, by omega⟩ ⟨C.val % 1408, by omega⟩).trans ?_
    have h0 : rowAt t ⟨R.val % 1024, by omega⟩ = R := Fin.ext (by
      show 1024 * ((4 * (R.val / 1024) + C.val / 1408) / 4) + R.val % 1024 = R.val; omega)
    have h1 : colAt t ⟨C.val % 1408, by omega⟩ = C := Fin.ext (by
      show 1408 * ((4 * (R.val / 1024) + C.val / 1408) % 4) + C.val % 1408 = C.val; omega)
    rw [h0, h1]
  rwa [he] at hm

theorem final : (dats m 0 c).arrAt 2 cfg0.N = grad (m ((c.tc : Thread nD τ).loc main_arg0)) (m ((c.tc : Thread nD τ).loc main_arg1)) := by
  refine (dats m 0 c).arrAt_eq_of_cover 2 (grad (m ((c.tc : Thread nD τ).loc main_arg0)) (m ((c.tc : Thread nD τ).loc main_arg1))) (fun t hf => ?_) (fun i => ?_)
  rotate_left
  · have hc := cover (i 0) (i 1)
    rw [← eq_ix2 i] at hc
    exact hc
  rw [Value.flushed2]
  have h0 : ∀ r k, iblk m c 0 t (ix2 r k) = m ((c.tc : Thread nD τ).loc main_arg0) (ix2 (rowAt t r) k) := fun r k => by
    show m ((c.tc : Thread nD τ).loc main_arg0) ((win0_0.rect t).emb (ix2 r k)) = _
    rw [at_0]
  have h1 : ∀ s k, iblk m c 1 t (ix2 s k) = m ((c.tc : Thread nD τ).loc main_arg1) (ix2 (colAt t s) k) := fun s k => by
    show m ((c.tc : Thread nD τ).loc main_arg1) ((win0_1.rect t).emb (ix2 s k)) = _
    rw [at_1]
  have hl : ∀ (r : Fin 1024) (s : Fin 1408), out0_2 (iblk m c 0 t) (iblk m c 1 t) (ix2 r s)
      = grad (m ((c.tc : Thread nD τ).loc main_arg0)) (m ((c.tc : Thread nD τ).loc main_arg1)) ((win0_2.rect t).emb (ix2 r s)) := fun r s => by
    rw [at_2, block_apply]
    exact Finset.sum_congr rfl fun k _ => by rw [h0, h1]; rfl
  funext ix
  have hx := hl (ix 0) (ix 1)
  rw [← eq_ix2 ix] at hx
  exact hx

open Cert.DownDxReferenceIdeal.Read in
theorem reference (df : FVec Ideal S2048x2048 .bf16) (w : FVec Ideal S5632x2048 .bf16) :
    val_main_v4 (F := Ideal) df w = grad df w := by
  funext i
  rw [val_main_v4_apply]
  refine Finset.sum_congr rfl fun k _ => ?_
  congr 1
  · exact congrArg df (funext fun a => by fin_cases a <;> rfl)
  · exact congrArg w (funext fun a => by fin_cases a <;> rfl)

theorem algebraic : Cert.algebraic_DownDxIdeal_DownDxReferenceIdeal (hDownDxIdeal := Cert.DownDxIdeal.Gen.facts)
    (hDownDxReferenceIdeal := Cert.DownDxReferenceIdeal.Gen.facts) := by
  intro m ρ m' ρ' _ hargs
  refine ⟨fun c => grad (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.DownDxReferenceIdeal.Value.run (F := Ideal) m' ρ')
    obtain ⟨e0, e1⟩ := hargs c
    rw [Cert.DownDxReferenceIdeal.Read.val_main_v4_eq, e0, e1]
    exact reference _ _

end Cert.DownDxIdeal.Hand

end
-- ==== Proof.DownDw.lean ====
module

public import proofs.«01_k».proof.Defs
public import proofs.«01_k».proof.Proof.Gen.DownDwIdeal.Value
public import proofs.«01_k».proof.Proof.Gen.DownDwReferenceIdeal.Read
public import Idealize.ShloMosaic.Lib.Pointwise
public import Idealize.ShloMosaic.Lib.Pipeline.Value

@[expose] public section

set_option maxRecDepth 16384

noncomputable section

namespace Cert.DownDwIdeal.Hand

open Idealize.ShloMosaic Idealize.ShloMosaic.TcCoe Idealize.SL.Sem
open Cert.DownDwIdeal.Gen

/-! # The gradient of `w_down`: the activations' columns times the output gradient's -/

/-- Row and column of the result that entry `(r, s)` of a point's block is. -/
def rowAt (t : Fin cfg0.N) (r : Fin 1408) : Fin 5632 := ⟨1408 * (t.val / 2) + r.val, by have : t.val < 8 := Nat.lt_of_lt_of_eq t.isLt N_0; omega⟩
def colAt (t : Fin cfg0.N) (s : Fin 1024) : Fin 2048 := ⟨1024 * (t.val % 2) + s.val, by omega⟩

theorem index_0 (t : Fin cfg0.N) : win0_0.index t 0 = 0 ∧ win0_0.index t 1 = t.val / 2 := by revert t; decide +kernel
theorem index_1 (t : Fin cfg0.N) : win0_1.index t 0 = 0 ∧ win0_1.index t 1 = t.val % 2 := by revert t; decide +kernel
theorem index_2 (t : Fin cfg0.N) : win0_2.index t 0 = t.val / 2 ∧ win0_2.index t 1 = t.val % 2 := by revert t; decide +kernel

theorem at_0 (t : Fin cfg0.N) (k : Fin 2048) (r : Fin 1408) : (win0_0.rect t).emb (ix2 k r) = ix2 k (rowAt t r) := by
  obtain ⟨h0, h1⟩ := index_0 t
  refine funext fun a => Fin.ext ?_
  refine (Pipeline.Window.rect_emb_val win0_0 t _ a).trans ?_
  match a with
  | ⟨0, _⟩ => show win0_0.index t 0 * 2048 + k.val = k.val; rw [h0]; omega
  | ⟨1, _⟩ => show win0_0.index t 1 * 1408 + r.val = 1408 * (t.val / 2) + r.val; rw [h1]; omega

theorem at_1 (t : Fin cfg0.N) (k : Fin 2048) (s : Fin 1024) : (win0_1.rect t).emb (ix2 k s) = ix2 k (colAt t s) := by
  obtain ⟨h0, h1⟩ := index_1 t
  refine funext fun a => Fin.ext ?_
  refine (Pipeline.Window.rect_emb_val win0_1 t _ a).trans ?_
  match a with
  | ⟨0, _⟩ => show win0_1.index t 0 * 2048 + k.val = k.val; rw [h0]; omega
  | ⟨1, _⟩ => show win0_1.index t 1 * 1024 + s.val = 1024 * (t.val % 2) + s.val; rw [h1]; omega

theorem at_2 (t : Fin cfg0.N) (r : Fin 1408) (s : Fin 1024) : (win0_2.rect t).emb (ix2 r s) = ix2 (rowAt t r) (colAt t s) := by
  obtain ⟨h0, h1⟩ := index_2 t
  refine funext fun a => Fin.ext ?_
  refine (Pipeline.Window.rect_emb_val win0_2 t _ a).trans ?_
  match a with
  | ⟨0, _⟩ => show win0_2.index t 0 * 1408 + r.val = 1408 * (t.val / 2) + r.val; rw [h0]; omega
  | ⟨1, _⟩ => show win0_2.index t 1 * 1024 + s.val = 1024 * (t.val % 2) + s.val; rw [h1]; omega

/-- What the body leaves of two blocks: their product, into a zero accumulator. -/
theorem block_apply (x0 : Vec Ideal S2048x1408 .bf16) (x1 : Vec Ideal S2048x1024 .bf16) (r : Fin 1408) (s : Fin 1024) :
    out0_2 x0 x1 (ix2 r s) = ∑ k : Fin 2048, x0 (ix2 k r) * x1 (ix2 k s) := by
  unfold out0_2
  rw [View.canon_unit_zero (funext fun a => by fin_cases a <;> rfl), View.ld_unit_zero (funext fun a => by fin_cases a <;> rfl),
    View.ld_unit_zero (funext fun a => by fin_cases a <;> rfl)]
  pointwise [k0_pay1]

/-- The gradient, entry by entry. -/
def grad (act : FVec Ideal S2048x5632 .bf16) (df : FVec Ideal S2048x2048 .bf16) : Vec Ideal S5632x2048 .bf16 :=
  fun i => ∑ k : Fin 2048, act (ix2 k (i 0)) * df (ix2 k (i 1))

variable (m : (ℓ : Loc nD τ sig) → Buf (Elt Ideal) ℓ) (c : Dev nD)

theorem cover (R : Fin 5632) (C : Fin 2048) :
    ∃ t : Fin cfg0.N, (cfg0.win 2).flush t = true ∧ ix2 R C ∈ ((cfg0.win 2).blk t).view.set := by
  let t : Fin cfg0.N := ⟨2 * (R.val / 1408) + C.val / 1024, Nat.lt_of_lt_of_eq (by omega : _ < 8) N_0.symm⟩
  refine ⟨t, flush0_2 t, ?_⟩
  have hm := ((cfg0.win 2).blk t).view.emb_mem_set (ix2 (⟨R.val % 1408, by omega⟩ : Fin 1408) (⟨C.val % 1024, by omega⟩ : Fin 1024))
  have he : ((cfg0.win 2).blk t).view.emb (ix2 (⟨R.val % 1408, by omega⟩ : Fin 1408) (⟨C.val % 1024, by omega⟩ : Fin 1024)) = ix2 R C := by
    refine (at_2 t ⟨R.val % 1408, by omega⟩ ⟨C.val % 1024, by omega⟩).trans ?_
    have h0 : rowAt t ⟨R.val % 1408, by omega⟩ = R := Fin.ext (by
      show 1408 * ((2 * (R.val / 1408) + C.val / 1024) / 2) + R.val % 1408 = R.val; omega)
    have h1 : colAt t ⟨C.val % 1024, by omega⟩ = C := Fin.ext (by
      show 1024 * ((2 * (R.val / 1408) + C.val / 1024) % 2) + C.val % 1024 = C.val; omega)
    rw [h0, h1]
  rwa [he] at hm

theorem final : (dats m 0 c).arrAt 2 cfg0.N = grad (m ((c.tc : Thread nD τ).loc main_arg0)) (m ((c.tc : Thread nD τ).loc main_arg1)) := by
  refine (dats m 0 c).arrAt_eq_of_cover 2 (grad (m ((c.tc : Thread nD τ).loc main_arg0)) (m ((c.tc : Thread nD τ).loc main_arg1))) (fun t hf => ?_) (fun i => ?_)
  rotate_left
  · have hc := cover (i 0) (i 1)
    rw [← eq_ix2 i] at hc
    exact hc
  rw [Value.flushed2]
  have h0 : ∀ k r, iblk m c 0 t (ix2 k r) = m ((c.tc : Thread nD τ).loc main_arg0) (ix2 k (rowAt t r)) := fun k r => by
    show m ((c.tc : Thread nD τ).loc main_arg0) ((win0_0.rect t).emb (ix2 k r)) = _
    rw [at_0]
  have h1 : ∀ k s, iblk m c 1 t (ix2 k s) = m ((c.tc : Thread nD τ).loc main_arg1) (ix2 k (colAt t s)) := fun k s => by
    show m ((c.tc : Thread nD τ).loc main_arg1) ((win0_1.rect t).emb (ix2 k s)) = _
    rw [at_1]
  have hl : ∀ (r : Fin 1408) (s : Fin 1024), out0_2 (iblk m c 0 t) (iblk m c 1 t) (ix2 r s)
      = grad (m ((c.tc : Thread nD τ).loc main_arg0)) (m ((c.tc : Thread nD τ).loc main_arg1)) ((win0_2.rect t).emb (ix2 r s)) := fun r s => by
    rw [at_2, block_apply]
    exact Finset.sum_congr rfl fun k _ => by rw [h0, h1]; rfl
  funext ix
  have hx := hl (ix 0) (ix 1)
  rw [← eq_ix2 ix] at hx
  exact hx

open Cert.DownDwReferenceIdeal.Read in
theorem reference (act : FVec Ideal S2048x5632 .bf16) (df : FVec Ideal S2048x2048 .bf16) :
    val_main_v6 (F := Ideal) act df = grad act df := by
  funext i
  rw [val_main_v6_apply, val_main_v5_apply, val_main_v4_apply]
  refine Finset.sum_congr rfl fun k _ => ?_
  rw [mul_comm]
  congr 1
  · exact congrArg act (funext fun a => by fin_cases a <;> rfl)
  · exact congrArg df (funext fun a => by fin_cases a <;> rfl)

theorem algebraic : Cert.algebraic_DownDwIdeal_DownDwReferenceIdeal (hDownDwIdeal := Cert.DownDwIdeal.Gen.facts)
    (hDownDwReferenceIdeal := Cert.DownDwReferenceIdeal.Gen.facts) := by
  intro m ρ m' ρ' _ hargs
  refine ⟨fun c => grad (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.DownDwReferenceIdeal.Value.run (F := Ideal) m' ρ')
    obtain ⟨e0, e1⟩ := hargs c
    rw [Cert.DownDwReferenceIdeal.Read.val_main_v6_eq, e0, e1]
    exact reference _ _

end Cert.DownDwIdeal.Hand

end
-- ==== Proof.GateUpDw.lean ====
module

public import proofs.«01_k».proof.Defs
public import proofs.«01_k».proof.Proof.Gen.GateUpDwIdeal.Value
public import proofs.«01_k».proof.Proof.Gen.GateUpDwReferenceIdeal.Read
public import Idealize.ShloMosaic.Lib.Pointwise
public import Idealize.ShloMosaic.Lib.Pipeline.Value

@[expose] public section

set_option maxRecDepth 16384

noncomputable section

namespace Cert.GateUpDwIdeal.Hand

open Idealize.ShloMosaic Idealize.ShloMosaic.TcCoe Idealize.SL.Sem
open Cert.GateUpDwIdeal.Gen

/-! # The gradients of `w_gate` and `w_up`: the input's columns times each output gradient's, chip by chip -/

/-- The chip a point writes to, and the result's row that row `r` of its block is. -/
def chipAt (t : Fin cfg0.N) : Fin 4 := ⟨t.val % 4, by omega⟩
def rowAt (t : Fin cfg0.N) (r : Fin 1024) : Fin 2048 := ⟨1024 * (t.val / 4) + r.val, by have : t.val < 8 := Nat.lt_of_lt_of_eq t.isLt N_0; omega⟩
/-- Column `s` of chip `a`, among all chips' columns. -/
def colOf (a : Fin 4) (s : Fin 1408) : Fin 5632 := ⟨1408 * a.val + s.val, by omega⟩

theorem index_0 (t : Fin cfg0.N) : win0_0.index t 0 = 0 ∧ win0_0.index t 1 = t.val / 4 := by revert t; decide +kernel
theorem index_1 (t : Fin cfg0.N) : win0_1.index t 0 = 0 ∧ win0_1.index t 1 = t.val % 4 := by revert t; decide +kernel
theorem index_2 (t : Fin cfg0.N) : win0_2.index t 0 = 0 ∧ win0_2.index t 1 = t.val % 4 := by revert t; decide +kernel
theorem index_3 (t : Fin cfg0.N) : win0_3.index t 0 = t.val % 4 ∧ win0_3.index t 1 = t.val / 4 ∧ win0_3.index t 2 = 0 := by revert t; decide +kernel
theorem index_4 (t : Fin cfg0.N) : win0_4.index t 0 = t.val % 4 ∧ win0_4.index t 1 = t.val / 4 ∧ win0_4.index t 2 = 0 := by revert t; decide +kernel

theorem at_0 (t : Fin cfg0.N) (k : Fin 2048) (r : Fin 1024) : (win0_0.rect t).emb (ix2 k r) = ix2 k (rowAt t r) := by
  obtain ⟨h0, h1⟩ := index_0 t
  refine funext fun a => Fin.ext ?_
  refine (Pipeline.Window.rect_emb_val win0_0 t _ a).trans ?_
  match a with
  | ⟨0, _⟩ => show win0_0.index t 0 * 2048 + k.val = k.val; rw [h0]; omega
  | ⟨1, _⟩ => show win0_0.index t 1 * 1024 + r.val = 1024 * (t.val / 4) + r.val; rw [h1]; omega

theorem at_1 (t : Fin cfg0.N) (k : Fin 2048) (s : Fin 1408) : (win0_1.rect t).emb (ix2 k s) = ix2 k (colOf (chipAt t) s) := by
  obtain ⟨h0, h1⟩ := index_1 t
  refine funext fun a => Fin.ext ?_
  refine (Pipeline.Window.rect_emb_val win0_1 t _ a).trans ?_
  match a with
  | ⟨0, _⟩ => show win0_1.index t 0 * 2048 + k.val = k.val; rw [h0]; omega
  | ⟨1, _⟩ => show win0_1.index t 1 * 1408 + s.val = 1408 * (t.val % 4) + s.val; rw [h1]; omega

theorem at_2 (t : Fin cfg0.N) (k : Fin 2048) (s : Fin 1408) : (win0_2.rect t).emb (ix2 k s) = ix2 k (colOf (chipAt t) s) := by
  obtain ⟨h0, h1⟩ := index_2 t
  refine funext fun a => Fin.ext ?_
  refine (Pipeline.Window.rect_emb_val win0_2 t _ a).trans ?_
  match a with
  | ⟨0, _⟩ => show win0_2.index t 0 * 2048 + k.val = k.val; rw [h0]; omega
  | ⟨1, _⟩ => show win0_2.index t 1 * 1408 + s.val = 1408 * (t.val % 4) + s.val; rw [h1]; omega

theorem at_3 (t : Fin cfg0.N) (z : Fin 1) (r : Fin 1024) (s : Fin 1408) : (win0_3.rect t).emb (ix3 z r s) = ix3 (chipAt t) (rowAt t r) s := by
  obtain ⟨h0, h1, h2⟩ := index_3 t
  refine funext fun a => Fin.ext ?_
  refine (Pipeline.Window.rect_emb_val win0_3 t _ a).trans ?_
  match a with
  | ⟨0, _⟩ => show win0_3.index t 0 * 1 + z.val = t.val % 4; rw [h0]; omega
  | ⟨1, _⟩ => show win0_3.index t 1 * 1024 + r.val = 1024 * (t.val / 4) + r.val; rw [h1]; omega
  | ⟨2, _⟩ => show win0_3.index t 2 * 1408 + s.val = s.val; rw [h2]; omega

theorem at_4 (t : Fin cfg0.N) (z : Fin 1) (r : Fin 1024) (s : Fin 1408) : (win0_4.rect t).emb (ix3 z r s) = ix3 (chipAt t) (rowAt t r) s := by
  obtain ⟨h0, h1, h2⟩ := index_4 t
  refine funext fun a => Fin.ext ?_
  refine (Pipeline.Window.rect_emb_val win0_4 t _ a).trans ?_
  match a with
  | ⟨0, _⟩ => show win0_4.index t 0 * 1 + z.val = t.val % 4; rw [h0]; omega
  | ⟨1, _⟩ => show win0_4.index t 1 * 1024 + r.val = 1024 * (t.val / 4) + r.val; rw [h1]; omega
  | ⟨2, _⟩ => show win0_4.index t 2 * 1408 + s.val = s.val; rw [h2]; omega

/-- A block's product, into a zero accumulator, behind a leading axis of length one. -/
theorem pay1_apply (x0 : Vec Ideal S2048x1024 .bf16) (x1 : Vec Ideal S2048x1408 .bf16) (z : Fin 1) (r : Fin 1024) (s : Fin 1408) :
    k0_pay1 (F := Ideal) x0 x1 (ix3 z r s) = ∑ k : Fin 2048, x0 (ix2 k r) * x1 (ix2 k s) := by
  pointwise [k0_pay1]

theorem pay2_apply (x0 : Vec Ideal S2048x1024 .bf16) (x1 : Vec Ideal S2048x1408 .bf16) (z : Fin 1) (r : Fin 1024) (s : Fin 1408) :
    k0_pay2 (F := Ideal) x0 x1 (ix3 z r s) = ∑ k : Fin 2048, x0 (ix2 k r) * x1 (ix2 k s) := by
  pointwise [k0_pay2]

theorem block3_apply (x0 : Vec Ideal S2048x1024 .bf16) (x1 x2 : Vec Ideal S2048x1408 .bf16) (z : Fin 1) (r : Fin 1024) (s : Fin 1408) :
    out0_3 x0 x1 x2 (ix3 z r s) = ∑ k : Fin 2048, x0 (ix2 k r) * x1 (ix2 k s) := by
  unfold out0_3
  rw [View.canon_unit_zero (funext fun a => by fin_cases a <;> rfl), View.ld_unit_zero (funext fun a => by fin_cases a <;> rfl),
    View.ld_unit_zero (funext fun a => by fin_cases a <;> rfl)]
  exact pay1_apply x0 x1 z r s

theorem block4_apply (x0 : Vec Ideal S2048x1024 .bf16) (x1 x2 : Vec Ideal S2048x1408 .bf16) (z : Fin 1) (r : Fin 1024) (s : Fin 1408) :
    out0_4 x0 x1 x2 (ix3 z r s) = ∑ k : Fin 2048, x0 (ix2 k r) * x2 (ix2 k s) := by
  unfold out0_4
  rw [View.canon_unit_zero (funext fun a => by fin_cases a <;> rfl), View.ld_unit_zero (funext fun a => by fin_cases a <;> rfl),
    View.ld_unit_zero (funext fun a => by fin_cases a <;> rfl)]
  exact pay2_apply x0 x2 z r s

/-- A weight's gradient, entry by entry: chip, row, column of the chip. -/
def grad (h2 : FVec Ideal S2048x2048 .bf16) (dy : FVec Ideal S2048x5632 .bf16) : Vec Ideal S4x2048x1408 .bf16 :=
  fun i => ∑ k : Fin 2048, h2 (ix2 k (i 1)) * dy (ix2 k (colOf (i 0) (i 2)))

/-- The point that writes row `R` of chip `a`. -/
def pointOf (a : Fin 4) (R : Fin 2048) : Fin cfg0.N := ⟨4 * (R.val / 1024) + a.val, Nat.lt_of_lt_of_eq (by omega : _ < 8) N_0.symm⟩

theorem point_chip (a : Fin 4) (R : Fin 2048) : chipAt (pointOf a R) = a := Fin.ext (by
  show (4 * (R.val / 1024) + a.val) % 4 = a.val; omega)
theorem point_row (a : Fin 4) (R : Fin 2048) : rowAt (pointOf a R) ⟨R.val % 1024, by omega⟩ = R := Fin.ext (by
  show 1024 * ((4 * (R.val / 1024) + a.val) / 4) + R.val % 1024 = R.val; omega)

theorem cover_3 (a : Fin 4) (R : Fin 2048) (s : Fin 1408) :
    ∃ t : Fin cfg0.N, (cfg0.win 3).flush t = true ∧ ix3 a R s ∈ ((cfg0.win 3).blk t).view.set := by
  refine ⟨pointOf a R, flush0_3 _, ?_⟩
  have hm := ((cfg0.win 3).blk (pointOf a R)).view.emb_mem_set (ix3 (0 : Fin 1) (⟨R.val % 1024, by omega⟩ : Fin 1024) s)
  have he : ((cfg0.win 3).blk (pointOf a R)).view.emb (ix3 (0 : Fin 1) (⟨R.val % 1024, by omega⟩ : Fin 1024) s) = ix3 a R s :=
    (at_3 (pointOf a R) 0 ⟨R.val % 1024, by omega⟩ s).trans (by rw [point_chip, point_row])
  rwa [he] at hm

theorem cover_4 (a : Fin 4) (R : Fin 2048) (s : Fin 1408) :
    ∃ t : Fin cfg0.N, (cfg0.win 4).flush t = true ∧ ix3 a R s ∈ ((cfg0.win 4).blk t).view.set := by
  refine ⟨pointOf a R, flush0_4 _, ?_⟩
  have hm := ((cfg0.win 4).blk (pointOf a R)).view.emb_mem_set (ix3 (0 : Fin 1) (⟨R.val % 1024, by omega⟩ : Fin 1024) s)
  have he : ((cfg0.win 4).blk (pointOf a R)).view.emb (ix3 (0 : Fin 1) (⟨R.val % 1024, by omega⟩ : Fin 1024) s) = ix3 a R s :=
    (at_4 (pointOf a R) 0 ⟨R.val % 1024, by omega⟩ s).trans (by rw [point_chip, point_row])
  rwa [he] at hm

variable (m : (ℓ : Loc nD τ sig) → Buf (Elt Ideal) ℓ) (c : Dev nD) (t : Fin cfg0.N)

abbrev argH : FVec Ideal S2048x2048 .bf16 := m ((c.tc : Thread nD τ).loc main_arg0)
abbrev argG : FVec Ideal S2048x5632 .bf16 := m ((c.tc : Thread nD τ).loc main_arg1)
abbrev argU : FVec Ideal S2048x5632 .bf16 := m ((c.tc : Thread nD τ).loc main_arg2)

theorem blk_0 (k : Fin 2048) (r : Fin 1024) : iblk m c 0 t (ix2 k r) = argH m c (ix2 k (rowAt t r)) := congrArg (argH m c) (at_0 t k r)
theorem blk_1 (k : Fin 2048) (s : Fin 1408) : iblk m c 1 t (ix2 k s) = argG m c (ix2 k (colOf (chipAt t) s)) := congrArg (argG m c) (at_1 t k s)
theorem blk_2 (k : Fin 2048) (s : Fin 1408) : iblk m c 2 t (ix2 k s) = argU m c (ix2 k (colOf (chipAt t) s)) := congrArg (argU m c) (at_2 t k s)

theorem final_3 : (dats m 0 c).arrAt 3 cfg0.N = grad (argH m c) (argG m c) := by
  refine (dats m 0 c).arrAt_eq_of_cover 3 (grad (argH m c) (argG m c)) (fun t hf => ?_) (fun i => ?_)
  rotate_left
  · have hc := cover_3 (i 0) (i 1) (i 2)
    rw [← eq_ix3 i] at hc
    exact hc
  rw [Value.flushed3]
  have hl : ∀ (z : Fin 1) (r : Fin 1024) (s : Fin 1408), out0_3 (iblk m c 0 t) (iblk m c 1 t) (iblk m c 2 t) (ix3 z r s)
      = grad (argH m c) (argG m c) ((win0_3.rect t).emb (ix3 z r s)) := fun z r s => by
    rw [at_3, block3_apply]
    exact Finset.sum_congr rfl fun k _ => by rw [blk_0, blk_1]; rfl
  funext ix
  have hx := hl (ix 0) (ix 1) (ix 2)
  rw [← eq_ix3 ix] at hx
  exact hx

theorem final_4 : (dats m 0 c).arrAt 4 cfg0.N = grad (argH m c) (argU m c) := by
  refine (dats m 0 c).arrAt_eq_of_cover 4 (grad (argH m c) (argU m c)) (fun t hf => ?_) (fun i => ?_)
  rotate_left
  · have hc := cover_4 (i 0) (i 1) (i 2)
    rw [← eq_ix3 i] at hc
    exact hc
  rw [Value.flushed4]
  have hl : ∀ (z : Fin 1) (r : Fin 1024) (s : Fin 1408), out0_4 (iblk m c 0 t) (iblk m c 1 t) (iblk m c 2 t) (ix3 z r s)
      = grad (argH m c) (argU m c) ((win0_4.rect t).emb (ix3 z r s)) := fun z r s => by
    rw [at_4, block4_apply]
    exact Finset.sum_congr rfl fun k _ => by rw [blk_0, blk_2]; rfl
  funext ix
  have hx := hl (ix 0) (ix 1) (ix 2)
  rw [← eq_ix3 ix] at hx
  exact hx

section
open Cert.GateUpDwReferenceIdeal.Read

theorem reference_gate (h2 : FVec Ideal S2048x2048 .bf16) (dy : FVec Ideal S2048x5632 .bf16) :
    val_main_v14 (F := Ideal) h2 dy = grad h2 dy := by
  funext i
  rw [val_main_v14_apply, val_main_v13_apply, val_main_v12_apply]
  refine Finset.sum_congr rfl fun k _ => ?_
  rw [mul_comm, val_main_v11_apply]
  congr 1
  · exact congrArg h2 (funext fun a => by fin_cases a <;> rfl)
  · refine congrArg dy (funext fun a => Fin.ext ?_)
    have h0 : (i 0).val < 4 := (i 0).isLt
    have h2 : (i 2).val < 1408 := (i 2).isLt
    match a with
    | ⟨0, _⟩ => show ((k.val * 4 + (i 0).val) * 1408 + (i 2).val) / 5632 = k.val; omega
    | ⟨1, _⟩ => show ((k.val * 4 + (i 0).val) * 1408 + (i 2).val) % 5632 = 1408 * (i 0).val + (i 2).val; omega

theorem reference_up (h2 : FVec Ideal S2048x2048 .bf16) (dy : FVec Ideal S2048x5632 .bf16) :
    val_main_v15 (F := Ideal) h2 dy = grad h2 dy := by
  funext i
  rw [val_main_v15_apply, val_main_v10_apply, val_main_v9_apply]
  refine Finset.sum_congr rfl fun k _ => ?_
  rw [mul_comm, val_main_v8_apply]
  congr 1
  · exact congrArg h2 (funext fun a => by fin_cases a <;> rfl)
  · refine congrArg dy (funext fun a => Fin.ext ?_)
    have h0 : (i 0).val < 4 := (i 0).isLt
    have h2 : (i 2).val < 1408 := (i 2).isLt
    match a with
    | ⟨0, _⟩ => show ((k.val * 4 + (i 0).val) * 1408 + (i 2).val) / 5632 = k.val; omega
    | ⟨1, _⟩ => show ((k.val * 4 + (i 0).val) * 1408 + (i 2).val) % 5632 = 1408 * (i 0).val + (i 2).val; omega

end

theorem algebraic : Cert.algebraic_GateUpDwIdeal_GateUpDwReferenceIdeal (hGateUpDwIdeal := Cert.GateUpDwIdeal.Gen.facts)
    (hGateUpDwReferenceIdeal := Cert.GateUpDwReferenceIdeal.Gen.facts) := by
  intro m ρ m' ρ' _ hargs
  refine ⟨fun c => grad (argH m c) (argG m c), fun c => grad (argH m c) (argU m c), ?_, ?_⟩
  · exact (θ_run _ _ _).mono (fun r h c => ⟨(h c).1.trans (final_3 m c), (h c).2.1.trans (final_4 m c), (h c).2.2⟩) (Value.run_blocks m ρ)
  · refine (θ_run _ _ _).mono (fun r h c => ⟨(h c).1.trans ?_, (h c).2.1.trans ?_, (h c).2.2⟩) (Cert.GateUpDwReferenceIdeal.Value.run (F := Ideal) m' ρ')
    all_goals obtain ⟨e0, e1, e2⟩ := hargs c
    · rw [Cert.GateUpDwReferenceIdeal.Read.val_main_v14_eq, e0, e1]; exact reference_gate _ _
    · rw [Cert.GateUpDwReferenceIdeal.Read.val_main_v15_eq, e0, e2]; exact reference_up _ _

end Cert.GateUpDwIdeal.Hand

end
-- ==== Proof.GateUpDx.lean ====
module

public import proofs.«01_k».proof.Defs
public import proofs.«01_k».proof.Proof.Gen.GateUpDxIdeal.Value
public import proofs.«01_k».proof.Proof.Gen.GateUpDxReferenceIdeal.Read
public import Idealize.ShloMosaic.Lib.Pointwise
public import Idealize.ShloMosaic.Lib.Tactic
public import Idealize.ShloMosaic.Lib.TwoAxisContraction
public import Idealize.ShloMosaic.Lib.Pipeline.Value

@[expose] public section

set_option maxRecDepth 16384

noncomputable section

namespace Cert.GateUpDxIdeal.Hand

open Idealize.ShloMosaic Idealize.ShloMosaic.TcCoe Idealize.SL.Sem
open Cert.GateUpDxIdeal.Gen

/-! # The gradient of the feed-forward input: two products, added up chip by chip

Point `t` of the grid adds chip `t % 4`'s share to the block of rows `t / 8` and columns `t / 4 % 2`. -/

def chipAt (t : Fin cfg0.N) : Fin 4 := ⟨t.val % 4, by omega⟩
def rowAt (t : Fin cfg0.N) (r : Fin 1024) : Fin 2048 := ⟨1024 * (t.val / 8) + r.val, by have : t.val < 16 := Nat.lt_of_lt_of_eq t.isLt N_0; omega⟩
def colAt (t : Fin cfg0.N) (s : Fin 1024) : Fin 2048 := ⟨1024 * (t.val / 4 % 2) + s.val, by omega⟩
/-- Column `k` of chip `a`, among all chips' columns. -/
def colOf (a : Fin 4) (k : Fin 1408) : Fin 5632 := ⟨1408 * a.val + k.val, by omega⟩

theorem index_0 (t : Fin cfg0.N) : win0_0.index t 0 = t.val / 8 ∧ win0_0.index t 1 = t.val % 4 := by revert t; decide +kernel
theorem index_1 (t : Fin cfg0.N) : win0_1.index t 0 = t.val % 4 ∧ win0_1.index t 1 = t.val / 4 % 2 ∧ win0_1.index t 2 = 0 := by revert t; decide +kernel
theorem index_2 (t : Fin cfg0.N) : win0_2.index t 0 = t.val / 8 ∧ win0_2.index t 1 = t.val % 4 := by revert t; decide +kernel
theorem index_3 (t : Fin cfg0.N) : win0_3.index t 0 = t.val % 4 ∧ win0_3.index t 1 = t.val / 4 % 2 ∧ win0_3.index t 2 = 0 := by revert t; decide +kernel
theorem index_4 (t : Fin cfg0.N) : win0_4.index t 0 = t.val / 8 ∧ win0_4.index t 1 = t.val / 4 % 2 := by revert t; decide +kernel

theorem at_0 (t : Fin cfg0.N) (r : Fin 1024) (k : Fin 1408) : (win0_0.rect t).emb (ix2 r k) = ix2 (rowAt t r) (colOf (chipAt t) k) := by
  obtain ⟨h0, h1⟩ := index_0 t
  refine funext fun a => Fin.ext ?_
  refine (Pipeline.Window.rect_emb_val win0_0 t _ a).trans ?_
  match a with
  | ⟨0, _⟩ => show win0_0.index t 0 * 1024 + r.val = 1024 * (t.val / 8) + r.val; rw [h0]; omega
  | ⟨1, _⟩ => show win0_0.index t 1 * 1408 + k.val = 1408 * (t.val % 4) + k.val; rw [h1]; omega

theorem at_1 (t : Fin cfg0.N) (z : Fin 1) (s : Fin 1024) (k : Fin 1408) : (win0_1.rect t).emb (ix3 z s k) = ix3 (chipAt t) (colAt t s) k := by
  obtain ⟨h0, h1, h2⟩ := index_1 t
  refine funext fun a => Fin.ext ?_
  refine (Pipeline.Window.rect_emb_val win0_1 t _ a).trans ?_
  match a with
  | ⟨0, _⟩ => show win0_1.index t 0 * 1 + z.val = t.val % 4; rw [h0]; omega
  | ⟨1, _⟩ => show win0_1.index t 1 * 1024 + s.val = 1024 * (t.val / 4 % 2) + s.val; rw [h1]; omega
  | ⟨2, _⟩ => show win0_1.index t 2 * 1408 + k.val = k.val; rw [h2]; omega

theorem at_2 (t : Fin cfg0.N) (r : Fin 1024) (k : Fin 1408) : (win0_2.rect t).emb (ix2 r k) = ix2 (rowAt t r) (colOf (chipAt t) k) := by
  obtain ⟨h0, h1⟩ := index_2 t
  refine funext fun a => Fin.ext ?_
  refine (Pipeline.Window.rect_emb_val win0_2 t _ a).trans ?_
  match a with
  | ⟨0, _⟩ => show win0_2.index t 0 * 1024 + r.val = 1024 * (t.val / 8) + r.val; rw [h0]; omega
  | ⟨1, _⟩ => show win0_2.index t 1 * 1408 + k.val = 1408 * (t.val % 4) + k.val; rw [h1]; omega

theorem at_3 (t : Fin cfg0.N) (z : Fin 1) (s : Fin 1024) (k : Fin 1408) : (win0_3.rect t).emb (ix3 z s k) = ix3 (chipAt t) (colAt t s) k := by
  obtain ⟨h0, h1, h2⟩ := index_3 t
  refine funext fun a => Fin.ext ?_
  refine (Pipeline.Window.rect_emb_val win0_3 t _ a).trans ?_
  match a with
  | ⟨0, _⟩ => show win0_3.index t 0 * 1 + z.val = t.val % 4; rw [h0]; omega
  | ⟨1, _⟩ => show win0_3.index t 1 * 1024 + s.val = 1024 * (t.val / 4 % 2) + s.val; rw [h1]; omega
  | ⟨2, _⟩ => show win0_3.index t 2 * 1408 + k.val = k.val; rw [h2]; omega

theorem at_4 (t : Fin cfg0.N) (r s : Fin 1024) : (win0_4.rect t).emb (ix2 r s) = ix2 (rowAt t r) (colAt t s) := by
  obtain ⟨h0, h1⟩ := index_4 t
  refine funext fun a => Fin.ext ?_
  refine (Pipeline.Window.rect_emb_val win0_4 t _ a).trans ?_
  match a with
  | ⟨0, _⟩ => show win0_4.index t 0 * 1024 + r.val = 1024 * (t.val / 8) + r.val; rw [h0]; omega
  | ⟨1, _⟩ => show win0_4.index t 1 * 1024 + s.val = 1024 * (t.val / 4 % 2) + s.val; rw [h1]; omega

/-! ## One point: a chip's share of a block -/

/-- A chip's share of an entry of a block. -/
def part (x0 : Vec Ideal S1024x1408 .bf16) (x1 : Vec Ideal S1x1024x1408 .bf16) (x2 : Vec Ideal S1024x1408 .bf16) (x3 : Vec Ideal S1x1024x1408 .bf16)
    (r s : Fin 1024) : EReal :=
  (∑ k : Fin 1408, x0 (ix2 r k) * x1 (ix3 0 s k)) + ∑ k : Fin 1408, x2 (ix2 r k) * x3 (ix3 0 s k)

variable (x0 : Vec Ideal S1024x1408 .bf16) (x1 : Vec Ideal S1x1024x1408 .bf16) (x2 : Vec Ideal S1024x1408 .bf16) (x3 : Vec Ideal S1x1024x1408 .bf16)
  (acc : Vec Ideal S1024x1024 .f32)

theorem pay1_apply (r s : Fin 1024) : k0_pay1 (F := Ideal) x0 x1 x2 x3 (ix2 r s) = part x0 x1 x2 x3 r s := by
  unfold part
  pointwise [k0_pay1]

theorem pay2_apply (r s : Fin 1024) : k0_pay2 (F := Ideal) acc x0 x1 x2 x3 (ix2 r s) = acc (ix2 r s) + part x0 x1 x2 x3 r s := by
  unfold part
  pointwise [k0_pay2]

theorem zero2 : (![0, 0] : Fin 2 → Nat) = fun _ => 0 := funext fun a => by fin_cases a <;> rfl
theorem zero3 : (![0, 0, 0] : Fin 3 → Nat) = fun _ => 0 := funext fun a => by fin_cases a <;> rfl

section
variable (c : Dev nD) (i : grid0.Coords) (a3 : Memref sig .tc .vmem S1024x1408 .bf16) (h3 : a3.IsWhole) (a4 : Memref sig .tc .vmem S1x1024x1408 .bf16) (h4 : a4.IsWhole)
  (a5 : Memref sig .tc .vmem S1024x1408 .bf16) (h5 : a5.IsWhole) (a6 : Memref sig .tc .vmem S1x1024x1408 .bf16) (h6 : a6.IsWhole)
  (a7 : Memref sig .tc .vmem S1024x1024 .f32) (h7 : a7.IsWhole) (a8 : Memref sig .tc .vmem S1024x1024 .f32) (h8 : a8.IsWhole)

/-- A chip 0 point starts the sum. -/
theorem starts (hc0 : cond0_0 i) (hc1 : ¬cond0_1 i) (hc2 : ¬cond0_2 i) :
    sout0_A_0 c i a3 h3 a4 h4 a5 h5 a6 h6 a7 h7 a8 h8 hc0 hc1 hc2 x0 x1 x2 x3 = k0_pay1 x0 x1 x2 x3 := by
  unfold sout0_A_0
  rw [View.read_writes_eq_canon _ _ _ (scover0_A_0 c i a3 h3 a4 h4 a5 h5 a6 h6 a7 h7 a8 h8 hc0 hc1 hc2 x0 x1 x2 x3)]
  unfold kernelRun0_A
  dsimp only
  sl_unfold_words
  rw [View.canon_unit_zero zero2]
  simp only [View.readAt_eq_ld, h3.read_unread, h4.read_unread, h5.read_unread, h6.read_unread, View.ld_unit_zero (S := S1024x1408) zero2,
    View.ld_unit_zero (S := S1x1024x1408) zero3]

/-- A point of chips 1 and 2 adds to it. -/
theorem adds (hc0 : ¬cond0_0 i) (hc1 : cond0_1 i) (hc2 : ¬cond0_2 i) :
    sout0_B_0 c i a3 h3 a4 h4 a5 h5 a6 h6 a7 h7 a8 h8 hc0 hc1 hc2 x0 x1 x2 x3 acc = k0_pay2 acc x0 x1 x2 x3 := by
  unfold sout0_B_0
  rw [View.read_writes_eq_canon _ _ _ (scover0_B_0 c i a3 h3 a4 h4 a5 h5 a6 h6 a7 h7 a8 h8 hc0 hc1 hc2 x0 x1 x2 x3 acc)]
  unfold kernelRun0_B
  dsimp only
  sl_unfold_words
  rw [View.canon_unit_zero zero2]
  simp only [View.readAt_eq_ld, h3.read_unread, h4.read_unread, h5.read_unread, h6.read_unread, h8.read_unread, View.ld_unit_zero (S := S1024x1408) zero2,
    View.ld_unit_zero (S := S1x1024x1408) zero3, View.ld_unit_zero (S := S1024x1024) zero2]

/-- A point of chip 3 adds to it and puts it out. -/
theorem puts (hc0 : ¬cond0_0 i) (hc1 : cond0_1 i) (hc2 : cond0_2 i) :
    out0_C_4 c i a3 h3 a4 h4 a5 h5 a6 h6 a7 h7 a8 h8 hc0 hc1 hc2 x0 x1 x2 x3 acc = k0_pay2 acc x0 x1 x2 x3 := by
  unfold out0_C_4
  rw [View.read_writes_eq_canon _ _ _ (cover0_C_4 c i a3 h3 a4 h4 a5 h5 a6 h6 a7 h7 a8 h8 hc0 hc1 hc2 x0 x1 x2 x3 acc)]
  unfold kernelRun0_C
  dsimp only
  sl_unfold_words
  rw [View.canon_unit_zero zero2, View.readCov_unit_zero (S := S1024x1024) _ zero2]
  simp only [View.readAt_eq_ld, h3.read_unread, h4.read_unread, h5.read_unread, h6.read_unread, h8.read_unread, View.ld_unit_zero (S := S1024x1408) zero2,
    View.ld_unit_zero (S := S1x1024x1408) zero3, View.ld_unit_zero (S := S1024x1024) zero2]

end

/-! ## The points of a block, added up -/

variable (m : (ℓ : Loc nD τ sig) → Buf (Elt Ideal) ℓ) (c : Dev nD)

abbrev argG : FVec Ideal S2048x5632 .bf16 := m ((c.tc : Thread nD τ).loc main_arg0)
abbrev argWG : Vec Ideal S4x2048x1408 .bf16 := m ((c.tc : Thread nD τ).loc main_arg1)
abbrev argU : FVec Ideal S2048x5632 .bf16 := m ((c.tc : Thread nD τ).loc main_arg2)
abbrev argWU : Vec Ideal S4x2048x1408 .bf16 := m ((c.tc : Thread nD τ).loc main_arg3)

/-- Chip `a`'s share of an entry of the result. -/
def share (g : FVec Ideal S2048x5632 .bf16) (wg : Vec Ideal S4x2048x1408 .bf16) (u : FVec Ideal S2048x5632 .bf16) (wu : Vec Ideal S4x2048x1408 .bf16)
    (R S : Fin 2048) (a : Fin 4) : EReal :=
  (∑ k : Fin 1408, g (ix2 R (colOf a k)) * wg (ix3 a S k)) + ∑ k : Fin 1408, u (ix2 R (colOf a k)) * wu (ix3 a S k)

/-- The gradient of the input, entry by entry. -/
def grad (g : FVec Ideal S2048x5632 .bf16) (wg : Vec Ideal S4x2048x1408 .bf16) (u : FVec Ideal S2048x5632 .bf16) (wu : Vec Ideal S4x2048x1408 .bf16) :
    FVec Ideal S2048x2048 .f32 :=
  fun i => ∑ a : Fin 4, share g wg u wu (i 0) (i 1) a

theorem blk_0 (t : Fin cfg0.N) (r : Fin 1024) (k : Fin 1408) : iblk m c 0 t (ix2 r k) = argG m c (ix2 (rowAt t r) (colOf (chipAt t) k)) := congrArg (argG m c) (at_0 t r k)
theorem blk_1 (t : Fin cfg0.N) (z : Fin 1) (s : Fin 1024) (k : Fin 1408) : iblk m c 1 t (ix3 z s k) = argWG m c (ix3 (chipAt t) (colAt t s) k) := congrArg (argWG m c) (at_1 t z s k)
theorem blk_2 (t : Fin cfg0.N) (r : Fin 1024) (k : Fin 1408) : iblk m c 2 t (ix2 r k) = argU m c (ix2 (rowAt t r) (colOf (chipAt t) k)) := congrArg (argU m c) (at_2 t r k)
theorem blk_3 (t : Fin cfg0.N) (z : Fin 1) (s : Fin 1024) (k : Fin 1408) : iblk m c 3 t (ix3 z s k) = argWU m c (ix3 (chipAt t) (colAt t s) k) := congrArg (argWU m c) (at_3 t z s k)

theorem part_eq (t : Fin cfg0.N) (r s : Fin 1024) : part (iblk m c 0 t) (iblk m c 1 t) (iblk m c 2 t) (iblk m c 3 t) r s
    = share (argG m c) (argWG m c) (argU m c) (argWU m c) (rowAt t r) (colAt t s) (chipAt t) := by
  unfold part share
  exact congrArg₂ (· + ·) (Finset.sum_congr rfl fun k _ => by rw [blk_0, blk_1]) (Finset.sum_congr rfl fun k _ => by rw [blk_2, blk_3])

/-- Place `a` of the run of points that add up block `b`. -/
def pt (b a : Fin 4) : Fin cfg0.N := ⟨4 * b.val + a.val, Nat.lt_of_lt_of_eq (by omega : _ < 16) N_0.symm⟩

theorem pt_chip (b a : Fin 4) : chipAt (pt b a) = a := Fin.ext (by show (4 * b.val + a.val) % 4 = a.val; omega)
def rowOf (b : Fin 4) (r : Fin 1024) : Fin 2048 := ⟨1024 * (b.val / 2) + r.val, by omega⟩
def colIn (b : Fin 4) (s : Fin 1024) : Fin 2048 := ⟨1024 * (b.val % 2) + s.val, by omega⟩
theorem pt_row (b a : Fin 4) (r : Fin 1024) : rowAt (pt b a) r = rowOf b r := Fin.ext (by
  show 1024 * ((4 * b.val + a.val) / 8) + r.val = 1024 * (b.val / 2) + r.val; omega)
theorem pt_col (b a : Fin 4) (s : Fin 1024) : colAt (pt b a) s = colIn b s := Fin.ext (by
  show 1024 * ((4 * b.val + a.val) / 4 % 2) + s.val = 1024 * (b.val % 2) + s.val; omega)

/-- The shares of block `b`, at an entry of it. -/
abbrev shareIn (b : Fin 4) (r s : Fin 1024) (a : Fin 4) : EReal := share (argG m c) (argWG m c) (argU m c) (argWU m c) (rowOf b r) (colIn b s) a

theorem part_pt (b a : Fin 4) (r s : Fin 1024) : part (iblk m c 0 (pt b a)) (iblk m c 1 (pt b a)) (iblk m c 2 (pt b a)) (iblk m c 3 (pt b a)) r s
    = shareIn m c b r s a := by rw [part_eq, pt_chip, pt_row, pt_col]

theorem sum_0 (b : Fin 4) (r s : Fin 1024) : (outsAt0 m c (pt b 0).val (pt b 0).isLt).2 (ix2 r s) = shareIn m c b r s 0 := by
  have h : (pt b 0).val % 4 = 0 := by show (4 * b.val + 0) % 4 = 0; omega
  rw [outsAt0_A m c (pt b 0) h (by omega) (by omega)]
  dsimp only
  rw [starts, pay1_apply, part_pt]

theorem sum_step (b : Fin 4) (t t' : Fin cfg0.N) (ht : t.val % 4 = 1 ∨ t.val % 4 = 2) (h : t'.val = t.val - 1) (r s : Fin 1024) :
    (outsAt0 m c t.val t.isLt).2 (ix2 r s) = (outsAt0 m c t'.val t'.isLt).2 (ix2 r s)
      + part (iblk m c 0 t) (iblk m c 1 t) (iblk m c 2 t) (iblk m c 3 t) r s := by
  rw [outsAt0_B m c t (by omega) (by omega) (by omega)]
  dsimp only
  rw [adds, pay2_apply]
  obtain ⟨v, hv⟩ := t'
  obtain rfl : v = t.val - 1 := h
  rfl

theorem sum_last (t t' : Fin cfg0.N) (ht : t.val % 4 = 3) (h : t'.val = t.val - 1) (r s : Fin 1024) :
    (outsAt0 m c t.val t.isLt).1 (ix2 r s) = (outsAt0 m c t'.val t'.isLt).2 (ix2 r s)
      + part (iblk m c 0 t) (iblk m c 1 t) (iblk m c 2 t) (iblk m c 3 t) r s := by
  rw [outsAt0_C m c t (by omega) (by omega) ht]
  dsimp only
  rw [puts, pay2_apply]
  obtain ⟨v, hv⟩ := t'
  obtain rfl : v = t.val - 1 := h
  rfl

/-- What a block holds when it is put out: its entries' shares, summed. -/
theorem block_apply (b : Fin 4) (r s : Fin 1024) : (outsAt0 m c (pt b 3).val (pt b 3).isLt).1 (ix2 r s) = ∑ a : Fin 4, shareIn m c b r s a := by
  rw [sum_last m c (pt b 3) (pt b 2) (by show (4 * b.val + 3) % 4 = 3; omega) (by show 4 * b.val + 2 = 4 * b.val + 3 - 1; omega),
    sum_step m c b (pt b 2) (pt b 1) (Or.inr (by show (4 * b.val + 2) % 4 = 2; omega)) (by show 4 * b.val + 1 = 4 * b.val + 2 - 1; omega),
    sum_step m c b (pt b 1) (pt b 0) (Or.inl (by show (4 * b.val + 1) % 4 = 1; omega)) (by show 4 * b.val + 0 = 4 * b.val + 1 - 1; omega),
    sum_0, part_pt, part_pt, part_pt, Fin.sum_univ_four]

/-! ## The result array -/

theorem flush_pt (t : Fin cfg0.N) (hf : (cfg0.win 4).flush t = true) : ∃ b : Fin 4, t = pt b 3 := by
  have h := (flush0_4 t).mp hf
  have hN : t.val < 16 := Nat.lt_of_lt_of_eq t.isLt N_0
  exact ⟨⟨t.val / 4, by omega⟩, Fin.ext (by show t.val = 4 * (t.val / 4) + 3; omega)⟩

theorem cover (R S : Fin 2048) : ∃ t : Fin cfg0.N, (cfg0.win 4).flush t = true ∧ ix2 R S ∈ ((cfg0.win 4).blk t).view.set := by
  have hb : 2 * (R.val / 1024) + S.val / 1024 < 4 := by omega
  refine ⟨pt ⟨_, hb⟩ 3, (flush0_4 _).mpr (by show (4 * (2 * (R.val / 1024) + S.val / 1024) + 3) % 4 = 3; omega), ?_⟩
  have hm := ((cfg0.win 4).blk (pt ⟨_, hb⟩ 3)).view.emb_mem_set (ix2 (⟨R.val % 1024, by omega⟩ : Fin 1024) (⟨S.val % 1024, by omega⟩ : Fin 1024))
  have he : ((cfg0.win 4).blk (pt ⟨_, hb⟩ 3)).view.emb (ix2 (⟨R.val % 1024, by omega⟩ : Fin 1024) (⟨S.val % 1024, by omega⟩ : Fin 1024)) = ix2 R S := by
    refine (at_4 (pt ⟨_, hb⟩ 3) _ _).trans ?_
    rw [pt_row, pt_col]
    congr 1
    · exact Fin.ext (by show 1024 * ((2 * (R.val / 1024) + S.val / 1024) / 2) + R.val % 1024 = R.val; omega)
    · exact Fin.ext (by show 1024 * ((2 * (R.val / 1024) + S.val / 1024) % 2) + S.val % 1024 = S.val; omega)
  rwa [he] at hm

theorem final : (dats m 0 c).arrAt 4 cfg0.N = grad (argG m c) (argWG m c) (argU m c) (argWU m c) := by
  refine (dats m 0 c).arrAt_eq_of_cover 4 (grad (argG m c) (argWG m c) (argU m c) (argWU m c)) (fun t hf => ?_) (fun i => ?_)
  rotate_left
  · have hc := cover (i 0) (i 1)
    rw [← eq_ix2 i] at hc
    exact hc
  obtain ⟨b, rfl⟩ := flush_pt t hf
  rw [Value.flushed4]
  have hl : ∀ r s : Fin 1024, (outsAt0 m c (pt b 3).val (pt b 3).isLt).1 (ix2 r s)
      = grad (argG m c) (argWG m c) (argU m c) (argWU m c) ((win0_4.rect (pt b 3)).emb (ix2 r s)) := fun r s => by
    rw [block_apply, at_4, pt_row, pt_col]
    rfl
  funext ix
  have hx := hl (ix 0) (ix 1)
  rw [← eq_ix2 ix] at hx
  exact hx

/-! ## The reference -/

section
open Cert.GateUpDxReferenceIdeal Cert.GateUpDxReferenceIdeal.Read

/-- A product contracted over chips and over a chip's columns, entry by entry. -/
theorem contracted (L : FVec Ideal S2048x4x1408 .f32) (W : FVec Ideal S4x2048x1408 .f32) (i : S2048x2048.Idx) :
    Host.dotGeneral dot_S2048x4x1408_S4x2048x1408_S2048x2048_12_02_0_1_n_n none L W i
      = ∑ a : Fin 4, ∑ k : Fin 1408, L (ix3 (i 0) a k) * W (ix3 a (i 1) k) := by
  simp only [Host.dotGeneral]
  rw [Ideal.dotGeneral_apply, ValueIdx.sum_contr2 dot_S2048x4x1408_S4x2048x1408_S2048x2048_12_02_0_1_n_n 4 1408 rfl rfl rfl]
  refine Finset.sum_congr rfl fun a _ => Finset.sum_congr rfl fun k _ => ?_
  have h0 := ValueIdx.contrEquiv2_symm_val0 dot_S2048x4x1408_S4x2048x1408_S2048x2048_12_02_0_1_n_n 4 1408 rfl rfl rfl (a, k)
  have h1 := ValueIdx.contrEquiv2_symm_val1 dot_S2048x4x1408_S4x2048x1408_S2048x2048_12_02_0_1_n_n 4 1408 rfl rfl rfl (a, k)
  congr 1
  · refine congrArg L (funext fun x => Fin.ext ?_)
    match x with
    | ⟨0, _⟩ => rfl
    | ⟨1, _⟩ => exact h0
    | ⟨2, _⟩ => exact h1
  · refine congrArg W (funext fun x => Fin.ext ?_)
    match x with
    | ⟨0, _⟩ => exact h0
    | ⟨1, _⟩ => rfl
    | ⟨2, _⟩ => exact h1

theorem columns (i : S2048x2048.Idx) (a : Fin 4) (k : Fin 1408) : idx_main_v9 (ix3 (i 0) a k) = ix2 (i 0) (colOf a k) := by
  refine funext fun x => Fin.ext ?_
  have h0 : (i 0).val < 2048 := (i 0).isLt
  match x with
  | ⟨0, _⟩ => show (((i 0).val * 4 + a.val) * 1408 + k.val) / 5632 = (i 0).val; omega
  | ⟨1, _⟩ => show (((i 0).val * 4 + a.val) * 1408 + k.val) % 5632 = 1408 * a.val + k.val; omega

theorem reference (g : FVec Ideal S2048x5632 .bf16) (wg : Vec Ideal S4x2048x1408 .bf16) (u : FVec Ideal S2048x5632 .bf16) (wu : Vec Ideal S4x2048x1408 .bf16) :
    val_main_v13 (F := Ideal) g wg u wu = grad g wg u wu := by
  funext i
  rw [val_main_v13_apply]
  unfold val_main_v10 val_main_v12
  rw [contracted, contracted]
  show (_ + _ : EReal) = ∑ a : Fin 4, share g wg u wu (i 0) (i 1) a
  unfold share
  rw [Finset.sum_add_distrib, add_comm]
  refine congrArg₂ (· + ·) (Finset.sum_congr rfl fun a _ => Finset.sum_congr rfl fun k _ => ?_) (Finset.sum_congr rfl fun a _ => Finset.sum_congr rfl fun k _ => ?_)
  · rw [val_main_v11_apply]
    exact congrArg (fun j => g j * wg (ix3 a (i 1) k)) (columns i a k)
  · rw [val_main_v9_apply]
    exact congrArg (fun j => u j * wu (ix3 a (i 1) k)) (columns i a k)

end

theorem algebraic : Cert.algebraic_GateUpDxIdeal_GateUpDxReferenceIdeal (hGateUpDxIdeal := Cert.GateUpDxIdeal.Gen.facts)
    (hGateUpDxReferenceIdeal := Cert.GateUpDxReferenceIdeal.Gen.facts) := by
  intro m ρ m' ρ' _ hargs
  refine ⟨fun c => grad (argG m c) (argWG m c) (argU m c) (argWU m c), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.GateUpDxReferenceIdeal.Value.run (F := Ideal) m' ρ')
    obtain ⟨e0, e1, e2, e3⟩ := hargs c
    rw [Cert.GateUpDxReferenceIdeal.Read.val_main_v13_eq, e0, e1, e2, e3]; exact reference _ _ _ _

end Cert.GateUpDxIdeal.Hand

end
-- ==== Proof.OutDx.lean ====
module

public import proofs.«01_k».proof.Defs
public import proofs.«01_k».proof.Proof.Gen.OutDxIdeal.Value
public import proofs.«01_k».proof.Proof.Gen.OutDxReferenceIdeal.Read
public import Idealize.ShloMosaic.Lib.Pointwise
public import Idealize.ShloMosaic.Lib.Pipeline.ValueKit

@[expose] public section

set_option maxRecDepth 16384

noncomputable section

namespace Cert.OutDxIdeal.Hand

open Idealize.ShloMosaic Idealize.ShloMosaic.TcCoe Idealize.SL.Sem
open Cert.OutDxIdeal.Gen

/-! # The gradient of the mixer's output, through `w_out`: rows of the incoming gradient against rows of `w_out` -/

/-- The gradient, entry by entry. -/
def grad (dy w : FVec Ideal S2048x2048 .bf16) : Vec Ideal S2048x2048 .f32 :=
  fun i => ∑ k : Fin 2048, dy (ix2 (i 0) k) * w (ix2 (i 1) k)

theorem block_apply (x0 x1 : Vec Ideal S1024x2048 .bf16) (y : S1024x1024.Idx) :
    k0_pay1 (F := Ideal) x0 x1 y = ∑ k : Fin 2048, x0 (ix2 (y 0) k) * x1 (ix2 (y 1) k) := by
  rw [eq_ix2 y]
  pointwise [k0_pay1]

/-- The blocks of the operands are those of the result's rows and of its columns. -/
theorem index_eq (t : Fin cfg0.N) : (win0_0.index t 0 = win0_2.index t 0 ∧ win0_0.index t 1 = 0)
    ∧ win0_1.index t 0 = win0_2.index t 1 ∧ win0_1.index t 1 = 0 := by revert t; decide +kernel

variable (m : (ℓ : Loc nD τ sig) → Buf (Elt Ideal) ℓ) (c : Dev nD)

theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  obtain ⟨⟨h0, z0⟩, h1, z1⟩ := index_eq t
  blk_simp
  rw [after0_2]
  frame_out
  refine (block_apply _ _ y).trans (Finset.sum_congr rfl fun k _ => ?_)
  congr 1
  · blk_ext [iblk, V, h0, z0]
  · blk_ext [iblk, V, h1, z1]

open Cert.OutDxReferenceIdeal.Read in
theorem reference (dy w : FVec Ideal S2048x2048 .bf16) : val_main_v4 (F := Ideal) dy w = grad dy w := by
  funext i
  rw [val_main_v4_apply]
  refine Finset.sum_congr rfl fun k _ => ?_
  congr 1
  · exact congrArg dy (funext fun a => by fin_cases a <;> rfl)
  · exact congrArg w (funext fun a => by fin_cases a <;> rfl)

theorem algebraic : Cert.algebraic_OutDxIdeal_OutDxReferenceIdeal (hOutDxIdeal := Cert.OutDxIdeal.Gen.facts)
    (hOutDxReferenceIdeal := Cert.OutDxReferenceIdeal.Gen.facts) := by
  intro m ρ m' ρ' _ hargs
  refine ⟨fun c => grad (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.OutDxReferenceIdeal.Value.run (F := Ideal) m' ρ')
    obtain ⟨e0, e1⟩ := hargs c
    rw [Cert.OutDxReferenceIdeal.Read.val_main_v4_eq, e0, e1]
    exact reference _ _

end Cert.OutDxIdeal.Hand

end
-- ==== Proof.OutDw.lean ====
module

public import proofs.«01_k».proof.Defs
public import proofs.«01_k».proof.Proof.Gen.OutDwIdeal.Value
public import proofs.«01_k».proof.Proof.Gen.OutDwReferenceIdeal.Read
public import Idealize.ShloMosaic.Lib.Pointwise
public import Idealize.ShloMosaic.Lib.Pipeline.ValueKit

@[expose] public section

set_option maxRecDepth 16384

noncomputable section

namespace Cert.OutDwIdeal.Hand

open Idealize.ShloMosaic Idealize.ShloMosaic.TcCoe Idealize.SL.Sem
open Cert.OutDwIdeal.Gen

/-! # The gradient of `w_out`: columns of the mixer's output against columns of the incoming gradient -/

/-- The gradient, entry by entry. -/
def grad (y dy : FVec Ideal S2048x2048 .bf16) : Vec Ideal S2048x2048 .bf16 :=
  fun i => ∑ k : Fin 2048, y (ix2 k (i 0)) * dy (ix2 k (i 1))

theorem block_apply (x0 x1 : Vec Ideal S2048x1024 .bf16) (y : S1024x1024.Idx) :
    k0_pay1 (F := Ideal) x0 x1 y = ∑ k : Fin 2048, x0 (ix2 k (y 0)) * x1 (ix2 k (y 1)) := by
  rw [eq_ix2 y]
  pointwise [k0_pay1]

/-- The blocks of the operands' columns are those of the result's rows and of its columns. -/
theorem index_eq (t : Fin cfg0.N) : (win0_0.index t 1 = win0_2.index t 0 ∧ win0_0.index t 0 = 0)
    ∧ win0_1.index t 1 = win0_2.index t 1 ∧ win0_1.index t 0 = 0 := by revert t; decide +kernel

variable (m : (ℓ : Loc nD τ sig) → Buf (Elt Ideal) ℓ) (c : Dev nD)

theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  obtain ⟨⟨h0, z0⟩, h1, z1⟩ := index_eq t
  blk_simp
  rw [after0_2]
  frame_out
  refine (block_apply _ _ y).trans (Finset.sum_congr rfl fun k _ => ?_)
  congr 1
  · blk_ext [iblk, V, h0, z0]
  · blk_ext [iblk, V, h1, z1]

open Cert.OutDwReferenceIdeal.Read in
theorem reference (y dy : FVec Ideal S2048x2048 .bf16) : val_main_v6 (F := Ideal) y dy = grad y dy := by
  funext i
  rw [val_main_v6_apply, val_main_v5_apply, val_main_v4_apply]
  refine Finset.sum_congr rfl fun k _ => ?_
  rw [mul_comm]
  congr 1
  · exact congrArg y (funext fun a => by fin_cases a <;> rfl)
  · exact congrArg dy (funext fun a => by fin_cases a <;> rfl)

theorem algebraic : Cert.algebraic_OutDwIdeal_OutDwReferenceIdeal (hOutDwIdeal := Cert.OutDwIdeal.Gen.facts)
    (hOutDwReferenceIdeal := Cert.OutDwReferenceIdeal.Gen.facts) := by
  intro m ρ m' ρ' _ hargs
  refine ⟨fun c => grad (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.OutDwReferenceIdeal.Value.run (F := Ideal) m' ρ')
    obtain ⟨e0, e1⟩ := hargs c
    rw [Cert.OutDwReferenceIdeal.Read.val_main_v6_eq, e0, e1]
    exact reference _ _

end Cert.OutDwIdeal.Hand

end
-- ==== Proof.InDw.lean ====
module

public import proofs.«01_k».proof.Defs
public import proofs.«01_k».proof.Proof.Gen.InDwIdeal.Value
public import proofs.«01_k».proof.Proof.Gen.InDwReferenceIdeal.Read
public import Idealize.ShloMosaic.Lib.Pointwise
public import Idealize.ShloMosaic.Lib.Pipeline.ValueKit

@[expose] public section

set_option maxRecDepth 16384

noncomputable section

namespace Cert.InDwIdeal.Hand

open Idealize.ShloMosaic Idealize.ShloMosaic.TcCoe Idealize.SL.Sem
open Cert.InDwIdeal.Gen

/-! # The gradient of `w_in`: columns of the gradient of the projected activations against columns of the normalised input -/

/-- The gradient, entry by entry. -/
def grad (du : FVec Ideal S2048x4096 .bf16) (x : FVec Ideal S2048x2048 .bf16) : Vec Ideal S4096x2048 .bf16 :=
  fun i => ∑ k : Fin 2048, du (ix2 k (i 0)) * x (ix2 k (i 1))

theorem block_apply (x0 x1 : Vec Ideal S2048x1024 .bf16) (y : S1024x1024.Idx) :
    k0_pay1 (F := Ideal) x0 x1 y = ∑ k : Fin 2048, x0 (ix2 k (y 0)) * x1 (ix2 k (y 1)) := by
  rw [eq_ix2 y]
  pointwise [k0_pay1]

/-- The blocks of the operands' columns are those of the result's rows and of its columns. -/
theorem index_eq (t : Fin cfg0.N) : (win0_0.index t 1 = win0_2.index t 0 ∧ win0_0.index t 0 = 0)
    ∧ win0_1.index t 1 = win0_2.index t 1 ∧ win0_1.index t 0 = 0 := by revert t; decide +kernel

variable (m : (ℓ : Loc nD τ sig) → Buf (Elt Ideal) ℓ) (c : Dev nD)

theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  obtain ⟨⟨h0, z0⟩, h1, z1⟩ := index_eq t
  blk_simp
  rw [after0_2]
  frame_out
  refine (block_apply _ _ y).trans (Finset.sum_congr rfl fun k _ => ?_)
  congr 1
  · blk_ext [iblk, V, h0, z0]
  · blk_ext [iblk, V, h1, z1]

open Cert.InDwReferenceIdeal.Read in
theorem reference (du : FVec Ideal S2048x4096 .bf16) (x : FVec Ideal S2048x2048 .bf16) : val_main_v8 (F := Ideal) du x = grad du x := by
  funext i
  rw [val_main_v8_apply, val_main_v7_apply, val_main_v6_apply, val_main_v5_apply]
  refine Finset.sum_congr rfl fun k _ => ?_
  congr 1
  · exact congrArg du (funext fun a => by fin_cases a <;> rfl)
  · exact congrArg x (funext fun a => by fin_cases a <;> rfl)

theorem algebraic : Cert.algebraic_InDwIdeal_InDwReferenceIdeal (hInDwIdeal := Cert.InDwIdeal.Gen.facts)
    (hInDwReferenceIdeal := Cert.InDwReferenceIdeal.Gen.facts) := by
  intro m ρ m' ρ' _ hargs
  refine ⟨fun c => grad (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.InDwReferenceIdeal.Value.run (F := Ideal) m' ρ')
    obtain ⟨e0, e1⟩ := hargs c
    rw [Cert.InDwReferenceIdeal.Read.val_main_v8_eq, e0, e1]
    exact reference _ _

end Cert.InDwIdeal.Hand

end
-- ==== Proof.InDx.lean ====
module

public import proofs.«01_k».proof.Defs
public import proofs.«01_k».proof.Proof.Gen.InDxIdeal.Value
public import proofs.«01_k».proof.Proof.Gen.InDxReferenceIdeal.Read
public import Idealize.ShloMosaic.Lib.Pointwise
public import Idealize.ShloMosaic.Lib.Pipeline.ValueKit

@[expose] public section

set_option maxRecDepth 16384

noncomputable section

namespace Cert.InDxIdeal.Hand

open Idealize.ShloMosaic Idealize.ShloMosaic.TcCoe Idealize.SL.Sem
open Cert.InDxIdeal.Gen

/-! # The gradient of the normalised input, through `w_in`

The 4096 columns of the incoming gradient are contracted in two halves: an even point puts the first half's share of a
block of the result in the scratch, the odd point after it adds the second half's and writes the block. -/

/-- The gradient, entry by entry. -/
def grad (du : FVec Ideal S2048x4096 .bf16) (w : FVec Ideal S4096x2048 .bf16) : Vec Ideal S2048x2048 .f32 :=
  fun i => ∑ k : Fin 4096, du (ix2 (i 0) k) * w (ix2 k (i 1))

/-- The two halves of a contraction. -/
theorem halves (f : Fin 4096 → EReal) : ∑ k, f k = (∑ k : Fin 2048, f ⟨k.val, by omega⟩) + ∑ k : Fin 2048, f ⟨2048 + k.val, by omega⟩ :=
  Fin.sum_univ_add (a := 2048) (b := 2048) f

/-- A half's share of an entry of a block. -/
def share (x0 : Vec Ideal S1024x2048 .bf16) (x1 : Vec Ideal S2048x1024 .bf16) (y : S1024x1024.Idx) : EReal :=
  ∑ k : Fin 2048, x0 (ix2 (y 0) k) * x1 (ix2 k (y 1))

theorem first_apply (x0 : Vec Ideal S1024x2048 .bf16) (x1 : Vec Ideal S2048x1024 .bf16) (y : S1024x1024.Idx) :
    k0_pay1 (F := Ideal) x0 x1 y = share x0 x1 y := by
  rw [eq_ix2 y]
  unfold share
  pointwise [k0_pay1]

theorem second_apply (acc : Vec Ideal S1024x1024 .f32) (x0 : Vec Ideal S1024x2048 .bf16) (x1 : Vec Ideal S2048x1024 .bf16) (y : S1024x1024.Idx) :
    k0_pay2 (F := Ideal) acc x0 x1 y = acc y + share x0 x1 y := by
  rw [eq_ix2 y]
  unfold share
  pointwise [k0_pay2]

/-- The point before a point. -/
def before (t : Fin cfg0.N) : Fin cfg0.N := ⟨t.val - 1, Nat.lt_of_le_of_lt (Nat.sub_le _ _) t.isLt⟩

/-- The blocks of the operands at a point that writes, and at the point before it. -/
theorem index_second (t : Fin cfg0.N) (h : t.val % 2 = 1) : (win0_0.index t 0 = win0_2.index t 0 ∧ win0_0.index t 1 = 1)
    ∧ win0_1.index t 0 = 1 ∧ win0_1.index t 1 = win0_2.index t 1 := by revert t; decide +kernel
theorem index_first (t : Fin cfg0.N) (h : t.val % 2 = 1) : (win0_0.index (before t) 0 = win0_2.index t 0 ∧ win0_0.index (before t) 1 = 0)
    ∧ win0_1.index (before t) 0 = 0 ∧ win0_1.index (before t) 1 = win0_2.index t 1 := by revert t; decide +kernel

variable (m : (ℓ : Loc nD τ sig) → Buf (Elt Ideal) ℓ) (c : Dev nD)

/-- The scratch after an even point. -/
theorem outs_first (t : Fin cfg0.N) (h : t.val % 2 = 0) : (outsAt0 m c t.val t.isLt).2 = k0_pay1 (iblk m c 0 t) (iblk m c 1 t) := by
  rw [outsAt0_A m c t h (by omega) (by omega)]
  frame_out

/-- The block after an odd point. -/
theorem outs_second (t : Fin cfg0.N) (h : t.val % 2 = 1) : (outsAt0 m c t.val t.isLt).1
    = k0_pay2 (k0_pay1 (iblk m c 0 (before t)) (iblk m c 1 (before t))) (iblk m c 0 t) (iblk m c 1 t) := by
  rw [← outs_first m c (before t) (by show (t.val - 1) % 2 = 0; omega), outsAt0_B m c t (by omega) h h]
  frame_out
  exact congrArg (fun a => k0_pay2 a (iblk m c 0 t) (iblk m c 1 t)) ((Memref.isWhole_whole cc0_scratch0).read_unread _)

theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have h := (flush0_2 t).mp hf
  obtain ⟨⟨a0, a1⟩, b0, b1⟩ := index_first t h
  obtain ⟨⟨c0, c1⟩, d0, d1⟩ := index_second t h
  blk_simp
  rw [after0_2, outs_second m c t h]
  unfold grad
  rw [halves]
  refine (second_apply _ _ _ y).trans ((congrArg (· + _) (first_apply _ _ y)).trans (congrArg₂ (· + ·) ?_ ?_))
  · refine Finset.sum_congr rfl fun k _ => ?_
    congr 1
    · blk_ext [iblk, V, a0, a1]
    · blk_ext [iblk, V, b0, b1]
  · refine Finset.sum_congr rfl fun k _ => ?_
    congr 1
    · blk_ext [iblk, V, c0, c1]
    · blk_ext [iblk, V, d0, d1]

open Cert.InDxReferenceIdeal.Read in
theorem reference (du : FVec Ideal S2048x4096 .bf16) (w : FVec Ideal S4096x2048 .bf16) : val_main_v5 (F := Ideal) du w = grad du w := by
  funext i
  rw [val_main_v5_apply]
  refine Finset.sum_congr rfl fun k _ => ?_
  rw [val_main_v2_apply]
  congr 1
  · exact congrArg du (funext fun a => by fin_cases a <;> rfl)
  · exact congrArg w (funext fun a => by fin_cases a <;> rfl)

theorem algebraic : Cert.algebraic_InDxIdeal_InDxReferenceIdeal (hInDxIdeal := Cert.InDxIdeal.Gen.facts)
    (hInDxReferenceIdeal := Cert.InDxReferenceIdeal.Gen.facts) := by
  intro m ρ m' ρ' _ hargs
  refine ⟨fun c => grad (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.InDxReferenceIdeal.Value.run (F := Ideal) m' ρ')
    obtain ⟨e0, e1⟩ := hargs c
    rw [Cert.InDxReferenceIdeal.Read.val_main_v5_eq, e0, e1]
    exact reference _ _

end Cert.InDxIdeal.Hand

end
-- ==== Proof.GateUp.lean ====
module

public import proofs.«01_k».proof.Defs
public import proofs.«01_k».proof.Proof.Gen.GateUpIdeal.Value
public import proofs.«01_k».proof.Proof.Gen.GateUpReferenceIdeal.Read
public import Idealize.ShloMosaic.Lib.Pointwise
public import Idealize.ShloMosaic.Lib.Pipeline.ValueKit

@[expose] public section

set_option maxRecDepth 16384

noncomputable section

namespace Cert.GateUpIdeal.Hand

open Idealize.ShloMosaic Idealize.ShloMosaic.TcCoe Idealize.SL.Sem
open Cert.GateUpIdeal.Gen

/-! # The gate and the value of the feed-forward layer: one input against the chips' columns of two weights -/

/-- A product, entry by entry: column `j` is column `j % 1408` of chip `j / 1408`. -/
def prod (x : FVec Ideal S2048x2048 .bf16) (w : FVec Ideal S4x2048x1408 .bf16) : Vec Ideal S2048x5632 .f32 :=
  fun i => ∑ k : Fin 2048, x (ix2 (i 0) k) * w (ix3 (⟨(i 1).val / 1408, by have : (i 1).val < 5632 := (i 1).isLt; omega⟩ : Fin 4) k
    (⟨(i 1).val % 1408, by omega⟩ : Fin 1408))

theorem gate_apply (x0 : Vec Ideal S512x2048 .bf16) (x1 : Vec Ideal S1x2048x1408 .bf16) (y : S512x1408.Idx) :
    k0_pay1 (F := Ideal) x0 x1 y = ∑ k : Fin 2048, x0 (ix2 (y 0) k) * x1 (ix3 0 k (y 1)) := by
  rw [eq_ix2 y]
  pointwise [k0_pay1]

theorem up_apply (x0 : Vec Ideal S512x2048 .bf16) (x2 : Vec Ideal S1x2048x1408 .bf16) (y : S512x1408.Idx) :
    k0_pay2 (F := Ideal) x0 x2 y = ∑ k : Fin 2048, x0 (ix2 (y 0) k) * x2 (ix3 0 k (y 1)) := by
  rw [eq_ix2 y]
  pointwise [k0_pay2]

/-- The input's block is that of the result's rows, a weight's the chip that has the result's columns. -/
theorem index_3 (t : Fin cfg0.N) : (win0_0.index t 0 = win0_3.index t 0 ∧ win0_0.index t 1 = 0)
    ∧ win0_1.index t 0 = win0_3.index t 1 ∧ win0_1.index t 1 = 0 ∧ win0_1.index t 2 = 0 := by revert t; decide +kernel
theorem index_4 (t : Fin cfg0.N) : (win0_0.index t 0 = win0_4.index t 0 ∧ win0_0.index t 1 = 0)
    ∧ win0_2.index t 0 = win0_4.index t 1 ∧ win0_2.index t 1 = 0 ∧ win0_2.index t 2 = 0 := by revert t; decide +kernel

variable (m : (ℓ : Loc nD τ sig) → Buf (Elt Ideal) ℓ) (c : Dev nD)

theorem final_gate : (dats m 0 c).arrAt 3 cfg0.N = prod (m ((c.tc : Thread nD τ).loc main_arg0)) (m ((c.tc : Thread nD τ).loc main_arg1)) := by
  refine (dats m 0 c).arrAt_eq_of_covers 3 _ (by decide +kernel) fun t hf y => ?_
  obtain ⟨⟨a0, a1⟩, b0, b1, b2⟩ := index_3 t
  have hy : (y 1).val < 1408 := (y 1).isLt
  blk_simp
  rw [after0_3]
  frame_out
  refine (gate_apply _ _ y).trans (Finset.sum_congr rfl fun k _ => ?_)
  congr 1
  · blk_ext [iblk, V, a0, a1]
  · blk_ext [iblk, V, b0, b1, b2]

theorem final_up : (dats m 0 c).arrAt 4 cfg0.N = prod (m ((c.tc : Thread nD τ).loc main_arg0)) (m ((c.tc : Thread nD τ).loc main_arg2)) := by
  refine (dats m 0 c).arrAt_eq_of_covers 4 _ (by decide +kernel) fun t hf y => ?_
  obtain ⟨⟨a0, a1⟩, b0, b1, b2⟩ := index_4 t
  have hy : (y 1).val < 1408 := (y 1).isLt
  blk_simp
  rw [after0_4]
  frame_out
  refine (up_apply _ _ y).trans (Finset.sum_congr rfl fun k _ => ?_)
  congr 1
  · blk_ext [iblk, V, a0, a1]
  · blk_ext [iblk, V, b0, b1, b2]

section
open Cert.GateUpReferenceIdeal.Read

theorem reference_gate (x : FVec Ideal S2048x2048 .bf16) (w : FVec Ideal S4x2048x1408 .bf16) : val_main_v3 (F := Ideal) x w = prod x w := by
  funext i
  rw [val_main_v3_apply, val_main_v2_apply]
  have h0 : (i 0).val < 2048 := (i 0).isLt
  have h1 : (i 1).val < 5632 := (i 1).isLt
  refine Finset.sum_congr rfl fun k _ => congrArg₂ (· * ·) (congrArg x (funext fun a => Fin.ext ?_)) (congrArg w (funext fun a => Fin.ext ?_))
  · match a with
    | ⟨0, _⟩ => show ((i 0).val * 5632 + (i 1).val) / 5632 = (i 0).val; omega
    | ⟨1, _⟩ => rfl
  · match a with
    | ⟨0, _⟩ => show ((i 0).val * 5632 + (i 1).val) / 1408 % 4 = (i 1).val / 1408; omega
    | ⟨1, _⟩ => rfl
    | ⟨2, _⟩ => show ((i 0).val * 5632 + (i 1).val) % 1408 = (i 1).val % 1408; omega

/-- The two products are stated alike. -/
theorem reference_up (x : FVec Ideal S2048x2048 .bf16) (w : FVec Ideal S4x2048x1408 .bf16) : val_main_v7 (F := Ideal) x w = prod x w :=
  (show val_main_v7 (F := Ideal) x w = val_main_v3 (F := Ideal) x w from rfl).trans (reference_gate x w)

end

theorem algebraic : Cert.algebraic_GateUpIdeal_GateUpReferenceIdeal (hGateUpIdeal := Cert.GateUpIdeal.Gen.facts)
    (hGateUpReferenceIdeal := Cert.GateUpReferenceIdeal.Gen.facts) := by
  intro m ρ m' ρ' _ hargs
  refine ⟨fun c => prod (m ((c.tc : Thread nD τ).loc main_arg0)) (m ((c.tc : Thread nD τ).loc main_arg1)),
    fun c => prod (m ((c.tc : Thread nD τ).loc main_arg0)) (m ((c.tc : Thread nD τ).loc main_arg2)), ?_, ?_⟩
  · exact (θ_run _ _ _).mono (fun r h c => ⟨(h c).1.trans (final_gate m c), (h c).2.1.trans (final_up m c), (h c).2.2⟩) (Value.run_blocks m ρ)
  · refine (θ_run _ _ _).mono (fun r h c => ⟨(h c).1.trans ?_, (h c).2.1.trans ?_, (h c).2.2⟩) (Cert.GateUpReferenceIdeal.Value.run (F := Ideal) m' ρ')
    all_goals obtain ⟨e0, e1, e2⟩ := hargs c
    · rw [Cert.GateUpReferenceIdeal.Read.val_main_v3_eq, e0, e1]; exact reference_gate _ _
    · rw [Cert.GateUpReferenceIdeal.Read.val_main_v7_eq, e0, e2]; exact reference_up _ _

end Cert.GateUpIdeal.Hand

end
-- ==== Proof.Down.lean ====
module

public import proofs.«01_k».proof.Defs
public import proofs.«01_k».proof.Proof.Gen.DownIdeal.Value
public import proofs.«01_k».proof.Proof.Gen.DownReferenceIdeal.Read
public import Idealize.ShloMosaic.Lib.Pointwise
public import Idealize.ShloMosaic.Lib.Pipeline.ValueKit

@[expose] public section

set_option maxRecDepth 16384

noncomputable section

namespace Cert.DownIdeal.Hand

open Idealize.ShloMosaic Idealize.ShloMosaic.TcCoe Idealize.SL.Sem
open Cert.DownIdeal.Gen

/-! # The feed-forward layer's output: rows of the activations against columns of `w_down`

The 5632 hidden units are contracted in two halves: an even point leaves the first half's share of a block of the result
in the scratch, and the odd point that follows adds the other half's and writes the block. -/

/-- The product, entry by entry. -/
def prod (act : FVec Ideal S2048x5632 .bf16) (w : FVec Ideal S5632x2048 .bf16) : Vec Ideal S2048x2048 .f32 :=
  fun i => ∑ k : Fin 5632, act (ix2 (i 0) k) * w (ix2 k (i 1))

/-- The two halves of a contraction. -/
theorem halves (f : Fin 5632 → EReal) : ∑ k, f k = (∑ k : Fin 2816, f ⟨k.val, by omega⟩) + ∑ k : Fin 2816, f ⟨2816 + k.val, by omega⟩ :=
  Fin.sum_univ_add (a := 2816) (b := 2816) f

/-- A half's share of an entry of a block. -/
def share (x0 : Vec Ideal S1024x2816 .bf16) (x1 : Vec Ideal S2816x1024 .bf16) (y : S1024x1024.Idx) : EReal :=
  ∑ k : Fin 2816, x0 (ix2 (y 0) k) * x1 (ix2 k (y 1))

theorem first_apply (x0 : Vec Ideal S1024x2816 .bf16) (x1 : Vec Ideal S2816x1024 .bf16) (y : S1024x1024.Idx) :
    k0_pay1 (F := Ideal) x0 x1 y = share x0 x1 y := by
  rw [eq_ix2 y]
  unfold share
  pointwise [k0_pay1]

theorem second_apply (acc : Vec Ideal S1024x1024 .f32) (x0 : Vec Ideal S1024x2816 .bf16) (x1 : Vec Ideal S2816x1024 .bf16) (y : S1024x1024.Idx) :
    k0_pay2 (F := Ideal) acc x0 x1 y = acc y + share x0 x1 y := by
  rw [eq_ix2 y]
  unfold share
  pointwise [k0_pay2]

/-- The point before a point. -/
def before (t : Fin cfg0.N) : Fin cfg0.N := ⟨t.val - 1, Nat.lt_of_le_of_lt (Nat.sub_le _ _) t.isLt⟩

/-- The blocks of the operands at a point that writes, and at the point before it. -/
theorem index_second (t : Fin cfg0.N) (h : t.val % 2 = 1) : (win0_0.index t 0 = win0_2.index t 0 ∧ win0_0.index t 1 = 1)
    ∧ win0_1.index t 0 = 1 ∧ win0_1.index t 1 = win0_2.index t 1 := by revert t; decide +kernel
theorem index_first (t : Fin cfg0.N) (h : t.val % 2 = 1) : (win0_0.index (before t) 0 = win0_2.index t 0 ∧ win0_0.index (before t) 1 = 0)
    ∧ win0_1.index (before t) 0 = 0 ∧ win0_1.index (before t) 1 = win0_2.index t 1 := by revert t; decide +kernel

variable (m : (ℓ : Loc nD τ sig) → Buf (Elt Ideal) ℓ) (c : Dev nD)

/-- The scratch after an even point. -/
theorem outs_first (t : Fin cfg0.N) (h : t.val % 2 = 0) : (outsAt0 m c t.val t.isLt).2 = k0_pay1 (iblk m c 0 t) (iblk m c 1 t) := by
  rw [outsAt0_A m c t h (by omega) (by omega)]
  frame_out

/-- The block after an odd point. -/
theorem outs_second (t : Fin cfg0.N) (h : t.val % 2 = 1) : (outsAt0 m c t.val t.isLt).1
    = k0_pay2 (k0_pay1 (iblk m c 0 (before t)) (iblk m c 1 (before t))) (iblk m c 0 t) (iblk m c 1 t) := by
  rw [← outs_first m c (before t) (by show (t.val - 1) % 2 = 0; omega), outsAt0_B m c t (by omega) h h]
  frame_out
  exact congrArg (fun a => k0_pay2 a (iblk m c 0 t) (iblk m c 1 t)) ((Memref.isWhole_whole cc0_scratch0).read_unread _)

theorem final : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have h := (flush0_2 t).mp hf
  obtain ⟨⟨a0, a1⟩, b0, b1⟩ := index_first t h
  obtain ⟨⟨c0, c1⟩, d0, d1⟩ := index_second t h
  blk_simp
  rw [after0_2, outs_second m c t h]
  unfold prod
  rw [halves]
  refine (second_apply _ _ _ y).trans ((congrArg (· + _) (first_apply _ _ y)).trans (congrArg₂ (· + ·) ?_ ?_))
  · refine Finset.sum_congr rfl fun k _ => ?_
    congr 1
    · blk_ext [iblk, V, a0, a1]
    · blk_ext [iblk, V, b0, b1]
  · refine Finset.sum_congr rfl fun k _ => ?_
    congr 1
    · blk_ext [iblk, V, c0, c1]
    · blk_ext [iblk, V, d0, d1]

open Cert.DownReferenceIdeal.Read in
theorem reference (act : FVec Ideal S2048x5632 .bf16) (w : FVec Ideal S5632x2048 .bf16) : val_main_v2 (F := Ideal) act w = prod act w := by
  funext i
  rw [val_main_v2_apply]
  refine Finset.sum_congr rfl fun k _ => ?_
  congr 1
  · exact congrArg act (funext fun a => by fin_cases a <;> rfl)
  · exact congrArg w (funext fun a => by fin_cases a <;> rfl)

theorem algebraic : Cert.algebraic_DownIdeal_DownReferenceIdeal (hDownIdeal := Cert.DownIdeal.Gen.facts)
    (hDownReferenceIdeal := Cert.DownReferenceIdeal.Gen.facts) := by
  intro m ρ m' ρ' _ hargs
  refine ⟨fun c => prod (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.DownReferenceIdeal.Value.run (F := Ideal) m' ρ')
    obtain ⟨e0, e1⟩ := hargs c
    rw [Cert.DownReferenceIdeal.Read.val_main_v2_eq, e0, e1]
    exact reference _ _

end Cert.DownIdeal.Hand

end
-- ==== Proof.Out.lean ====
module

public import proofs.«01_k».proof.Defs
public import proofs.«01_k».proof.Proof.Gen.OutIdeal.Value
public import proofs.«01_k».proof.Proof.Gen.OutReferenceIdeal.Read
public import Idealize.ShloMosaic.Lib.Pointwise
public import Idealize.ShloMosaic.Lib.Pipeline.ValueKit

@[expose] public section

set_option maxRecDepth 16384

noncomputable section

namespace Cert.OutIdeal.Hand

open Idealize.ShloMosaic Idealize.ShloMosaic.TcCoe Idealize.SL.Sem
open Cert.OutIdeal.Gen

/-! # The mixer's output projection: rows of its input against columns of `w_out` -/

/-- The product, entry by entry. -/
def prod (x w : FVec Ideal S2048x2048 .bf16) : Vec Ideal S2048x2048 .f32 :=
  fun i => ∑ k : Fin 2048, x (ix2 (i 0) k) * w (ix2 k (i 1))

theorem block_apply (x0 : Vec Ideal S1024x2048 .bf16) (x1 : Vec Ideal S2048x1024 .bf16) (y : S1024x1024.Idx) :
    k0_pay1 (F := Ideal) x0 x1 y = ∑ k : Fin 2048, x0 (ix2 (y 0) k) * x1 (ix2 k (y 1)) := by
  rw [eq_ix2 y]
  pointwise [k0_pay1]

/-- The blocks of the operands are those of the result's rows and of its columns. -/
theorem index_eq (t : Fin cfg0.N) : (win0_0.index t 0 = win0_2.index t 0 ∧ win0_0.index t 1 = 0)
    ∧ win0_1.index t 1 = win0_2.index t 1 ∧ win0_1.index t 0 = 0 := by revert t; decide +kernel

variable (m : (ℓ : Loc nD τ sig) → Buf (Elt Ideal) ℓ) (c : Dev nD)

theorem final : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  obtain ⟨⟨h0, z0⟩, h1, z1⟩ := index_eq t
  blk_simp
  rw [after0_2]
  frame_out
  refine (block_apply _ _ y).trans (Finset.sum_congr rfl fun k _ => ?_)
  congr 1
  · blk_ext [iblk, V, h0, z0]
  · blk_ext [iblk, V, h1, z1]

open Cert.OutReferenceIdeal.Read in
theorem reference (x w : FVec Ideal S2048x2048 .bf16) : val_main_v2 (F := Ideal) x w = prod x w := by
  funext i
  rw [val_main_v2_apply]
  refine Finset.sum_congr rfl fun k _ => ?_
  congr 1
  · exact congrArg x (funext fun a => by fin_cases a <;> rfl)
  · exact congrArg w (funext fun a => by fin_cases a <;> rfl)

theorem algebraic : Cert.algebraic_OutIdeal_OutReferenceIdeal (hOutIdeal := Cert.OutIdeal.Gen.facts)
    (hOutReferenceIdeal := Cert.OutReferenceIdeal.Gen.facts) := by
  intro m ρ m' ρ' _ hargs
  refine ⟨fun c => prod (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.OutReferenceIdeal.Value.run (F := Ideal) m' ρ')
    obtain ⟨e0, e1⟩ := hargs c
    rw [Cert.OutReferenceIdeal.Read.val_main_v2_eq, e0, e1]
    exact reference _ _

end Cert.OutIdeal.Hand

end
-- ==== Proof.In.lean ====
module

public import proofs.«01_k».proof.Defs
public import proofs.«01_k».proof.Proof.Gen.InIdeal.Value
public import proofs.«01_k».proof.Proof.Gen.InReferenceIdeal.Read
public import Idealize.ShloMosaic.Lib.Pointwise
public import Idealize.ShloMosaic.Lib.Pipeline.ValueKit

@[expose] public section

set_option maxRecDepth 16384

noncomputable section

namespace Cert.InIdeal.Hand

open Idealize.ShloMosaic Idealize.ShloMosaic.TcCoe Idealize.SL.Sem
open Cert.InIdeal.Gen

/-! # The input projection: rows of the normalised input against rows of `w_in` -/

/-- The product, entry by entry. -/
def prod (x : FVec Ideal S2048x2048 .bf16) (w : FVec Ideal S4096x2048 .bf16) : Vec Ideal S2048x4096 .f32 :=
  fun i => ∑ k : Fin 2048, x (ix2 (i 0) k) * w (ix2 (i 1) k)

theorem block_apply (x0 x1 : Vec Ideal S1024x2048 .bf16) (y : S1024x1024.Idx) :
    k0_pay1 (F := Ideal) x0 x1 y = ∑ k : Fin 2048, x0 (ix2 (y 0) k) * x1 (ix2 (y 1) k) := by
  rw [eq_ix2 y]
  pointwise [k0_pay1]

/-- The blocks of the operands are those of the result's rows and of its columns. -/
theorem index_eq (t : Fin cfg0.N) : (win0_0.index t 0 = win0_2.index t 0 ∧ win0_0.index t 1 = 0)
    ∧ win0_1.index t 0 = win0_2.index t 1 ∧ win0_1.index t 1 = 0 := by revert t; decide +kernel

variable (m : (ℓ : Loc nD τ sig) → Buf (Elt Ideal) ℓ) (c : Dev nD)

theorem final : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  obtain ⟨⟨h0, z0⟩, h1, z1⟩ := index_eq t
  blk_simp
  rw [after0_2]
  frame_out
  refine (block_apply _ _ y).trans (Finset.sum_congr rfl fun k _ => ?_)
  congr 1
  · blk_ext [iblk, V, h0, z0]
  · blk_ext [iblk, V, h1, z1]

open Cert.InReferenceIdeal.Read in
theorem reference (x : FVec Ideal S2048x2048 .bf16) (w : FVec Ideal S4096x2048 .bf16) : val_main_v3 (F := Ideal) x w = prod x w := by
  funext i
  rw [val_main_v3_apply]
  refine Finset.sum_congr rfl fun k _ => ?_
  rw [val_main_v2_apply]
  congr 1
  · exact congrArg x (funext fun a => by fin_cases a <;> rfl)
  · exact congrArg w (funext fun a => by fin_cases a <;> rfl)

theorem algebraic : Cert.algebraic_InIdeal_InReferenceIdeal (hInIdeal := Cert.InIdeal.Gen.facts)
    (hInReferenceIdeal := Cert.InReferenceIdeal.Gen.facts) := by
  intro m ρ m' ρ' _ hargs
  refine ⟨fun c => prod (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.InReferenceIdeal.Value.run (F := Ideal) m' ρ')
    obtain ⟨e0, e1⟩ := hargs c
    rw [Cert.InReferenceIdeal.Read.val_main_v3_eq, e0, e1]
    exact reference _ _

end Cert.InIdeal.Hand

end
-- ==== Proof.Uq.lean ====
module

public import proofs.«01_k».proof.Defs
public import proofs.«01_k».proof.Proof.Gen.UqIdeal.Value
public import proofs.«01_k».proof.Proof.Gen.UqReferenceIdeal.Read
public import Idealize.ShloMosaic.Lib.Pointwise
public import Idealize.ShloMosaic.Lib.Pipeline.ValueKit

@[expose] public section

set_option maxRecDepth 16384

noncomputable section

namespace Cert.UqIdeal.Hand

open Idealize.ShloMosaic Idealize.ShloMosaic.TcCoe Idealize.SL.Sem
open Cert.UqIdeal.Gen

/-! # The queries: rows of the compressed queries against columns of `w_uq` -/

/-- The product, entry by entry. -/
def prod (x : FVec Ideal S2048x768 .bf16) (w : FVec Ideal S768x1536 .bf16) : Vec Ideal S2048x1536 .f32 :=
  fun i => ∑ k : Fin 768, x (ix2 (i 0) k) * w (ix2 k (i 1))

theorem block_apply (x0 : Vec Ideal S1024x768 .bf16) (x1 : Vec Ideal S768x768 .bf16) (y : S1024x768.Idx) :
    k0_pay1 (F := Ideal) x0 x1 y = ∑ k : Fin 768, x0 (ix2 (y 0) k) * x1 (ix2 k (y 1)) := by
  rw [eq_ix2 y]
  pointwise [k0_pay1]

/-- The blocks of the operands are those of the result's rows and of its columns. -/
theorem index_eq (t : Fin cfg0.N) : (win0_0.index t 0 = win0_2.index t 0 ∧ win0_0.index t 1 = 0)
    ∧ win0_1.index t 1 = win0_2.index t 1 ∧ win0_1.index t 0 = 0 := by revert t; decide +kernel

variable (m : (ℓ : Loc nD τ sig) → Buf (Elt Ideal) ℓ) (c : Dev nD)

theorem final : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  obtain ⟨⟨h0, z0⟩, h1, z1⟩ := index_eq t
  blk_simp
  rw [after0_2]
  frame_out
  refine (block_apply _ _ y).trans (Finset.sum_congr rfl fun k _ => ?_)
  congr 1
  · blk_ext [iblk, V, h0, z0]
  · blk_ext [iblk, V, h1, z1]

open Cert.UqReferenceIdeal.Read in
theorem reference (x : FVec Ideal S2048x768 .bf16) (w : FVec Ideal S768x1536 .bf16) : val_main_v2 (F := Ideal) x w = prod x w := by
  funext i
  rw [val_main_v2_apply]
  refine Finset.sum_congr rfl fun k _ => ?_
  congr 1
  · exact congrArg x (funext fun a => by fin_cases a <;> rfl)
  · exact congrArg w (funext fun a => by fin_cases a <;> rfl)

theorem algebraic : Cert.algebraic_UqIdeal_UqReferenceIdeal (hUqIdeal := Cert.UqIdeal.Gen.facts)
    (hUqReferenceIdeal := Cert.UqReferenceIdeal.Gen.facts) := by
  intro m ρ m' ρ' _ hargs
  refine ⟨fun c => prod (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.UqReferenceIdeal.Value.run (F := Ideal) m' ρ')
    obtain ⟨e0, e1⟩ := hargs c
    rw [Cert.UqReferenceIdeal.Read.val_main_v2_eq, e0, e1]
    exact reference _ _

end Cert.UqIdeal.Hand

end
-- ==== Proof.Ukv.lean ====
module

public import proofs.«01_k».proof.Defs
public import proofs.«01_k».proof.Proof.Gen.UkvIdeal.Value
public import proofs.«01_k».proof.Proof.Gen.UkvReferenceIdeal.Read
public import Idealize.ShloMosaic.Lib.Pointwise
public import Idealize.ShloMosaic.Lib.Pipeline.ValueKit

@[expose] public section

set_option maxRecDepth 16384

noncomputable section

namespace Cert.UkvIdeal.Hand

open Idealize.ShloMosaic Idealize.ShloMosaic.TcCoe Idealize.SL.Sem
open Cert.UkvIdeal.Gen

/-! # The keys and values: rows of the compressed pair against columns of `w_ukv` -/

/-- The product, entry by entry. -/
def prod (x : FVec Ideal S2048x512 .bf16) (w : FVec Ideal S512x2048 .bf16) : Vec Ideal S2048x2048 .f32 :=
  fun i => ∑ k : Fin 512, x (ix2 (i 0) k) * w (ix2 k (i 1))

theorem block_apply (x0 : Vec Ideal S1024x512 .bf16) (x1 : Vec Ideal S512x1024 .bf16) (y : S1024x1024.Idx) :
    k0_pay1 (F := Ideal) x0 x1 y = ∑ k : Fin 512, x0 (ix2 (y 0) k) * x1 (ix2 k (y 1)) := by
  rw [eq_ix2 y]
  pointwise [k0_pay1]

/-- The blocks of the operands are those of the result's rows and of its columns. -/
theorem index_eq (t : Fin cfg0.N) : (win0_0.index t 0 = win0_2.index t 0 ∧ win0_0.index t 1 = 0)
    ∧ win0_1.index t 1 = win0_2.index t 1 ∧ win0_1.index t 0 = 0 := by revert t; decide +kernel

variable (m : (ℓ : Loc nD τ sig) → Buf (Elt Ideal) ℓ) (c : Dev nD)

theorem final : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  obtain ⟨⟨h0, z0⟩, h1, z1⟩ := index_eq t
  blk_simp
  rw [after0_2]
  frame_out
  refine (block_apply _ _ y).trans (Finset.sum_congr rfl fun k _ => ?_)
  congr 1
  · blk_ext [iblk, V, h0, z0]
  · blk_ext [iblk, V, h1, z1]

open Cert.UkvReferenceIdeal.Read in
theorem reference (x : FVec Ideal S2048x512 .bf16) (w : FVec Ideal S512x2048 .bf16) : val_main_v2 (F := Ideal) x w = prod x w := by
  funext i
  rw [val_main_v2_apply]
  refine Finset.sum_congr rfl fun k _ => ?_
  congr 1
  · exact congrArg x (funext fun a => by fin_cases a <;> rfl)
  · exact congrArg w (funext fun a => by fin_cases a <;> rfl)

theorem algebraic : Cert.algebraic_UkvIdeal_UkvReferenceIdeal (hUkvIdeal := Cert.UkvIdeal.Gen.facts)
    (hUkvReferenceIdeal := Cert.UkvReferenceIdeal.Gen.facts) := by
  intro m ρ m' ρ' _ hargs
  refine ⟨fun c => prod (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.UkvReferenceIdeal.Value.run (F := Ideal) m' ρ')
    obtain ⟨e0, e1⟩ := hargs c
    rw [Cert.UkvReferenceIdeal.Read.val_main_v2_eq, e0, e1]
    exact reference _ _

end Cert.UkvIdeal.Hand

end
-- ==== Proof.UqDx.lean ====
module

public import proofs.«01_k».proof.Defs
public import proofs.«01_k».proof.Proof.Gen.UqDxIdeal.Value
public import proofs.«01_k».proof.Proof.Gen.UqDxReferenceIdeal.Read
public import Idealize.ShloMosaic.Lib.Pointwise
public import Idealize.ShloMosaic.Lib.Pipeline.ValueKit

@[expose] public section

set_option maxRecDepth 16384

noncomputable section

namespace Cert.UqDxIdeal.Hand

open Idealize.ShloMosaic Idealize.ShloMosaic.TcCoe Idealize.SL.Sem
open Cert.UqDxIdeal.Gen

/-! # The gradient of the compressed queries: rows of the queries' gradient against rows of `w_uq` -/

/-- The gradient, entry by entry. -/
def grad (dy : FVec Ideal S2048x1536 .bf16) (w : FVec Ideal S768x1536 .bf16) : Vec Ideal S2048x768 .f32 :=
  fun i => ∑ k : Fin 1536, dy (ix2 (i 0) k) * w (ix2 (i 1) k)

theorem block_apply (x0 : Vec Ideal S1024x1536 .bf16) (x1 : Vec Ideal S768x1536 .bf16) (y : S1024x768.Idx) :
    k0_pay1 (F := Ideal) x0 x1 y = ∑ k : Fin 1536, x0 (ix2 (y 0) k) * x1 (ix2 (y 1) k) := by
  rw [eq_ix2 y]
  pointwise [k0_pay1]

/-- The blocks of the operands are those of the result's rows and of its columns. -/
theorem index_eq (t : Fin cfg0.N) : (win0_0.index t 0 = win0_2.index t 0 ∧ win0_0.index t 1 = 0)
    ∧ win0_1.index t 0 = win0_2.index t 1 ∧ win0_1.index t 1 = 0 := by revert t; decide +kernel

variable (m : (ℓ : Loc nD τ sig) → Buf (Elt Ideal) ℓ) (c : Dev nD)

theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  obtain ⟨⟨h0, z0⟩, h1, z1⟩ := index_eq t
  blk_simp
  rw [after0_2]
  frame_out
  refine (block_apply _ _ y).trans (Finset.sum_congr rfl fun k _ => ?_)
  congr 1
  · blk_ext [iblk, V, h0, z0]
  · blk_ext [iblk, V, h1, z1]

open Cert.UqDxReferenceIdeal.Read in
theorem reference (dy : FVec Ideal S2048x1536 .bf16) (w : FVec Ideal S768x1536 .bf16) : val_main_v4 (F := Ideal) dy w = grad dy w := by
  funext i
  rw [val_main_v4_apply]
  refine Finset.sum_congr rfl fun k _ => ?_
  congr 1
  · exact congrArg dy (funext fun a => by fin_cases a <;> rfl)
  · exact congrArg w (funext fun a => by fin_cases a <;> rfl)

theorem algebraic : Cert.algebraic_UqDxIdeal_UqDxReferenceIdeal (hUqDxIdeal := Cert.UqDxIdeal.Gen.facts)
    (hUqDxReferenceIdeal := Cert.UqDxReferenceIdeal.Gen.facts) := by
  intro m ρ m' ρ' _ hargs
  refine ⟨fun c => grad (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.UqDxReferenceIdeal.Value.run (F := Ideal) m' ρ')
    obtain ⟨e0, e1⟩ := hargs c
    rw [Cert.UqDxReferenceIdeal.Read.val_main_v4_eq, e0, e1]
    exact reference _ _

end Cert.UqDxIdeal.Hand

end
-- ==== Proof.UkvDx.lean ====
module

public import proofs.«01_k».proof.Defs
public import proofs.«01_k».proof.Proof.Gen.UkvDxIdeal.Value
public import proofs.«01_k».proof.Proof.Gen.UkvDxReferenceIdeal.Read
public import Idealize.ShloMosaic.Lib.Pointwise
public import Idealize.ShloMosaic.Lib.Pipeline.ValueKit

@[expose] public section

set_option maxRecDepth 16384

noncomputable section

namespace Cert.UkvDxIdeal.Hand

open Idealize.ShloMosaic Idealize.ShloMosaic.TcCoe Idealize.SL.Sem
open Cert.UkvDxIdeal.Gen

/-! # The gradient of the compressed keys and values: rows of their gradient against rows of `w_ukv` -/

/-- The gradient, entry by entry. -/
def grad (dy : FVec Ideal S2048x2048 .bf16) (w : FVec Ideal S512x2048 .bf16) : Vec Ideal S2048x512 .f32 :=
  fun i => ∑ k : Fin 2048, dy (ix2 (i 0) k) * w (ix2 (i 1) k)

theorem block_apply (x0 : Vec Ideal S1024x2048 .bf16) (x1 : Vec Ideal S512x2048 .bf16) (y : S1024x512.Idx) :
    k0_pay1 (F := Ideal) x0 x1 y = ∑ k : Fin 2048, x0 (ix2 (y 0) k) * x1 (ix2 (y 1) k) := by
  rw [eq_ix2 y]
  pointwise [k0_pay1]

/-- The blocks of the operands are those of the result's rows and of its columns. -/
theorem index_eq (t : Fin cfg0.N) : (win0_0.index t 0 = win0_2.index t 0 ∧ win0_0.index t 1 = 0)
    ∧ win0_1.index t 0 = win0_2.index t 1 ∧ win0_1.index t 1 = 0 := by revert t; decide +kernel

variable (m : (ℓ : Loc nD τ sig) → Buf (Elt Ideal) ℓ) (c : Dev nD)

theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  obtain ⟨⟨h0, z0⟩, h1, z1⟩ := index_eq t
  blk_simp
  rw [after0_2]
  frame_out
  refine (block_apply _ _ y).trans (Finset.sum_congr rfl fun k _ => ?_)
  congr 1
  · blk_ext [iblk, V, h0, z0]
  · blk_ext [iblk, V, h1, z1]

open Cert.UkvDxReferenceIdeal.Read in
theorem reference (dy : FVec Ideal S2048x2048 .bf16) (w : FVec Ideal S512x2048 .bf16) : val_main_v4 (F := Ideal) dy w = grad dy w := by
  funext i
  rw [val_main_v4_apply]
  refine Finset.sum_congr rfl fun k _ => ?_
  congr 1
  · exact congrArg dy (funext fun a => by fin_cases a <;> rfl)
  · exact congrArg w (funext fun a => by fin_cases a <;> rfl)

theorem algebraic : Cert.algebraic_UkvDxIdeal_UkvDxReferenceIdeal (hUkvDxIdeal := Cert.UkvDxIdeal.Gen.facts)
    (hUkvDxReferenceIdeal := Cert.UkvDxReferenceIdeal.Gen.facts) := by
  intro m ρ m' ρ' _ hargs
  refine ⟨fun c => grad (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.UkvDxReferenceIdeal.Value.run (F := Ideal) m' ρ')
    obtain ⟨e0, e1⟩ := hargs c
    rw [Cert.UkvDxReferenceIdeal.Read.val_main_v4_eq, e0, e1]
    exact reference _ _

end Cert.UkvDxIdeal.Hand

end
-- ==== Proof.UqDw.lean ====
module

public import proofs.«01_k».proof.Defs
public import proofs.«01_k».proof.Proof.Gen.UqDwIdeal.Value
public import proofs.«01_k».proof.Proof.Gen.UqDwReferenceIdeal.Read
public import Idealize.ShloMosaic.Lib.Pointwise
public import Idealize.ShloMosaic.Lib.Pipeline.ValueKit

@[expose] public section

set_option maxRecDepth 16384

noncomputable section

namespace Cert.UqDwIdeal.Hand

open Idealize.ShloMosaic Idealize.ShloMosaic.TcCoe Idealize.SL.Sem
open Cert.UqDwIdeal.Gen

/-! # The gradient of `w_uq`: columns of the compressed queries against columns of the queries' gradient -/

/-- The gradient, entry by entry. -/
def grad (y : FVec Ideal S2048x768 .bf16) (dy : FVec Ideal S2048x1536 .bf16) : Vec Ideal S768x1536 .bf16 :=
  fun i => ∑ k : Fin 2048, y (ix2 k (i 0)) * dy (ix2 k (i 1))

theorem block_apply (x0 : Vec Ideal S2048x768 .bf16) (x1 : Vec Ideal S2048x768 .bf16) (y : S768x768.Idx) :
    k0_pay1 (F := Ideal) x0 x1 y = ∑ k : Fin 2048, x0 (ix2 k (y 0)) * x1 (ix2 k (y 1)) := by
  rw [eq_ix2 y]
  pointwise [k0_pay1]

/-- The blocks of the operands' columns are those of the result's rows and of its columns. -/
theorem index_eq (t : Fin cfg0.N) : (win0_0.index t 1 = win0_2.index t 0 ∧ win0_0.index t 0 = 0)
    ∧ win0_1.index t 1 = win0_2.index t 1 ∧ win0_1.index t 0 = 0 := by revert t; decide +kernel

variable (m : (ℓ : Loc nD τ sig) → Buf (Elt Ideal) ℓ) (c : Dev nD)

theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  obtain ⟨⟨h0, z0⟩, h1, z1⟩ := index_eq t
  blk_simp
  rw [after0_2]
  frame_out
  refine (block_apply _ _ y).trans (Finset.sum_congr rfl fun k _ => ?_)
  congr 1
  · blk_ext [iblk, V, h0, z0]
  · blk_ext [iblk, V, h1, z1]

open Cert.UqDwReferenceIdeal.Read in
theorem reference (y : FVec Ideal S2048x768 .bf16) (dy : FVec Ideal S2048x1536 .bf16) : val_main_v6 (F := Ideal) y dy = grad y dy := by
  funext i
  rw [val_main_v6_apply, val_main_v5_apply, val_main_v4_apply]
  refine Finset.sum_congr rfl fun k _ => ?_
  rw [mul_comm]
  congr 1
  · exact congrArg y (funext fun a => by fin_cases a <;> rfl)
  · exact congrArg dy (funext fun a => by fin_cases a <;> rfl)

theorem algebraic : Cert.algebraic_UqDwIdeal_UqDwReferenceIdeal (hUqDwIdeal := Cert.UqDwIdeal.Gen.facts)
    (hUqDwReferenceIdeal := Cert.UqDwReferenceIdeal.Gen.facts) := by
  intro m ρ m' ρ' _ hargs
  refine ⟨fun c => grad (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.UqDwReferenceIdeal.Value.run (F := Ideal) m' ρ')
    obtain ⟨e0, e1⟩ := hargs c
    rw [Cert.UqDwReferenceIdeal.Read.val_main_v6_eq, e0, e1]
    exact reference _ _

end Cert.UqDwIdeal.Hand

end
-- ==== Proof.UkvDw.lean ====
module

public import proofs.«01_k».proof.Defs
public import proofs.«01_k».proof.Proof.Gen.UkvDwIdeal.Value
public import proofs.«01_k».proof.Proof.Gen.UkvDwReferenceIdeal.Read
public import Idealize.ShloMosaic.Lib.Pointwise
public import Idealize.ShloMosaic.Lib.Pipeline.ValueKit

@[expose] public section

set_option maxRecDepth 16384

noncomputable section

namespace Cert.UkvDwIdeal.Hand

open Idealize.ShloMosaic Idealize.ShloMosaic.TcCoe Idealize.SL.Sem
open Cert.UkvDwIdeal.Gen

/-! # The gradient of `w_ukv`: columns of the compressed keys and values against columns of their gradient -/

/-- The gradient, entry by entry. -/
def grad (y : FVec Ideal S2048x512 .bf16) (dy : FVec Ideal S2048x2048 .bf16) : Vec Ideal S512x2048 .bf16 :=
  fun i => ∑ k : Fin 2048, y (ix2 k (i 0)) * dy (ix2 k (i 1))

theorem block_apply (x0 : Vec Ideal S2048x512 .bf16) (x1 : Vec Ideal S2048x1024 .bf16) (y : S512x1024.Idx) :
    k0_pay1 (F := Ideal) x0 x1 y = ∑ k : Fin 2048, x0 (ix2 k (y 0)) * x1 (ix2 k (y 1)) := by
  rw [eq_ix2 y]
  pointwise [k0_pay1]

/-- The blocks of the operands' columns are those of the result's rows and of its columns. -/
theorem index_eq (t : Fin cfg0.N) : (win0_0.index t 1 = win0_2.index t 0 ∧ win0_0.index t 0 = 0)
    ∧ win0_1.index t 1 = win0_2.index t 1 ∧ win0_1.index t 0 = 0 := by revert t; decide +kernel

variable (m : (ℓ : Loc nD τ sig) → Buf (Elt Ideal) ℓ) (c : Dev nD)

theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  obtain ⟨⟨h0, z0⟩, h1, z1⟩ := index_eq t
  blk_simp
  rw [after0_2]
  frame_out
  refine (block_apply _ _ y).trans (Finset.sum_congr rfl fun k _ => ?_)
  congr 1
  · blk_ext [iblk, V, h0, z0]
  · blk_ext [iblk, V, h1, z1]

open Cert.UkvDwReferenceIdeal.Read in
theorem reference (y : FVec Ideal S2048x512 .bf16) (dy : FVec Ideal S2048x2048 .bf16) : val_main_v6 (F := Ideal) y dy = grad y dy := by
  funext i
  rw [val_main_v6_apply, val_main_v5_apply, val_main_v4_apply]
  refine Finset.sum_congr rfl fun k _ => ?_
  rw [mul_comm]
  congr 1
  · exact congrArg y (funext fun a => by fin_cases a <;> rfl)
  · exact congrArg dy (funext fun a => by fin_cases a <;> rfl)

theorem algebraic : Cert.algebraic_UkvDwIdeal_UkvDwReferenceIdeal (hUkvDwIdeal := Cert.UkvDwIdeal.Gen.facts)
    (hUkvDwReferenceIdeal := Cert.UkvDwReferenceIdeal.Gen.facts) := by
  intro m ρ m' ρ' _ hargs
  refine ⟨fun c => grad (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.UkvDwReferenceIdeal.Value.run (F := Ideal) m' ρ')
    obtain ⟨e0, e1⟩ := hargs c
    rw [Cert.UkvDwReferenceIdeal.Read.val_main_v6_eq, e0, e1]
    exact reference _ _

end Cert.UkvDwIdeal.Hand

end
-- ==== Proof.Online.lean ====
module

public import proofs.«01_k».proof.Proof.Softmax

@[expose] public section

noncomputable section

namespace Cert.Attention

open Idealize.ShloMosaic

/-! # A row's softmax, one block of 256 keys after the other

A row carries its largest score so far, the sum of exponentials over it and the values so weighted.
Freed of the shift by the largest score these are plain sums over the keys seen, and every block adds its
own part to them. -/

/-- Key `c` of the block `n`. -/
def inBlock (n : Fin 8) (c : Fin 256) : Fin 2048 := ⟨256 * n.val + c.val, by omega⟩

section
variable (q k : Fin 2048 → Fin 256 → ℝ) (v : Fin 2048 → Fin 128 → ℝ) (c : ℝ)

/-- The exponential of a score without shift, zero where the row does not see the key. -/
def raw (R K : Fin 2048) : ℝ := if K.val / 64 ≤ R.val / 64 then Real.exp (score q k c R K) else 0

theorem raw_nonneg (R K : Fin 2048) : 0 ≤ raw q k c R K := by
  unfold raw; split
  · exact (Real.exp_pos _).le
  · exact le_rfl

def rawMass (R : Fin 2048) : ℝ := ∑ K, raw q k c R K
def rawOut (R : Fin 2048) (e : Fin 128) : ℝ := ∑ K, raw q k c R K * v K e

theorem rawMass_pos (R : Fin 2048) : 0 < rawMass q k c R := by
  refine Finset.sum_pos' (fun K _ => raw_nonneg q k c R K) ⟨R, Finset.mem_univ R, ?_⟩
  rw [raw, if_pos le_rfl]; exact Real.exp_pos _

theorem weight_raw (R K : Fin 2048) : weight q k c R K = Real.exp (-top q k c R) * raw q k c R K := by
  unfold weight raw; split
  · rw [← Real.exp_add, neg_add_eq_sub]
  · rw [mul_zero]

theorem mass_raw (R : Fin 2048) : mass q k c R = Real.exp (-top q k c R) * rawMass q k c R := by
  simp only [mass, rawMass, Finset.mul_sum, weight_raw]

theorem out_raw (R : Fin 2048) (e : Fin 128) : ∑ K, prob q k c R K * v K e = rawOut q k v c R e / rawMass q k c R := by
  rw [rawOut, Finset.sum_div]
  refine Finset.sum_congr rfl fun K _ => ?_
  have h := (rawMass_pos q k c R).ne'
  have h' := (Real.exp_pos (-top q k c R)).ne'
  rw [prob, weight_raw, mass_raw]
  field_simp

theorem lse_raw (R : Fin 2048) : top q k c R + Real.log (mass q k c R) = Real.log (rawMass q k c R) := by
  rw [mass_raw, Real.log_mul (Real.exp_pos _).ne' (rawMass_pos q k c R).ne', Real.log_exp]
  ring

/-- The keys of the blocks before `j`. -/
def massTo (j : ℕ) (R : Fin 2048) : ℝ := ∑ n : Fin 8, if n.val < j then ∑ J, raw q k c R (inBlock n J) else 0
def outTo (j : ℕ) (R : Fin 2048) (e : Fin 128) : ℝ :=
  ∑ n : Fin 8, if n.val < j then ∑ J, raw q k c R (inBlock n J) * v (inBlock n J) e else 0

end

theorem below_zero (f : Fin 8 → ℝ) : (∑ n : Fin 8, if n.val < 0 then f n else 0) = 0 :=
  Finset.sum_eq_zero fun n _ => if_neg (Nat.not_lt_zero _)

theorem below_succ (f : Fin 8 → ℝ) (m : Fin 8) :
    (∑ n : Fin 8, if n.val < m.val + 1 then f n else 0) = (∑ n : Fin 8, if n.val < m.val then f n else 0) + f m := by
  have h1 : f m = ∑ n : Fin 8, if n = m then f n else 0 := by rw [Finset.sum_ite_eq' Finset.univ m f, if_pos (Finset.mem_univ _)]
  rw [h1, ← Finset.sum_add_distrib]
  refine Finset.sum_congr rfl fun n _ => ?_
  by_cases hn : n = m
  · subst hn
    rw [if_pos (by omega), if_neg (by omega), if_pos rfl, zero_add]
  · have : n.val ≠ m.val := fun g => hn (Fin.ext g)
    rw [if_neg hn, add_zero]
    by_cases g : n.val < m.val
    · rw [if_pos (by omega), if_pos g]
    · rw [if_neg (by omega), if_neg g]

theorem sum_blocks (f : Fin 2048 → ℝ) : ∑ n : Fin 8, ∑ J : Fin 256, f (inBlock n J) = ∑ K, f K := by
  rw [← Finset.sum_product', Finset.univ_product_univ]
  refine Fintype.sum_equiv (finProdFinEquiv (m := 8) (n := 256)) _ _ fun x => ?_
  refine congrArg f (Fin.ext ?_)
  show 256 * x.1.val + x.2.val = x.2.val + 256 * x.1.val
  omega

section
variable (q k : Fin 2048 → Fin 256 → ℝ) (v : Fin 2048 → Fin 128 → ℝ) (c : ℝ)

/-- Once a row's own block is in, all keys are: it sees none of the later ones. -/
theorem raw_later (m n : Fin 8) (r J : Fin 256) (h : ¬ n.val < m.val + 1) : raw q k c (inBlock m r) (inBlock n J) = 0 := by
  refine if_neg ?_
  show ¬ (256 * n.val + J.val) / 64 ≤ (256 * m.val + r.val) / 64
  omega

theorem massTo_all (m : Fin 8) (r : Fin 256) : massTo q k c (m.val + 1) (inBlock m r) = rawMass q k c (inBlock m r) := by
  rw [massTo, rawMass, ← sum_blocks]
  refine Finset.sum_congr rfl fun n _ => ?_
  split
  · rfl
  · rename_i h
    exact (Finset.sum_eq_zero fun J _ => raw_later q k c m n r J h).symm

theorem outTo_all (m : Fin 8) (r : Fin 256) (e : Fin 128) : outTo q k v c (m.val + 1) (inBlock m r) e = rawOut q k v c (inBlock m r) e := by
  rw [outTo, rawOut, ← sum_blocks fun K => raw q k c (inBlock m r) K * v K e]
  refine Finset.sum_congr rfl fun n _ => ?_
  split
  · rfl
  · rename_i h
    exact (Finset.sum_eq_zero fun J _ => by rw [raw_later q k c m n r J h, zero_mul]).symm

end

/-! ## The carried row -/

/-- What a row carries: nothing yet, or the two sums shifted by a largest score `μ`. -/
def Row (m l : EReal) (a : Fin 128 → EReal) (E : ℝ) (N : Fin 128 → ℝ) : Prop :=
  (m = ⊥ ∧ l = 0 ∧ (∀ e, a e = 0) ∧ E = 0 ∧ ∀ e, N e = 0)
    ∨ ∃ μ : ℝ, m = (μ : EReal) ∧ l = ((Real.exp (-μ) * E : ℝ) : EReal) ∧ ∀ e, a e = ((Real.exp (-μ) * N e : ℝ) : EReal)

theorem exp_shift (x μ : ℝ) : Ideal.exp ((x : EReal) - (μ : EReal)) = ((Real.exp (x - μ) : ℝ) : EReal) := by
  rw [← EReal.coe_sub]; rfl

theorem exp_none (μ : ℝ) : Ideal.exp ((⊥ : EReal) - (μ : EReal)) = 0 := by
  rw [EReal.bot_sub]; rfl

/-- The largest of finitely many scores, some masked, one of them not. -/
theorem fold_real (s : Fin 256 → EReal) (P : Fin 256 → Prop) [DecidablePred P] (t : Fin 256 → ℝ)
    (hs : ∀ J, s J = if P J then (t J : EReal) else ⊥) (hP : ∃ J, P J) : ∃ μ : ℝ, Finset.univ.fold max ⊥ s = (μ : EReal) := by
  show ∃ μ : ℝ, Finset.univ.sup s = (μ : EReal)
  obtain ⟨K, _, e⟩ := Finset.exists_mem_eq_sup Finset.univ ⟨0, Finset.mem_univ _⟩ s
  obtain ⟨J, hJ⟩ := hP
  have hl : (t J : EReal) ≤ Finset.univ.sup s := by
    refine le_trans ?_ (Finset.le_sup (f := s) (Finset.mem_univ J))
    rw [hs, if_pos hJ]
  rw [e] at hl ⊢
  rw [hs K] at hl ⊢
  split
  · exact ⟨_, rfl⟩
  · rename_i h
    rw [if_neg h] at hl
    exact absurd (le_bot_iff.mp hl) (EReal.coe_ne_bot _)

/-- One block: the new largest score, the old sums rescaled, the block's part added. -/
theorem Row.step {m l : EReal} {a : Fin 128 → EReal} {E : ℝ} {N : Fin 128 → ℝ} (h : Row m l a E N)
    (s : Fin 256 → EReal) (P : Fin 256 → Prop) [DecidablePred P] (t : Fin 256 → ℝ) (w : Fin 256 → Fin 128 → ℝ)
    (hs : ∀ J, s J = if P J then (t J : EReal) else ⊥) (hP : ∃ J, P J) {m' l' : EReal} {a' : Fin 128 → EReal}
    (hm : m' = max m (Finset.univ.fold max ⊥ s)) (hl : l' = Ideal.exp (m - m') * l + ∑ J, Ideal.exp (s J - m'))
    (ha : ∀ e, a' e = Ideal.exp (m - m') * a e + ∑ J, Ideal.exp (s J - m') * (w J e : EReal)) :
    Row m' l' a' (E + ∑ J, if P J then Real.exp (t J) else 0) (fun e => N e + ∑ J, (if P J then Real.exp (t J) else 0) * w J e) := by
  obtain ⟨μ, hμ⟩ := fold_real s P t hs hP
  rw [hμ] at hm
  have hp : ∀ ν : ℝ, ∀ J, Ideal.exp (s J - (ν : EReal)) = ((Real.exp (-ν) * (if P J then Real.exp (t J) else 0) : ℝ) : EReal) := by
    intro ν J
    rw [hs J]; split
    · rw [exp_shift, ← Real.exp_add, neg_add_eq_sub]
    · rw [exp_none, mul_zero]; rfl
  rcases h with ⟨rfl, rfl, h0, rfl, hN⟩ | ⟨ν, rfl, rfl, h0⟩
  · rw [max_eq_right bot_le] at hm
    refine Or.inr ⟨μ, hm, ?_, fun e => ?_⟩
    · rw [hl, hm, exp_none]
      simp only [hp, mul_zero, zero_add, coe_sum, Finset.mul_sum]
    · rw [ha, hm, exp_none]
      simp only [hp, h0, hN, mul_zero, zero_add, coe_sum, Finset.mul_sum, ← EReal.coe_mul, mul_assoc]
  · have hm' : m' = ((max ν μ : ℝ) : EReal) := hm
    generalize max ν μ = κ at hm'
    refine Or.inr ⟨κ, hm', ?_, fun e => ?_⟩
    · rw [hl, hm', exp_shift]
      simp only [hp]
      rw [← coe_sum, ← EReal.coe_mul, ← EReal.coe_add, ← Finset.mul_sum, mul_add, ← mul_assoc, ← Real.exp_add]
      have : ν - κ + -ν = -κ := by ring
      rw [this]
    · rw [ha, hm', exp_shift, h0]
      simp only [hp, ← EReal.coe_mul]
      rw [← coe_sum, ← EReal.coe_add, mul_add, ← mul_assoc, ← Real.exp_add, Finset.mul_sum]
      have : ν - κ + -ν = -κ := by ring
      rw [this]
      simp only [mul_assoc]

/-- A row at the end: the values' mean and the logarithm of the sum. -/
theorem Row.finish {m l : EReal} {a : Fin 128 → EReal} {E : ℝ} {N : Fin 128 → ℝ} (h : Row m l a E N) (hE : 0 < E) :
    (∀ e, Ideal.div (a e) l = ((N e / E : ℝ) : EReal)) ∧ m + Ideal.log l = ((Real.log E : ℝ) : EReal) := by
  rcases h with ⟨_, _, _, rfl, _⟩ | ⟨μ, rfl, rfl, h0⟩
  · exact absurd hE (lt_irrefl _)
  · have hx := Real.exp_pos (-μ)
    have hl : 0 < Real.exp (-μ) * E := mul_pos hx hE
    refine ⟨fun e => ?_, ?_⟩
    · rw [h0, div_coe_coe _ _ hl.ne', mul_div_mul_left _ _ hx.ne']
    · rw [Ideal.log_coe, if_neg hl.not_ge, ← EReal.coe_add, Real.log_mul hx.ne' hE.ne', Real.log_exp]
      exact congrArg _ (by ring)

end Cert.Attention

end
-- ==== Proof.FwdSpec.lean ====
module

public import proofs.«01_k».proof.Proof.Gen.AttnFwdIdeal.Skeleton
public import proofs.«01_k».proof.Proof.Online
public import Idealize.ShloMosaic.Lib.Pointwise
public import Idealize.ShloMosaic.Lib.WholeRead

@[expose] public section

noncomputable section

namespace Cert.AttnFwdIdeal.Hand

open Idealize.ShloMosaic Idealize.ShloMosaic.TcCoe
open Cert.AttnFwdIdeal.Gen Cert.Attention

/-! # One head's step of the attention call

A grid point works on eight heads and on one block of 256 queries; a step takes one block of 256 keys. -/

/-- The factor of the scores. -/
def scale : ℝ := (Ideal.ofBits .f32 0x3D93CD3A#32).toReal

theorem scale_eq : Ideal.ofBits .f32 0x3D93CD3A#32 = (scale : EReal) := by
  have h : ∃ r : ℝ, Ideal.ofBits .f32 0x3D93CD3A#32 = (r : EReal) := by
    simp only [Ideal.ofBits, Ideal.ieee]
    rw [if_neg (by decide), if_neg (by decide)]
    exact ⟨_, rfl⟩
  obtain ⟨r, hr⟩ := h
  rw [scale, hr, EReal.toReal_coe]

theorem bot_eq : Ideal.ofBits .f32 0xFF800000#32 = ⊥ := by
  simp only [Ideal.ofBits, Ideal.ieee]
  rw [if_pos (by decide), if_pos (by decide), if_pos (by decide)]

/-! ## The step's vectors, of the block's scores -/

section
variable (s : FVec Ideal S256x256 .f32) (m l : FVec Ideal S256x1 .f32) (a : FVec Ideal S256x128 .f32) (v : Vec Ideal S1x256x128 .bf16)

/-- The largest score so far. -/
def newTop : FVec Ideal S256x1 .f32 :=
  maximumf m (shapeCast S256x1 (multiReduction .maximumf [1] S256 s 0xFF800000#32 reduces_S256x256_S256 (.inl rfl) rfl) shapeCasts_S256_S256x1)

/-- The block's exponentials. -/
def expo : FVec Ideal S256x256 .f32 := exp (subf s (broadcastTo S256x256 (newTop s m) broadcasts_S256x1_S256x256))

/-- The factor of what is carried. -/
def fade : FVec Ideal S256x1 .f32 := exp (subf m (newTop s m))

def newMass : FVec Ideal S256x1 .f32 :=
  addf (mulf (fade s m) l) (shapeCast S256x1 (multiReduction .add [1] S256 (expo s m) 0x00000000#32 reduces_S256x256_S256 (.inl rfl) rfl) shapeCasts_S256_S256x1)

def newOut : FVec Ideal S256x128 .f32 :=
  addf (mulf (broadcastTo S256x128 (fade s m) broadcasts_S256x1_S256x128) a)
    (matmul dot_S256x256_S256x128_S256x128_1_0_0_1_n_n none (truncf .bf16 (expo s m) bitsLt_bf16_f32)
      (shapeCast S256x128 v shapeCasts_S1x256x128_S256x128 : FVec Ideal S256x128 .bf16) (constant S256x128 .f32 0x00000000#32))

theorem newTop_apply (r : Fin 256) (z : Fin 1) :
    newTop s m (ix2 r z) = max (m (ix2 r z)) (Finset.univ.fold max ⊥ fun J => s (ix2 r J)) := by
  rw [← bot_eq]
  pointwise [newTop]

theorem expo_apply (r J : Fin 256) : expo s m (ix2 r J) = Ideal.exp (s (ix2 r J) - newTop s m (ix2 r 0)) := by
  pointwise [expo]

theorem fade_apply (r : Fin 256) (z : Fin 1) : fade s m (ix2 r z) = Ideal.exp (m (ix2 r z) - newTop s m (ix2 r z)) := by
  pointwise [fade]

theorem newMass_apply (r : Fin 256) (z : Fin 1) :
    newMass s m l (ix2 r z) = fade s m (ix2 r z) * l (ix2 r z) + ∑ J, expo s m (ix2 r J) := by
  pointwise [newMass]

theorem newOut_apply (r : Fin 256) (e : Fin 128) :
    newOut s m a v (ix2 r e) = fade s m (ix2 r 0) * a (ix2 r e) + ∑ J, expo s m (ix2 r J) * v (ix3 0 J e) := by
  pointwise [newOut]

end

/-! ## One head -/

section
variable (q k : Fin 2048 → Fin 256 → ℝ) (v : Fin 2048 → Fin 128 → ℝ) (b : Fin 8)

/-- What one head carries for the queries of block `b`, the keys of the blocks before `j` seen. -/
def Head (j : ℕ) (m l : FVec Ideal S256x1 .f32) (a : FVec Ideal S256x128 .f32) : Prop :=
  ∀ r : Fin 256, Row (m (ix2 r 0)) (l (ix2 r 0)) (fun e => a (ix2 r e)) (massTo q k scale j (inBlock b r)) (outTo q k v scale j (inBlock b r))

/-- A step loads the queries of block `b`, and the keys and values of block `n`. -/
structure Loaded (n : Fin 8) (x y : Vec Ideal S1x256x256 .bf16) (w : Vec Ideal S1x256x128 .bf16) : Prop where
  hq : ∀ r e, x (ix3 0 r e) = (q (inBlock b r) e : EReal)
  hk : ∀ J e, y (ix3 0 J e) = (k (inBlock n J) e : EReal)
  hv : ∀ J e, w (ix3 0 J e) = (v (inBlock n J) e : EReal)

variable {q k v b} {n : Fin 8} {x y : Vec Ideal S1x256x256 .bf16} {w : Vec Ideal S1x256x128 .bf16}

/-- A step over masked scores. -/
theorem Head.step {m l : FVec Ideal S256x1 .f32} {a : FVec Ideal S256x128 .f32} (h : Head q k v b n.val m l a) (L : Loaded q k v b n x y w)
    (hn : n.val ≤ b.val) (s : FVec Ideal S256x256 .f32) (hs : ∀ r J, s (ix2 r J) = masked q k scale (inBlock b r) (inBlock n J)) :
    Head q k v b (n.val + 1) (newTop s m) (newMass s m l) (newOut s m a w) := by
  intro r
  have H := Row.step (h r) (fun J => s (ix2 r J)) (fun J => (inBlock n J).val / 64 ≤ (inBlock b r).val / 64)
    (fun J => score q k scale (inBlock b r) (inBlock n J)) (fun J e => v (inBlock n J) e) (hs r)
    ⟨0, by show (256 * n.val + 0) / 64 ≤ (256 * b.val + r.val) / 64; omega⟩
    (newTop_apply s m r 0) (l' := newMass s m l (ix2 r 0)) (a' := fun e => newOut s m a w (ix2 r e))
    (by rw [newMass_apply, fade_apply]; simp only [expo_apply])
    (fun e => by rw [newOut_apply, fade_apply]; simp only [expo_apply, L.hv])
  have e1 : massTo q k scale (n.val + 1) (inBlock b r) = massTo q k scale n.val (inBlock b r)
      + ∑ J, if (inBlock n J).val / 64 ≤ (inBlock b r).val / 64 then Real.exp (score q k scale (inBlock b r) (inBlock n J)) else 0 :=
    below_succ _ n
  have e2 : outTo q k v scale (n.val + 1) (inBlock b r) = fun e => outTo q k v scale n.val (inBlock b r) e
      + ∑ J, (if (inBlock n J).val / 64 ≤ (inBlock b r).val / 64 then Real.exp (score q k scale (inBlock b r) (inBlock n J)) else 0) * v (inBlock n J) e :=
    funext fun e => below_succ _ n
  rw [e1, e2]
  exact H

theorem score_apply (L : Loaded q k v b n x y w) (r J : Fin 256) :
    k0_pay1 x y (ix2 r J) = (score q k scale (inBlock b r) (inBlock n J) : EReal) := by
  pointwise [k0_pay1]
  simp only [L.hq, L.hk, scale_eq, score, EReal.coe_mul, coe_sum]

/-- A step before the diagonal: every key is seen. -/
theorem full_step {m l : FVec Ideal S256x1 .f32} {a : FVec Ideal S256x128 .f32} (h : Head q k v b n.val m l a) (L : Loaded q k v b n x y w)
    (hn : n.val < b.val) : Head q k v b (n.val + 1) (k0_pay2 m x y) (k0_pay5 m l x y) (k0_pay6 m a x y w) := by
  refine h.step L hn.le (k0_pay1 x y) fun r J => ?_
  rw [score_apply L, masked, if_pos]
  show (256 * n.val + J.val) / 64 ≤ (256 * b.val + r.val) / 64
  omega

/-! ## The diagonal's mask -/

/-- The number of the chunk a lane lies in, as the kernel spells it. -/
theorem chunk_word (c : Fin 256) :
    Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 c.val) 64#32) 0#32))
        (IntOp.subi (IntOp.divsi ArithUnit.vector (BitVec.ofNat 32 c.val) 64#32) 1#32)
        (IntOp.divsi ArithUnit.vector (BitVec.ofNat 32 c.val) 64#32) = BitVec.ofNat 32 (c.val / 64) := by
  revert c; decide +kernel

theorem chunk_le (r c : Fin 256) :
    IntOp.cmpi CmpIPredicate.sle (BitVec.ofNat 32 (r.val / 64)) (BitVec.ofNat 32 (c.val / 64))
      = if r.val / 64 ≤ c.val / 64 then 1#1 else 0#1 := by
  have h : ∀ a b : Fin 4, IntOp.cmpi CmpIPredicate.sle (BitVec.ofNat 32 a.val) (BitVec.ofNat 32 b.val)
      = if a.val ≤ b.val then 1#1 else 0#1 := by decide +kernel
  exact h ⟨r.val / 64, by omega⟩ ⟨c.val / 64, by omega⟩

/-- The diagonal block's mask. -/
abbrev msk : IVec S256x256 1 :=
  k0_pay115 k0_pay112 (iota .tc S256x256 32 [1] iota_S256x256_d1_w32) 64#32 k0_pay113 k0_pay114 0#32

theorem msk_apply (r J : Fin 256) : msk (ix2 r J) = if J.val / 64 ≤ r.val / 64 then 1#1 else 0#1 := by
  rw [← chunk_le, ← chunk_word r, ← chunk_word J]
  pointwise [k0_pay115, k0_pay112, k0_pay113, k0_pay114]

/-- The diagonal block's scores. -/
theorem diag_score (L : Loaded q k v b b x y w) (r J : Fin 256) :
    k0_pay123 msk x y (ix2 r J) = masked q k scale (inBlock b r) (inBlock b J) := by
  have hc : ((inBlock b J).val / 64 ≤ (inBlock b r).val / 64) ↔ J.val / 64 ≤ r.val / 64 := by
    show (256 * b.val + J.val) / 64 ≤ (256 * b.val + r.val) / 64 ↔ _
    omega
  have hw := msk_apply r J
  generalize msk = M at *
  pointwise [k0_pay123]
  rw [hw]
  by_cases h : J.val / 64 ≤ r.val / 64
  · rw [if_pos h, masked, if_pos (hc.mpr h)]
    simp only [L.hq, L.hk, scale_eq, score, EReal.coe_mul, coe_sum]
    rfl
  · rw [if_neg h, masked, if_neg (fun g => h (hc.mp g))]
    rfl

/-- The step at the diagonal. -/
theorem diag_step {m l : FVec Ideal S256x1 .f32} {a : FVec Ideal S256x128 .f32} (h : Head q k v b b.val m l a) (L : Loaded q k v b b x y w) :
    Head q k v b (b.val + 1) (k0_pay124 m msk x y) (k0_pay127 m l msk x y) (k0_pay128 m a msk x y w) :=
  h.step L le_rfl (k0_pay123 msk x y) (diag_score L)

/-- Before the first block. -/
theorem head_init : Head q k v b 0 k0_pay95 k0_pay96 k0_pay97 := by
  intro r
  refine Or.inl ⟨?_, ?_, fun e => ?_, below_zero _, fun e => below_zero _⟩
  · pointwise [k0_pay95]
    rfl
  · pointwise [k0_pay96]
  · pointwise [k0_pay97]

/-! ## The other heads

Their steps are the same operations, bound at other points. -/

section
variable {m l : FVec Ideal S256x1 .f32} {a : FVec Ideal S256x128 .f32}

theorem full_1 (h : Head q k v b n.val m l a) (L : Loaded q k v b n x y w) (hn : n.val < b.val) :
    Head q k v b (n.val + 1) (k0_pay9 m (k0_pay7 x y) (Scalar.ofBits .f32 0x3D93CD3A#32)) (k0_pay12 m l (k0_pay7 x y) (Scalar.ofBits .f32 0x3D93CD3A#32)) (k0_pay13 m a (k0_pay7 x y) (Scalar.ofBits .f32 0x3D93CD3A#32) w) :=
  full_step h L hn

theorem full_2 (h : Head q k v b n.val m l a) (L : Loaded q k v b n x y w) (hn : n.val < b.val) :
    Head q k v b (n.val + 1) (k0_pay15 m x y) (k0_pay18 m l x y) (k0_pay20 a (k0_pay16 m x y) (k0_pay19 m x y) w) :=
  full_step h L hn

theorem full_3 (h : Head q k v b n.val m l a) (L : Loaded q k v b n x y w) (hn : n.val < b.val) :
    Head q k v b (n.val + 1) (k0_pay22 m x y) (k0_pay25 m l x y) (k0_pay26 m a x y w) :=
  full_step h L hn

theorem full_4 (h : Head q k v b n.val m l a) (L : Loaded q k v b n x y w) (hn : n.val < b.val) :
    Head q k v b (n.val + 1) (k0_pay28 m x y) (k0_pay31 m l x y) (k0_pay32 m a x y w) :=
  full_step h L hn

theorem full_5 (h : Head q k v b n.val m l a) (L : Loaded q k v b n x y w) (hn : n.val < b.val) :
    Head q k v b (n.val + 1) (k0_pay34 m x y) (k0_pay38 m l (k0_pay34 m x y) (k0_pay35 m x y)) (k0_pay39 m a (k0_pay34 m x y) (k0_pay35 m x y) w) :=
  full_step h L hn

theorem full_6 (h : Head q k v b n.val m l a) (L : Loaded q k v b n x y w) (hn : n.val < b.val) :
    Head q k v b (n.val + 1) (k0_pay41 m x y) (k0_pay44 m l x y) (k0_pay98 (k0_pay45 m a x y) (k0_pay46 m x y) (k0_pay47 w) (constant S256x128 .f32 0x00000000#32)) :=
  full_step h L hn

theorem full_7 (h : Head q k v b n.val m l a) (L : Loaded q k v b n x y w) (hn : n.val < b.val) :
    Head q k v b (n.val + 1) (k0_pay100 m x y) (k0_pay103 m l x y) (k0_pay104 m a x y w) :=
  full_step h L hn

theorem diag_0 (h : Head q k v b b.val m l a) (L : Loaded q k v b b x y w) :
    Head q k v b (b.val + 1) (k0_pay117 m k0_pay112 (iota .tc S256x256 32 [1] iota_S256x256_d1_w32) 64#32 k0_pay113 k0_pay114 0#32 x y) (k0_pay120 m l k0_pay112 (iota .tc S256x256 32 [1] iota_S256x256_d1_w32) 64#32 k0_pay113 k0_pay114 0#32 x y) (k0_pay122 a (k0_pay118 m k0_pay112 (iota .tc S256x256 32 [1] iota_S256x256_d1_w32) 64#32 k0_pay113 k0_pay114 0#32 x y) (k0_pay121 m k0_pay112 (iota .tc S256x256 32 [1] iota_S256x256_d1_w32) 64#32 k0_pay113 k0_pay114 0#32 x y) w) :=
  diag_step h L

theorem diag_2 (h : Head q k v b b.val m l a) (L : Loaded q k v b b x y w) :
    Head q k v b (b.val + 1) (k0_pay130 m msk x y) (k0_pay133 m l msk x y) (k0_pay134 m a msk x y w) :=
  diag_step h L

theorem diag_3 (h : Head q k v b b.val m l a) (L : Loaded q k v b b x y w) :
    Head q k v b (b.val + 1) (k0_pay137 m msk (k0_pay135 x y)) (k0_pay140 m l msk (k0_pay135 x y)) (k0_pay141 m a msk (k0_pay135 x y) w) :=
  diag_step h L

theorem diag_4 (h : Head q k v b b.val m l a) (L : Loaded q k v b b x y w) :
    Head q k v b (b.val + 1) (k0_pay143 m msk x y) (k0_pay147 (k0_pay144 m msk x y) (k0_pay146 m l msk x y)) (k0_pay148 a (k0_pay144 m msk x y) (k0_pay145 m msk x y) w) :=
  diag_step h L

theorem diag_5 (h : Head q k v b b.val m l a) (L : Loaded q k v b b x y w) :
    Head q k v b (b.val + 1) (k0_pay150 m msk x y) (k0_pay153 m l msk x y) (k0_pay154 m a msk x y w) :=
  diag_step h L

theorem diag_6 (h : Head q k v b b.val m l a) (L : Loaded q k v b b x y w) :
    Head q k v b (b.val + 1) (k0_pay156 m msk x y) (k0_pay159 m l msk x y) (k0_pay160 m a msk x y w) :=
  diag_step h L

theorem diag_7 (h : Head q k v b b.val m l a) (L : Loaded q k v b b x y w) :
    Head q k v b (b.val + 1) (k0_pay164 m msk (k0_pay161 x) (k0_pay162 y) (constant S256x256 .f32 0x00000000#32)) (k0_pay167 m l msk (k0_pay161 x) (k0_pay162 y) (constant S256x256 .f32 0x00000000#32)) (k0_pay168 m a msk (k0_pay161 x) (k0_pay162 y) (constant S256x256 .f32 0x00000000#32) w) :=
  diag_step h L

end

/-! ## The results -/

/-- The head's output. -/
theorem out_apply {m l : FVec Ideal S256x1 .f32} {a : FVec Ideal S256x128 .f32} (h : Head q k v b (b.val + 1) m l a) (r : Fin 256) (e : Fin 128) :
    k0_pay169 l a (ix2 r e) = ((rawOut q k v scale (inBlock b r) e / rawMass q k scale (inBlock b r) : ℝ) : EReal) := by
  have H := (Row.finish (h r) (by rw [massTo_all]; exact rawMass_pos _ _ _ _)).1 e
  rw [massTo_all, outTo_all] at H
  rw [← H]
  pointwise [k0_pay169]

/-- The head's logarithm of the sum of exponentials, in each of eight rows. -/
theorem lse_apply {m l : FVec Ideal S256x1 .f32} {a : FVec Ideal S256x128 .f32} (h : Head q k v b (b.val + 1) m l a) (z : Fin 1) (g : Fin 8) (r : Fin 256) :
    k0_pay171 m l (ix3 z g r) = ((Real.log (rawMass q k scale (inBlock b r)) : ℝ) : EReal) := by
  have H := (Row.finish (h r) (by rw [massTo_all]; exact rawMass_pos _ _ _ _)).2
  rw [massTo_all] at H
  rw [← H]
  pointwise [k0_pay171]

end

end Cert.AttnFwdIdeal.Hand

end
-- ==== Proof.FwdLoop.lean ====
module

public import proofs.«01_k».proof.Proof.FwdSpec
public import proofs.«01_k».proof.Proof.Gen.AttnFwdIdeal.Loops

@[expose] public section

set_option maxRecDepth 16384
set_option maxHeartbeats 400000

noncomputable section

namespace Cert.AttnFwdIdeal.Hand

open Idealize.ShloMosaic Idealize.ShloMosaic.TcCoe
open Cert.AttnFwdIdeal.Gen Cert.Attention

/-! # The loop over the key blocks before the diagonal -/

/-- The blocks a grid point reads are real: all heads' queries of block `n`, and all their keys and values. -/
structure Reals (x0 : Vec Ideal S8x256x256 .bf16) (x1 : Vec Ideal S8x2048x256 .bf16) (x2 : Vec Ideal S8x2048x128 .bf16)
    (Q K : Fin 8 → Fin 2048 → Fin 256 → ℝ) (V : Fin 8 → Fin 2048 → Fin 128 → ℝ) (n : Fin 8) : Prop where
  hq : ∀ b r e, x0 (ix3 b r e) = (Q b (inBlock n r) e : EReal)
  hk : ∀ b J e, x1 (ix3 b J e) = (K b J e : EReal)
  hv : ∀ b J e, x2 (ix3 b J e) = (V b J e : EReal)

section
variable {x0 : Vec Ideal S8x256x256 .bf16} {x1 : Vec Ideal S8x2048x256 .bf16} {x2 : Vec Ideal S8x2048x128 .bf16}
  {Q K : Fin 8 → Fin 2048 → Fin 256 → ℝ} {V : Fin 8 → Fin 2048 → Fin 128 → ℝ} {n : Fin 8}

/-- The three loads of head `b` for the keys of block `j`. -/
theorem loaded (R : Reals x0 x1 x2 Q K V n) {arg2 : Memref sig .tc .vmem S8x256x256 .bf16} (h2 : arg2.IsWhole)
    {arg3 : Memref sig .tc .vmem S8x2048x256 .bf16} (h3 : arg3.IsWhole) {arg4 : Memref sig .tc .vmem S8x2048x128 .bf16} (h4 : arg4.IsWhole)
    (b j : Fin 8) {oq ok ov : Fin 3 → ℕ} (iq : ∀ a, oq a + S1x256x256.size a ≤ S8x256x256.size a)
    (ik : ∀ a, ok a + S1x256x256.size a ≤ S8x2048x256.size a) (iv : ∀ a, ov a + S1x256x128.size a ≤ S8x2048x128.size a)
    (eq : oq = ![b.val, 0, 0]) (ek : ok = ![b.val, 256 * j.val, 0]) (ev : ov = ![b.val, 256 * j.val, 0]) :
    Loaded (Q b) (K b) (V b) n j
      (View.readAt (Elt Ideal) arg2.view (Rect.unit (s := S8x256x256) oq S1x256x256.size iq).toLoadRect (h2.unread x0))
      (View.readAt (Elt Ideal) arg3.view (Rect.unit (s := S8x2048x256) ok S1x256x256.size ik).toLoadRect (h3.unread x1))
      (View.readAt (Elt Ideal) arg4.view (Rect.unit (s := S8x2048x128) ov S1x256x128.size iv).toLoadRect (h4.unread x2)) := by
  subst eq ek ev
  refine ⟨fun r e => ?_, fun J e => ?_, fun J e => ?_⟩ <;> rw [Memref.IsWhole.readAt_unread]
  · rw [← R.hq b r e]
    refine congrArg x0 (funext fun a => Fin.ext ?_)
    fin_cases a
    · show b.val + 1 * 0 = b.val; omega
    · show 0 + 1 * r.val = r.val; omega
    · show 0 + 1 * e.val = e.val; omega
  · rw [← R.hk b (inBlock j J) e]
    refine congrArg x1 (funext fun a => Fin.ext ?_)
    fin_cases a
    · show b.val + 1 * 0 = b.val; omega
    · show 256 * j.val + 1 * J.val = 256 * j.val + J.val; omega
    · show 0 + 1 * e.val = e.val; omega
  · rw [← R.hv b (inBlock j J) e]
    refine congrArg x2 (funext fun a => Fin.ext ?_)
    fin_cases a
    · show b.val + 1 * 0 = b.val; omega
    · show 256 * j.val + 1 * J.val = 256 * j.val + J.val; omega
    · show 0 + 1 * e.val = e.val; omega

end

/-- What a step carries: every head's largest scores, sums and weighted values. -/
abbrev Carry : Type := FVec Ideal S256x1 .f32 × FVec Ideal S256x1 .f32 × FVec Ideal S256x128 .f32
  × FVec Ideal S256x1 .f32 × FVec Ideal S256x1 .f32 × FVec Ideal S256x128 .f32
  × FVec Ideal S256x1 .f32 × FVec Ideal S256x1 .f32 × FVec Ideal S256x128 .f32
  × FVec Ideal S256x1 .f32 × FVec Ideal S256x1 .f32 × FVec Ideal S256x128 .f32
  × FVec Ideal S256x1 .f32 × FVec Ideal S256x1 .f32 × FVec Ideal S256x128 .f32
  × FVec Ideal S256x1 .f32 × FVec Ideal S256x1 .f32 × FVec Ideal S256x128 .f32
  × FVec Ideal S256x1 .f32 × FVec Ideal S256x1 .f32 × FVec Ideal S256x128 .f32
  × FVec Ideal S256x1 .f32 × FVec Ideal S256x1 .f32 × FVec Ideal S256x128 .f32

/-- Every head carries the keys of the blocks before `j`. -/
structure Carries (Q K : Fin 8 → Fin 2048 → Fin 256 → ℝ) (V : Fin 8 → Fin 2048 → Fin 128 → ℝ) (n : Fin 8) (j : ℕ) (p : Carry) : Prop where
  h0 : Head (Q 0) (K 0) (V 0) n j p.1 p.2.1 p.2.2.1
  h1 : Head (Q 1) (K 1) (V 1) n j p.2.2.2.1 p.2.2.2.2.1 p.2.2.2.2.2.1
  h2 : Head (Q 2) (K 2) (V 2) n j p.2.2.2.2.2.2.1 p.2.2.2.2.2.2.2.1 p.2.2.2.2.2.2.2.2.1
  h3 : Head (Q 3) (K 3) (V 3) n j p.2.2.2.2.2.2.2.2.2.1 p.2.2.2.2.2.2.2.2.2.2.1 p.2.2.2.2.2.2.2.2.2.2.2.1
  h4 : Head (Q 4) (K 4) (V 4) n j p.2.2.2.2.2.2.2.2.2.2.2.2.1 p.2.2.2.2.2.2.2.2.2.2.2.2.2.1 p.2.2.2.2.2.2.2.2.2.2.2.2.2.2.1
  h5 : Head (Q 5) (K 5) (V 5) n j p.2.2.2.2.2.2.2.2.2.2.2.2.2.2.2.1 p.2.2.2.2.2.2.2.2.2.2.2.2.2.2.2.2.1 p.2.2.2.2.2.2.2.2.2.2.2.2.2.2.2.2.2.1
  h6 : Head (Q 6) (K 6) (V 6) n j p.2.2.2.2.2.2.2.2.2.2.2.2.2.2.2.2.2.2.1 p.2.2.2.2.2.2.2.2.2.2.2.2.2.2.2.2.2.2.2.1 p.2.2.2.2.2.2.2.2.2.2.2.2.2.2.2.2.2.2.2.2.1
  h7 : Head (Q 7) (K 7) (V 7) n j p.2.2.2.2.2.2.2.2.2.2.2.2.2.2.2.2.2.2.2.2.2.1 p.2.2.2.2.2.2.2.2.2.2.2.2.2.2.2.2.2.2.2.2.2.2.1 p.2.2.2.2.2.2.2.2.2.2.2.2.2.2.2.2.2.2.2.2.2.2.2

/-- The grid point's block of queries. -/
abbrev qbOf (i : grid0.Coords) : Fin 8 := i 1

/-- The loop runs once for every earlier block of keys; the loop after it, for what would be left, never. -/
theorem trips_eq : ∀ i : grid0.Coords, (k0_t1_loop i).trips = (qbOf i).val := by decide +kernel
theorem trips2_eq : ∀ i : grid0.Coords, (k0_t2_loop i).trips = 0 := by decide +kernel

/-- The block of keys of trip `k`. -/
def blk (i : grid0.Coords) (k : Fin (k0_t1_loop i).trips) : Fin 8 :=
  ⟨k.val, by have h := trips_eq i; have := k.isLt; have := (qbOf i).isLt; omega⟩

theorem blk_lt (i : grid0.Coords) (k : Fin (k0_t1_loop i).trips) : (blk i k).val < (qbOf i).val := by
  rw [← trips_eq i]; exact k.isLt

theorem trip_word : ∀ n : Fin 8, (Scalar.indexCast (Scalar.muli (Scf.iv 0#32 1#32 n.val) 256#32)).toNat = 256 * n.val := by decide +kernel
theorem diag_word : ∀ n : Fin 8, (Scalar.indexCast (Scalar.muli (BitVec.ofNat 32 n.val) 256#32)).toNat = 256 * n.val := by decide +kernel

theorem off_trip (i : grid0.Coords) (k : Fin (k0_t1_loop i).trips) (b : ℕ) :
    (![b, (Scalar.indexCast (Scalar.muli (Scf.iv 0#32 1#32 k.val) 256#32)).toNat, 0] : Fin 3 → ℕ) = ![b, 256 * (blk i k).val, 0] :=
  congrArg (fun x => (![b, x, 0] : Fin 3 → ℕ)) (trip_word (blk i k))

theorem off_diag (i : grid0.Coords) (b : ℕ) :
    (![b, (Scalar.indexCast (Scalar.muli (BitVec.ofNat 32 (i 1).val) 256#32)).toNat, 0] : Fin 3 → ℕ) = ![b, 256 * (qbOf i).val, 0] :=
  congrArg (fun x => (![b, x, 0] : Fin 3 → ℕ)) (diag_word (qbOf i))

variable {x0 : Vec Ideal S8x256x256 .bf16} {x1 : Vec Ideal S8x2048x256 .bf16} {x2 : Vec Ideal S8x2048x128 .bf16}
  {Q K : Fin 8 → Fin 2048 → Fin 256 → ℝ} {V : Fin 8 → Fin 2048 → Fin 128 → ℝ}
  (𝒱 : Variants) (c : Dev nD) (bd : Option 𝒱.V) {i : grid0.Coords} (arg2 : Memref sig .tc .vmem S8x256x256 .bf16) (harg2 : arg2.IsWhole) (arg3 : Memref sig .tc .vmem S8x2048x256 .bf16) (harg3 : arg3.IsWhole)
  (arg4 : Memref sig .tc .vmem S8x2048x128 .bf16) (harg4 : arg4.IsWhole) (arg5 : Memref sig .tc .vmem S256x1024 .f32) (harg5 : arg5.IsWhole)
  (arg6 : Memref sig .tc .vmem S8x8x256 .f32) (harg6 : arg6.IsWhole) (arg7 : Memref sig .tc .vmem S256x1024 .bf16) (harg7 : arg7.IsWhole)

/-- A trip takes one more block of keys. -/
theorem trip_carries (R : Reals x0 x1 x2 Q K V (qbOf i)) (k : Fin (k0_t1_loop i).trips) (p : Carry) (h : Carries Q K V (qbOf i) k.val p) :
    Carries Q K V (qbOf i) (k.val + 1) (tripR_k0_t1 (F := Ideal) 𝒱 c bd i arg2 harg2 arg3 harg3 arg4 harg4 arg5 harg5 arg6 harg6 arg7 harg7 (harg2.unread x0) (harg3.unread x1) (harg4.unread x2) k p) := by
  have L0 := loaded R harg2 harg3 harg4 0 (blk i k) inb_S8x256x256_S1x256x256_0_0_0 (k0_off1_inb i k) (k0_off2_inb i k) rfl (off_trip i k 0) (off_trip i k 0)
  have L1 := loaded R harg2 harg3 harg4 1 (blk i k) inb_S8x256x256_S1x256x256_1_0_0 (k0_off3_inb i k) (k0_off4_inb i k) rfl (off_trip i k 1) (off_trip i k 1)
  have L2 := loaded R harg2 harg3 harg4 2 (blk i k) inb_S8x256x256_S1x256x256_2_0_0 (k0_off5_inb i k) (k0_off6_inb i k) rfl (off_trip i k 2) (off_trip i k 2)
  have L3 := loaded R harg2 harg3 harg4 3 (blk i k) inb_S8x256x256_S1x256x256_3_0_0 (k0_off7_inb i k) (k0_off8_inb i k) rfl (off_trip i k 3) (off_trip i k 3)
  have L4 := loaded R harg2 harg3 harg4 4 (blk i k) inb_S8x256x256_S1x256x256_4_0_0 (k0_off9_inb i k) (k0_off10_inb i k) rfl (off_trip i k 4) (off_trip i k 4)
  have L5 := loaded R harg2 harg3 harg4 5 (blk i k) inb_S8x256x256_S1x256x256_5_0_0 (k0_off11_inb i k) (k0_off12_inb i k) rfl (off_trip i k 5) (off_trip i k 5)
  have L6 := loaded R harg2 harg3 harg4 6 (blk i k) inb_S8x256x256_S1x256x256_6_0_0 (k0_off13_inb i k) (k0_off14_inb i k) rfl (off_trip i k 6) (off_trip i k 6)
  have L7 := loaded R harg2 harg3 harg4 7 (blk i k) inb_S8x256x256_S1x256x256_7_0_0 (k0_off15_inb i k) (k0_off16_inb i k) rfl (off_trip i k 7) (off_trip i k 7)
  have hn := blk_lt i k
  unfold tripR_k0_t1 trip_k0_t1
  dsimp only
  have s0 := full_step h.h0 L0 hn
  have s1 := full_1 h.h1 L1 hn
  have s2 := full_2 h.h2 L2 hn
  have s3 := full_3 h.h3 L3 hn
  have s4 := full_4 h.h4 L4 hn
  have s5 := full_5 h.h5 L5 hn
  have s6 := full_6 h.h6 L6 hn
  have s7 := full_7 h.h7 L7 hn
  refine ⟨?_, ?_, ?_, ?_, ?_, ?_, ?_, ?_⟩
  · exact s0
  · exact s1
  · exact s2
  · exact s3
  · exact s4
  · exact s5
  · exact s6
  · exact s7

/-- After `j` trips. -/
theorem loop_carries (R : Reals x0 x1 x2 Q K V (qbOf i)) (p : Carry) (h : Carries Q K V (qbOf i) 0 p) (j : ℕ) (hj : j ≤ (k0_t1_loop i).trips) :
    Carries Q K V (qbOf i) j (st_k0_t1 (F := Ideal) 𝒱 c bd i arg2 harg2 arg3 harg3 arg4 harg4 arg5 harg5 arg6 harg6 arg7 harg7 (harg2.unread x0) (harg3.unread x1) (harg4.unread x2) p j) := by
  induction j with
  | zero => exact h
  | succ j ih =>
    have H := trip_carries 𝒱 c bd arg2 harg2 arg3 harg3 arg4 harg4 arg5 harg5 arg6 harg6 arg7 harg7 R ⟨j, hj⟩ _ (ih (by omega))
    rw [st_k0_t1_succ (F := Ideal) 𝒱 c bd i arg2 harg2 arg3 harg3 arg4 harg4 arg5 harg5 arg6 harg6 arg7 harg7 (harg2.unread x0) (harg3.unread x1) (harg4.unread x2) p ⟨j, hj⟩]
    exact H

/-- After both loops: every block before the diagonal is in. -/
theorem both_loops (R : Reals x0 x1 x2 Q K V (qbOf i)) (p p2 : Carry) (h : Carries Q K V (qbOf i) 0 p) (v7 : BitVec 32) {T1 T2 : ℕ}
    (h1 : T1 = (k0_t1_loop i).trips) (h2 : T2 = (k0_t2_loop i).trips)
    (h3 : p2 = st_k0_t1 (F := Ideal) 𝒱 c bd i arg2 harg2 arg3 harg3 arg4 harg4 arg5 harg5 arg6 harg6 arg7 harg7 (harg2.unread x0) (harg3.unread x1) (harg4.unread x2) p T1) :
    Carries Q K V (qbOf i) (qbOf i).val (st_k0_t2 (F := Ideal) 𝒱 c bd i arg2 harg2 arg3 harg3 arg4 harg4 arg5 harg5 arg6 harg6 arg7 harg7 v7 (harg2.unread x0) (harg3.unread x1) (harg4.unread x2) p2 T2) := by
  subst h1 h2 h3
  have H := loop_carries 𝒱 c bd arg2 harg2 arg3 harg3 arg4 harg4 arg5 harg5 arg6 harg6 arg7 harg7 R p h _ le_rfl
  rw [trips2_eq i, st_k0_t2_zero]
  rw [trips_eq i] at H ⊢
  exact H

end Cert.AttnFwdIdeal.Hand

end
-- ==== Proof.FwdVal.lean ====
module

public import proofs.«01_k».proof.Proof.FwdLoop
public import proofs.«01_k».proof.Proof.Gen.AttnFwdIdeal.Value
public import Idealize.ShloMosaic.Lib.WritesUnit

@[expose] public section

set_option maxRecDepth 16384
set_option maxHeartbeats 400000

noncomputable section

namespace Cert.AttnFwdIdeal.Hand

open Idealize.ShloMosaic Idealize.ShloMosaic.TcCoe
open Cert.AttnFwdIdeal Cert.AttnFwdIdeal.Gen Cert.Attention

/-! # What a grid point leaves of its two results -/

/-- The column of head `b`'s lane `e`. -/
def lane (b : Fin 8) (e : Fin 128) : Fin 1024 := ⟨128 * b.val + e.val, by omega⟩

/-- Eight stores, one per head, fill the logarithms. -/
theorem read_lse {v : View sig .tc .vmem S8x8x256 .f32} {f : v.ty.Contents (Elt Ideal)} (L : List (View.Piece (Elt Ideal) S8x8x256 .f32))
    (i0 : ∀ a, (![0, 0, 0] : Fin 3 → ℕ) a + S1x8x256.size a ≤ S8x8x256.size a) (i1 : ∀ a, (![1, 0, 0] : Fin 3 → ℕ) a + S1x8x256.size a ≤ S8x8x256.size a) (i2 : ∀ a, (![2, 0, 0] : Fin 3 → ℕ) a + S1x8x256.size a ≤ S8x8x256.size a) (i3 : ∀ a, (![3, 0, 0] : Fin 3 → ℕ) a + S1x8x256.size a ≤ S8x8x256.size a) (i4 : ∀ a, (![4, 0, 0] : Fin 3 → ℕ) a + S1x8x256.size a ≤ S8x8x256.size a) (i5 : ∀ a, (![5, 0, 0] : Fin 3 → ℕ) a + S1x8x256.size a ≤ S8x8x256.size a) (i6 : ∀ a, (![6, 0, 0] : Fin 3 → ℕ) a + S1x8x256.size a ≤ S8x8x256.size a) (i7 : ∀ a, (![7, 0, 0] : Fin 3 → ℕ) a + S1x8x256.size a ≤ S8x8x256.size a)
    (w0 w1 w2 w3 w4 w5 w6 w7 : Vec Ideal S1x8x256 .f32) (X : Fin 8 → Fin 8 → Fin 256 → EReal)
    (h0 : ∀ g r, w0 (ix3 0 g r) = X 0 g r) (h1 : ∀ g r, w1 (ix3 0 g r) = X 1 g r) (h2 : ∀ g r, w2 (ix3 0 g r) = X 2 g r) (h3 : ∀ g r, w3 (ix3 0 g r) = X 3 g r) (h4 : ∀ g r, w4 (ix3 0 g r) = X 4 g r) (h5 : ∀ g r, w5 (ix3 0 g r) = X 5 g r) (h6 : ∀ g r, w6 (ix3 0 g r) = X 6 g r) (h7 : ∀ g r, w7 (ix3 0 g r) = X 7 g r) (b g r) :
    v.read (Elt Ideal) (v.writes (Elt Ideal) f (⟨Rect.unit (s := S8x8x256) ![7, 0, 0] S1x8x256.size i7, w7⟩ :: ⟨Rect.unit (s := S8x8x256) ![6, 0, 0] S1x8x256.size i6, w6⟩ :: ⟨Rect.unit (s := S8x8x256) ![5, 0, 0] S1x8x256.size i5, w5⟩ :: ⟨Rect.unit (s := S8x8x256) ![4, 0, 0] S1x8x256.size i4, w4⟩ :: ⟨Rect.unit (s := S8x8x256) ![3, 0, 0] S1x8x256.size i3, w3⟩ :: ⟨Rect.unit (s := S8x8x256) ![2, 0, 0] S1x8x256.size i2, w2⟩ :: ⟨Rect.unit (s := S8x8x256) ![1, 0, 0] S1x8x256.size i1, w1⟩ :: ⟨Rect.unit (s := S8x8x256) ![0, 0, 0] S1x8x256.size i0, w0⟩ :: L)) (ix3 b g r) = X b g r := by
  have hit : ∀ (b : Fin 8) (ib : ∀ a, (![b.val, 0, 0] : Fin 3 → ℕ) a + S1x8x256.size a ≤ S8x8x256.size a) (w : Vec Ideal S1x8x256 .f32) (M : List (View.Piece (Elt Ideal) S8x8x256 .f32)),
      v.read (Elt Ideal) (v.writes (Elt Ideal) f (⟨Rect.unit (s := S8x8x256) ![b.val, 0, 0] S1x8x256.size ib, w⟩ :: M)) (ix3 b g r) = w (ix3 0 g r) := by
    intro b ib w M
    refine View.read_writes_cons_unit_of_mem v f ib w M (ix3 b g r) (ix3 0 g r) rfl fun a => ?_
    fin_cases a
    · rfl
    · exact (Nat.zero_add _).symm
    · exact (Nat.zero_add _).symm
  have miss : ∀ (b b' : Fin 8) (ib : ∀ a, (![b.val, 0, 0] : Fin 3 → ℕ) a + S1x8x256.size a ≤ S8x8x256.size a) (w : Vec Ideal S1x8x256 .f32) (M : List (View.Piece (Elt Ideal) S8x8x256 .f32)),
      b'.val < b.val → v.read (Elt Ideal) (v.writes (Elt Ideal) f (⟨Rect.unit (s := S8x8x256) ![b.val, 0, 0] S1x8x256.size ib, w⟩ :: M)) (ix3 b' g r)
        = v.read (Elt Ideal) (v.writes (Elt Ideal) f M) (ix3 b' g r) :=
    fun b b' ib w M h => View.read_writes_cons_unit_of_not_mem v f ib w M (ix3 b' g r) rfl 0 (Or.inl (h))
  fin_cases b
  · exact (miss 7 0 i7 w7 _ (by decide)).trans ((miss 6 0 i6 w6 _ (by decide)).trans ((miss 5 0 i5 w5 _ (by decide)).trans ((miss 4 0 i4 w4 _ (by decide)).trans ((miss 3 0 i3 w3 _ (by decide)).trans ((miss 2 0 i2 w2 _ (by decide)).trans ((miss 1 0 i1 w1 _ (by decide)).trans ((hit 0 i0 w0 _).trans (h0 g r))))))))
  · exact (miss 7 1 i7 w7 _ (by decide)).trans ((miss 6 1 i6 w6 _ (by decide)).trans ((miss 5 1 i5 w5 _ (by decide)).trans ((miss 4 1 i4 w4 _ (by decide)).trans ((miss 3 1 i3 w3 _ (by decide)).trans ((miss 2 1 i2 w2 _ (by decide)).trans ((hit 1 i1 w1 _).trans (h1 g r)))))))
  · exact (miss 7 2 i7 w7 _ (by decide)).trans ((miss 6 2 i6 w6 _ (by decide)).trans ((miss 5 2 i5 w5 _ (by decide)).trans ((miss 4 2 i4 w4 _ (by decide)).trans ((miss 3 2 i3 w3 _ (by decide)).trans ((hit 2 i2 w2 _).trans (h2 g r))))))
  · exact (miss 7 3 i7 w7 _ (by decide)).trans ((miss 6 3 i6 w6 _ (by decide)).trans ((miss 5 3 i5 w5 _ (by decide)).trans ((miss 4 3 i4 w4 _ (by decide)).trans ((hit 3 i3 w3 _).trans (h3 g r)))))
  · exact (miss 7 4 i7 w7 _ (by decide)).trans ((miss 6 4 i6 w6 _ (by decide)).trans ((miss 5 4 i5 w5 _ (by decide)).trans ((hit 4 i4 w4 _).trans (h4 g r))))
  · exact (miss 7 5 i7 w7 _ (by decide)).trans ((miss 6 5 i6 w6 _ (by decide)).trans ((hit 5 i5 w5 _).trans (h5 g r)))
  · exact (miss 7 6 i7 w7 _ (by decide)).trans ((hit 6 i6 w6 _).trans (h6 g r))
  · exact (hit 7 i7 w7 _).trans (h7 g r)

/-- Eight stores, one per head, fill the output. -/
theorem read_out {v : View sig .tc .vmem S256x1024 .f32} {f : v.ty.Contents (Elt Ideal)} (L : List (View.Piece (Elt Ideal) S256x1024 .f32))
    (i0 : ∀ a, (![0, 0] : Fin 2 → ℕ) a + S256x128.size a ≤ S256x1024.size a) (i1 : ∀ a, (![0, 128] : Fin 2 → ℕ) a + S256x128.size a ≤ S256x1024.size a) (i2 : ∀ a, (![0, 256] : Fin 2 → ℕ) a + S256x128.size a ≤ S256x1024.size a) (i3 : ∀ a, (![0, 384] : Fin 2 → ℕ) a + S256x128.size a ≤ S256x1024.size a) (i4 : ∀ a, (![0, 512] : Fin 2 → ℕ) a + S256x128.size a ≤ S256x1024.size a) (i5 : ∀ a, (![0, 640] : Fin 2 → ℕ) a + S256x128.size a ≤ S256x1024.size a) (i6 : ∀ a, (![0, 768] : Fin 2 → ℕ) a + S256x128.size a ≤ S256x1024.size a) (i7 : ∀ a, (![0, 896] : Fin 2 → ℕ) a + S256x128.size a ≤ S256x1024.size a)
    (w0 w1 w2 w3 w4 w5 w6 w7 : Vec Ideal S256x128 .f32) (X : Fin 8 → Fin 256 → Fin 128 → EReal)
    (h0 : ∀ r e, w0 (ix2 r e) = X 0 r e) (h1 : ∀ r e, w1 (ix2 r e) = X 1 r e) (h2 : ∀ r e, w2 (ix2 r e) = X 2 r e) (h3 : ∀ r e, w3 (ix2 r e) = X 3 r e) (h4 : ∀ r e, w4 (ix2 r e) = X 4 r e) (h5 : ∀ r e, w5 (ix2 r e) = X 5 r e) (h6 : ∀ r e, w6 (ix2 r e) = X 6 r e) (h7 : ∀ r e, w7 (ix2 r e) = X 7 r e) (b r e) :
    v.read (Elt Ideal) (v.writes (Elt Ideal) f (⟨Rect.unit (s := S256x1024) ![0, 896] S256x128.size i7, w7⟩ :: ⟨Rect.unit (s := S256x1024) ![0, 768] S256x128.size i6, w6⟩ :: ⟨Rect.unit (s := S256x1024) ![0, 640] S256x128.size i5, w5⟩ :: ⟨Rect.unit (s := S256x1024) ![0, 512] S256x128.size i4, w4⟩ :: ⟨Rect.unit (s := S256x1024) ![0, 384] S256x128.size i3, w3⟩ :: ⟨Rect.unit (s := S256x1024) ![0, 256] S256x128.size i2, w2⟩ :: ⟨Rect.unit (s := S256x1024) ![0, 128] S256x128.size i1, w1⟩ :: ⟨Rect.unit (s := S256x1024) ![0, 0] S256x128.size i0, w0⟩ :: L)) (ix2 r (lane b e)) = X b r e := by
  have hit : ∀ (b : Fin 8) (ib : ∀ a, (![0, 128 * b.val] : Fin 2 → ℕ) a + S256x128.size a ≤ S256x1024.size a) (w : Vec Ideal S256x128 .f32) (M : List (View.Piece (Elt Ideal) S256x1024 .f32)),
      v.read (Elt Ideal) (v.writes (Elt Ideal) f (⟨Rect.unit (s := S256x1024) ![0, 128 * b.val] S256x128.size ib, w⟩ :: M)) (ix2 r (lane b e)) = w (ix2 r e) := by
    intro b ib w M
    refine View.read_writes_cons_unit_of_mem v f ib w M (ix2 r (lane b e)) (ix2 r e) rfl fun a => ?_
    fin_cases a
    · exact (Nat.zero_add _).symm
    · rfl
  have miss : ∀ (b b' : Fin 8) (ib : ∀ a, (![0, 128 * b.val] : Fin 2 → ℕ) a + S256x128.size a ≤ S256x1024.size a) (w : Vec Ideal S256x128 .f32) (M : List (View.Piece (Elt Ideal) S256x1024 .f32)),
      b'.val < b.val → v.read (Elt Ideal) (v.writes (Elt Ideal) f (⟨Rect.unit (s := S256x1024) ![0, 128 * b.val] S256x128.size ib, w⟩ :: M)) (ix2 r (lane b' e))
        = v.read (Elt Ideal) (v.writes (Elt Ideal) f M) (ix2 r (lane b' e)) :=
    fun b b' ib w M h => View.read_writes_cons_unit_of_not_mem v f ib w M (ix2 r (lane b' e)) rfl 1 (Or.inl (show 128 * b'.val + e.val < 128 * b.val from by omega))
  fin_cases b
  · exact (miss 7 0 i7 w7 _ (by decide)).trans ((miss 6 0 i6 w6 _ (by decide)).trans ((miss 5 0 i5 w5 _ (by decide)).trans ((miss 4 0 i4 w4 _ (by decide)).trans ((miss 3 0 i3 w3 _ (by decide)).trans ((miss 2 0 i2 w2 _ (by decide)).trans ((miss 1 0 i1 w1 _ (by decide)).trans ((hit 0 i0 w0 _).trans (h0 r e))))))))
  · exact (miss 7 1 i7 w7 _ (by decide)).trans ((miss 6 1 i6 w6 _ (by decide)).trans ((miss 5 1 i5 w5 _ (by decide)).trans ((miss 4 1 i4 w4 _ (by decide)).trans ((miss 3 1 i3 w3 _ (by decide)).trans ((miss 2 1 i2 w2 _ (by decide)).trans ((hit 1 i1 w1 _).trans (h1 r e)))))))
  · exact (miss 7 2 i7 w7 _ (by decide)).trans ((miss 6 2 i6 w6 _ (by decide)).trans ((miss 5 2 i5 w5 _ (by decide)).trans ((miss 4 2 i4 w4 _ (by decide)).trans ((miss 3 2 i3 w3 _ (by decide)).trans ((hit 2 i2 w2 _).trans (h2 r e))))))
  · exact (miss 7 3 i7 w7 _ (by decide)).trans ((miss 6 3 i6 w6 _ (by decide)).trans ((miss 5 3 i5 w5 _ (by decide)).trans ((miss 4 3 i4 w4 _ (by decide)).trans ((hit 3 i3 w3 _).trans (h3 r e)))))
  · exact (miss 7 4 i7 w7 _ (by decide)).trans ((miss 6 4 i6 w6 _ (by decide)).trans ((miss 5 4 i5 w5 _ (by decide)).trans ((hit 4 i4 w4 _).trans (h4 r e))))
  · exact (miss 7 5 i7 w7 _ (by decide)).trans ((miss 6 5 i6 w6 _ (by decide)).trans ((hit 5 i5 w5 _).trans (h5 r e)))
  · exact (miss 7 6 i7 w7 _ (by decide)).trans ((hit 6 i6 w6 _).trans (h6 r e))
  · exact (hit 7 i7 w7 _).trans (h7 r e)

variable (c : Dev nD) (i : grid0.Coords) (arg2 : Memref sig .tc .vmem S8x256x256 .bf16) (harg2 : arg2.IsWhole) (arg3 : Memref sig .tc .vmem S8x2048x256 .bf16) (harg3 : arg3.IsWhole)
  (arg4 : Memref sig .tc .vmem S8x2048x128 .bf16) (harg4 : arg4.IsWhole) (arg5 : Memref sig .tc .vmem S256x1024 .f32) (harg5 : arg5.IsWhole)
  (arg6 : Memref sig .tc .vmem S8x8x256 .f32) (harg6 : arg6.IsWhole) (arg7 : Memref sig .tc .vmem S256x1024 .bf16) (harg7 : arg7.IsWhole)
  (x0 : Vec Ideal S8x256x256 .bf16) (x1 : Vec Ideal S8x2048x256 .bf16) (x2 : Vec Ideal S8x2048x128 .bf16)

/-- What the heads start from. -/
abbrev start : Carry := (k0_pay95, k0_pay96, k0_pay97, k0_pay95, k0_pay96, k0_pay97, k0_pay95, k0_pay96, k0_pay97, k0_pay95, k0_pay96, k0_pay97, k0_pay95, k0_pay96, k0_pay97, k0_pay95, k0_pay96, k0_pay97, k0_pay95, k0_pay96, k0_pay97, k0_pay95, k0_pay96, k0_pay97)

/-- What the heads carry into the diagonal block. -/
abbrev done : Carry :=
  st_k0_t2 (F := Ideal) Variants.none c none i arg2 harg2 arg3 harg3 arg4 harg4 arg5 harg5 arg6 harg6 arg7 harg7 (Scalar.addi 0#32 (Scalar.muli (Scalar.divsi (Scalar.subi (BitVec.ofNat 32 (i 1).val) 0#32) 1#32) 1#32)) (harg2.unread x0) (harg3.unread x1) (harg4.unread x2)
    (st_k0_t1 (F := Ideal) Variants.none c none i arg2 harg2 arg3 harg3 arg4 harg4 arg5 harg5 arg6 harg6 arg7 harg7 (harg2.unread x0) (harg3.unread x1) (harg4.unread x2) start (k0_t1_loop i).trips) (k0_t2_loop i).trips

variable {x0 x1 x2} {Q K : Fin 8 → Fin 2048 → Fin 256 → ℝ} {V : Fin 8 → Fin 2048 → Fin 128 → ℝ}

theorem done_carries (R : Reals x0 x1 x2 Q K V (qbOf i)) : Carries Q K V (qbOf i) (qbOf i).val (done c i arg2 harg2 arg3 harg3 arg4 harg4 arg5 harg5 arg6 harg6 arg7 harg7 x0 x1 x2) :=
  both_loops Variants.none c none arg2 harg2 arg3 harg3 arg4 harg4 arg5 harg5 arg6 harg6 arg7 harg7 R start _
    ⟨head_init, head_init, head_init, head_init, head_init, head_init, head_init, head_init⟩ _ rfl rfl rfl

/-- The output: every head's weighted values over its sum. -/
theorem run_out (R : Reals x0 x1 x2 Q K V (qbOf i)) {v : View sig .tc .vmem S256x1024 .f32} {f : v.ty.Contents (Elt Ideal)} (b r e) :
    v.read (Elt Ideal) (v.writes (Elt Ideal) f (kernelRun0_A (F := Ideal) c i arg2 harg2 arg3 harg3 arg4 harg4 arg5 harg5 arg6 harg6 arg7 harg7 x0 x1 x2).1) (ix2 r (lane b e))
      = ((rawOut (Q b) (K b) (V b) scale (inBlock (qbOf i) r) e / rawMass (Q b) (K b) scale (inBlock (qbOf i) r) : ℝ) : EReal) := by
  have L0 := loaded R harg2 harg3 harg4 0 (qbOf i) inb_S8x256x256_S1x256x256_0_0_0 (k0_off33_inb i) (k0_off34_inb i) rfl (off_diag i 0) (off_diag i 0)
  have L1 := loaded R harg2 harg3 harg4 1 (qbOf i) inb_S8x256x256_S1x256x256_1_0_0 (k0_off35_inb i) (k0_off36_inb i) rfl (off_diag i 1) (off_diag i 1)
  have L2 := loaded R harg2 harg3 harg4 2 (qbOf i) inb_S8x256x256_S1x256x256_2_0_0 (k0_off37_inb i) (k0_off38_inb i) rfl (off_diag i 2) (off_diag i 2)
  have L3 := loaded R harg2 harg3 harg4 3 (qbOf i) inb_S8x256x256_S1x256x256_3_0_0 (k0_off39_inb i) (k0_off40_inb i) rfl (off_diag i 3) (off_diag i 3)
  have L4 := loaded R harg2 harg3 harg4 4 (qbOf i) inb_S8x256x256_S1x256x256_4_0_0 (k0_off41_inb i) (k0_off42_inb i) rfl (off_diag i 4) (off_diag i 4)
  have L5 := loaded R harg2 harg3 harg4 5 (qbOf i) inb_S8x256x256_S1x256x256_5_0_0 (k0_off43_inb i) (k0_off44_inb i) rfl (off_diag i 5) (off_diag i 5)
  have L6 := loaded R harg2 harg3 harg4 6 (qbOf i) inb_S8x256x256_S1x256x256_6_0_0 (k0_off45_inb i) (k0_off46_inb i) rfl (off_diag i 6) (off_diag i 6)
  have L7 := loaded R harg2 harg3 harg4 7 (qbOf i) inb_S8x256x256_S1x256x256_7_0_0 (k0_off47_inb i) (k0_off48_inb i) rfl (off_diag i 7) (off_diag i 7)
  have H := done_carries c i arg2 harg2 arg3 harg3 arg4 harg4 arg5 harg5 arg6 harg6 arg7 harg7 R
  have s0 := diag_0 H.h0 L0
  have s1 := diag_step H.h1 L1
  have s2 := diag_2 H.h2 L2
  have s3 := diag_3 H.h3 L3
  have s4 := diag_4 H.h4 L4
  have s5 := diag_5 H.h5 L5
  have s6 := diag_6 H.h6 L6
  have s7 := diag_7 H.h7 L7
  have o0 := out_apply s0
  have o1 := out_apply s1
  have o2 := out_apply s2
  have o3 := out_apply s3
  have o4 := out_apply s4
  have o5 := out_apply s5
  have o6 := out_apply s6
  have o7 := out_apply s7
  unfold kernelRun0_A
  dsimp only
  delta kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10
    kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20
    kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30
    kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40
    kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50
    kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r
    kernelRun0_A.sl.v3 kernelRun0_A.sl.v5 kernelRun0_A.sl.v6 kernelRun0_A.sl.v7 kernelRun0_A.sl.v35 kernelRun0_A.sl.v61 kernelRun0_A.sl.cst_112
  simp only [Prod.mk.eta]
  refine read_out [] _ _ _ _ _ _ _ _ _ _ _ _ _ _ _ _ (fun b r e => ((rawOut (Q b) (K b) (V b) scale (inBlock (qbOf i) r) e / rawMass (Q b) (K b) scale (inBlock (qbOf i) r) : ℝ) : EReal)) ?_ ?_ ?_ ?_ ?_ ?_ ?_ ?_ b r e
  · exact o0
  · exact o1
  · exact o2
  · exact o3
  · exact o4
  · exact o5
  · exact o6
  · exact o7

/-- The logarithms. -/
theorem run_lse (R : Reals x0 x1 x2 Q K V (qbOf i)) {v : View sig .tc .vmem S8x8x256 .f32} {f : v.ty.Contents (Elt Ideal)} (b g r) :
    v.read (Elt Ideal) (v.writes (Elt Ideal) f (kernelRun0_A (F := Ideal) c i arg2 harg2 arg3 harg3 arg4 harg4 arg5 harg5 arg6 harg6 arg7 harg7 x0 x1 x2).2.1) (ix3 b g r)
      = ((Real.log (rawMass (Q b) (K b) scale (inBlock (qbOf i) r)) : ℝ) : EReal) := by
  have L0 := loaded R harg2 harg3 harg4 0 (qbOf i) inb_S8x256x256_S1x256x256_0_0_0 (k0_off33_inb i) (k0_off34_inb i) rfl (off_diag i 0) (off_diag i 0)
  have L1 := loaded R harg2 harg3 harg4 1 (qbOf i) inb_S8x256x256_S1x256x256_1_0_0 (k0_off35_inb i) (k0_off36_inb i) rfl (off_diag i 1) (off_diag i 1)
  have L2 := loaded R harg2 harg3 harg4 2 (qbOf i) inb_S8x256x256_S1x256x256_2_0_0 (k0_off37_inb i) (k0_off38_inb i) rfl (off_diag i 2) (off_diag i 2)
  have L3 := loaded R harg2 harg3 harg4 3 (qbOf i) inb_S8x256x256_S1x256x256_3_0_0 (k0_off39_inb i) (k0_off40_inb i) rfl (off_diag i 3) (off_diag i 3)
  have L4 := loaded R harg2 harg3 harg4 4 (qbOf i) inb_S8x256x256_S1x256x256_4_0_0 (k0_off41_inb i) (k0_off42_inb i) rfl (off_diag i 4) (off_diag i 4)
  have L5 := loaded R harg2 harg3 harg4 5 (qbOf i) inb_S8x256x256_S1x256x256_5_0_0 (k0_off43_inb i) (k0_off44_inb i) rfl (off_diag i 5) (off_diag i 5)
  have L6 := loaded R harg2 harg3 harg4 6 (qbOf i) inb_S8x256x256_S1x256x256_6_0_0 (k0_off45_inb i) (k0_off46_inb i) rfl (off_diag i 6) (off_diag i 6)
  have L7 := loaded R harg2 harg3 harg4 7 (qbOf i) inb_S8x256x256_S1x256x256_7_0_0 (k0_off47_inb i) (k0_off48_inb i) rfl (off_diag i 7) (off_diag i 7)
  have H := done_carries c i arg2 harg2 arg3 harg3 arg4 harg4 arg5 harg5 arg6 harg6 arg7 harg7 R
  have s0 := diag_0 H.h0 L0
  have s1 := diag_step H.h1 L1
  have s2 := diag_2 H.h2 L2
  have s3 := diag_3 H.h3 L3
  have s4 := diag_4 H.h4 L4
  have s5 := diag_5 H.h5 L5
  have s6 := diag_6 H.h6 L6
  have s7 := diag_7 H.h7 L7
  have o0 := lse_apply s0 0
  have o1 := lse_apply s1 0
  have o2 := lse_apply s2 0
  have o3 := lse_apply s3 0
  have o4 := lse_apply s4 0
  have o5 := lse_apply s5 0
  have o6 := lse_apply s6 0
  have o7 := lse_apply s7 0
  unfold kernelRun0_A
  dsimp only
  delta kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10
    kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20
    kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30
    kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40
    kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50
    kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r
    kernelRun0_A.sl.v3 kernelRun0_A.sl.v5 kernelRun0_A.sl.v6 kernelRun0_A.sl.v7 kernelRun0_A.sl.v35 kernelRun0_A.sl.v61 kernelRun0_A.sl.cst_112
  simp only [Prod.mk.eta]
  refine read_lse [] _ _ _ _ _ _ _ _ _ _ _ _ _ _ _ _ (fun b g r => ((Real.log (rawMass (Q b) (K b) scale (inBlock (qbOf i) r)) : ℝ) : EReal)) ?_ ?_ ?_ ?_ ?_ ?_ ?_ ?_ b g r
  · exact o0
  · exact o1
  · exact o2
  · exact o3
  · exact o4
  · exact o5
  · exact o6
  · exact o7

end Cert.AttnFwdIdeal.Hand

end
-- ==== Proof.FwdArr.lean ====
module

public import proofs.«01_k».proof.Proof.FwdVal
public import Idealize.ShloMosaic.Lib.Pointwise
public import Idealize.ShloMosaic.Lib.Pipeline.ValueKit

@[expose] public section

set_option maxRecDepth 16384

noncomputable section

namespace Cert.AttnFwdIdeal.Hand

open Idealize.ShloMosaic Idealize.ShloMosaic.TcCoe
open Cert.AttnFwdIdeal.Gen Cert.Attention

/-! # The two arrays the forward call leaves, at real arguments -/

/-- The arguments are finite: `q`, `k` and `v` are their real values. -/
structure Args (x0 x1 : FVec Ideal S8x2048x256 .bf16) (x2 : FVec Ideal S8x2048x128 .bf16)
    (q k : Fin 8 → Fin 2048 → Fin 256 → ℝ) (v : Fin 8 → Fin 2048 → Fin 128 → ℝ) : Prop where
  hq : ∀ h R e, x0 (ix3 h R e) = (q h R e : EReal)
  hk : ∀ h R e, x1 (ix3 h R e) = (k h R e : EReal)
  hv : ∀ h R e, x2 (ix3 h R e) = (v h R e : EReal)

/-- The head a column of the output belongs to, and the lane in it. -/
def headOf (C : Fin 1024) : Fin 8 := ⟨C.val / 128, by omega⟩
def laneOf (C : Fin 1024) : Fin 128 := ⟨C.val % 128, by omega⟩

theorem lane_of (C : Fin 1024) : lane (headOf C) (laneOf C) = C := Fin.ext (by
  show 128 * (C.val / 128) + C.val % 128 = C.val
  omega)

/-- Attention's output, the heads side by side. -/
def arrOut (q k : Fin 8 → Fin 2048 → Fin 256 → ℝ) (v : Fin 8 → Fin 2048 → Fin 128 → ℝ) : Vec Ideal S2048x1024 .f32 :=
  fun i => ((rawOut (q (headOf (i 1))) (k (headOf (i 1))) (v (headOf (i 1))) scale (i 0) (laneOf (i 1))
    / rawMass (q (headOf (i 1))) (k (headOf (i 1))) scale (i 0) : ℝ) : EReal)

/-- The logarithm of every row's sum of exponentials, the same in all eight sublanes. -/
def arrLse (q k : Fin 8 → Fin 2048 → Fin 256 → ℝ) : Vec Ideal S8x8x2048 .f32 :=
  fun i => ((Real.log (rawMass (q (i 0)) (k (i 0)) scale (i 2)) : ℝ) : EReal)

/-- The queries of a point are those of its block, the keys and values all of them; so lie the results. -/
theorem index_eq (t : Fin cfg0.N) : (win0_0.index t 0 = 0 ∧ win0_0.index t 1 = (qbOf (grid0.coords t)).val ∧ win0_0.index t 2 = 0)
    ∧ (win0_1.index t 0 = 0 ∧ win0_1.index t 1 = 0 ∧ win0_1.index t 2 = 0)
    ∧ (win0_2.index t 0 = 0 ∧ win0_2.index t 1 = 0 ∧ win0_2.index t 2 = 0)
    ∧ (win0_3.index t 0 = (qbOf (grid0.coords t)).val ∧ win0_3.index t 1 = 0)
    ∧ (win0_4.index t 0 = 0 ∧ win0_4.index t 1 = 0 ∧ win0_4.index t 2 = (qbOf (grid0.coords t)).val) := by revert t; decide +kernel

/-- Where a point's entry of the output lies in the array, and of the logarithms. -/
theorem at_out (t : Fin cfg0.N) (r : Fin 256) (C : Fin 1024) :
    (win0_3.rect t).emb (ix2 r C) = ix2 (inBlock (qbOf (grid0.coords t)) r) C := by
  obtain ⟨-, -, -, ⟨h0, h1⟩, -⟩ := index_eq t
  refine funext fun a => Fin.ext ?_
  refine (Pipeline.Window.rect_emb_val win0_3 t _ a).trans ?_
  match a with
  | ⟨0, _⟩ => show win0_3.index t 0 * 256 + r.val = 256 * (qbOf (grid0.coords t)).val + r.val; rw [h0]; omega
  | ⟨1, _⟩ => show win0_3.index t 1 * 1024 + C.val = C.val; rw [h1]; omega

theorem at_lse (t : Fin cfg0.N) (b g : Fin 8) (r : Fin 256) :
    (win0_4.rect t).emb (ix3 b g r) = ix3 b g (inBlock (qbOf (grid0.coords t)) r) := by
  obtain ⟨-, -, -, -, ⟨h0, h1, h2⟩⟩ := index_eq t
  refine funext fun a => Fin.ext ?_
  refine (Pipeline.Window.rect_emb_val win0_4 t _ a).trans ?_
  match a with
  | ⟨0, _⟩ => show win0_4.index t 0 * 8 + b.val = b.val; rw [h0]; omega
  | ⟨1, _⟩ => show win0_4.index t 1 * 8 + g.val = g.val; rw [h1]; omega
  | ⟨2, _⟩ => show win0_4.index t 2 * 256 + r.val = 256 * (qbOf (grid0.coords t)).val + r.val; rw [h2]; omega

section
variable {m : (ℓ : Loc nD τ sig) → Buf (Elt Ideal) ℓ} {c : Dev nD}
  {q k : Fin 8 → Fin 2048 → Fin 256 → ℝ} {v : Fin 8 → Fin 2048 → Fin 128 → ℝ}
  (A : Args (m ((c.tc : Thread nD τ).loc main_arg0)) (m ((c.tc : Thread nD τ).loc main_arg1)) (m ((c.tc : Thread nD τ).loc main_arg2)) q k v)
include A

theorem reals (t : Fin cfg0.N) : Reals (iblk m c 0 t) (iblk m c 1 t) (iblk m c 2 t) q k v (qbOf (grid0.coords t)) := by
  obtain ⟨⟨a0, a1, a2⟩, ⟨b0, b1, b2⟩, ⟨d0, d1, d2⟩, -, -⟩ := index_eq t
  refine ⟨fun b r e => ?_, fun b J e => ?_, fun b J e => ?_⟩
  · rw [← A.hq b (inBlock (qbOf (grid0.coords t)) r) e]
    blk_ext [iblk, V, a0, a1, a2, inBlock]
  · rw [← A.hk b J e]
    blk_ext [iblk, V, b0, b1, b2]
  · rw [← A.hv b J e]
    blk_ext [iblk, V, d0, d1, d2]

theorem final_out : (dats m 0 c).arrAt 3 cfg0.N = arrOut q k v := by
  refine (dats m 0 c).arrAt_eq_of_covers 3 _ (by decide +kernel) fun t hf y => ?_
  blk_simp
  rw [after0_3]
  have hl : ∀ (r : Fin 256) (C : Fin 1024), (outsAt0 m c t).1 (ix2 r C) = arrOut q k v ((win0_3.rect t).emb (ix2 r C)) := fun r C => by
    have h := run_out c (grid0.coords t) (ms0_0 t) (hs0_0 t) (ms0_1 t) (hs0_1 t) (ms0_2 t) (hs0_2 t) (ms0_3 t) (hs0_3 t) (ms0_4 t) (hs0_4 t) (ms0_5 t) (hs0_5 t)
      (reals A t) (v := VO0_3) (f := VO0_3.junk) (headOf C) r (laneOf C)
    rw [lane_of] at h
    rw [at_out]
    exact h
  have hy := hl (y 0) (y 1)
  rw [← eq_ix2 y] at hy
  exact hy

theorem final_lse : (dats m 0 c).arrAt 4 cfg0.N = arrLse q k := by
  refine (dats m 0 c).arrAt_eq_of_covers 4 _ (by decide +kernel) fun t hf y => ?_
  blk_simp
  rw [after0_4]
  have hl : ∀ (b g : Fin 8) (r : Fin 256), (outsAt0 m c t).2.1 (ix3 b g r) = arrLse q k ((win0_4.rect t).emb (ix3 b g r)) := fun b g r => by
    have h := run_lse c (grid0.coords t) (ms0_0 t) (hs0_0 t) (ms0_1 t) (hs0_1 t) (ms0_2 t) (hs0_2 t) (ms0_3 t) (hs0_3 t) (ms0_4 t) (hs0_4 t) (ms0_5 t) (hs0_5 t)
      (reals A t) (v := VO0_4) (f := VO0_4.junk) b g r
    rw [at_lse]
    simp only [outsAt0]
    unfold out0_A_4
    refine h.trans ?_
    rfl
  have hy := hl (y 0) (y 1) (y 2)
  rw [← eq_ix3 y] at hy
  exact hy

end

end Cert.AttnFwdIdeal.Hand

end
-- ==== Proof.FwdRef.lean ====
module

public import proofs.«01_k».proof.Proof.FwdArr
public import proofs.«01_k».proof.Proof.Gen.AttnFwdReferenceIdeal.Read

@[expose] public section

set_option maxRecDepth 16384

noncomputable section

namespace Cert.AttnFwdReferenceIdeal.Hand

open Idealize.ShloMosaic Idealize.ShloMosaic.TcCoe
open Cert.AttnFwdReferenceIdeal Cert.AttnFwdReferenceIdeal.Gen Cert.AttnFwdReferenceIdeal.Read Cert.Attention
open Cert.AttnFwdIdeal.Hand (Args scale scale_eq bot_eq headOf laneOf arrOut arrLse)

/-! # The reference of attention's forward call, at real arguments -/

/-- The number of the chunk a row lies in, as the host's floor division spells it. -/
theorem chunk_word (R : Fin 2048) : val_main_v7 (F := Ideal) (ix1 R) = BitVec.ofNat 32 (R.val / 64) := by
  pointwise [val_main_v7, val_main_call0_v11, val_main_call0_v13, val_main_call0_v2, val_main_call0_v6, val_main_call0_v10, val_main_call0_v12, val_main_call0_c_0, val_main_call0_v9, val_main_call0_c, val_main_call0_v8, val_main_call0_v7, val_main_call0_v5, val_main_call0_v4, val_main_call0_v3, val_main_call0_v1, val_main_call0_v0, val_main_c, val_main_v6]
  revert R; decide +kernel

theorem chunk_le (K R : Fin 2048) :
    IntOp.cmpi CmpIPredicate.sle (BitVec.ofNat 32 (K.val / 64)) (BitVec.ofNat 32 (R.val / 64))
      = if K.val / 64 ≤ R.val / 64 then 1#1 else 0#1 := by
  have h : ∀ a b : Fin 32, IntOp.cmpi CmpIPredicate.sle (BitVec.ofNat 32 a.val) (BitVec.ofNat 32 b.val)
      = if a.val ≤ b.val then 1#1 else 0#1 := by decide +kernel
  exact h ⟨K.val / 64, by omega⟩ ⟨R.val / 64, by omega⟩

theorem mask_apply (h : Fin 8) (R K : Fin 2048) :
    val_main_call1_v1 (F := Ideal) (ix3 h R K) = if K.val / 64 ≤ R.val / 64 then 1#1 else 0#1 := by
  rw [← chunk_le, ← chunk_word, ← chunk_word]
  pointwise [val_main_call1_v1, val_main_v12, val_main_v11, val_main_v10, val_main_v9, val_main_v8]

section
variable {x0 x1 : FVec Ideal S8x2048x256 .bf16} {x2 : FVec Ideal S8x2048x128 .bf16}
  {q k : Fin 8 → Fin 2048 → Fin 256 → ℝ} {v : Fin 8 → Fin 2048 → Fin 128 → ℝ} (A : Args x0 x1 x2 q k v)
include A

theorem score_eq (h : Fin 8) (R K : Fin 2048) : val_main_v5 (F := Ideal) x0 x1 (ix3 h R K) = (score (q h) (k h) scale R K : EReal) := by
  pointwise [val_main_v5, val_main_v3, val_main_v0, val_main_v1, val_main_v4, val_main_cst]
  simp only [A.hq, A.hk, scale_eq, score, EReal.coe_mul, coe_sum]

theorem masked_eq (h : Fin 8) (R K : Fin 2048) : val_main_v13 (F := Ideal) x0 x1 (ix3 h R K) = masked (q h) (k h) scale R K := by
  rw [val_main_v13_apply, mask_apply, score_eq A]
  unfold masked
  split
  · rfl
  · exact bot_eq

theorem top_eq (h : Fin 8) (R : Fin 2048) : val_main_v14 (F := Ideal) x0 x1 (ix2 h R) = (top (q h) (k h) scale R : EReal) := by
  pointwise [val_main_v14, val_main_cst_1]
  simp only [masked_eq A, bot_eq, fold_masked]

theorem bound_eq (h : Fin 8) (R : Fin 2048) (z : Fin 1) : val_main_v15 (F := Ideal) x0 x1 (ix3 h R z) = (top (q h) (k h) scale R : EReal) := by
  rw [← top_eq A h R]
  unfold val_main_v15
  generalize val_main_v14 (F := Ideal) x0 x1 = t
  pointwise []

theorem weight_eq (h : Fin 8) (R K : Fin 2048) : val_main_v18 (F := Ideal) x0 x1 (ix3 h R K) = (weight (q h) (k h) scale R K : EReal) := by
  have hm := masked_eq A h R K
  have ht := bound_eq A h R 0
  unfold val_main_v18 val_main_v17 val_main_v16
  generalize val_main_v13 (F := Ideal) x0 x1 = s at *
  generalize val_main_v15 (F := Ideal) x0 x1 = t at *
  pointwise []
  rw [hm, ht, exp_masked]

theorem mass_eq (h : Fin 8) (R : Fin 2048) : val_main_v19 (F := Ideal) x0 x1 (ix2 h R) = (mass (q h) (k h) scale R : EReal) := by
  pointwise [val_main_v19, val_main_cst_2]
  simp only [weight_eq A, mass, coe_sum]

theorem prob_eq (h : Fin 8) (R K : Fin 2048) : val_main_v22 (F := Ideal) x0 x1 (ix3 h R K) = (prob (q h) (k h) scale R K : EReal) := by
  pointwise [val_main_v22, val_main_v21, val_main_v20]
  rw [weight_eq A, mass_eq A, div_coe_coe _ _ (mass_pos _ _ _ _).ne', prob]

theorem value_eq (R : Fin 2048) (h : Fin 8) (e : Fin 128) : val_main_v24 (F := Ideal) x0 x1 x2 (ix3 R h e)
    = ((rawOut (q h) (k h) (v h) scale R e / rawMass (q h) (k h) scale R : ℝ) : EReal) := by
  pointwise [val_main_v24, val_main_v23, val_main_v2]
  simp only [A.hv, prob_eq A, ← out_raw, coe_sum, EReal.coe_mul, mul_comm]

theorem out_eq : val_main_v25 (F := Ideal) x0 x1 x2 = arrOut q k v := by
  funext i
  rw [val_main_v25_apply]
  refine Eq.trans (congrArg _ (?_ : _ = ix3 (i 0) (headOf (i 1)) (laneOf (i 1)))) (value_eq A _ _ _)
  have h1 : (i 1).val < 1024 := (i 1).isLt
  funext a
  fin_cases a
  · exact Fin.ext (show ((i 0).val * 1024 + (i 1).val) / 1024 = (i 0).val by omega)
  · exact Fin.ext (show ((i 0).val * 1024 + (i 1).val) / 128 % 8 = (i 1).val / 128 by omega)
  · exact Fin.ext (show ((i 0).val * 1024 + (i 1).val) % 128 = (i 1).val % 128 by omega)

theorem total_eq (h : Fin 8) (R : Fin 2048) (z : Fin 1) : val_main_v20 (F := Ideal) x0 x1 (ix3 h R z) = (mass (q h) (k h) scale R : EReal) := by
  rw [← mass_eq A h R]
  unfold val_main_v20
  generalize val_main_v19 (F := Ideal) x0 x1 = t
  pointwise []

theorem sum_eq (h : Fin 8) (R : Fin 2048) (z : Fin 1) : val_main_v27 (F := Ideal) x0 x1 (ix3 h R z)
    = ((Real.log (rawMass (q h) (k h) scale R) : ℝ) : EReal) := by
  rw [val_main_v27_apply, val_main_v26_apply, bound_eq A, total_eq A, ← lse_raw, EReal.coe_add, ← log_mass]
  rfl

theorem lse_eq : val_main_v30 (F := Ideal) x0 x1 = arrLse q k := by
  funext i
  rw [val_main_v30_apply, val_main_v29_apply, val_main_v28_apply]
  refine Eq.trans (congrArg _ (?_ : _ = ix3 (i 0) (i 2) 0)) (sum_eq A _ _ _)
  have h2 : (i 2).val < 2048 := (i 2).isLt
  funext a
  fin_cases a
  · exact Fin.ext (show ((i 0).val * 2048 + (i 2).val) / 2048 = (i 0).val by omega)
  · exact Fin.ext (show ((i 0).val * 2048 + (i 2).val) / 1 % 2048 = (i 2).val by omega)
  · rfl

end

end Cert.AttnFwdReferenceIdeal.Hand

end
-- ==== Proof.FwdPre.lean ====
module

public import proofs.«01_k».proof.Proof.Pre

@[expose] public section

set_option maxRecDepth 16384

noncomputable section

namespace Cert.Pre_finite_fwd

open Idealize.ShloMosaic
open Cert.Pre_finite (real_of_cmp andi_split)

/-! # The precondition of attention's forward call: every entry of its arguments is a real number -/

theorem facts : Facts where
  bitsLt_bf16_f32 := by decide
  bcast_S_S8x2048x256 := by decide
  reducesTo_S8x2048x256_S_d0_1_2 := by decide
  h_S_ := by decide
  bcast_S_S8x2048x128 := by decide
  reducesTo_S8x2048x128_S_d0_1_2 := by decide

attribute [local instance] facts

instance : Subsingleton S_.Idx := ⟨fun a b => funext fun x => x.elim0⟩

theorem finite_args (x0 x1 : FVec Ideal S8x2048x256 .bf16) (x2 : FVec Ideal S8x2048x128 .bf16)
    (h : fn (F := Ideal) x0 x1 x2 = fun _ => 1#1) :
    (∀ i, ∃ y : ℝ, x0 i = (y : EReal)) ∧ (∀ i, ∃ y : ℝ, x1 i = (y : EReal)) ∧ (∀ i, ∃ y : ℝ, x2 i = (y : EReal)) := by
  have h := congrFun h (fun a => a.elim0)
  dsimp only [fn] at h
  obtain ⟨h, h2⟩ := andi_split _ _ h
  obtain ⟨h0, h1⟩ := andi_split _ _ h
  exact ⟨fun i => real_of_cmp _ (Host.reduce_andi_all _ _ _ _ _ h0 i), fun i => real_of_cmp _ (Host.reduce_andi_all _ _ _ _ _ h1 i),
    fun i => real_of_cmp _ (Host.reduce_andi_all _ _ _ _ _ h2 i)⟩

end Cert.Pre_finite_fwd

end
-- ==== Proof.AttnFwd.lean ====
module

public import proofs.«01_k».proof.Proof.FwdRef
public import proofs.«01_k».proof.Proof.FwdPre
public import proofs.«01_k».proof.Proof.Gen.AttnFwdReferenceIdeal.Run

@[expose] public section

set_option maxRecDepth 16384

noncomputable section

namespace Cert.AttnFwdIdeal.Hand

open Idealize.ShloMosaic Idealize.ShloMosaic.TcCoe Idealize.SL.Sem
open Cert.AttnFwdIdeal.Gen

/-! # Attention's forward call and its reference -/

/-- Real arguments, read as real functions. -/
theorem args (x0 x1 : FVec Ideal S8x2048x256 .bf16) (x2 : FVec Ideal S8x2048x128 .bf16)
    (h0 : ∀ i, ∃ y : ℝ, x0 i = (y : EReal)) (h1 : ∀ i, ∃ y : ℝ, x1 i = (y : EReal)) (h2 : ∀ i, ∃ y : ℝ, x2 i = (y : EReal)) :
    ∃ (q k : Fin 8 → Fin 2048 → Fin 256 → ℝ) (v : Fin 8 → Fin 2048 → Fin 128 → ℝ), Args x0 x1 x2 q k v :=
  ⟨fun a R e => (h0 (ix3 a R e)).choose, fun a R e => (h1 (ix3 a R e)).choose, fun a R e => (h2 (ix3 a R e)).choose,
    fun a R e => (h0 (ix3 a R e)).choose_spec, fun a R e => (h1 (ix3 a R e)).choose_spec, fun a R e => (h2 (ix3 a R e)).choose_spec⟩

theorem algebraic : Cert.algebraic_AttnFwdIdeal_AttnFwdReferenceIdeal_pre_finite_fwd (hAttnFwdIdeal := Cert.AttnFwdIdeal.Gen.facts)
    (hAttnFwdReferenceIdeal := Cert.AttnFwdReferenceIdeal.Gen.facts) (hPre_finite_fwd := Cert.Pre_finite_fwd.facts) := by
  intro m ρ m' ρ' hpre hargs
  have hex : ∀ c : Dev nD, ∃ (q k : Fin 8 → Fin 2048 → Fin 256 → ℝ) (v : Fin 8 → Fin 2048 → Fin 128 → ℝ),
      Args (m ((c.tc : Thread nD τ).loc main_arg0)) (m ((c.tc : Thread nD τ).loc main_arg1)) (m ((c.tc : Thread nD τ).loc main_arg2)) q k v := fun c => by
    obtain ⟨h0, h1, h2⟩ := Cert.Pre_finite_fwd.finite_args _ _ _ (hpre c)
    exact args _ _ _ h0 h1 h2
  choose q k v A using hex
  refine ⟨fun c => arrOut (q c) (k c) (v c), fun c => arrLse (q c) (k c), ?_, ?_⟩
  · refine (θ_run _ _ _).mono ?_ (Value.run_blocks m ρ)
    intro r h c
    exact ⟨(h c).1.trans (final_out (A c)), (h c).2.1.trans (final_lse (A c)), (h c).2.2.2⟩
  · refine (θ_run _ _ _).mono ?_ (Cert.AttnFwdReferenceIdeal.Value.run (F := Ideal) m' ρ')
    intro r h c
    obtain ⟨e0, e1, e2⟩ := hargs c
    refine ⟨(h c).1.trans ?_, (h c).2.1.trans ?_, (h c).2.2⟩
    · rw [Cert.AttnFwdReferenceIdeal.Read.val_main_v25_eq, e0, e1, e2]
      exact Cert.AttnFwdReferenceIdeal.Hand.out_eq (A c)
    · rw [Cert.AttnFwdReferenceIdeal.Read.val_main_v30_eq, e0, e1]
      exact Cert.AttnFwdReferenceIdeal.Hand.lse_eq (A c)

end Cert.AttnFwdIdeal.Hand

end
-- ==== Proof.AttnDelta.lean ====
module

public import proofs.«01_k».proof.Defs
public import proofs.«01_k».proof.Proof.Gen.AttnDeltaIdeal.Value
public import proofs.«01_k».proof.Proof.Gen.AttnDeltaReferenceIdeal.Read
public import Idealize.ShloMosaic.Lib.Pointwise
public import Idealize.ShloMosaic.Lib.Pipeline.ValueKit

@[expose] public section

set_option maxRecDepth 16384

noncomputable section

namespace Cert.AttnDeltaIdeal.Hand

open Idealize.ShloMosaic Idealize.ShloMosaic.TcCoe Idealize.SL.Sem
open Cert.AttnDeltaIdeal.Gen

/-! # Each row's and head's output times its gradient, the row that the backward call subtracts -/

/-- Head `h`'s lane `e` among the columns. -/
def lane (h : Fin 8) (e : Fin 128) : Fin 1024 := ⟨128 * h.val + e.val, by omega⟩

/-- Each row's and head's sum of products, in eight equal rows. -/
def delta (d o : FVec Ideal S2048x1024 .f32) : Vec Ideal S8x8x2048 .f32 :=
  fun i => ∑ e : Fin 128, d (ix2 (i 2) (lane (i 0) e)) * o (ix2 (i 2) (lane (i 0) e))

/-- One head's rows: the products summed over the lanes, then laid along the last axis. The eight heads run the same chain. -/
theorem head_apply (a b : Vec Ideal S256x128 .f32) (x : S1x8x256.Idx) :
    k0_pay3 (F := Ideal) a b x = ∑ e : Fin 128, a (ix2 (x 2) e) * b (ix2 (x 2) e) := by
  rw [eq_ix3 x]
  pointwise [k0_pay3]

/-- The blocks of both operands are those of the result's positions, all columns. -/
theorem index_eq (t : Fin cfg0.N) : (win0_0.index t 0 = win0_2.index t 2 ∧ win0_0.index t 1 = 0)
    ∧ (win0_1.index t 0 = win0_2.index t 2 ∧ win0_1.index t 1 = 0)
    ∧ win0_2.index t 0 = 0 ∧ win0_2.index t 1 = 0 := by revert t; decide +kernel

/-- A head's columns, loaded. -/
theorem load_apply (x : Vec Ideal S256x1024 .f32) (h : Fin 8) (hb : ∀ a, (![0, 128 * h.val] : Fin 2 → ℕ) a + S256x128.size a ≤ S256x1024.size a)
    (r : Fin 256) (e : Fin 128) : View.ld x (Rect.unit (s := S256x1024) ![0, 128 * h.val] S256x128.size hb) (ix2 r e) = x (ix2 r (lane h e)) := by
  refine congrArg x (funext fun a => Fin.ext ?_)
  fin_cases a
  · show 0 + 1 * r.val = r.val
    omega
  · show 128 * h.val + 1 * e.val = 128 * h.val + e.val
    omega

variable (m : (ℓ : Loc nD τ sig) → Buf (Elt Ideal) ℓ) (c : Dev nD)

/-- A head's row of the block, at the position it has in the result. -/
theorem row_apply (t : Fin cfg0.N) (y : S8x8x256.Idx) (x : S1x8x256.Idx) (h : Fin 8)
    (hb : ∀ a, (![0, 128 * h.val] : Fin 2 → ℕ) a + S256x128.size a ≤ S256x1024.size a)
    (hy : (y 0).val = h.val) (hr : (y 2).val = (x 2).val) :
    k0_pay3 (F := Ideal) (View.ld (iblk m c 0 t) (Rect.unit (s := S256x1024) ![0, 128 * h.val] S256x128.size hb))
        (View.ld (iblk m c 1 t) (Rect.unit (s := S256x1024) ![0, 128 * h.val] S256x128.size hb)) x
      = delta (m ((c.tc : Thread nD τ).loc main_arg0)) (m ((c.tc : Thread nD τ).loc main_arg1))
          (((View.whole main_v0).slice (win0_2.rect t)).emb y) := by
  obtain ⟨⟨a0, a1⟩, ⟨b0, b1⟩, z0, z1⟩ := index_eq t
  obtain rfl : y 0 = h := Fin.ext hy
  have hr' : y 2 = x 2 := Fin.ext hr
  refine (head_apply _ _ x).trans (Finset.sum_congr rfl fun e _ => ?_)
  refine congrArg₂ (· * ·) ((load_apply _ _ hb _ e).trans ?_) ((load_apply _ _ hb _ e).trans ?_)
  · rw [← hr']
    blk_ext [iblk, V, lane, a0, a1, z0]
  · rw [← hr']
    blk_ext [iblk, V, lane, b0, b1, z0]

theorem final : (dats m 0 c).arrAt 2 cfg0.N = delta (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  canon_tiles x h
  · exact row_apply m c t y x 7 (by decide) (by simpa using (by omega : (y 0).val = 7)) h2
  · exact row_apply m c t y x 6 (by decide) (by simpa using (by omega : (y 0).val = 6)) h2
  · exact row_apply m c t y x 5 (by decide) (by simpa using (by omega : (y 0).val = 5)) h2
  · exact row_apply m c t y x 4 (by decide) (by simpa using (by omega : (y 0).val = 4)) h2
  · exact row_apply m c t y x 3 (by decide) (by simpa using (by omega : (y 0).val = 3)) h2
  · exact row_apply m c t y x 2 (by decide) (by simpa using (by omega : (y 0).val = 2)) h2
  · exact row_apply m c t y x 1 (by decide) (by simpa using (by omega : (y 0).val = 1)) h2
  · exact row_apply m c t y x 0 (by decide) (by simpa using (by omega : (y 0).val = 0)) h2

open Cert.AttnDeltaReferenceIdeal.Read in
theorem reference (d o : FVec Ideal S2048x1024 .f32) : val_main_v5 (F := Ideal) d o = delta d o := by
  funext i
  rw [val_main_v5_apply, val_main_v4_apply, val_main_v3_apply, val_main_v2_apply, val_main_cst_apply]
  refine (congrArg (· + _) Ideal.ofBits_zero_f32).trans ((zero_add _).trans (Finset.sum_congr rfl fun e _ => ?_))
  have hi : idx_main_v1 (idx_main_v2 (idx_main_v3 (idx_main_v4 (idx_main_v5 i))) e) = ix2 (i 2) (lane (i 0) e) := by
    have h0 : (i 0).val < 8 := (i 0).isLt
    funext a
    refine Fin.ext ?_
    fin_cases a
    · show (((i 2).val * 8 + (i 0).val) * 128 + e.val) / 1024 = (i 2).val
      omega
    · show (((i 2).val * 8 + (i 0).val) * 128 + e.val) % 1024 = 128 * (i 0).val + e.val
      omega
  rw [val_main_v1_apply, val_main_v0_apply, hi]
  rfl

theorem algebraic : Cert.algebraic_AttnDeltaIdeal_AttnDeltaReferenceIdeal (hAttnDeltaIdeal := Cert.AttnDeltaIdeal.Gen.facts)
    (hAttnDeltaReferenceIdeal := Cert.AttnDeltaReferenceIdeal.Gen.facts) := by
  intro m ρ m' ρ' _ hargs
  refine ⟨fun c => delta (m ((c.tc : Thread nD τ).loc main_arg0)) (m ((c.tc : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.AttnDeltaReferenceIdeal.Value.run (F := Ideal) m' ρ')
    obtain ⟨e0, e1⟩ := hargs c
    rw [Cert.AttnDeltaReferenceIdeal.Read.val_main_v5_eq, e0, e1]
    exact reference _ _

end Cert.AttnDeltaIdeal.Hand

end
-- ==== Proof.lean ====
/- The attention gradients of one sequence: the frames of the kernel and of the reference, the kernel's named mask,
   the equality of the kernel's gradients with the reference's, and the same for each of the step's matrix products. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxReferenceIdeal
public import proofs.«01_k».proof.Proof.Gen.DownDxReferenceIdeal.Run
public import proofs.«01_k».proof.Proof.Gen.DownDxReferenceIdeal.Read
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwReferenceIdeal
public import proofs.«01_k».proof.Proof.Gen.DownDwReferenceIdeal.Run
public import proofs.«01_k».proof.Proof.Gen.DownDwReferenceIdeal.Read
public import proofs.«01_k».proof.Proof.Gen.GateUpDw
public import proofs.«01_k».proof.Proof.Gen.GateUpDw.Frame
public import proofs.«01_k».proof.Proof.Gen.GateUpDwIdeal
public import proofs.«01_k».proof.Proof.Gen.GateUpDwIdeal.Frame
public import proofs.«01_k».proof.Proof.Gen.GateUpDwIdeal.Value
public import proofs.«01_k».proof.Proof.Gen.GateUpDwReferenceIdeal
public import proofs.«01_k».proof.Proof.Gen.GateUpDwReferenceIdeal.Run
public import proofs.«01_k».proof.Proof.Gen.GateUpDwReferenceIdeal.Read
public import proofs.«01_k».proof.Proof.Gen.GateUpDx
public import proofs.«01_k».proof.Proof.Gen.GateUpDx.Frame
public import proofs.«01_k».proof.Proof.Gen.GateUpDxIdeal
public import proofs.«01_k».proof.Proof.Gen.GateUpDxIdeal.Frame
public import proofs.«01_k».proof.Proof.Gen.GateUpDxIdeal.Value
public import proofs.«01_k».proof.Proof.Gen.GateUpDxReferenceIdeal
public import proofs.«01_k».proof.Proof.Gen.GateUpDxReferenceIdeal.Run
public import proofs.«01_k».proof.Proof.Gen.GateUpDxReferenceIdeal.Read
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxReferenceIdeal
public import proofs.«01_k».proof.Proof.Gen.OutDxReferenceIdeal.Run
public import proofs.«01_k».proof.Proof.Gen.OutDxReferenceIdeal.Read
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwReferenceIdeal
public import proofs.«01_k».proof.Proof.Gen.OutDwReferenceIdeal.Run
public import proofs.«01_k».proof.Proof.Gen.OutDwReferenceIdeal.Read
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwReferenceIdeal
public import proofs.«01_k».proof.Proof.Gen.InDwReferenceIdeal.Run
public import proofs.«01_k».proof.Proof.Gen.InDwReferenceIdeal.Read
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxReferenceIdeal
public import proofs.«01_k».proof.Proof.Gen.InDxReferenceIdeal.Run
public import proofs.«01_k».proof.Proof.Gen.InDxReferenceIdeal.Read
public import proofs.«01_k».proof.Proof.Gen.GateUp
public import proofs.«01_k».proof.Proof.Gen.GateUp.Frame
public import proofs.«01_k».proof.Proof.Gen.GateUpIdeal
public import proofs.«01_k».proof.Proof.Gen.GateUpIdeal.Frame
public import proofs.«01_k».proof.Proof.Gen.GateUpIdeal.Value
public import proofs.«01_k».proof.Proof.Gen.GateUpReferenceIdeal
public import proofs.«01_k».proof.Proof.Gen.GateUpReferenceIdeal.Run
public import proofs.«01_k».proof.Proof.Gen.GateUpReferenceIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.Uq
public import proofs.«01_k».proof.Proof.Gen.Uq.Frame
public import proofs.«01_k».proof.Proof.Gen.UqIdeal
public import proofs.«01_k».proof.Proof.Gen.UqIdeal.Frame
public import proofs.«01_k».proof.Proof.Gen.UqIdeal.Value
public import proofs.«01_k».proof.Proof.Gen.UqReferenceIdeal
public import proofs.«01_k».proof.Proof.Gen.UqReferenceIdeal.Run
public import proofs.«01_k».proof.Proof.Gen.UqReferenceIdeal.Read
public import proofs.«01_k».proof.Proof.Gen.Ukv
public import proofs.«01_k».proof.Proof.Gen.Ukv.Frame
public import proofs.«01_k».proof.Proof.Gen.UkvIdeal
public import proofs.«01_k».proof.Proof.Gen.UkvIdeal.Frame
public import proofs.«01_k».proof.Proof.Gen.UkvIdeal.Value
public import proofs.«01_k».proof.Proof.Gen.UkvReferenceIdeal
public import proofs.«01_k».proof.Proof.Gen.UkvReferenceIdeal.Run
public import proofs.«01_k».proof.Proof.Gen.UkvReferenceIdeal.Read
public import proofs.«01_k».proof.Proof.Gen.UqDx
public import proofs.«01_k».proof.Proof.Gen.UqDx.Frame
public import proofs.«01_k».proof.Proof.Gen.UqDxIdeal
public import proofs.«01_k».proof.Proof.Gen.UqDxIdeal.Frame
public import proofs.«01_k».proof.Proof.Gen.UqDxIdeal.Value
public import proofs.«01_k».proof.Proof.Gen.UqDxReferenceIdeal
public import proofs.«01_k».proof.Proof.Gen.UqDxReferenceIdeal.Run
public import proofs.«01_k».proof.Proof.Gen.UqDxReferenceIdeal.Read
public import proofs.«01_k».proof.Proof.Gen.UkvDx
public import proofs.«01_k».proof.Proof.Gen.UkvDx.Frame
public import proofs.«01_k».proof.Proof.Gen.UkvDxIdeal
public import proofs.«01_k».proof.Proof.Gen.UkvDxIdeal.Frame
public import proofs.«01_k».proof.Proof.Gen.UkvDxIdeal.Value
public import proofs.«01_k».proof.Proof.Gen.UkvDxReferenceIdeal
public import proofs.«01_k».proof.Proof.Gen.UkvDxReferenceIdeal.Run
public import proofs.«01_k».proof.Proof.Gen.UkvDxReferenceIdeal.Read
public import proofs.«01_k».proof.Proof.Gen.UqDw
public import proofs.«01_k».proof.Proof.Gen.UqDw.Frame
public import proofs.«01_k».proof.Proof.Gen.UqDwIdeal
public import proofs.«01_k».proof.Proof.Gen.UqDwIdeal.Frame
public import proofs.«01_k».proof.Proof.Gen.UqDwIdeal.Value
public import proofs.«01_k».proof.Proof.Gen.UqDwReferenceIdeal
public import proofs.«01_k».proof.Proof.Gen.UqDwReferenceIdeal.Run
public import proofs.«01_k».proof.Proof.Gen.UqDwReferenceIdeal.Read
public import proofs.«01_k».proof.Proof.Gen.UkvDw
public import proofs.«01_k».proof.Proof.Gen.UkvDw.Frame
public import proofs.«01_k».proof.Proof.Gen.UkvDwIdeal
public import proofs.«01_k».proof.Proof.Gen.UkvDwIdeal.Frame
public import proofs.«01_k».proof.Proof.Gen.UkvDwIdeal.Value
public import proofs.«01_k».proof.Proof.Gen.UkvDwReferenceIdeal
public import proofs.«01_k».proof.Proof.Gen.UkvDwReferenceIdeal.Run
public import proofs.«01_k».proof.Proof.Gen.UkvDwReferenceIdeal.Read
public import proofs.«01_k».proof.Proof.Gen.AttnFwd
public import proofs.«01_k».proof.Proof.Gen.AttnFwd.Frame
public import proofs.«01_k».proof.Proof.Gen.AttnFwd.Loops
public import proofs.«01_k».proof.Proof.Gen.AttnFwd.Skeleton
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdIdeal.Loops
public import proofs.«01_k».proof.Proof.Gen.AttnFwdIdeal.Skeleton
public import proofs.«01_k».proof.Proof.Gen.AttnFwdReferenceIdeal
public import proofs.«01_k».proof.Proof.Gen.AttnFwdReferenceIdeal.Run
public import proofs.«01_k».proof.Proof.Gen.AttnFwdReferenceIdeal.Read
public import proofs.«01_k».proof.Proof.Gen.AttnDelta
public import proofs.«01_k».proof.Proof.Gen.AttnDelta.Frame
public import proofs.«01_k».proof.Proof.Gen.AttnDeltaIdeal
public import proofs.«01_k».proof.Proof.Gen.AttnDeltaIdeal.Frame
public import proofs.«01_k».proof.Proof.Gen.AttnDeltaIdeal.Value
public import proofs.«01_k».proof.Proof.Gen.AttnDeltaReferenceIdeal
public import proofs.«01_k».proof.Proof.Gen.AttnDeltaReferenceIdeal.Run
public import proofs.«01_k».proof.Proof.Gen.AttnDeltaReferenceIdeal.Read
public import proofs.«01_k».proof.Proof.Region
public import proofs.«01_k».proof.Proof.KFrame
public import proofs.«01_k».proof.Proof.Gradients
public import proofs.«01_k».proof.Proof.DownDx
public import proofs.«01_k».proof.Proof.DownDw
public import proofs.«01_k».proof.Proof.GateUpDw
public import proofs.«01_k».proof.Proof.GateUpDx
public import proofs.«01_k».proof.Proof.OutDx
public import proofs.«01_k».proof.Proof.OutDw
public import proofs.«01_k».proof.Proof.InDw
public import proofs.«01_k».proof.Proof.InDx
public import proofs.«01_k».proof.Proof.GateUp
public import proofs.«01_k».proof.Proof.Down
public import proofs.«01_k».proof.Proof.Out
public import proofs.«01_k».proof.Proof.In
public import proofs.«01_k».proof.Proof.Uq
public import proofs.«01_k».proof.Proof.Ukv
public import proofs.«01_k».proof.Proof.UqDx
public import proofs.«01_k».proof.Proof.UkvDx
public import proofs.«01_k».proof.Proof.UqDw
public import proofs.«01_k».proof.Proof.UkvDw
public import proofs.«01_k».proof.Proof.AttnFwd
public import proofs.«01_k».proof.Proof.AttnDelta
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Hand.quiescent m ρ

theorem frame_kernel_ideal : Cert.quiescent_KernelIdeal := fun m ρ _ => Cert.KernelIdeal.Hand.quiescent m ρ

theorem frame_kernel_ideal_finite : Cert.quiescent_KernelIdeal_pre_finite (hPre_finite := Cert.Pre_finite.facts) :=
  fun m ρ _ => Cert.KernelIdeal.Hand.quiescent m ρ

theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

theorem frame_reference_finite : Cert.quiescent_ReferenceIdeal_pre_finite (hPre_finite := Cert.Pre_finite.facts) :=
  fun m ρ _ => frame_reference m ρ trivial

theorem mask_named : Cert.preserves_Kernel_KernelIdeal :=
  IdealRules.named_const.statement Cert.KernelIdeal.κ "mask" .f32 0xF149F2CA#32 ⊥ rfl

theorem frame_reference_DownDx : Cert.quiescent_DownDxReferenceIdeal := fun m ρ _ =>
  (θ_run Cert.DownDxReferenceIdeal.defs _ _).mono (fun r h => ⟨fun c => (h c).2, sem_eq_zero_of_no_sems (by decide) r.2⟩)
    (Cert.DownDxReferenceIdeal.Value.run (F := Ideal) m ρ)

theorem frame_reference_DownDw : Cert.quiescent_DownDwReferenceIdeal := fun m ρ _ =>
  (θ_run Cert.DownDwReferenceIdeal.defs _ _).mono (fun r h => ⟨fun c => (h c).2, sem_eq_zero_of_no_sems (by decide) r.2⟩)
    (Cert.DownDwReferenceIdeal.Value.run (F := Ideal) m ρ)

theorem frame_reference_GateUpDw : Cert.quiescent_GateUpDwReferenceIdeal := fun m ρ _ =>
  (θ_run Cert.GateUpDwReferenceIdeal.defs _ _).mono (fun r h => ⟨fun c => (h c).2.2, sem_eq_zero_of_no_sems (by decide) r.2⟩)
    (Cert.GateUpDwReferenceIdeal.Value.run (F := Ideal) m ρ)

theorem frame_reference_GateUpDx : Cert.quiescent_GateUpDxReferenceIdeal := fun m ρ _ =>
  (θ_run Cert.GateUpDxReferenceIdeal.defs _ _).mono (fun r h => ⟨fun c => (h c).2, sem_eq_zero_of_no_sems (by decide) r.2⟩)
    (Cert.GateUpDxReferenceIdeal.Value.run (F := Ideal) m ρ)

theorem frame_reference_OutDx : Cert.quiescent_OutDxReferenceIdeal := fun m ρ _ =>
  (θ_run Cert.OutDxReferenceIdeal.defs _ _).mono (fun r h => ⟨fun c => (h c).2, sem_eq_zero_of_no_sems (by decide) r.2⟩)
    (Cert.OutDxReferenceIdeal.Value.run (F := Ideal) m ρ)

theorem frame_reference_OutDw : Cert.quiescent_OutDwReferenceIdeal := fun m ρ _ =>
  (θ_run Cert.OutDwReferenceIdeal.defs _ _).mono (fun r h => ⟨fun c => (h c).2, sem_eq_zero_of_no_sems (by decide) r.2⟩)
    (Cert.OutDwReferenceIdeal.Value.run (F := Ideal) m ρ)

theorem frame_reference_InDw : Cert.quiescent_InDwReferenceIdeal := fun m ρ _ =>
  (θ_run Cert.InDwReferenceIdeal.defs _ _).mono (fun r h => ⟨fun c => (h c).2, sem_eq_zero_of_no_sems (by decide) r.2⟩)
    (Cert.InDwReferenceIdeal.Value.run (F := Ideal) m ρ)

theorem frame_reference_InDx : Cert.quiescent_InDxReferenceIdeal := fun m ρ _ =>
  (θ_run Cert.InDxReferenceIdeal.defs _ _).mono (fun r h => ⟨fun c => (h c).2, sem_eq_zero_of_no_sems (by decide) r.2⟩)
    (Cert.InDxReferenceIdeal.Value.run (F := Ideal) m ρ)

theorem frame_reference_GateUp : Cert.quiescent_GateUpReferenceIdeal := fun m ρ _ =>
  (θ_run Cert.GateUpReferenceIdeal.defs _ _).mono (fun r h => ⟨fun c => (h c).2.2, sem_eq_zero_of_no_sems (by decide) r.2⟩)
    (Cert.GateUpReferenceIdeal.Value.run (F := Ideal) m ρ)

theorem frame_reference_Down : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

theorem frame_reference_Out : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

theorem frame_reference_In : Cert.quiescent_InReferenceIdeal := fun m ρ _ =>
  (θ_run Cert.InReferenceIdeal.defs _ _).mono (fun r h => ⟨fun c => (h c).2, sem_eq_zero_of_no_sems (by decide) r.2⟩)
    (Cert.InReferenceIdeal.Value.run (F := Ideal) m ρ)

theorem frame_reference_Uq : Cert.quiescent_UqReferenceIdeal := fun m ρ _ =>
  (θ_run Cert.UqReferenceIdeal.defs _ _).mono (fun r h => ⟨fun c => (h c).2, sem_eq_zero_of_no_sems (by decide) r.2⟩)
    (Cert.UqReferenceIdeal.Value.run (F := Ideal) m ρ)

theorem frame_reference_Ukv : Cert.quiescent_UkvReferenceIdeal := fun m ρ _ =>
  (θ_run Cert.UkvReferenceIdeal.defs _ _).mono (fun r h => ⟨fun c => (h c).2, sem_eq_zero_of_no_sems (by decide) r.2⟩)
    (Cert.UkvReferenceIdeal.Value.run (F := Ideal) m ρ)

theorem frame_reference_UqDx : Cert.quiescent_UqDxReferenceIdeal := fun m ρ _ =>
  (θ_run Cert.UqDxReferenceIdeal.defs _ _).mono (fun r h => ⟨fun c => (h c).2, sem_eq_zero_of_no_sems (by decide) r.2⟩)
    (Cert.UqDxReferenceIdeal.Value.run (F := Ideal) m ρ)

theorem frame_reference_UkvDx : Cert.quiescent_UkvDxReferenceIdeal := fun m ρ _ =>
  (θ_run Cert.UkvDxReferenceIdeal.defs _ _).mono (fun r h => ⟨fun c => (h c).2, sem_eq_zero_of_no_sems (by decide) r.2⟩)
    (Cert.UkvDxReferenceIdeal.Value.run (F := Ideal) m ρ)

theorem frame_reference_UqDw : Cert.quiescent_UqDwReferenceIdeal := fun m ρ _ =>
  (θ_run Cert.UqDwReferenceIdeal.defs _ _).mono (fun r h => ⟨fun c => (h c).2, sem_eq_zero_of_no_sems (by decide) r.2⟩)
    (Cert.UqDwReferenceIdeal.Value.run (F := Ideal) m ρ)

theorem frame_reference_UkvDw : Cert.quiescent_UkvDwReferenceIdeal := fun m ρ _ =>
  (θ_run Cert.UkvDwReferenceIdeal.defs _ _).mono (fun r h => ⟨fun c => (h c).2, sem_eq_zero_of_no_sems (by decide) r.2⟩)
    (Cert.UkvDwReferenceIdeal.Value.run (F := Ideal) m ρ)

theorem frame_reference_AttnFwd : Cert.quiescent_AttnFwdReferenceIdeal := fun m ρ _ =>
  (θ_run Cert.AttnFwdReferenceIdeal.defs _ _).mono (fun r h => ⟨fun c => (h c).2.2, sem_eq_zero_of_no_sems (by decide) r.2⟩)
    (Cert.AttnFwdReferenceIdeal.Value.run (F := Ideal) m ρ)

theorem frame_reference_AttnDelta : Cert.quiescent_AttnDeltaReferenceIdeal := fun m ρ _ =>
  (θ_run Cert.AttnDeltaReferenceIdeal.defs _ _).mono (fun r h => ⟨fun c => (h c).2, sem_eq_zero_of_no_sems (by decide) r.2⟩)
    (Cert.AttnDeltaReferenceIdeal.Value.run (F := Ideal) m ρ)

theorem fwd_mask_named : Cert.preserves_AttnFwd_AttnFwdIdeal :=
  IdealRules.named_const.statement Cert.AttnFwdIdeal.κ "mask" .f32 0xF149F2CA#32 ⊥ rfl

theorem claim : Cert.Claim := ⟨Cert.Kernel.Gen.facts, Cert.KernelIdeal.Gen.facts, Cert.ReferenceIdeal.Gen.facts,
  Cert.DownDx.Gen.facts, Cert.DownDxIdeal.Gen.facts, Cert.DownDxReferenceIdeal.Gen.facts,
  Cert.DownDw.Gen.facts, Cert.DownDwIdeal.Gen.facts, Cert.DownDwReferenceIdeal.Gen.facts,
  Cert.GateUpDw.Gen.facts, Cert.GateUpDwIdeal.Gen.facts, Cert.GateUpDwReferenceIdeal.Gen.facts,
  Cert.GateUpDx.Gen.facts, Cert.GateUpDxIdeal.Gen.facts, Cert.GateUpDxReferenceIdeal.Gen.facts,
  Cert.OutDx.Gen.facts, Cert.OutDxIdeal.Gen.facts, Cert.OutDxReferenceIdeal.Gen.facts,
  Cert.OutDw.Gen.facts, Cert.OutDwIdeal.Gen.facts, Cert.OutDwReferenceIdeal.Gen.facts,
  Cert.InDw.Gen.facts, Cert.InDwIdeal.Gen.facts, Cert.InDwReferenceIdeal.Gen.facts,
  Cert.InDx.Gen.facts, Cert.InDxIdeal.Gen.facts, Cert.InDxReferenceIdeal.Gen.facts,
  Cert.GateUp.Gen.facts, Cert.GateUpIdeal.Gen.facts, Cert.GateUpReferenceIdeal.Gen.facts,
  Cert.Down.Gen.facts, Cert.DownIdeal.Gen.facts, Cert.DownReferenceIdeal.Gen.facts,
  Cert.Out.Gen.facts, Cert.OutIdeal.Gen.facts, Cert.OutReferenceIdeal.Gen.facts,
  Cert.In.Gen.facts, Cert.InIdeal.Gen.facts, Cert.InReferenceIdeal.Gen.facts,
  Cert.Uq.Gen.facts, Cert.UqIdeal.Gen.facts, Cert.UqReferenceIdeal.Gen.facts,
  Cert.Ukv.Gen.facts, Cert.UkvIdeal.Gen.facts, Cert.UkvReferenceIdeal.Gen.facts,
  Cert.UqDx.Gen.facts, Cert.UqDxIdeal.Gen.facts, Cert.UqDxReferenceIdeal.Gen.facts,
  Cert.UkvDx.Gen.facts, Cert.UkvDxIdeal.Gen.facts, Cert.UkvDxReferenceIdeal.Gen.facts,
  Cert.UqDw.Gen.facts, Cert.UqDwIdeal.Gen.facts, Cert.UqDwReferenceIdeal.Gen.facts,
  Cert.UkvDw.Gen.facts, Cert.UkvDwIdeal.Gen.facts, Cert.UkvDwReferenceIdeal.Gen.facts,
  Cert.AttnFwd.Gen.facts, Cert.AttnFwdIdeal.Gen.facts, Cert.AttnFwdReferenceIdeal.Gen.facts,
  Cert.AttnDelta.Gen.facts, Cert.AttnDeltaIdeal.Gen.facts, Cert.AttnDeltaReferenceIdeal.Gen.facts,
  Cert.Pre_finite.facts, Cert.Pre_finite_fwd.facts,
  frame_kernel, frame_kernel_ideal, frame_kernel_ideal_finite, frame_reference, frame_reference_finite,
  fun m ρ _ => Cert.DownDx.Gen.frame m ρ, fun m ρ _ => Cert.DownDxIdeal.Gen.frame m ρ, frame_reference_DownDx,
  fun m ρ _ => Cert.DownDw.Gen.frame m ρ, fun m ρ _ => Cert.DownDwIdeal.Gen.frame m ρ, frame_reference_DownDw,
  fun m ρ _ => Cert.GateUpDw.Gen.frame m ρ, fun m ρ _ => Cert.GateUpDwIdeal.Gen.frame m ρ, frame_reference_GateUpDw,
  fun m ρ _ => Cert.GateUpDx.Gen.frame m ρ, fun m ρ _ => Cert.GateUpDxIdeal.Gen.frame m ρ, frame_reference_GateUpDx,
  fun m ρ _ => Cert.OutDx.Gen.frame m ρ, fun m ρ _ => Cert.OutDxIdeal.Gen.frame m ρ, frame_reference_OutDx,
  fun m ρ _ => Cert.OutDw.Gen.frame m ρ, fun m ρ _ => Cert.OutDwIdeal.Gen.frame m ρ, frame_reference_OutDw,
  fun m ρ _ => Cert.InDw.Gen.frame m ρ, fun m ρ _ => Cert.InDwIdeal.Gen.frame m ρ, frame_reference_InDw,
  fun m ρ _ => Cert.InDx.Gen.frame m ρ, fun m ρ _ => Cert.InDxIdeal.Gen.frame m ρ, frame_reference_InDx,
  fun m ρ _ => Cert.GateUp.Gen.frame m ρ, fun m ρ _ => Cert.GateUpIdeal.Gen.frame m ρ, frame_reference_GateUp,
  fun m ρ _ => Cert.Down.Gen.frame m ρ, fun m ρ _ => Cert.DownIdeal.Gen.frame m ρ, frame_reference_Down,
  fun m ρ _ => Cert.Out.Gen.frame m ρ, fun m ρ _ => Cert.OutIdeal.Gen.frame m ρ, frame_reference_Out,
  fun m ρ _ => Cert.In.Gen.frame m ρ, fun m ρ _ => Cert.InIdeal.Gen.frame m ρ, frame_reference_In,
  fun m ρ _ => Cert.Uq.Gen.frame m ρ, fun m ρ _ => Cert.UqIdeal.Gen.frame m ρ, frame_reference_Uq,
  fun m ρ _ => Cert.Ukv.Gen.frame m ρ, fun m ρ _ => Cert.UkvIdeal.Gen.frame m ρ, frame_reference_Ukv,
  fun m ρ _ => Cert.UqDx.Gen.frame m ρ, fun m ρ _ => Cert.UqDxIdeal.Gen.frame m ρ, frame_reference_UqDx,
  fun m ρ _ => Cert.UkvDx.Gen.frame m ρ, fun m ρ _ => Cert.UkvDxIdeal.Gen.frame m ρ, frame_reference_UkvDx,
  fun m ρ _ => Cert.UqDw.Gen.frame m ρ, fun m ρ _ => Cert.UqDwIdeal.Gen.frame m ρ, frame_reference_UqDw,
  fun m ρ _ => Cert.UkvDw.Gen.frame m ρ, fun m ρ _ => Cert.UkvDwIdeal.Gen.frame m ρ, frame_reference_UkvDw,
  fun m ρ _ => Cert.AttnFwd.Gen.frame m ρ, fun m ρ _ => Cert.AttnFwdIdeal.Gen.frame m ρ, fun m ρ _ => Cert.AttnFwdIdeal.Gen.frame m ρ,
  frame_reference_AttnFwd, fun m ρ _ => frame_reference_AttnFwd m ρ trivial,
  fun m ρ _ => Cert.AttnDelta.Gen.frame m ρ, fun m ρ _ => Cert.AttnDeltaIdeal.Gen.frame m ρ, frame_reference_AttnDelta,
  mask_named, Cert.Gradients.algebraic,
  trivial, Cert.DownDxIdeal.Hand.algebraic,
  trivial, Cert.DownDwIdeal.Hand.algebraic,
  trivial, Cert.GateUpDwIdeal.Hand.algebraic,
  trivial, Cert.GateUpDxIdeal.Hand.algebraic,
  trivial, Cert.OutDxIdeal.Hand.algebraic,
  trivial, Cert.OutDwIdeal.Hand.algebraic,
  trivial, Cert.InDwIdeal.Hand.algebraic,
  trivial, Cert.InDxIdeal.Hand.algebraic,
  trivial, Cert.GateUpIdeal.Hand.algebraic,
  trivial, Cert.DownIdeal.Hand.algebraic,
  trivial, Cert.OutIdeal.Hand.algebraic,
  trivial, Cert.InIdeal.Hand.algebraic,
  trivial, Cert.UqIdeal.Hand.algebraic,
  trivial, Cert.UkvIdeal.Hand.algebraic,
  trivial, Cert.UqDxIdeal.Hand.algebraic,
  trivial, Cert.UkvDxIdeal.Hand.algebraic,
  trivial, Cert.UqDwIdeal.Hand.algebraic,
  trivial, Cert.UkvDwIdeal.Hand.algebraic,
  fwd_mask_named, Cert.AttnFwdIdeal.Hand.algebraic,
  trivial, Cert.AttnDeltaIdeal.Hand.algebraic⟩

end Cert.Proof

end
